-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_padded [hPre_finite_padded : Cert.Pre_finite_padded.Facts] (m : (ℓ : Loc Cert.KernelIdeal.nD Cert.KernelIdeal.τ Cert.KernelIdeal.sig) → Buf (Elt Ideal) ℓ) : Prop :=
  ∀ c : Dev Cert.KernelIdeal.nD,
    (Cert.Pre_finite_padded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_padded [hPre_finite_padded : Cert.Pre_finite_padded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_padded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_ReferenceBIdeal (m : (ℓ : Loc Cert.ReferenceBIdeal.nD Cert.ReferenceBIdeal.τ Cert.ReferenceBIdeal.sig) → Buf (Elt Ideal) ℓ) : Prop :=
  True

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_ReferenceCIdeal (m : (ℓ : Loc Cert.ReferenceCIdeal.nD Cert.ReferenceCIdeal.τ Cert.ReferenceCIdeal.sig) → Buf (Elt Ideal) ℓ) : Prop :=
  True

def Pre_KernelS (m : (ℓ : Loc Cert.KernelS.nD Cert.KernelS.τ Cert.KernelS.sig) → Buf (Elt Bits) ℓ) : Prop :=
  True

def Pre_KernelSIdeal (m : (ℓ : Loc Cert.KernelSIdeal.nD Cert.KernelSIdeal.τ Cert.KernelSIdeal.sig) → Buf (Elt Ideal) ℓ) : Prop :=
  True

def Pre_ReferenceSIdeal (m : (ℓ : Loc Cert.ReferenceSIdeal.nD Cert.ReferenceSIdeal.τ Cert.ReferenceSIdeal.sig) → Buf (Elt Ideal) ℓ) : Prop :=
  True

def Pre_KernelU (m : (ℓ : Loc Cert.KernelU.nD Cert.KernelU.τ Cert.KernelU.sig) → Buf (Elt Bits) ℓ) : Prop :=
  True

def Pre_KernelUIdeal (m : (ℓ : Loc Cert.KernelUIdeal.nD Cert.KernelUIdeal.τ Cert.KernelUIdeal.sig) → Buf (Elt Ideal) ℓ) : Prop :=
  True

def Pre_ReferenceUIdeal (m : (ℓ : Loc Cert.ReferenceUIdeal.nD Cert.ReferenceUIdeal.τ Cert.ReferenceUIdeal.sig) → Buf (Elt Ideal) ℓ) : Prop :=
  True

def Pre_KernelT (m : (ℓ : Loc Cert.KernelT.nD Cert.KernelT.τ Cert.KernelT.sig) → Buf (Elt Bits) ℓ) : Prop :=
  True

def Pre_KernelTIdeal (m : (ℓ : Loc Cert.KernelTIdeal.nD Cert.KernelTIdeal.τ Cert.KernelTIdeal.sig) → Buf (Elt Ideal) ℓ) : Prop :=
  True

def Pre_ReferenceTIdeal (m : (ℓ : Loc Cert.ReferenceTIdeal.nD Cert.ReferenceTIdeal.τ Cert.ReferenceTIdeal.sig) → Buf (Elt Ideal) ℓ) : Prop :=
  True

def Pre_KernelV (m : (ℓ : Loc Cert.KernelV.nD Cert.KernelV.τ Cert.KernelV.sig) → Buf (Elt Bits) ℓ) : Prop :=
  True

def Pre_KernelVIdeal (m : (ℓ : Loc Cert.KernelVIdeal.nD Cert.KernelVIdeal.τ Cert.KernelVIdeal.sig) → Buf (Elt Ideal) ℓ) : Prop :=
  True

def Pre_ReferenceVIdeal (m : (ℓ : Loc Cert.ReferenceVIdeal.nD Cert.ReferenceVIdeal.τ Cert.ReferenceVIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_padded [hKernelIdeal : Cert.KernelIdeal.Facts] [hPre_finite_padded : Cert.Pre_finite_padded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_padded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_padded [hReferenceIdeal : Cert.ReferenceIdeal.Facts] [hPre_finite_padded : Cert.Pre_finite_padded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_padded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2)
      ∧ r.2.mem ((c.tc : Thread Cert.KernelB.nD Cert.KernelB.τ).loc Cert.KernelB.main_arg3) = m ((c.tc : Thread Cert.KernelB.nD Cert.KernelB.τ).loc Cert.KernelB.main_arg3)
      ∧ r.2.mem ((c.tc : Thread Cert.KernelB.nD Cert.KernelB.τ).loc Cert.KernelB.main_arg4) = m ((c.tc : Thread Cert.KernelB.nD Cert.KernelB.τ).loc Cert.KernelB.main_arg4)
      ∧ r.2.mem ((c.tc : Thread Cert.KernelB.nD Cert.KernelB.τ).loc Cert.KernelB.main_arg5) = m ((c.tc : Thread Cert.KernelB.nD Cert.KernelB.τ).loc Cert.KernelB.main_arg5)
      ∧ r.2.mem ((c.tc : Thread Cert.KernelB.nD Cert.KernelB.τ).loc Cert.KernelB.main_arg6) = m ((c.tc : Thread Cert.KernelB.nD Cert.KernelB.τ).loc Cert.KernelB.main_arg6)
      ∧ r.2.mem ((c.tc : Thread Cert.KernelB.nD Cert.KernelB.τ).loc Cert.KernelB.main_arg7) = m ((c.tc : Thread Cert.KernelB.nD Cert.KernelB.τ).loc Cert.KernelB.main_arg7)
      ∧ r.2.mem ((c.tc : Thread Cert.KernelB.nD Cert.KernelB.τ).loc Cert.KernelB.main_arg8) = m ((c.tc : Thread Cert.KernelB.nD Cert.KernelB.τ).loc Cert.KernelB.main_arg8))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
      ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
      ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
      ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4)
      ∧ r.2.mem ((c.tc : Thread Cert.ReferenceBIdeal.nD Cert.ReferenceBIdeal.τ).loc Cert.ReferenceBIdeal.main_arg5) = m ((c.tc : Thread Cert.ReferenceBIdeal.nD Cert.ReferenceBIdeal.τ).loc Cert.ReferenceBIdeal.main_arg5)
      ∧ r.2.mem ((c.tc : Thread Cert.ReferenceBIdeal.nD Cert.ReferenceBIdeal.τ).loc Cert.ReferenceBIdeal.main_arg6) = m ((c.tc : Thread Cert.ReferenceBIdeal.nD Cert.ReferenceBIdeal.τ).loc Cert.ReferenceBIdeal.main_arg6)
      ∧ r.2.mem ((c.tc : Thread Cert.ReferenceBIdeal.nD Cert.ReferenceBIdeal.τ).loc Cert.ReferenceBIdeal.main_arg7) = m ((c.tc : Thread Cert.ReferenceBIdeal.nD Cert.ReferenceBIdeal.τ).loc Cert.ReferenceBIdeal.main_arg7)
      ∧ r.2.mem ((c.tc : Thread Cert.ReferenceBIdeal.nD Cert.ReferenceBIdeal.τ).loc Cert.ReferenceBIdeal.main_arg8) = m ((c.tc : Thread Cert.ReferenceBIdeal.nD Cert.ReferenceBIdeal.τ).loc Cert.ReferenceBIdeal.main_arg8))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2)
      ∧ r.2.mem ((c.tc : Thread Cert.KernelC.nD Cert.KernelC.τ).loc Cert.KernelC.main_arg3) = m ((c.tc : Thread Cert.KernelC.nD Cert.KernelC.τ).loc Cert.KernelC.main_arg3))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3))
      ∧ r.2.sem = fun _ => 0)

def quiescent_KernelS [hKernelS : Cert.KernelS.Facts] : Prop :=
  ∀ (m : (ℓ : Loc Cert.KernelS.nD Cert.KernelS.τ Cert.KernelS.sig) → Buf (Elt Bits) ℓ) (g : Dev Cert.KernelS.nD → PrngReg), Pre_KernelS m →
    θ_run (Cert.KernelS.defs (F := Bits)) (onTc (τ := Cert.KernelS.τ) (Cert.KernelS.main (F := Bits))) ⟨m, fun _ => 0, g⟩ (fun r => (∀ c : Dev Cert.KernelS.nD,
      r.2.mem ((c.tc : Thread Cert.KernelS.nD Cert.KernelS.τ).loc Cert.KernelS.main_arg0) = m ((c.tc : Thread Cert.KernelS.nD Cert.KernelS.τ).loc Cert.KernelS.main_arg0)
      ∧ r.2.mem ((c.tc : Thread Cert.KernelS.nD Cert.KernelS.τ).loc Cert.KernelS.main_arg1) = m ((c.tc : Thread Cert.KernelS.nD Cert.KernelS.τ).loc Cert.KernelS.main_arg1)
      ∧ r.2.mem ((c.tc : Thread Cert.KernelS.nD Cert.KernelS.τ).loc Cert.KernelS.main_arg2) = m ((c.tc : Thread Cert.KernelS.nD Cert.KernelS.τ).loc Cert.KernelS.main_arg2)
      ∧ r.2.mem ((c.tc : Thread Cert.KernelS.nD Cert.KernelS.τ).loc Cert.KernelS.main_arg3) = m ((c.tc : Thread Cert.KernelS.nD Cert.KernelS.τ).loc Cert.KernelS.main_arg3)
      ∧ r.2.mem ((c.tc : Thread Cert.KernelS.nD Cert.KernelS.τ).loc Cert.KernelS.main_arg4) = m ((c.tc : Thread Cert.KernelS.nD Cert.KernelS.τ).loc Cert.KernelS.main_arg4)
      ∧ r.2.mem ((c.tc : Thread Cert.KernelS.nD Cert.KernelS.τ).loc Cert.KernelS.main_arg5) = m ((c.tc : Thread Cert.KernelS.nD Cert.KernelS.τ).loc Cert.KernelS.main_arg5)
      ∧ r.2.mem ((c.tc : Thread Cert.KernelS.nD Cert.KernelS.τ).loc Cert.KernelS.main_arg6) = m ((c.tc : Thread Cert.KernelS.nD Cert.KernelS.τ).loc Cert.KernelS.main_arg6)
      ∧ r.2.mem ((c.tc : Thread Cert.KernelS.nD Cert.KernelS.τ).loc Cert.KernelS.main_arg7) = m ((c.tc : Thread Cert.KernelS.nD Cert.KernelS.τ).loc Cert.KernelS.main_arg7)
      ∧ r.2.mem ((c.tc : Thread Cert.KernelS.nD Cert.KernelS.τ).loc Cert.KernelS.main_arg8) = m ((c.tc : Thread Cert.KernelS.nD Cert.KernelS.τ).loc Cert.KernelS.main_arg8)
      ∧ r.2.mem ((c.tc : Thread Cert.KernelS.nD Cert.KernelS.τ).loc Cert.KernelS.main_arg9) = m ((c.tc : Thread Cert.KernelS.nD Cert.KernelS.τ).loc Cert.KernelS.main_arg9)
      ∧ r.2.mem ((c.tc : Thread Cert.KernelS.nD Cert.KernelS.τ).loc Cert.KernelS.main_arg10) = m ((c.tc : Thread Cert.KernelS.nD Cert.KernelS.τ).loc Cert.KernelS.main_arg10))
      ∧ r.2.sem = fun _ => 0)

def quiescent_KernelSIdeal [hKernelSIdeal : Cert.KernelSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg), Pre_KernelSIdeal m →
    θ_run (Cert.KernelSIdeal.defs (F := Ideal)) (onTc (τ := Cert.KernelSIdeal.τ) (Cert.KernelSIdeal.main (F := Ideal))) ⟨m, fun _ => 0, g⟩ (fun r => (∀ c : Dev Cert.KernelSIdeal.nD,
      r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
      ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
      ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
      ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
      ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4)
      ∧ r.2.mem ((c.tc : Thread Cert.KernelSIdeal.nD Cert.KernelSIdeal.τ).loc Cert.KernelSIdeal.main_arg5) = m ((c.tc : Thread Cert.KernelSIdeal.nD Cert.KernelSIdeal.τ).loc Cert.KernelSIdeal.main_arg5)
      ∧ r.2.mem ((c.tc : Thread Cert.KernelSIdeal.nD Cert.KernelSIdeal.τ).loc Cert.KernelSIdeal.main_arg6) = m ((c.tc : Thread Cert.KernelSIdeal.nD Cert.KernelSIdeal.τ).loc Cert.KernelSIdeal.main_arg6)
      ∧ r.2.mem ((c.tc : Thread Cert.KernelSIdeal.nD Cert.KernelSIdeal.τ).loc Cert.KernelSIdeal.main_arg7) = m ((c.tc : Thread Cert.KernelSIdeal.nD Cert.KernelSIdeal.τ).loc Cert.KernelSIdeal.main_arg7)
      ∧ r.2.mem ((c.tc : Thread Cert.KernelSIdeal.nD Cert.KernelSIdeal.τ).loc Cert.KernelSIdeal.main_arg8) = m ((c.tc : Thread Cert.KernelSIdeal.nD Cert.KernelSIdeal.τ).loc Cert.KernelSIdeal.main_arg8)
      ∧ r.2.mem ((c.tc : Thread Cert.KernelSIdeal.nD Cert.KernelSIdeal.τ).loc Cert.KernelSIdeal.main_arg9) = m ((c.tc : Thread Cert.KernelSIdeal.nD Cert.KernelSIdeal.τ).loc Cert.KernelSIdeal.main_arg9)
      ∧ r.2.mem ((c.tc : Thread Cert.KernelSIdeal.nD Cert.KernelSIdeal.τ).loc Cert.KernelSIdeal.main_arg10) = m ((c.tc : Thread Cert.KernelSIdeal.nD Cert.KernelSIdeal.τ).loc Cert.KernelSIdeal.main_arg10))
      ∧ r.2.sem = fun _ => 0)

def quiescent_ReferenceSIdeal [hReferenceSIdeal : Cert.ReferenceSIdeal.Facts] : Prop :=
  ∀ (m : (ℓ : Loc Cert.ReferenceSIdeal.nD Cert.ReferenceSIdeal.τ Cert.ReferenceSIdeal.sig) → Buf (Elt Ideal) ℓ) (g : Dev Cert.ReferenceSIdeal.nD → PrngReg), Pre_ReferenceSIdeal m →
    θ_run (Cert.ReferenceSIdeal.defs (F := Ideal)) (onTc (τ := Cert.ReferenceSIdeal.τ) (Cert.ReferenceSIdeal.main (F := Ideal))) ⟨m, fun _ => 0, g⟩ (fun r => (∀ c : Dev Cert.ReferenceSIdeal.nD,
      r.2.mem ((c.tc : Thread Cert.ReferenceSIdeal.nD Cert.ReferenceSIdeal.τ).loc Cert.ReferenceSIdeal.main_arg0) = m ((c.tc : Thread Cert.ReferenceSIdeal.nD Cert.ReferenceSIdeal.τ).loc Cert.ReferenceSIdeal.main_arg0)
      ∧ r.2.mem ((c.tc : Thread Cert.ReferenceSIdeal.nD Cert.ReferenceSIdeal.τ).loc Cert.ReferenceSIdeal.main_arg1) = m ((c.tc : Thread Cert.ReferenceSIdeal.nD Cert.ReferenceSIdeal.τ).loc Cert.ReferenceSIdeal.main_arg1)
      ∧ r.2.mem ((c.tc : Thread Cert.ReferenceSIdeal.nD Cert.ReferenceSIdeal.τ).loc Cert.ReferenceSIdeal.main_arg2) = m ((c.tc : Thread Cert.ReferenceSIdeal.nD Cert.ReferenceSIdeal.τ).loc Cert.ReferenceSIdeal.main_arg2)
      ∧ r.2.mem ((c.tc : Thread Cert.ReferenceSIdeal.nD Cert.ReferenceSIdeal.τ).loc Cert.ReferenceSIdeal.main_arg3) = m ((c.tc : Thread Cert.ReferenceSIdeal.nD Cert.ReferenceSIdeal.τ).loc Cert.ReferenceSIdeal.main_arg3)
      ∧ r.2.mem ((c.tc : Thread Cert.ReferenceSIdeal.nD Cert.ReferenceSIdeal.τ).loc Cert.ReferenceSIdeal.main_arg4) = m ((c.tc : Thread Cert.ReferenceSIdeal.nD Cert.ReferenceSIdeal.τ).loc Cert.ReferenceSIdeal.main_arg4)
      ∧ r.2.mem ((c.tc : Thread Cert.ReferenceSIdeal.nD Cert.ReferenceSIdeal.τ).loc Cert.ReferenceSIdeal.main_arg5) = m ((c.tc : Thread Cert.ReferenceSIdeal.nD Cert.ReferenceSIdeal.τ).loc Cert.ReferenceSIdeal.main_arg5)
      ∧ r.2.mem ((c.tc : Thread Cert.ReferenceSIdeal.nD Cert.ReferenceSIdeal.τ).loc Cert.ReferenceSIdeal.main_arg6) = m ((c.tc : Thread Cert.ReferenceSIdeal.nD Cert.ReferenceSIdeal.τ).loc Cert.ReferenceSIdeal.main_arg6)
      ∧ r.2.mem ((c.tc : Thread Cert.ReferenceSIdeal.nD Cert.ReferenceSIdeal.τ).loc Cert.ReferenceSIdeal.main_arg7) = m ((c.tc : Thread Cert.ReferenceSIdeal.nD Cert.ReferenceSIdeal.τ).loc Cert.ReferenceSIdeal.main_arg7)
      ∧ r.2.mem ((c.tc : Thread Cert.ReferenceSIdeal.nD Cert.ReferenceSIdeal.τ).loc Cert.ReferenceSIdeal.main_arg8) = m ((c.tc : Thread Cert.ReferenceSIdeal.nD Cert.ReferenceSIdeal.τ).loc Cert.ReferenceSIdeal.main_arg8)
      ∧ r.2.mem ((c.tc : Thread Cert.ReferenceSIdeal.nD Cert.ReferenceSIdeal.τ).loc Cert.ReferenceSIdeal.main_arg9) = m ((c.tc : Thread Cert.ReferenceSIdeal.nD Cert.ReferenceSIdeal.τ).loc Cert.ReferenceSIdeal.main_arg9)
      ∧ r.2.mem ((c.tc : Thread Cert.ReferenceSIdeal.nD Cert.ReferenceSIdeal.τ).loc Cert.ReferenceSIdeal.main_arg10) = m ((c.tc : Thread Cert.ReferenceSIdeal.nD Cert.ReferenceSIdeal.τ).loc Cert.ReferenceSIdeal.main_arg10))
      ∧ r.2.sem = fun _ => 0)

def quiescent_KernelU [hKernelU : Cert.KernelU.Facts] : Prop :=
  ∀ (m : (ℓ : Loc Cert.KernelU.nD Cert.KernelU.τ Cert.KernelU.sig) → Buf (Elt Bits) ℓ) (g : Dev Cert.KernelU.nD → PrngReg), Pre_KernelU m →
    θ_run (Cert.KernelU.defs (F := Bits)) (onTc (τ := Cert.KernelU.τ) (Cert.KernelU.main (F := Bits))) ⟨m, fun _ => 0, g⟩ (fun r => (∀ c : Dev Cert.KernelU.nD,
      r.2.mem ((c.tc : Thread Cert.KernelU.nD Cert.KernelU.τ).loc Cert.KernelU.main_arg0) = m ((c.tc : Thread Cert.KernelU.nD Cert.KernelU.τ).loc Cert.KernelU.main_arg0)
      ∧ r.2.mem ((c.tc : Thread Cert.KernelU.nD Cert.KernelU.τ).loc Cert.KernelU.main_arg1) = m ((c.tc : Thread Cert.KernelU.nD Cert.KernelU.τ).loc Cert.KernelU.main_arg1)
      ∧ r.2.mem ((c.tc : Thread Cert.KernelU.nD Cert.KernelU.τ).loc Cert.KernelU.main_arg2) = m ((c.tc : Thread Cert.KernelU.nD Cert.KernelU.τ).loc Cert.KernelU.main_arg2)
      ∧ r.2.mem ((c.tc : Thread Cert.KernelU.nD Cert.KernelU.τ).loc Cert.KernelU.main_arg3) = m ((c.tc : Thread Cert.KernelU.nD Cert.KernelU.τ).loc Cert.KernelU.main_arg3))
      ∧ r.2.sem = fun _ => 0)

def quiescent_KernelUIdeal [hKernelUIdeal : Cert.KernelUIdeal.Facts] : Prop :=
  ∀ (m : (ℓ : Loc Cert.KernelUIdeal.nD Cert.KernelUIdeal.τ Cert.KernelUIdeal.sig) → Buf (Elt Ideal) ℓ) (g : Dev Cert.KernelUIdeal.nD → PrngReg), Pre_KernelUIdeal m →
    θ_run (Cert.KernelUIdeal.defs (F := Ideal)) (onTc (τ := Cert.KernelUIdeal.τ) (Cert.KernelUIdeal.main (F := Ideal))) ⟨m, fun _ => 0, g⟩ (fun r => (∀ c : Dev Cert.KernelUIdeal.nD,
      r.2.mem ((c.tc : Thread Cert.KernelUIdeal.nD Cert.KernelUIdeal.τ).loc Cert.KernelUIdeal.main_arg0) = m ((c.tc : Thread Cert.KernelUIdeal.nD Cert.KernelUIdeal.τ).loc Cert.KernelUIdeal.main_arg0)
      ∧ r.2.mem ((c.tc : Thread Cert.KernelUIdeal.nD Cert.KernelUIdeal.τ).loc Cert.KernelUIdeal.main_arg1) = m ((c.tc : Thread Cert.KernelUIdeal.nD Cert.KernelUIdeal.τ).loc Cert.KernelUIdeal.main_arg1)
      ∧ r.2.mem ((c.tc : Thread Cert.KernelUIdeal.nD Cert.KernelUIdeal.τ).loc Cert.KernelUIdeal.main_arg2) = m ((c.tc : Thread Cert.KernelUIdeal.nD Cert.KernelUIdeal.τ).loc Cert.KernelUIdeal.main_arg2)
      ∧ r.2.mem ((c.tc : Thread Cert.KernelUIdeal.nD Cert.KernelUIdeal.τ).loc Cert.KernelUIdeal.main_arg3) = m ((c.tc : Thread Cert.KernelUIdeal.nD Cert.KernelUIdeal.τ).loc Cert.KernelUIdeal.main_arg3))
      ∧ r.2.sem = fun _ => 0)

def quiescent_ReferenceUIdeal [hReferenceUIdeal : Cert.ReferenceUIdeal.Facts] : Prop :=
  ∀ (m : (ℓ : Loc Cert.ReferenceUIdeal.nD Cert.ReferenceUIdeal.τ Cert.ReferenceUIdeal.sig) → Buf (Elt Ideal) ℓ) (g : Dev Cert.ReferenceUIdeal.nD → PrngReg), Pre_ReferenceUIdeal m →
    θ_run (Cert.ReferenceUIdeal.defs (F := Ideal)) (onTc (τ := Cert.ReferenceUIdeal.τ) (Cert.ReferenceUIdeal.main (F := Ideal))) ⟨m, fun _ => 0, g⟩ (fun r => (∀ c : Dev Cert.ReferenceUIdeal.nD,
      r.2.mem ((c.tc : Thread Cert.ReferenceUIdeal.nD Cert.ReferenceUIdeal.τ).loc Cert.ReferenceUIdeal.main_arg0) = m ((c.tc : Thread Cert.ReferenceUIdeal.nD Cert.ReferenceUIdeal.τ).loc Cert.ReferenceUIdeal.main_arg0)
      ∧ r.2.mem ((c.tc : Thread Cert.ReferenceUIdeal.nD Cert.ReferenceUIdeal.τ).loc Cert.ReferenceUIdeal.main_arg1) = m ((c.tc : Thread Cert.ReferenceUIdeal.nD Cert.ReferenceUIdeal.τ).loc Cert.ReferenceUIdeal.main_arg1)
      ∧ r.2.mem ((c.tc : Thread Cert.ReferenceUIdeal.nD Cert.ReferenceUIdeal.τ).loc Cert.ReferenceUIdeal.main_arg2) = m ((c.tc : Thread Cert.ReferenceUIdeal.nD Cert.ReferenceUIdeal.τ).loc Cert.ReferenceUIdeal.main_arg2)
      ∧ r.2.mem ((c.tc : Thread Cert.ReferenceUIdeal.nD Cert.ReferenceUIdeal.τ).loc Cert.ReferenceUIdeal.main_arg3) = m ((c.tc : Thread Cert.ReferenceUIdeal.nD Cert.ReferenceUIdeal.τ).loc Cert.ReferenceUIdeal.main_arg3))
      ∧ r.2.sem = fun _ => 0)

def quiescent_KernelT [hKernelT : Cert.KernelT.Facts] : Prop :=
  ∀ (m : (ℓ : Loc Cert.KernelT.nD Cert.KernelT.τ Cert.KernelT.sig) → Buf (Elt Bits) ℓ) (g : Dev Cert.KernelT.nD → PrngReg), Pre_KernelT m →
    θ_run (Cert.KernelT.defs (F := Bits)) (onTc (τ := Cert.KernelT.τ) (Cert.KernelT.main (F := Bits))) ⟨m, fun _ => 0, g⟩ (fun r => (∀ c : Dev Cert.KernelT.nD,
      r.2.mem ((c.tc : Thread Cert.KernelT.nD Cert.KernelT.τ).loc Cert.KernelT.main_arg0) = m ((c.tc : Thread Cert.KernelT.nD Cert.KernelT.τ).loc Cert.KernelT.main_arg0)
      ∧ r.2.mem ((c.tc : Thread Cert.KernelT.nD Cert.KernelT.τ).loc Cert.KernelT.main_arg1) = m ((c.tc : Thread Cert.KernelT.nD Cert.KernelT.τ).loc Cert.KernelT.main_arg1)
      ∧ r.2.mem ((c.tc : Thread Cert.KernelT.nD Cert.KernelT.τ).loc Cert.KernelT.main_arg2) = m ((c.tc : Thread Cert.KernelT.nD Cert.KernelT.τ).loc Cert.KernelT.main_arg2))
      ∧ r.2.sem = fun _ => 0)

def quiescent_KernelTIdeal [hKernelTIdeal : Cert.KernelTIdeal.Facts] : Prop :=
  ∀ (m : (ℓ : Loc Cert.KernelTIdeal.nD Cert.KernelTIdeal.τ Cert.KernelTIdeal.sig) → Buf (Elt Ideal) ℓ) (g : Dev Cert.KernelTIdeal.nD → PrngReg), Pre_KernelTIdeal m →
    θ_run (Cert.KernelTIdeal.defs (F := Ideal)) (onTc (τ := Cert.KernelTIdeal.τ) (Cert.KernelTIdeal.main (F := Ideal))) ⟨m, fun _ => 0, g⟩ (fun r => (∀ c : Dev Cert.KernelTIdeal.nD,
      r.2.mem ((c.tc : Thread Cert.KernelTIdeal.nD Cert.KernelTIdeal.τ).loc Cert.KernelTIdeal.main_arg0) = m ((c.tc : Thread Cert.KernelTIdeal.nD Cert.KernelTIdeal.τ).loc Cert.KernelTIdeal.main_arg0)
      ∧ r.2.mem ((c.tc : Thread Cert.KernelTIdeal.nD Cert.KernelTIdeal.τ).loc Cert.KernelTIdeal.main_arg1) = m ((c.tc : Thread Cert.KernelTIdeal.nD Cert.KernelTIdeal.τ).loc Cert.KernelTIdeal.main_arg1)
      ∧ r.2.mem ((c.tc : Thread Cert.KernelTIdeal.nD Cert.KernelTIdeal.τ).loc Cert.KernelTIdeal.main_arg2) = m ((c.tc : Thread Cert.KernelTIdeal.nD Cert.KernelTIdeal.τ).loc Cert.KernelTIdeal.main_arg2))
      ∧ r.2.sem = fun _ => 0)

def quiescent_ReferenceTIdeal [hReferenceTIdeal : Cert.ReferenceTIdeal.Facts] : Prop :=
  ∀ (m : (ℓ : Loc Cert.ReferenceTIdeal.nD Cert.ReferenceTIdeal.τ Cert.ReferenceTIdeal.sig) → Buf (Elt Ideal) ℓ) (g : Dev Cert.ReferenceTIdeal.nD → PrngReg), Pre_ReferenceTIdeal m →
    θ_run (Cert.ReferenceTIdeal.defs (F := Ideal)) (onTc (τ := Cert.ReferenceTIdeal.τ) (Cert.ReferenceTIdeal.main (F := Ideal))) ⟨m, fun _ => 0, g⟩ (fun r => (∀ c : Dev Cert.ReferenceTIdeal.nD,
      r.2.mem ((c.tc : Thread Cert.ReferenceTIdeal.nD Cert.ReferenceTIdeal.τ).loc Cert.ReferenceTIdeal.main_arg0) = m ((c.tc : Thread Cert.ReferenceTIdeal.nD Cert.ReferenceTIdeal.τ).loc Cert.ReferenceTIdeal.main_arg0)
      ∧ r.2.mem ((c.tc : Thread Cert.ReferenceTIdeal.nD Cert.ReferenceTIdeal.τ).loc Cert.ReferenceTIdeal.main_arg1) = m ((c.tc : Thread Cert.ReferenceTIdeal.nD Cert.ReferenceTIdeal.τ).loc Cert.ReferenceTIdeal.main_arg1)
      ∧ r.2.mem ((c.tc : Thread Cert.ReferenceTIdeal.nD Cert.ReferenceTIdeal.τ).loc Cert.ReferenceTIdeal.main_arg2) = m ((c.tc : Thread Cert.ReferenceTIdeal.nD Cert.ReferenceTIdeal.τ).loc Cert.ReferenceTIdeal.main_arg2))
      ∧ r.2.sem = fun _ => 0)

def quiescent_KernelV [hKernelV : Cert.KernelV.Facts] : Prop :=
  ∀ (m : (ℓ : Loc Cert.KernelV.nD Cert.KernelV.τ Cert.KernelV.sig) → Buf (Elt Bits) ℓ) (g : Dev Cert.KernelV.nD → PrngReg), Pre_KernelV m →
    θ_run (Cert.KernelV.defs (F := Bits)) (onTc (τ := Cert.KernelV.τ) (Cert.KernelV.main (F := Bits))) ⟨m, fun _ => 0, g⟩ (fun r => (∀ c : Dev Cert.KernelV.nD,
      r.2.mem ((c.tc : Thread Cert.KernelV.nD Cert.KernelV.τ).loc Cert.KernelV.main_arg0) = m ((c.tc : Thread Cert.KernelV.nD Cert.KernelV.τ).loc Cert.KernelV.main_arg0)
      ∧ r.2.mem ((c.tc : Thread Cert.KernelV.nD Cert.KernelV.τ).loc Cert.KernelV.main_arg1) = m ((c.tc : Thread Cert.KernelV.nD Cert.KernelV.τ).loc Cert.KernelV.main_arg1)
      ∧ r.2.mem ((c.tc : Thread Cert.KernelV.nD Cert.KernelV.τ).loc Cert.KernelV.main_arg2) = m ((c.tc : Thread Cert.KernelV.nD Cert.KernelV.τ).loc Cert.KernelV.main_arg2)
      ∧ r.2.mem ((c.tc : Thread Cert.KernelV.nD Cert.KernelV.τ).loc Cert.KernelV.main_arg3) = m ((c.tc : Thread Cert.KernelV.nD Cert.KernelV.τ).loc Cert.KernelV.main_arg3)
      ∧ r.2.mem ((c.tc : Thread Cert.KernelV.nD Cert.KernelV.τ).loc Cert.KernelV.main_arg4) = m ((c.tc : Thread Cert.KernelV.nD Cert.KernelV.τ).loc Cert.KernelV.main_arg4)
      ∧ r.2.mem ((c.tc : Thread Cert.KernelV.nD Cert.KernelV.τ).loc Cert.KernelV.main_arg5) = m ((c.tc : Thread Cert.KernelV.nD Cert.KernelV.τ).loc Cert.KernelV.main_arg5)
      ∧ r.2.mem ((c.tc : Thread Cert.KernelV.nD Cert.KernelV.τ).loc Cert.KernelV.main_arg6) = m ((c.tc : Thread Cert.KernelV.nD Cert.KernelV.τ).loc Cert.KernelV.main_arg6))
      ∧ r.2.sem = fun _ => 0)

def quiescent_KernelVIdeal [hKernelVIdeal : Cert.KernelVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1)
      ∧ r.2.mem ((c.tc : Thread Cert.KernelVIdeal.nD Cert.KernelVIdeal.τ).loc Cert.KernelVIdeal.main_arg2) = m ((c.tc : Thread Cert.KernelVIdeal.nD Cert.KernelVIdeal.τ).loc Cert.KernelVIdeal.main_arg2)
      ∧ r.2.mem ((c.tc : Thread Cert.KernelVIdeal.nD Cert.KernelVIdeal.τ).loc Cert.KernelVIdeal.main_arg3) = m ((c.tc : Thread Cert.KernelVIdeal.nD Cert.KernelVIdeal.τ).loc Cert.KernelVIdeal.main_arg3)
      ∧ r.2.mem ((c.tc : Thread Cert.KernelVIdeal.nD Cert.KernelVIdeal.τ).loc Cert.KernelVIdeal.main_arg4) = m ((c.tc : Thread Cert.KernelVIdeal.nD Cert.KernelVIdeal.τ).loc Cert.KernelVIdeal.main_arg4)
      ∧ r.2.mem ((c.tc : Thread Cert.KernelVIdeal.nD Cert.KernelVIdeal.τ).loc Cert.KernelVIdeal.main_arg5) = m ((c.tc : Thread Cert.KernelVIdeal.nD Cert.KernelVIdeal.τ).loc Cert.KernelVIdeal.main_arg5)
      ∧ r.2.mem ((c.tc : Thread Cert.KernelVIdeal.nD Cert.KernelVIdeal.τ).loc Cert.KernelVIdeal.main_arg6) = m ((c.tc : Thread Cert.KernelVIdeal.nD Cert.KernelVIdeal.τ).loc Cert.KernelVIdeal.main_arg6))
      ∧ r.2.sem = fun _ => 0)

def quiescent_ReferenceVIdeal [hReferenceVIdeal : Cert.ReferenceVIdeal.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0)
      ∧ r.2.mem ((c.tc : Thread Cert.ReferenceVIdeal.nD Cert.ReferenceVIdeal.τ).loc Cert.ReferenceVIdeal.main_arg1) = m ((c.tc : Thread Cert.ReferenceVIdeal.nD Cert.ReferenceVIdeal.τ).loc Cert.ReferenceVIdeal.main_arg1)
      ∧ r.2.mem ((c.tc : Thread Cert.ReferenceVIdeal.nD Cert.ReferenceVIdeal.τ).loc Cert.ReferenceVIdeal.main_arg2) = m ((c.tc : Thread Cert.ReferenceVIdeal.nD Cert.ReferenceVIdeal.τ).loc Cert.ReferenceVIdeal.main_arg2)
      ∧ r.2.mem ((c.tc : Thread Cert.ReferenceVIdeal.nD Cert.ReferenceVIdeal.τ).loc Cert.ReferenceVIdeal.main_arg3) = m ((c.tc : Thread Cert.ReferenceVIdeal.nD Cert.ReferenceVIdeal.τ).loc Cert.ReferenceVIdeal.main_arg3)
      ∧ r.2.mem ((c.tc : Thread Cert.ReferenceVIdeal.nD Cert.ReferenceVIdeal.τ).loc Cert.ReferenceVIdeal.main_arg4) = m ((c.tc : Thread Cert.ReferenceVIdeal.nD Cert.ReferenceVIdeal.τ).loc Cert.ReferenceVIdeal.main_arg4)
      ∧ r.2.mem ((c.tc : Thread Cert.ReferenceVIdeal.nD Cert.ReferenceVIdeal.τ).loc Cert.ReferenceVIdeal.main_arg5) = m ((c.tc : Thread Cert.ReferenceVIdeal.nD Cert.ReferenceVIdeal.τ).loc Cert.ReferenceVIdeal.main_arg5)
      ∧ r.2.mem ((c.tc : Thread Cert.ReferenceVIdeal.nD Cert.ReferenceVIdeal.τ).loc Cert.ReferenceVIdeal.main_arg6) = m ((c.tc : Thread Cert.ReferenceVIdeal.nD Cert.ReferenceVIdeal.τ).loc Cert.ReferenceVIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_padded [hKernelIdeal : Cert.KernelIdeal.Facts] [hReferenceIdeal : Cert.ReferenceIdeal.Facts] [hPre_finite_padded : Cert.Pre_finite_padded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_padded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelA_KernelAIdeal : Prop :=
  True

def algebraic_KernelAIdeal_ReferenceAIdeal [hKernelAIdeal : Cert.KernelAIdeal.Facts] [hReferenceAIdeal : Cert.ReferenceAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)) →
    ∃ (v0 : (c : Dev Cert.KernelAIdeal.nD) → Buf (Elt Ideal) ((c.tc : Thread Cert.KernelAIdeal.nD Cert.KernelAIdeal.τ).loc Cert.KernelAIdeal.main_v77)) (v1 : (c : Dev Cert.KernelAIdeal.nD) → Buf (Elt Ideal) ((c.tc : Thread Cert.KernelAIdeal.nD Cert.KernelAIdeal.τ).loc Cert.KernelAIdeal.main_v78_0)) (v2 : (c : Dev Cert.KernelAIdeal.nD) → Buf (Elt Ideal) ((c.tc : Thread Cert.KernelAIdeal.nD Cert.KernelAIdeal.τ).loc Cert.KernelAIdeal.main_v78_1)) (v3 : (c : Dev Cert.KernelAIdeal.nD) → Buf (Elt Ideal) ((c.tc : Thread Cert.KernelAIdeal.nD Cert.KernelAIdeal.τ).loc Cert.KernelAIdeal.main_v79_0)) (v4 : (c : Dev Cert.KernelAIdeal.nD) → Buf (Elt Ideal) ((c.tc : Thread Cert.KernelAIdeal.nD Cert.KernelAIdeal.τ).loc Cert.KernelAIdeal.main_v79_1)) (v5 : (c : Dev Cert.KernelAIdeal.nD) → Buf (Elt Ideal) ((c.tc : Thread Cert.KernelAIdeal.nD Cert.KernelAIdeal.τ).loc Cert.KernelAIdeal.main_v80)) (v6 : (c : Dev Cert.KernelAIdeal.nD) → Buf (Elt Ideal) ((c.tc : Thread Cert.KernelAIdeal.nD Cert.KernelAIdeal.τ).loc Cert.KernelAIdeal.main_v81)) (v7 : (c : Dev Cert.KernelAIdeal.nD) → Buf (Elt Ideal) ((c.tc : Thread Cert.KernelAIdeal.nD Cert.KernelAIdeal.τ).loc Cert.KernelAIdeal.main_v82)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v77) = v0 c
          ∧ r.2.mem ((c.tc : Thread Cert.KernelAIdeal.nD Cert.KernelAIdeal.τ).loc Cert.KernelAIdeal.main_v78_0) = v1 c
          ∧ r.2.mem ((c.tc : Thread Cert.KernelAIdeal.nD Cert.KernelAIdeal.τ).loc Cert.KernelAIdeal.main_v78_1) = v2 c
          ∧ r.2.mem ((c.tc : Thread Cert.KernelAIdeal.nD Cert.KernelAIdeal.τ).loc Cert.KernelAIdeal.main_v79_0) = v3 c
          ∧ r.2.mem ((c.tc : Thread Cert.KernelAIdeal.nD Cert.KernelAIdeal.τ).loc Cert.KernelAIdeal.main_v79_1) = v4 c
          ∧ r.2.mem ((c.tc : Thread Cert.KernelAIdeal.nD Cert.KernelAIdeal.τ).loc Cert.KernelAIdeal.main_v80) = v5 c
          ∧ r.2.mem ((c.tc : Thread Cert.KernelAIdeal.nD Cert.KernelAIdeal.τ).loc Cert.KernelAIdeal.main_v81) = v6 c
          ∧ r.2.mem ((c.tc : Thread Cert.KernelAIdeal.nD Cert.KernelAIdeal.τ).loc Cert.KernelAIdeal.main_v82) = v7 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v169) = v0 c
          ∧ r.2.mem ((c.tc : Thread Cert.ReferenceAIdeal.nD Cert.ReferenceAIdeal.τ).loc Cert.ReferenceAIdeal.main_v89) = v1 c
          ∧ r.2.mem ((c.tc : Thread Cert.ReferenceAIdeal.nD Cert.ReferenceAIdeal.τ).loc Cert.ReferenceAIdeal.main_v170) = v2 c
          ∧ r.2.mem ((c.tc : Thread Cert.ReferenceAIdeal.nD Cert.ReferenceAIdeal.τ).loc Cert.ReferenceAIdeal.main_v90) = v3 c
          ∧ r.2.mem ((c.tc : Thread Cert.ReferenceAIdeal.nD Cert.ReferenceAIdeal.τ).loc Cert.ReferenceAIdeal.main_v171) = v4 c
          ∧ r.2.mem ((c.tc : Thread Cert.ReferenceAIdeal.nD Cert.ReferenceAIdeal.τ).loc Cert.ReferenceAIdeal.main_v172) = v5 c
          ∧ r.2.mem ((c.tc : Thread Cert.ReferenceAIdeal.nD Cert.ReferenceAIdeal.τ).loc Cert.ReferenceAIdeal.main_v168) = v6 c
          ∧ r.2.mem ((c.tc : Thread Cert.ReferenceAIdeal.nD Cert.ReferenceAIdeal.τ).loc Cert.ReferenceAIdeal.main_v173) = v7 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2))

def preserves_KernelB_KernelBIdeal : Prop :=
  True

def algebraic_KernelBIdeal_ReferenceBIdeal [hKernelBIdeal : Cert.KernelBIdeal.Facts] [hReferenceBIdeal : Cert.ReferenceBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)
      ∧ m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)
      ∧ m' ((c.tc : Thread Cert.ReferenceBIdeal.nD Cert.ReferenceBIdeal.τ).loc Cert.ReferenceBIdeal.main_arg4) = m ((c.tc : Thread Cert.KernelBIdeal.nD Cert.KernelBIdeal.τ).loc Cert.KernelBIdeal.main_arg4)
      ∧ m' ((c.tc : Thread Cert.ReferenceBIdeal.nD Cert.ReferenceBIdeal.τ).loc Cert.ReferenceBIdeal.main_arg5) = m ((c.tc : Thread Cert.KernelBIdeal.nD Cert.KernelBIdeal.τ).loc Cert.KernelBIdeal.main_arg5)
      ∧ m' ((c.tc : Thread Cert.ReferenceBIdeal.nD Cert.ReferenceBIdeal.τ).loc Cert.ReferenceBIdeal.main_arg6) = m ((c.tc : Thread Cert.KernelBIdeal.nD Cert.KernelBIdeal.τ).loc Cert.KernelBIdeal.main_arg6)
      ∧ m' ((c.tc : Thread Cert.ReferenceBIdeal.nD Cert.ReferenceBIdeal.τ).loc Cert.ReferenceBIdeal.main_arg7) = m ((c.tc : Thread Cert.KernelBIdeal.nD Cert.KernelBIdeal.τ).loc Cert.KernelBIdeal.main_arg7)
      ∧ m' ((c.tc : Thread Cert.ReferenceBIdeal.nD Cert.ReferenceBIdeal.τ).loc Cert.ReferenceBIdeal.main_arg8) = m ((c.tc : Thread Cert.KernelBIdeal.nD Cert.KernelBIdeal.τ).loc Cert.KernelBIdeal.main_arg8)) →
    ∃ (v0 : (c : Dev Cert.KernelBIdeal.nD) → Buf (Elt Ideal) ((c.tc : Thread Cert.KernelBIdeal.nD Cert.KernelBIdeal.τ).loc Cert.KernelBIdeal.main_v4_0)) (v1 : (c : Dev Cert.KernelBIdeal.nD) → Buf (Elt Ideal) ((c.tc : Thread Cert.KernelBIdeal.nD Cert.KernelBIdeal.τ).loc Cert.KernelBIdeal.main_v50)) (v2 : (c : Dev Cert.KernelBIdeal.nD) → Buf (Elt Ideal) ((c.tc : Thread Cert.KernelBIdeal.nD Cert.KernelBIdeal.τ).loc Cert.KernelBIdeal.main_v47_0)) (v3 : (c : Dev Cert.KernelBIdeal.nD) → Buf (Elt Ideal) ((c.tc : Thread Cert.KernelBIdeal.nD Cert.KernelBIdeal.τ).loc Cert.KernelBIdeal.main_v48_0)) (v4 : (c : Dev Cert.KernelBIdeal.nD) → Buf (Elt Ideal) ((c.tc : Thread Cert.KernelBIdeal.nD Cert.KernelBIdeal.τ).loc Cert.KernelBIdeal.main_v48_1)) (v5 : (c : Dev Cert.KernelBIdeal.nD) → Buf (Elt Ideal) ((c.tc : Thread Cert.KernelBIdeal.nD Cert.KernelBIdeal.τ).loc Cert.KernelBIdeal.main_v49)) (v6 : (c : Dev Cert.KernelBIdeal.nD) → Buf (Elt Ideal) ((c.tc : Thread Cert.KernelBIdeal.nD Cert.KernelBIdeal.τ).loc Cert.KernelBIdeal.main_v53)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v4_0) = v0 c
          ∧ r.2.mem ((c.tc : Thread Cert.KernelBIdeal.nD Cert.KernelBIdeal.τ).loc Cert.KernelBIdeal.main_v50) = v1 c
          ∧ r.2.mem ((c.tc : Thread Cert.KernelBIdeal.nD Cert.KernelBIdeal.τ).loc Cert.KernelBIdeal.main_v47_0) = v2 c
          ∧ r.2.mem ((c.tc : Thread Cert.KernelBIdeal.nD Cert.KernelBIdeal.τ).loc Cert.KernelBIdeal.main_v48_0) = v3 c
          ∧ r.2.mem ((c.tc : Thread Cert.KernelBIdeal.nD Cert.KernelBIdeal.τ).loc Cert.KernelBIdeal.main_v48_1) = v4 c
          ∧ r.2.mem ((c.tc : Thread Cert.KernelBIdeal.nD Cert.KernelBIdeal.τ).loc Cert.KernelBIdeal.main_v49) = v5 c
          ∧ r.2.mem ((c.tc : Thread Cert.KernelBIdeal.nD Cert.KernelBIdeal.τ).loc Cert.KernelBIdeal.main_v53) = v6 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
          ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
          ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
          ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
          ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
          ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
          ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v3) = v0 c
          ∧ r.2.mem ((c.tc : Thread Cert.ReferenceBIdeal.nD Cert.ReferenceBIdeal.τ).loc Cert.ReferenceBIdeal.main_v138) = v1 c
          ∧ r.2.mem ((c.tc : Thread Cert.ReferenceBIdeal.nD Cert.ReferenceBIdeal.τ).loc Cert.ReferenceBIdeal.main_v51) = v2 c
          ∧ r.2.mem ((c.tc : Thread Cert.ReferenceBIdeal.nD Cert.ReferenceBIdeal.τ).loc Cert.ReferenceBIdeal.main_v134) = v3 c
          ∧ r.2.mem ((c.tc : Thread Cert.ReferenceBIdeal.nD Cert.ReferenceBIdeal.τ).loc Cert.ReferenceBIdeal.main_v139) = v4 c
          ∧ r.2.mem ((c.tc : Thread Cert.ReferenceBIdeal.nD Cert.ReferenceBIdeal.τ).loc Cert.ReferenceBIdeal.main_v140) = v5 c
          ∧ r.2.mem ((c.tc : Thread Cert.ReferenceBIdeal.nD Cert.ReferenceBIdeal.τ).loc Cert.ReferenceBIdeal.main_v141) = v6 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2)
          ∧ r.2.mem ((c.tc : Thread Cert.ReferenceBIdeal.nD Cert.ReferenceBIdeal.τ).loc Cert.ReferenceBIdeal.main_arg3) = m' ((c.tc : Thread Cert.ReferenceBIdeal.nD Cert.ReferenceBIdeal.τ).loc Cert.ReferenceBIdeal.main_arg3)
          ∧ r.2.mem ((c.tc : Thread Cert.ReferenceBIdeal.nD Cert.ReferenceBIdeal.τ).loc Cert.ReferenceBIdeal.main_arg4) = m' ((c.tc : Thread Cert.ReferenceBIdeal.nD Cert.ReferenceBIdeal.τ).loc Cert.ReferenceBIdeal.main_arg4)
          ∧ r.2.mem ((c.tc : Thread Cert.ReferenceBIdeal.nD Cert.ReferenceBIdeal.τ).loc Cert.ReferenceBIdeal.main_arg5) = m' ((c.tc : Thread Cert.ReferenceBIdeal.nD Cert.ReferenceBIdeal.τ).loc Cert.ReferenceBIdeal.main_arg5)
          ∧ r.2.mem ((c.tc : Thread Cert.ReferenceBIdeal.nD Cert.ReferenceBIdeal.τ).loc Cert.ReferenceBIdeal.main_arg6) = m' ((c.tc : Thread Cert.ReferenceBIdeal.nD Cert.ReferenceBIdeal.τ).loc Cert.ReferenceBIdeal.main_arg6)
          ∧ r.2.mem ((c.tc : Thread Cert.ReferenceBIdeal.nD Cert.ReferenceBIdeal.τ).loc Cert.ReferenceBIdeal.main_arg7) = m' ((c.tc : Thread Cert.ReferenceBIdeal.nD Cert.ReferenceBIdeal.τ).loc Cert.ReferenceBIdeal.main_arg7)
          ∧ r.2.mem ((c.tc : Thread Cert.ReferenceBIdeal.nD Cert.ReferenceBIdeal.τ).loc Cert.ReferenceBIdeal.main_arg8) = m' ((c.tc : Thread Cert.ReferenceBIdeal.nD Cert.ReferenceBIdeal.τ).loc Cert.ReferenceBIdeal.main_arg8))

def preserves_KernelC_KernelCIdeal : Prop :=
  True

def algebraic_KernelCIdeal_ReferenceCIdeal [hKernelCIdeal : Cert.KernelCIdeal.Facts] [hReferenceCIdeal : Cert.ReferenceCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)
      ∧ m' ((c.tc : Thread Cert.ReferenceCIdeal.nD Cert.ReferenceCIdeal.τ).loc Cert.ReferenceCIdeal.main_arg3) = m ((c.tc : Thread Cert.KernelCIdeal.nD Cert.KernelCIdeal.τ).loc Cert.KernelCIdeal.main_arg3)) →
    ∃ (v0 : (c : Dev Cert.KernelCIdeal.nD) → Buf (Elt Ideal) ((c.tc : Thread Cert.KernelCIdeal.nD Cert.KernelCIdeal.τ).loc Cert.KernelCIdeal.main_v3)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v3) = v0 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
          ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v16) = v0 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1)
          ∧ r.2.mem ((c.tc : Thread Cert.ReferenceCIdeal.nD Cert.ReferenceCIdeal.τ).loc Cert.ReferenceCIdeal.main_arg2) = m' ((c.tc : Thread Cert.ReferenceCIdeal.nD Cert.ReferenceCIdeal.τ).loc Cert.ReferenceCIdeal.main_arg2)
          ∧ r.2.mem ((c.tc : Thread Cert.ReferenceCIdeal.nD Cert.ReferenceCIdeal.τ).loc Cert.ReferenceCIdeal.main_arg3) = m' ((c.tc : Thread Cert.ReferenceCIdeal.nD Cert.ReferenceCIdeal.τ).loc Cert.ReferenceCIdeal.main_arg3))

def preserves_KernelS_KernelSIdeal : Prop :=
  True

def algebraic_KernelSIdeal_ReferenceSIdeal [hKernelSIdeal : Cert.KernelSIdeal.Facts] [hReferenceSIdeal : Cert.ReferenceSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg)
    (m' : (ℓ : Loc Cert.ReferenceSIdeal.nD Cert.ReferenceSIdeal.τ Cert.ReferenceSIdeal.sig) → Buf (Elt Ideal) ℓ) (g' : Dev Cert.ReferenceSIdeal.nD → PrngReg), Pre_KernelSIdeal m →
    (∀ c : Dev Cert.KernelSIdeal.nD,
      m' ((c.tc : Thread Cert.ReferenceSIdeal.nD Cert.ReferenceSIdeal.τ).loc Cert.ReferenceSIdeal.main_arg0) = m ((c.tc : Thread Cert.KernelSIdeal.nD Cert.KernelSIdeal.τ).loc Cert.KernelSIdeal.main_arg0)
      ∧ m' ((c.tc : Thread Cert.ReferenceSIdeal.nD Cert.ReferenceSIdeal.τ).loc Cert.ReferenceSIdeal.main_arg1) = m ((c.tc : Thread Cert.KernelSIdeal.nD Cert.KernelSIdeal.τ).loc Cert.KernelSIdeal.main_arg1)
      ∧ m' ((c.tc : Thread Cert.ReferenceSIdeal.nD Cert.ReferenceSIdeal.τ).loc Cert.ReferenceSIdeal.main_arg2) = m ((c.tc : Thread Cert.KernelSIdeal.nD Cert.KernelSIdeal.τ).loc Cert.KernelSIdeal.main_arg2)
      ∧ m' ((c.tc : Thread Cert.ReferenceSIdeal.nD Cert.ReferenceSIdeal.τ).loc Cert.ReferenceSIdeal.main_arg3) = m ((c.tc : Thread Cert.KernelSIdeal.nD Cert.KernelSIdeal.τ).loc Cert.KernelSIdeal.main_arg3)
      ∧ m' ((c.tc : Thread Cert.ReferenceSIdeal.nD Cert.ReferenceSIdeal.τ).loc Cert.ReferenceSIdeal.main_arg4) = m ((c.tc : Thread Cert.KernelSIdeal.nD Cert.KernelSIdeal.τ).loc Cert.KernelSIdeal.main_arg4)
      ∧ m' ((c.tc : Thread Cert.ReferenceSIdeal.nD Cert.ReferenceSIdeal.τ).loc Cert.ReferenceSIdeal.main_arg5) = m ((c.tc : Thread Cert.KernelSIdeal.nD Cert.KernelSIdeal.τ).loc Cert.KernelSIdeal.main_arg5)
      ∧ m' ((c.tc : Thread Cert.ReferenceSIdeal.nD Cert.ReferenceSIdeal.τ).loc Cert.ReferenceSIdeal.main_arg6) = m ((c.tc : Thread Cert.KernelSIdeal.nD Cert.KernelSIdeal.τ).loc Cert.KernelSIdeal.main_arg6)
      ∧ m' ((c.tc : Thread Cert.ReferenceSIdeal.nD Cert.ReferenceSIdeal.τ).loc Cert.ReferenceSIdeal.main_arg7) = m ((c.tc : Thread Cert.KernelSIdeal.nD Cert.KernelSIdeal.τ).loc Cert.KernelSIdeal.main_arg7)
      ∧ m' ((c.tc : Thread Cert.ReferenceSIdeal.nD Cert.ReferenceSIdeal.τ).loc Cert.ReferenceSIdeal.main_arg8) = m ((c.tc : Thread Cert.KernelSIdeal.nD Cert.KernelSIdeal.τ).loc Cert.KernelSIdeal.main_arg8)
      ∧ m' ((c.tc : Thread Cert.ReferenceSIdeal.nD Cert.ReferenceSIdeal.τ).loc Cert.ReferenceSIdeal.main_arg9) = m ((c.tc : Thread Cert.KernelSIdeal.nD Cert.KernelSIdeal.τ).loc Cert.KernelSIdeal.main_arg9)
      ∧ m' ((c.tc : Thread Cert.ReferenceSIdeal.nD Cert.ReferenceSIdeal.τ).loc Cert.ReferenceSIdeal.main_arg10) = m ((c.tc : Thread Cert.KernelSIdeal.nD Cert.KernelSIdeal.τ).loc Cert.KernelSIdeal.main_arg10)) →
    ∃ (v0 : (c : Dev Cert.KernelSIdeal.nD) → Buf (Elt Ideal) ((c.tc : Thread Cert.KernelSIdeal.nD Cert.KernelSIdeal.τ).loc Cert.KernelSIdeal.main_v80)) (v1 : (c : Dev Cert.KernelSIdeal.nD) → Buf (Elt Ideal) ((c.tc : Thread Cert.KernelSIdeal.nD Cert.KernelSIdeal.τ).loc Cert.KernelSIdeal.main_v65_0)) (v2 : (c : Dev Cert.KernelSIdeal.nD) → Buf (Elt Ideal) ((c.tc : Thread Cert.KernelSIdeal.nD Cert.KernelSIdeal.τ).loc Cert.KernelSIdeal.main_v66_0)) (v3 : (c : Dev Cert.KernelSIdeal.nD) → Buf (Elt Ideal) ((c.tc : Thread Cert.KernelSIdeal.nD Cert.KernelSIdeal.τ).loc Cert.KernelSIdeal.main_v67)) (v4 : (c : Dev Cert.KernelSIdeal.nD) → Buf (Elt Ideal) ((c.tc : Thread Cert.KernelSIdeal.nD Cert.KernelSIdeal.τ).loc Cert.KernelSIdeal.main_v75_0)) (v5 : (c : Dev Cert.KernelSIdeal.nD) → Buf (Elt Ideal) ((c.tc : Thread Cert.KernelSIdeal.nD Cert.KernelSIdeal.τ).loc Cert.KernelSIdeal.main_v76_0)),
      θ_run (Cert.KernelSIdeal.defs (F := Ideal)) (onTc (τ := Cert.KernelSIdeal.τ) (Cert.KernelSIdeal.main (F := Ideal))) ⟨m, fun _ => 0, g⟩ (fun r => ∀ c : Dev Cert.KernelSIdeal.nD,
          r.2.mem ((c.tc : Thread Cert.KernelSIdeal.nD Cert.KernelSIdeal.τ).loc Cert.KernelSIdeal.main_v80) = v0 c
          ∧ r.2.mem ((c.tc : Thread Cert.KernelSIdeal.nD Cert.KernelSIdeal.τ).loc Cert.KernelSIdeal.main_v65_0) = v1 c
          ∧ r.2.mem ((c.tc : Thread Cert.KernelSIdeal.nD Cert.KernelSIdeal.τ).loc Cert.KernelSIdeal.main_v66_0) = v2 c
          ∧ r.2.mem ((c.tc : Thread Cert.KernelSIdeal.nD Cert.KernelSIdeal.τ).loc Cert.KernelSIdeal.main_v67) = v3 c
          ∧ r.2.mem ((c.tc : Thread Cert.KernelSIdeal.nD Cert.KernelSIdeal.τ).loc Cert.KernelSIdeal.main_v75_0) = v4 c
          ∧ r.2.mem ((c.tc : Thread Cert.KernelSIdeal.nD Cert.KernelSIdeal.τ).loc Cert.KernelSIdeal.main_v76_0) = v5 c
          ∧ r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
          ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
          ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
          ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
          ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4)
          ∧ r.2.mem ((c.tc : Thread Cert.KernelSIdeal.nD Cert.KernelSIdeal.τ).loc Cert.KernelSIdeal.main_arg5) = m ((c.tc : Thread Cert.KernelSIdeal.nD Cert.KernelSIdeal.τ).loc Cert.KernelSIdeal.main_arg5)
          ∧ r.2.mem ((c.tc : Thread Cert.KernelSIdeal.nD Cert.KernelSIdeal.τ).loc Cert.KernelSIdeal.main_arg6) = m ((c.tc : Thread Cert.KernelSIdeal.nD Cert.KernelSIdeal.τ).loc Cert.KernelSIdeal.main_arg6)
          ∧ r.2.mem ((c.tc : Thread Cert.KernelSIdeal.nD Cert.KernelSIdeal.τ).loc Cert.KernelSIdeal.main_arg7) = m ((c.tc : Thread Cert.KernelSIdeal.nD Cert.KernelSIdeal.τ).loc Cert.KernelSIdeal.main_arg7)
          ∧ r.2.mem ((c.tc : Thread Cert.KernelSIdeal.nD Cert.KernelSIdeal.τ).loc Cert.KernelSIdeal.main_arg8) = m ((c.tc : Thread Cert.KernelSIdeal.nD Cert.KernelSIdeal.τ).loc Cert.KernelSIdeal.main_arg8)
          ∧ r.2.mem ((c.tc : Thread Cert.KernelSIdeal.nD Cert.KernelSIdeal.τ).loc Cert.KernelSIdeal.main_arg9) = m ((c.tc : Thread Cert.KernelSIdeal.nD Cert.KernelSIdeal.τ).loc Cert.KernelSIdeal.main_arg9)
          ∧ r.2.mem ((c.tc : Thread Cert.KernelSIdeal.nD Cert.KernelSIdeal.τ).loc Cert.KernelSIdeal.main_arg10) = m ((c.tc : Thread Cert.KernelSIdeal.nD Cert.KernelSIdeal.τ).loc Cert.KernelSIdeal.main_arg10))
      ∧ θ_run (Cert.ReferenceSIdeal.defs (F := Ideal)) (onTc (τ := Cert.ReferenceSIdeal.τ) (Cert.ReferenceSIdeal.main (F := Ideal))) ⟨m', fun _ => 0, g'⟩ (fun r => ∀ c : Dev Cert.ReferenceSIdeal.nD,
          r.2.mem ((c.tc : Thread Cert.ReferenceSIdeal.nD Cert.ReferenceSIdeal.τ).loc Cert.ReferenceSIdeal.main_v181) = v0 c
          ∧ r.2.mem ((c.tc : Thread Cert.ReferenceSIdeal.nD Cert.ReferenceSIdeal.τ).loc Cert.ReferenceSIdeal.main_v53) = v1 c
          ∧ r.2.mem ((c.tc : Thread Cert.ReferenceSIdeal.nD Cert.ReferenceSIdeal.τ).loc Cert.ReferenceSIdeal.main_v54) = v2 c
          ∧ r.2.mem ((c.tc : Thread Cert.ReferenceSIdeal.nD Cert.ReferenceSIdeal.τ).loc Cert.ReferenceSIdeal.main_v92) = v3 c
          ∧ r.2.mem ((c.tc : Thread Cert.ReferenceSIdeal.nD Cert.ReferenceSIdeal.τ).loc Cert.ReferenceSIdeal.main_v127) = v4 c
          ∧ r.2.mem ((c.tc : Thread Cert.ReferenceSIdeal.nD Cert.ReferenceSIdeal.τ).loc Cert.ReferenceSIdeal.main_v164) = v5 c
          ∧ r.2.mem ((c.tc : Thread Cert.ReferenceSIdeal.nD Cert.ReferenceSIdeal.τ).loc Cert.ReferenceSIdeal.main_arg0) = m' ((c.tc : Thread Cert.ReferenceSIdeal.nD Cert.ReferenceSIdeal.τ).loc Cert.ReferenceSIdeal.main_arg0)
          ∧ r.2.mem ((c.tc : Thread Cert.ReferenceSIdeal.nD Cert.ReferenceSIdeal.τ).loc Cert.ReferenceSIdeal.main_arg1) = m' ((c.tc : Thread Cert.ReferenceSIdeal.nD Cert.ReferenceSIdeal.τ).loc Cert.ReferenceSIdeal.main_arg1)
          ∧ r.2.mem ((c.tc : Thread Cert.ReferenceSIdeal.nD Cert.ReferenceSIdeal.τ).loc Cert.ReferenceSIdeal.main_arg2) = m' ((c.tc : Thread Cert.ReferenceSIdeal.nD Cert.ReferenceSIdeal.τ).loc Cert.ReferenceSIdeal.main_arg2)
          ∧ r.2.mem ((c.tc : Thread Cert.ReferenceSIdeal.nD Cert.ReferenceSIdeal.τ).loc Cert.ReferenceSIdeal.main_arg3) = m' ((c.tc : Thread Cert.ReferenceSIdeal.nD Cert.ReferenceSIdeal.τ).loc Cert.ReferenceSIdeal.main_arg3)
          ∧ r.2.mem ((c.tc : Thread Cert.ReferenceSIdeal.nD Cert.ReferenceSIdeal.τ).loc Cert.ReferenceSIdeal.main_arg4) = m' ((c.tc : Thread Cert.ReferenceSIdeal.nD Cert.ReferenceSIdeal.τ).loc Cert.ReferenceSIdeal.main_arg4)
          ∧ r.2.mem ((c.tc : Thread Cert.ReferenceSIdeal.nD Cert.ReferenceSIdeal.τ).loc Cert.ReferenceSIdeal.main_arg5) = m' ((c.tc : Thread Cert.ReferenceSIdeal.nD Cert.ReferenceSIdeal.τ).loc Cert.ReferenceSIdeal.main_arg5)
          ∧ r.2.mem ((c.tc : Thread Cert.ReferenceSIdeal.nD Cert.ReferenceSIdeal.τ).loc Cert.ReferenceSIdeal.main_arg6) = m' ((c.tc : Thread Cert.ReferenceSIdeal.nD Cert.ReferenceSIdeal.τ).loc Cert.ReferenceSIdeal.main_arg6)
          ∧ r.2.mem ((c.tc : Thread Cert.ReferenceSIdeal.nD Cert.ReferenceSIdeal.τ).loc Cert.ReferenceSIdeal.main_arg7) = m' ((c.tc : Thread Cert.ReferenceSIdeal.nD Cert.ReferenceSIdeal.τ).loc Cert.ReferenceSIdeal.main_arg7)
          ∧ r.2.mem ((c.tc : Thread Cert.ReferenceSIdeal.nD Cert.ReferenceSIdeal.τ).loc Cert.ReferenceSIdeal.main_arg8) = m' ((c.tc : Thread Cert.ReferenceSIdeal.nD Cert.ReferenceSIdeal.τ).loc Cert.ReferenceSIdeal.main_arg8)
          ∧ r.2.mem ((c.tc : Thread Cert.ReferenceSIdeal.nD Cert.ReferenceSIdeal.τ).loc Cert.ReferenceSIdeal.main_arg9) = m' ((c.tc : Thread Cert.ReferenceSIdeal.nD Cert.ReferenceSIdeal.τ).loc Cert.ReferenceSIdeal.main_arg9)
          ∧ r.2.mem ((c.tc : Thread Cert.ReferenceSIdeal.nD Cert.ReferenceSIdeal.τ).loc Cert.ReferenceSIdeal.main_arg10) = m' ((c.tc : Thread Cert.ReferenceSIdeal.nD Cert.ReferenceSIdeal.τ).loc Cert.ReferenceSIdeal.main_arg10))

def preserves_KernelU_KernelUIdeal : Prop :=
  True

def algebraic_KernelUIdeal_ReferenceUIdeal [hKernelUIdeal : Cert.KernelUIdeal.Facts] [hReferenceUIdeal : Cert.ReferenceUIdeal.Facts] : Prop :=
  ∀ (m : (ℓ : Loc Cert.KernelUIdeal.nD Cert.KernelUIdeal.τ Cert.KernelUIdeal.sig) → Buf (Elt Ideal) ℓ) (g : Dev Cert.KernelUIdeal.nD → PrngReg)
    (m' : (ℓ : Loc Cert.ReferenceUIdeal.nD Cert.ReferenceUIdeal.τ Cert.ReferenceUIdeal.sig) → Buf (Elt Ideal) ℓ) (g' : Dev Cert.ReferenceUIdeal.nD → PrngReg), Pre_KernelUIdeal m →
    (∀ c : Dev Cert.KernelUIdeal.nD,
      m' ((c.tc : Thread Cert.ReferenceUIdeal.nD Cert.ReferenceUIdeal.τ).loc Cert.ReferenceUIdeal.main_arg0) = m ((c.tc : Thread Cert.KernelUIdeal.nD Cert.KernelUIdeal.τ).loc Cert.KernelUIdeal.main_arg0)
      ∧ m' ((c.tc : Thread Cert.ReferenceUIdeal.nD Cert.ReferenceUIdeal.τ).loc Cert.ReferenceUIdeal.main_arg1) = m ((c.tc : Thread Cert.KernelUIdeal.nD Cert.KernelUIdeal.τ).loc Cert.KernelUIdeal.main_arg1)
      ∧ m' ((c.tc : Thread Cert.ReferenceUIdeal.nD Cert.ReferenceUIdeal.τ).loc Cert.ReferenceUIdeal.main_arg2) = m ((c.tc : Thread Cert.KernelUIdeal.nD Cert.KernelUIdeal.τ).loc Cert.KernelUIdeal.main_arg2)
      ∧ m' ((c.tc : Thread Cert.ReferenceUIdeal.nD Cert.ReferenceUIdeal.τ).loc Cert.ReferenceUIdeal.main_arg3) = m ((c.tc : Thread Cert.KernelUIdeal.nD Cert.KernelUIdeal.τ).loc Cert.KernelUIdeal.main_arg3)) →
    ∃ (v0 : (c : Dev Cert.KernelUIdeal.nD) → Buf (Elt Ideal) ((c.tc : Thread Cert.KernelUIdeal.nD Cert.KernelUIdeal.τ).loc Cert.KernelUIdeal.main_v2)) (v1 : (c : Dev Cert.KernelUIdeal.nD) → Buf (Elt Ideal) ((c.tc : Thread Cert.KernelUIdeal.nD Cert.KernelUIdeal.τ).loc Cert.KernelUIdeal.main_v3)),
      θ_run (Cert.KernelUIdeal.defs (F := Ideal)) (onTc (τ := Cert.KernelUIdeal.τ) (Cert.KernelUIdeal.main (F := Ideal))) ⟨m, fun _ => 0, g⟩ (fun r => ∀ c : Dev Cert.KernelUIdeal.nD,
          r.2.mem ((c.tc : Thread Cert.KernelUIdeal.nD Cert.KernelUIdeal.τ).loc Cert.KernelUIdeal.main_v2) = v0 c
          ∧ r.2.mem ((c.tc : Thread Cert.KernelUIdeal.nD Cert.KernelUIdeal.τ).loc Cert.KernelUIdeal.main_v3) = v1 c
          ∧ r.2.mem ((c.tc : Thread Cert.KernelUIdeal.nD Cert.KernelUIdeal.τ).loc Cert.KernelUIdeal.main_arg0) = m ((c.tc : Thread Cert.KernelUIdeal.nD Cert.KernelUIdeal.τ).loc Cert.KernelUIdeal.main_arg0)
          ∧ r.2.mem ((c.tc : Thread Cert.KernelUIdeal.nD Cert.KernelUIdeal.τ).loc Cert.KernelUIdeal.main_arg1) = m ((c.tc : Thread Cert.KernelUIdeal.nD Cert.KernelUIdeal.τ).loc Cert.KernelUIdeal.main_arg1)
          ∧ r.2.mem ((c.tc : Thread Cert.KernelUIdeal.nD Cert.KernelUIdeal.τ).loc Cert.KernelUIdeal.main_arg2) = m ((c.tc : Thread Cert.KernelUIdeal.nD Cert.KernelUIdeal.τ).loc Cert.KernelUIdeal.main_arg2)
          ∧ r.2.mem ((c.tc : Thread Cert.KernelUIdeal.nD Cert.KernelUIdeal.τ).loc Cert.KernelUIdeal.main_arg3) = m ((c.tc : Thread Cert.KernelUIdeal.nD Cert.KernelUIdeal.τ).loc Cert.KernelUIdeal.main_arg3))
      ∧ θ_run (Cert.ReferenceUIdeal.defs (F := Ideal)) (onTc (τ := Cert.ReferenceUIdeal.τ) (Cert.ReferenceUIdeal.main (F := Ideal))) ⟨m', fun _ => 0, g'⟩ (fun r => ∀ c : Dev Cert.ReferenceUIdeal.nD,
          r.2.mem ((c.tc : Thread Cert.ReferenceUIdeal.nD Cert.ReferenceUIdeal.τ).loc Cert.ReferenceUIdeal.main_v18) = v0 c
          ∧ r.2.mem ((c.tc : Thread Cert.ReferenceUIdeal.nD Cert.ReferenceUIdeal.τ).loc Cert.ReferenceUIdeal.main_v19) = v1 c
          ∧ r.2.mem ((c.tc : Thread Cert.ReferenceUIdeal.nD Cert.ReferenceUIdeal.τ).loc Cert.ReferenceUIdeal.main_arg0) = m' ((c.tc : Thread Cert.ReferenceUIdeal.nD Cert.ReferenceUIdeal.τ).loc Cert.ReferenceUIdeal.main_arg0)
          ∧ r.2.mem ((c.tc : Thread Cert.ReferenceUIdeal.nD Cert.ReferenceUIdeal.τ).loc Cert.ReferenceUIdeal.main_arg1) = m' ((c.tc : Thread Cert.ReferenceUIdeal.nD Cert.ReferenceUIdeal.τ).loc Cert.ReferenceUIdeal.main_arg1)
          ∧ r.2.mem ((c.tc : Thread Cert.ReferenceUIdeal.nD Cert.ReferenceUIdeal.τ).loc Cert.ReferenceUIdeal.main_arg2) = m' ((c.tc : Thread Cert.ReferenceUIdeal.nD Cert.ReferenceUIdeal.τ).loc Cert.ReferenceUIdeal.main_arg2)
          ∧ r.2.mem ((c.tc : Thread Cert.ReferenceUIdeal.nD Cert.ReferenceUIdeal.τ).loc Cert.ReferenceUIdeal.main_arg3) = m' ((c.tc : Thread Cert.ReferenceUIdeal.nD Cert.ReferenceUIdeal.τ).loc Cert.ReferenceUIdeal.main_arg3))

def preserves_KernelT_KernelTIdeal : Prop :=
  True

def algebraic_KernelTIdeal_ReferenceTIdeal [hKernelTIdeal : Cert.KernelTIdeal.Facts] [hReferenceTIdeal : Cert.ReferenceTIdeal.Facts] : Prop :=
  ∀ (m : (ℓ : Loc Cert.KernelTIdeal.nD Cert.KernelTIdeal.τ Cert.KernelTIdeal.sig) → Buf (Elt Ideal) ℓ) (g : Dev Cert.KernelTIdeal.nD → PrngReg)
    (m' : (ℓ : Loc Cert.ReferenceTIdeal.nD Cert.ReferenceTIdeal.τ Cert.ReferenceTIdeal.sig) → Buf (Elt Ideal) ℓ) (g' : Dev Cert.ReferenceTIdeal.nD → PrngReg), Pre_KernelTIdeal m →
    (∀ c : Dev Cert.KernelTIdeal.nD,
      m' ((c.tc : Thread Cert.ReferenceTIdeal.nD Cert.ReferenceTIdeal.τ).loc Cert.ReferenceTIdeal.main_arg0) = m ((c.tc : Thread Cert.KernelTIdeal.nD Cert.KernelTIdeal.τ).loc Cert.KernelTIdeal.main_arg0)
      ∧ m' ((c.tc : Thread Cert.ReferenceTIdeal.nD Cert.ReferenceTIdeal.τ).loc Cert.ReferenceTIdeal.main_arg1) = m ((c.tc : Thread Cert.KernelTIdeal.nD Cert.KernelTIdeal.τ).loc Cert.KernelTIdeal.main_arg1)
      ∧ m' ((c.tc : Thread Cert.ReferenceTIdeal.nD Cert.ReferenceTIdeal.τ).loc Cert.ReferenceTIdeal.main_arg2) = m ((c.tc : Thread Cert.KernelTIdeal.nD Cert.KernelTIdeal.τ).loc Cert.KernelTIdeal.main_arg2)) →
    ∃ (v0 : (c : Dev Cert.KernelTIdeal.nD) → Buf (Elt Ideal) ((c.tc : Thread Cert.KernelTIdeal.nD Cert.KernelTIdeal.τ).loc Cert.KernelTIdeal.main_v56)) (v1 : (c : Dev Cert.KernelTIdeal.nD) → Buf (Elt Ideal) ((c.tc : Thread Cert.KernelTIdeal.nD Cert.KernelTIdeal.τ).loc Cert.KernelTIdeal.main_v57)) (v2 : (c : Dev Cert.KernelTIdeal.nD) → Buf (Elt Ideal) ((c.tc : Thread Cert.KernelTIdeal.nD Cert.KernelTIdeal.τ).loc Cert.KernelTIdeal.main_v58)),
      θ_run (Cert.KernelTIdeal.defs (F := Ideal)) (onTc (τ := Cert.KernelTIdeal.τ) (Cert.KernelTIdeal.main (F := Ideal))) ⟨m, fun _ => 0, g⟩ (fun r => ∀ c : Dev Cert.KernelTIdeal.nD,
          r.2.mem ((c.tc : Thread Cert.KernelTIdeal.nD Cert.KernelTIdeal.τ).loc Cert.KernelTIdeal.main_v56) = v0 c
          ∧ r.2.mem ((c.tc : Thread Cert.KernelTIdeal.nD Cert.KernelTIdeal.τ).loc Cert.KernelTIdeal.main_v57) = v1 c
          ∧ r.2.mem ((c.tc : Thread Cert.KernelTIdeal.nD Cert.KernelTIdeal.τ).loc Cert.KernelTIdeal.main_v58) = v2 c
          ∧ r.2.mem ((c.tc : Thread Cert.KernelTIdeal.nD Cert.KernelTIdeal.τ).loc Cert.KernelTIdeal.main_arg0) = m ((c.tc : Thread Cert.KernelTIdeal.nD Cert.KernelTIdeal.τ).loc Cert.KernelTIdeal.main_arg0)
          ∧ r.2.mem ((c.tc : Thread Cert.KernelTIdeal.nD Cert.KernelTIdeal.τ).loc Cert.KernelTIdeal.main_arg1) = m ((c.tc : Thread Cert.KernelTIdeal.nD Cert.KernelTIdeal.τ).loc Cert.KernelTIdeal.main_arg1)
          ∧ r.2.mem ((c.tc : Thread Cert.KernelTIdeal.nD Cert.KernelTIdeal.τ).loc Cert.KernelTIdeal.main_arg2) = m ((c.tc : Thread Cert.KernelTIdeal.nD Cert.KernelTIdeal.τ).loc Cert.KernelTIdeal.main_arg2))
      ∧ θ_run (Cert.ReferenceTIdeal.defs (F := Ideal)) (onTc (τ := Cert.ReferenceTIdeal.τ) (Cert.ReferenceTIdeal.main (F := Ideal))) ⟨m', fun _ => 0, g'⟩ (fun r => ∀ c : Dev Cert.ReferenceTIdeal.nD,
          r.2.mem ((c.tc : Thread Cert.ReferenceTIdeal.nD Cert.ReferenceTIdeal.τ).loc Cert.ReferenceTIdeal.main_v89) = v0 c
          ∧ r.2.mem ((c.tc : Thread Cert.ReferenceTIdeal.nD Cert.ReferenceTIdeal.τ).loc Cert.ReferenceTIdeal.main_v90) = v1 c
          ∧ r.2.mem ((c.tc : Thread Cert.ReferenceTIdeal.nD Cert.ReferenceTIdeal.τ).loc Cert.ReferenceTIdeal.main_v92) = v2 c
          ∧ r.2.mem ((c.tc : Thread Cert.ReferenceTIdeal.nD Cert.ReferenceTIdeal.τ).loc Cert.ReferenceTIdeal.main_arg0) = m' ((c.tc : Thread Cert.ReferenceTIdeal.nD Cert.ReferenceTIdeal.τ).loc Cert.ReferenceTIdeal.main_arg0)
          ∧ r.2.mem ((c.tc : Thread Cert.ReferenceTIdeal.nD Cert.ReferenceTIdeal.τ).loc Cert.ReferenceTIdeal.main_arg1) = m' ((c.tc : Thread Cert.ReferenceTIdeal.nD Cert.ReferenceTIdeal.τ).loc Cert.ReferenceTIdeal.main_arg1)
          ∧ r.2.mem ((c.tc : Thread Cert.ReferenceTIdeal.nD Cert.ReferenceTIdeal.τ).loc Cert.ReferenceTIdeal.main_arg2) = m' ((c.tc : Thread Cert.ReferenceTIdeal.nD Cert.ReferenceTIdeal.τ).loc Cert.ReferenceTIdeal.main_arg2))

def preserves_KernelV_KernelVIdeal : Prop :=
  True

def algebraic_KernelVIdeal_ReferenceVIdeal [hKernelVIdeal : Cert.KernelVIdeal.Facts] [hReferenceVIdeal : Cert.ReferenceVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg)
    (m' : (ℓ : Loc Cert.ReferenceVIdeal.nD Cert.ReferenceVIdeal.τ Cert.ReferenceVIdeal.sig) → Buf (Elt Ideal) ℓ) (g' : Dev Cert.ReferenceVIdeal.nD → PrngReg), Pre_KernelVIdeal m →
    (∀ c : Dev Cert.KernelVIdeal.nD,
      m' ((c.tc : Thread Cert.ReferenceVIdeal.nD Cert.ReferenceVIdeal.τ).loc Cert.ReferenceVIdeal.main_arg0) = m ((c.tc : Thread Cert.KernelVIdeal.nD Cert.KernelVIdeal.τ).loc Cert.KernelVIdeal.main_arg0)
      ∧ m' ((c.tc : Thread Cert.ReferenceVIdeal.nD Cert.ReferenceVIdeal.τ).loc Cert.ReferenceVIdeal.main_arg1) = m ((c.tc : Thread Cert.KernelVIdeal.nD Cert.KernelVIdeal.τ).loc Cert.KernelVIdeal.main_arg1)
      ∧ m' ((c.tc : Thread Cert.ReferenceVIdeal.nD Cert.ReferenceVIdeal.τ).loc Cert.ReferenceVIdeal.main_arg2) = m ((c.tc : Thread Cert.KernelVIdeal.nD Cert.KernelVIdeal.τ).loc Cert.KernelVIdeal.main_arg2)
      ∧ m' ((c.tc : Thread Cert.ReferenceVIdeal.nD Cert.ReferenceVIdeal.τ).loc Cert.ReferenceVIdeal.main_arg3) = m ((c.tc : Thread Cert.KernelVIdeal.nD Cert.KernelVIdeal.τ).loc Cert.KernelVIdeal.main_arg3)
      ∧ m' ((c.tc : Thread Cert.ReferenceVIdeal.nD Cert.ReferenceVIdeal.τ).loc Cert.ReferenceVIdeal.main_arg4) = m ((c.tc : Thread Cert.KernelVIdeal.nD Cert.KernelVIdeal.τ).loc Cert.KernelVIdeal.main_arg4)
      ∧ m' ((c.tc : Thread Cert.ReferenceVIdeal.nD Cert.ReferenceVIdeal.τ).loc Cert.ReferenceVIdeal.main_arg5) = m ((c.tc : Thread Cert.KernelVIdeal.nD Cert.KernelVIdeal.τ).loc Cert.KernelVIdeal.main_arg5)
      ∧ m' ((c.tc : Thread Cert.ReferenceVIdeal.nD Cert.ReferenceVIdeal.τ).loc Cert.ReferenceVIdeal.main_arg6) = m ((c.tc : Thread Cert.KernelVIdeal.nD Cert.KernelVIdeal.τ).loc Cert.KernelVIdeal.main_arg6)) →
    ∃ (v0 : (c : Dev Cert.KernelVIdeal.nD) → Buf (Elt Ideal) ((c.tc : Thread Cert.KernelVIdeal.nD Cert.KernelVIdeal.τ).loc Cert.KernelVIdeal.main_v46)) (v1 : (c : Dev Cert.KernelVIdeal.nD) → Buf (Elt Ideal) ((c.tc : Thread Cert.KernelVIdeal.nD Cert.KernelVIdeal.τ).loc Cert.KernelVIdeal.main_v45)),
      θ_run (Cert.KernelVIdeal.defs (F := Ideal)) (onTc (τ := Cert.KernelVIdeal.τ) (Cert.KernelVIdeal.main (F := Ideal))) ⟨m, fun _ => 0, g⟩ (fun r => ∀ c : Dev Cert.KernelVIdeal.nD,
          r.2.mem ((c.tc : Thread Cert.KernelVIdeal.nD Cert.KernelVIdeal.τ).loc Cert.KernelVIdeal.main_v46) = v0 c
          ∧ r.2.mem ((c.tc : Thread Cert.KernelVIdeal.nD Cert.KernelVIdeal.τ).loc Cert.KernelVIdeal.main_v45) = v1 c
          ∧ r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
          ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1)
          ∧ r.2.mem ((c.tc : Thread Cert.KernelVIdeal.nD Cert.KernelVIdeal.τ).loc Cert.KernelVIdeal.main_arg2) = m ((c.tc : Thread Cert.KernelVIdeal.nD Cert.KernelVIdeal.τ).loc Cert.KernelVIdeal.main_arg2)
          ∧ r.2.mem ((c.tc : Thread Cert.KernelVIdeal.nD Cert.KernelVIdeal.τ).loc Cert.KernelVIdeal.main_arg3) = m ((c.tc : Thread Cert.KernelVIdeal.nD Cert.KernelVIdeal.τ).loc Cert.KernelVIdeal.main_arg3)
          ∧ r.2.mem ((c.tc : Thread Cert.KernelVIdeal.nD Cert.KernelVIdeal.τ).loc Cert.KernelVIdeal.main_arg4) = m ((c.tc : Thread Cert.KernelVIdeal.nD Cert.KernelVIdeal.τ).loc Cert.KernelVIdeal.main_arg4)
          ∧ r.2.mem ((c.tc : Thread Cert.KernelVIdeal.nD Cert.KernelVIdeal.τ).loc Cert.KernelVIdeal.main_arg5) = m ((c.tc : Thread Cert.KernelVIdeal.nD Cert.KernelVIdeal.τ).loc Cert.KernelVIdeal.main_arg5)
          ∧ r.2.mem ((c.tc : Thread Cert.KernelVIdeal.nD Cert.KernelVIdeal.τ).loc Cert.KernelVIdeal.main_arg6) = m ((c.tc : Thread Cert.KernelVIdeal.nD Cert.KernelVIdeal.τ).loc Cert.KernelVIdeal.main_arg6))
      ∧ θ_run (Cert.ReferenceVIdeal.defs (F := Ideal)) (onTc (τ := Cert.ReferenceVIdeal.τ) (Cert.ReferenceVIdeal.main (F := Ideal))) ⟨m', fun _ => 0, g'⟩ (fun r => ∀ c : Dev Cert.ReferenceVIdeal.nD,
          r.2.mem ((c.tc : Thread Cert.ReferenceVIdeal.nD Cert.ReferenceVIdeal.τ).loc Cert.ReferenceVIdeal.main_v82) = v0 c
          ∧ r.2.mem ((c.tc : Thread Cert.ReferenceVIdeal.nD Cert.ReferenceVIdeal.τ).loc Cert.ReferenceVIdeal.main_v84) = v1 c
          ∧ r.2.mem ((c.tc : Thread Cert.ReferenceVIdeal.nD Cert.ReferenceVIdeal.τ).loc Cert.ReferenceVIdeal.main_arg0) = m' ((c.tc : Thread Cert.ReferenceVIdeal.nD Cert.ReferenceVIdeal.τ).loc Cert.ReferenceVIdeal.main_arg0)
          ∧ r.2.mem ((c.tc : Thread Cert.ReferenceVIdeal.nD Cert.ReferenceVIdeal.τ).loc Cert.ReferenceVIdeal.main_arg1) = m' ((c.tc : Thread Cert.ReferenceVIdeal.nD Cert.ReferenceVIdeal.τ).loc Cert.ReferenceVIdeal.main_arg1)
          ∧ r.2.mem ((c.tc : Thread Cert.ReferenceVIdeal.nD Cert.ReferenceVIdeal.τ).loc Cert.ReferenceVIdeal.main_arg2) = m' ((c.tc : Thread Cert.ReferenceVIdeal.nD Cert.ReferenceVIdeal.τ).loc Cert.ReferenceVIdeal.main_arg2)
          ∧ r.2.mem ((c.tc : Thread Cert.ReferenceVIdeal.nD Cert.ReferenceVIdeal.τ).loc Cert.ReferenceVIdeal.main_arg3) = m' ((c.tc : Thread Cert.ReferenceVIdeal.nD Cert.ReferenceVIdeal.τ).loc Cert.ReferenceVIdeal.main_arg3)
          ∧ r.2.mem ((c.tc : Thread Cert.ReferenceVIdeal.nD Cert.ReferenceVIdeal.τ).loc Cert.ReferenceVIdeal.main_arg4) = m' ((c.tc : Thread Cert.ReferenceVIdeal.nD Cert.ReferenceVIdeal.τ).loc Cert.ReferenceVIdeal.main_arg4)
          ∧ r.2.mem ((c.tc : Thread Cert.ReferenceVIdeal.nD Cert.ReferenceVIdeal.τ).loc Cert.ReferenceVIdeal.main_arg5) = m' ((c.tc : Thread Cert.ReferenceVIdeal.nD Cert.ReferenceVIdeal.τ).loc Cert.ReferenceVIdeal.main_arg5)
          ∧ r.2.mem ((c.tc : Thread Cert.ReferenceVIdeal.nD Cert.ReferenceVIdeal.τ).loc Cert.ReferenceVIdeal.main_arg6) = m' ((c.tc : Thread Cert.ReferenceVIdeal.nD Cert.ReferenceVIdeal.τ).loc Cert.ReferenceVIdeal.main_arg6))

def Claim : Prop :=
  ∃ (hKernel : Cert.Kernel.Facts) (hKernelIdeal : Cert.KernelIdeal.Facts) (hReferenceIdeal : Cert.ReferenceIdeal.Facts) (hKernelA : Cert.KernelA.Facts) (hKernelAIdeal : Cert.KernelAIdeal.Facts) (hReferenceAIdeal : Cert.ReferenceAIdeal.Facts) (hKernelB : Cert.KernelB.Facts) (hKernelBIdeal : Cert.KernelBIdeal.Facts) (hReferenceBIdeal : Cert.ReferenceBIdeal.Facts) (hKernelC : Cert.KernelC.Facts) (hKernelCIdeal : Cert.KernelCIdeal.Facts) (hReferenceCIdeal : Cert.ReferenceCIdeal.Facts) (hKernelS : Cert.KernelS.Facts) (hKernelSIdeal : Cert.KernelSIdeal.Facts) (hReferenceSIdeal : Cert.ReferenceSIdeal.Facts) (hKernelU : Cert.KernelU.Facts) (hKernelUIdeal : Cert.KernelUIdeal.Facts) (hReferenceUIdeal : Cert.ReferenceUIdeal.Facts) (hKernelT : Cert.KernelT.Facts) (hKernelTIdeal : Cert.KernelTIdeal.Facts) (hReferenceTIdeal : Cert.ReferenceTIdeal.Facts) (hKernelV : Cert.KernelV.Facts) (hKernelVIdeal : Cert.KernelVIdeal.Facts) (hReferenceVIdeal : Cert.ReferenceVIdeal.Facts) (hPre_finite_padded : Cert.Pre_finite_padded.Facts),
    quiescent_Kernel (hKernel := hKernel)
    ∧ quiescent_KernelIdeal (hKernelIdeal := hKernelIdeal)
    ∧ quiescent_KernelIdeal_pre_finite_padded (hKernelIdeal := hKernelIdeal) (hPre_finite_padded := hPre_finite_padded)
    ∧ quiescent_ReferenceIdeal (hReferenceIdeal := hReferenceIdeal)
    ∧ quiescent_ReferenceIdeal_pre_finite_padded (hReferenceIdeal := hReferenceIdeal) (hPre_finite_padded := hPre_finite_padded)
    ∧ quiescent_KernelA (hKernelA := hKernelA)
    ∧ quiescent_KernelAIdeal (hKernelAIdeal := hKernelAIdeal)
    ∧ quiescent_ReferenceAIdeal (hReferenceAIdeal := hReferenceAIdeal)
    ∧ quiescent_KernelB (hKernelB := hKernelB)
    ∧ quiescent_KernelBIdeal (hKernelBIdeal := hKernelBIdeal)
    ∧ quiescent_ReferenceBIdeal (hReferenceBIdeal := hReferenceBIdeal)
    ∧ quiescent_KernelC (hKernelC := hKernelC)
    ∧ quiescent_KernelCIdeal (hKernelCIdeal := hKernelCIdeal)
    ∧ quiescent_ReferenceCIdeal (hReferenceCIdeal := hReferenceCIdeal)
    ∧ quiescent_KernelS (hKernelS := hKernelS)
    ∧ quiescent_KernelSIdeal (hKernelSIdeal := hKernelSIdeal)
    ∧ quiescent_ReferenceSIdeal (hReferenceSIdeal := hReferenceSIdeal)
    ∧ quiescent_KernelU (hKernelU := hKernelU)
    ∧ quiescent_KernelUIdeal (hKernelUIdeal := hKernelUIdeal)
    ∧ quiescent_ReferenceUIdeal (hReferenceUIdeal := hReferenceUIdeal)
    ∧ quiescent_KernelT (hKernelT := hKernelT)
    ∧ quiescent_KernelTIdeal (hKernelTIdeal := hKernelTIdeal)
    ∧ quiescent_ReferenceTIdeal (hReferenceTIdeal := hReferenceTIdeal)
    ∧ quiescent_KernelV (hKernelV := hKernelV)
    ∧ quiescent_KernelVIdeal (hKernelVIdeal := hKernelVIdeal)
    ∧ quiescent_ReferenceVIdeal (hReferenceVIdeal := hReferenceVIdeal)
    ∧ preserves_Kernel_KernelIdeal
    ∧ algebraic_KernelIdeal_ReferenceIdeal_pre_finite_padded (hKernelIdeal := hKernelIdeal) (hReferenceIdeal := hReferenceIdeal) (hPre_finite_padded := hPre_finite_padded)
    ∧ preserves_KernelA_KernelAIdeal
    ∧ algebraic_KernelAIdeal_ReferenceAIdeal (hKernelAIdeal := hKernelAIdeal) (hReferenceAIdeal := hReferenceAIdeal)
    ∧ preserves_KernelB_KernelBIdeal
    ∧ algebraic_KernelBIdeal_ReferenceBIdeal (hKernelBIdeal := hKernelBIdeal) (hReferenceBIdeal := hReferenceBIdeal)
    ∧ preserves_KernelC_KernelCIdeal
    ∧ algebraic_KernelCIdeal_ReferenceCIdeal (hKernelCIdeal := hKernelCIdeal) (hReferenceCIdeal := hReferenceCIdeal)
    ∧ preserves_KernelS_KernelSIdeal
    ∧ algebraic_KernelSIdeal_ReferenceSIdeal (hKernelSIdeal := hKernelSIdeal) (hReferenceSIdeal := hReferenceSIdeal)
    ∧ preserves_KernelU_KernelUIdeal
    ∧ algebraic_KernelUIdeal_ReferenceUIdeal (hKernelUIdeal := hKernelUIdeal) (hReferenceUIdeal := hReferenceUIdeal)
    ∧ preserves_KernelT_KernelTIdeal
    ∧ algebraic_KernelTIdeal_ReferenceTIdeal (hKernelTIdeal := hKernelTIdeal) (hReferenceTIdeal := hReferenceTIdeal)
    ∧ preserves_KernelV_KernelVIdeal
    ∧ algebraic_KernelVIdeal_ReferenceVIdeal (hKernelVIdeal := hKernelVIdeal) (hReferenceVIdeal := hReferenceVIdeal)
-- ==== Pre_finite_padded.lean ====
abbrev S8192x4096 : Shape := ⟨2, ![8192, 4096]⟩
abbrev S8192x128 : Shape := ⟨2, ![8192, 128]⟩
abbrev S8192x2048 : Shape := ⟨2, ![8192, 2048]⟩
abbrev S8192x16x256 : Shape := ⟨3, ![8192, 16, 256]⟩
abbrev S8192x16x128 : Shape := ⟨3, ![8192, 16, 128]⟩
abbrev S8192x64 : Shape := ⟨2, ![8192, 64]⟩
abbrev S8192x16x64 : Shape := ⟨3, ![8192, 16, 64]⟩
abbrev S_ : Shape := ⟨0, ![]⟩

class Facts : Prop where
  bitsLt_bf16_f32 : FTy.bits .bf16 < FTy.bits .f32
  shapeCasts_S8192x4096_S8192x16x256 : S8192x4096.ShapeCasts S8192x16x256
  slices_S8192x16x256_S8192x16x128_0_0_0 : S8192x16x256.Slices ![0, 0, 0] S8192x16x128
  slices_S8192x128_S8192x64_0_0 : S8192x128.Slices ![0, 0] S8192x64
  slices_S8192x16x256_S8192x16x64_0_0_192 : S8192x16x256.Slices ![0, 0, 192] S8192x16x64
  bcast_S_S8192x16x64 : S_.BroadcastsInDim S8192x16x64 (![] : Fin 0 → Fin S8192x16x64.rank)
  reducesTo_S8192x16x64_S_d0_1_2 : S8192x16x64.ReducesTo [0, 1, 2] S_
  h_S_ : 0 < S_.numel
  bcast_S_S8192x16x256 : S_.BroadcastsInDim S8192x16x256 (![] : Fin 0 → Fin S8192x16x256.rank)
  reducesTo_S8192x16x256_S_d0_1_2 : S8192x16x256.ReducesTo [0, 1, 2] S_
  bcast_S_S8192x16x128 : S_.BroadcastsInDim S8192x16x128 (![] : Fin 0 → Fin S8192x16x128.rank)
  reducesTo_S8192x16x128_S_d0_1_2 : S8192x16x128.ReducesTo [0, 1, 2] S_
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_v6 : FVec F S8192x64 .f32) (main_v15 : IVec S_ 1) (main_v18 : IVec S8192x16x128 1) : IVec S_ 1 :=
  let main_c_3 : IVec S_ 1 := constantI S_ 1 1#1
  let main_v19 : IVec S_ 1 := (fun x v => Host.reduce IntOp.andi x v reducesTo_S8192x16x128_S_d0_1_2 h_S_) main_v18 main_c_3
  let main_v20 : IVec S_ 1 := andi main_v15 main_v19
  let main_v21 : FVec F S8192x64 .f32 := Host.absf main_v6
  let main_cst_4 : FVec F S_ .f32 := constant S_ .f32 0x7F800000#32
  let main_v22 : FVec F S8192x64 .f32 := broadcastInDim S8192x64 ![] bcast_S_S8192x64 main_cst_4
  let main_v23 : IVec S8192x64 1 := cmpf .olt main_v21 main_v22
  let main_c_5 : IVec S_ 1 := constantI S_ 1 1#1
  let main_v24 : IVec S_ 1 := (fun x v => Host.reduce IntOp.andi x v reducesTo_S8192x64_S_d0_1 h_S_) main_v23 main_c_5
  let main_v25 : IVec S_ 1 := andi main_v20 main_v24
  main_v25

def fn {F : FTy → Type} [FloatOps F] (main_arg0 : FVec F S8192x4096 .bf16) (main_arg1 : FVec F S8192x4096 .bf16) (main_arg2 : FVec F S8192x128 .bf16) (main_arg3 : FVec F S8192x2048 .bf16) : IVec S_ 1 :=
  let main_v0 : FVec F S8192x4096 .f32 := (extf .f32 · bitsLt_bf16_f32) main_arg0
  let main_v1 : FVec F S8192x16x256 .f32 := shapeCast S8192x16x256 main_v0 shapeCasts_S8192x4096_S8192x16x256
  let main_v2 : FVec F S8192x4096 .f32 := (extf .f32 · bitsLt_bf16_f32) main_arg1
  let main_v3 : FVec F S8192x16x256 .f32 := shapeCast S8192x16x256 main_v2 shapeCasts_S8192x4096_S8192x16x256
  let main_v4 : FVec F S8192x16x128 .f32 := (extractStridedSlice S8192x16x128 ![0, 0, 0] · slices_S8192x16x256_S8192x16x128_0_0_0) main_v3
  let main_v5 : FVec F S8192x128 .f32 := (extf .f32 · bitsLt_bf16_f32) main_arg2
  let main_v6 : FVec F S8192x64 .f32 := (extractStridedSlice S8192x64 ![0, 0] · slices_S8192x128_S8192x64_0_0) main_v5
  let main_v7 : FVec F S8192x16x64 .f32 := (extractStridedSlice S8192x16x64 ![0, 0, 192] · slices_S8192x16x256_S8192x16x64_0_0_192) main_v1
  let main_cst : FVec F S_ .f32 := constant S_ .f32 0x00000000#32
  let main_v8 : FVec F S8192x16x64 .f32 := broadcastInDim S8192x16x64 ![] bcast_S_S8192x16x64 main_cst
  let main_v9 : IVec S8192x16x64 1 := cmpf .oeq main_v7 main_v8
  let main_c : IVec S_ 1 := constantI S_ 1 1#1
  let main_v10 : IVec S_ 1 := (fun x v => Host.reduce IntOp.andi x v reducesTo_S8192x16x64_S_d0_1_2 h_S_) main_v9 main_c
  let main_v11 : FVec F S8192x16x256 .f32 := Host.absf main_v1
  let main_cst_0 : FVec F S_ .f32 := constant S_ .f32 0x7F800000#32
  let main_v12 : FVec F S8192x16x256 .f32 := broadcastInDim S8192x16x256 ![] bcast_S_S8192x16x256 main_cst_0
  let main_v13 : IVec S8192x16x256 1 := cmpf .olt main_v11 main_v12
  let main_c_1 : IVec S_ 1 := constantI S_ 1 1#1
  let main_v14 : IVec S_ 1 := (fun x v => Host.reduce IntOp.andi x v reducesTo_S8192x16x256_S_d0_1_2 h_S_) main_v13 main_c_1
  let main_v15 : IVec S_ 1 := andi main_v10 main_v14
  let main_v16 : FVec F S8192x16x128 .f32 := Host.absf main_v4
  let main_cst_2 : FVec F S_ .f32 := constant S_ .f32 0x7F800000#32
  let main_v17 : FVec F S8192x16x128 .f32 := broadcastInDim S8192x16x128 ![] bcast_S_S8192x16x128 main_cst_2
  let main_v18 : IVec S8192x16x128 1 := cmpf .olt main_v16 main_v17
  fn_part1 (F := F) main_v6 main_v15 main_v18
-- ==== Kernel.lean ====
abbrev S8192x4096 : Shape := ⟨2, ![8192, 4096]⟩
abbrev S8192x128 : Shape := ⟨2, ![8192, 128]⟩
abbrev S8192x2048 : Shape := ⟨2, ![8192, 2048]⟩
abbrev S512x512 : Shape := ⟨2, ![512, 512]⟩
abbrev S4096x512 : Shape := ⟨2, ![4096, 512]⟩
abbrev S4096x128 : Shape := ⟨2, ![4096, 128]⟩
abbrev S512x256 : Shape := ⟨2, ![512, 256]⟩
abbrev S2x512x1 : Shape := ⟨3, ![2, 512, 1]⟩
abbrev S2x512x128 : Shape := ⟨3, ![2, 512, 128]⟩
abbrev S512x128 : Shape := ⟨2, ![512, 128]⟩
abbrev S1x512x1 : Shape := ⟨3, ![1, 512, 1]⟩
abbrev S512x1 : Shape := ⟨2, ![512, 1]⟩
abbrev S512 : Shape := ⟨1, ![512]⟩
abbrev S1x512x128 : Shape := ⟨3, ![1, 512, 128]⟩

abbrev nBuf : Space → Nat
  | .hbm => 5
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x128, .bf16⟩
  | .hbm, ⟨3, _⟩ => ⟨S8192x2048, .bf16⟩
  | .hbm, ⟨4, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S4096x128, .bf16⟩
  | .local _ .vmem, ⟨5, _⟩ => ⟨S4096x128, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S2x512x1, .f32⟩
  | .local _ .vmem, ⟨11, _⟩ => ⟨S2x512x1, .f32⟩
  | .local _ .vmem, ⟨12, _⟩ => ⟨S2x512x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 8], ![false, false, false]⟩

@[reducible] def k0_t1_loop (i : grid0.Coords) : Scf.Loop 32 :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_11 : BitVec 32 := 1#32
  ⟨c0_i32_10, v16, c1_i32_11⟩
def k0_mult1 (i : grid0.Coords) (k0_t1 : Fin (k0_t1_loop i).trips) : BitVec 32 :=
  let c0_i32_10 : BitVec 32 := 0#32
  let c1_i32_11 : BitVec 32 := 1#32
  let arg11 : BitVec 32 := Scf.iv c0_i32_10 c1_i32_11 k0_t1
  let c512_i32_92 : BitVec 32 := 512#32
  let v151 : BitVec 32 := Scalar.muli arg11 c512_i32_92
  v151
def k0_off1 (i : grid0.Coords) (k0_t1 : Fin (k0_t1_loop i).trips) : Fin 2 → Nat :=
  let c0_i32_10 : BitVec 32 := 0#32
  let c1_i32_11 : BitVec 32 := 1#32
  let arg11 : BitVec 32 := Scf.iv c0_i32_10 c1_i32_11 k0_t1
  let c512_i32_92 : BitVec 32 := 512#32
  let v151 : BitVec 32 := Scalar.muli arg11 c512_i32_92
  let v152 : BitVec 32 := v151
  let v153 : Index := Scalar.indexCast v152
  let c0_93 : Index := 0#32
  ![v153.toNat, 0]
def k0_off2 (i : grid0.Coords) (k0_t1 : Fin (k0_t1_loop i).trips) : Fin 2 → Nat :=
  let c0_i32_10 : BitVec 32 := 0#32
  let c1_i32_11 : BitVec 32 := 1#32
  let arg11 : BitVec 32 := Scf.iv c0_i32_10 c1_i32_11 k0_t1
  let c512_i32_92 : BitVec 32 := 512#32
  let v151 : BitVec 32 := Scalar.muli arg11 c512_i32_92
  let v152 : BitVec 32 := v151
  let v156 : Index := Scalar.indexCast v152
  let c0_96 : Index := 0#32
  ![v156.toNat, 0]
def k0_off3 (i : grid0.Coords) (k0_t1 : Fin (k0_t1_loop i).trips) : Fin 2 → Nat :=
  let c0_i32_10 : BitVec 32 := 0#32
  let c1_i32_11 : BitVec 32 := 1#32
  let arg11 : BitVec 32 := Scf.iv c0_i32_10 c1_i32_11 k0_t1
  let c512_i32_92 : BitVec 32 := 512#32
  let v151 : BitVec 32 := Scalar.muli arg11 c512_i32_92
  let v152 : BitVec 32 := v151
  let v158 : Index := Scalar.indexCast v152
  let c128_97 : Index := 128#32
  ![v158.toNat, 128]
def k0_off4 (i : grid0.Coords) (k0_t1 : Fin (k0_t1_loop i).trips) : Fin 2 → Nat :=
  let c0_i32_10 : BitVec 32 := 0#32
  let c1_i32_11 : BitVec 32 := 1#32
  let arg11 : BitVec 32 := Scf.iv c0_i32_10 c1_i32_11 k0_t1
  let c512_i32_92 : BitVec 32 := 512#32
  let v151 : BitVec 32 := Scalar.muli arg11 c512_i32_92
  let v152 : BitVec 32 := v151
  let v197 : Index := Scalar.indexCast v152
  let c256_123 : Index := 256#32
  ![v197.toNat, 256]
def k0_off5 (i : grid0.Coords) (k0_t1 : Fin (k0_t1_loop i).trips) : Fin 2 → Nat :=
  let c0_i32_10 : BitVec 32 := 0#32
  let c1_i32_11 : BitVec 32 := 1#32
  let arg11 : BitVec 32 := Scf.iv c0_i32_10 c1_i32_11 k0_t1
  let c512_i32_92 : BitVec 32 := 512#32
  let v151 : BitVec 32 := Scalar.muli arg11 c512_i32_92
  let v152 : BitVec 32 := v151
  let v199 : Index := Scalar.indexCast v152
  let c384_124 : Index := 384#32
  ![v199.toNat, 384]
@[reducible] def k0_t2_loop (i : grid0.Coords) : Scf.Loop 32 :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let v13 : BitVec 32 := Scalar.addi c0_i32_10 v12
  let c1_i32_12 : BitVec 32 := 1#32
  ⟨v16, v13, c1_i32_12⟩
def k0_mult2 (i : grid0.Coords) (k0_t2 : Fin (k0_t2_loop i).trips) : BitVec 32 :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg11 : BitVec 32 := Scf.iv v16 c1_i32_12 k0_t2
  let c512_i32_92 : BitVec 32 := 512#32
  let v151 : BitVec 32 := Scalar.muli arg11 c512_i32_92
  v151
def k0_off6 (i : grid0.Coords) (k0_t2 : Fin (k0_t2_loop i).trips) : Fin 2 → Nat :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg11 : BitVec 32 := Scf.iv v16 c1_i32_12 k0_t2
  let c512_i32_92 : BitVec 32 := 512#32
  let v151 : BitVec 32 := Scalar.muli arg11 c512_i32_92
  let v152 : BitVec 32 := v151
  let v153 : Index := Scalar.indexCast v152
  let c0_93 : Index := 0#32
  ![v153.toNat, 0]
def k0_off7 (i : grid0.Coords) (k0_t2 : Fin (k0_t2_loop i).trips) : Fin 2 → Nat :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg11 : BitVec 32 := Scf.iv v16 c1_i32_12 k0_t2
  let c512_i32_92 : BitVec 32 := 512#32
  let v151 : BitVec 32 := Scalar.muli arg11 c512_i32_92
  let v152 : BitVec 32 := v151
  let v156 : Index := Scalar.indexCast v152
  let c0_96 : Index := 0#32
  ![v156.toNat, 0]
def k0_off8 (i : grid0.Coords) (k0_t2 : Fin (k0_t2_loop i).trips) : Fin 2 → Nat :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg11 : BitVec 32 := Scf.iv v16 c1_i32_12 k0_t2
  let c512_i32_92 : BitVec 32 := 512#32
  let v151 : BitVec 32 := Scalar.muli arg11 c512_i32_92
  let v152 : BitVec 32 := v151
  let v158 : Index := Scalar.indexCast v152
  let c128_97 : Index := 128#32
  ![v158.toNat, 128]
def k0_off9 (i : grid0.Coords) (k0_t2 : Fin (k0_t2_loop i).trips) : Fin 2 → Nat :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg11 : BitVec 32 := Scf.iv v16 c1_i32_12 k0_t2
  let c512_i32_92 : BitVec 32 := 512#32
  let v151 : BitVec 32 := Scalar.muli arg11 c512_i32_92
  let v152 : BitVec 32 := v151
  let v197 : Index := Scalar.indexCast v152
  let c256_123 : Index := 256#32
  ![v197.toNat, 256]
def k0_off10 (i : grid0.Coords) (k0_t2 : Fin (k0_t2_loop i).trips) : Fin 2 → Nat :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg11 : BitVec 32 := Scf.iv v16 c1_i32_12 k0_t2
  let c512_i32_92 : BitVec 32 := 512#32
  let v151 : BitVec 32 := Scalar.muli arg11 c512_i32_92
  let v152 : BitVec 32 := v151
  let v199 : Index := Scalar.indexCast v152
  let c384_124 : Index := 384#32
  ![v199.toNat, 384]
def k0_mult3 (i : grid0.Coords) : BitVec 32 :=
  let arg2 : BitVec 32 := BitVec.ofNat 32 (i 2).val
  let c512_i32 : BitVec 32 := 512#32
  let v17 : BitVec 32 := Scalar.muli arg2 c512_i32
  v17
def k0_off11 (i : grid0.Coords) : Fin 2 → Nat :=
  let arg2 : BitVec 32 := BitVec.ofNat 32 (i 2).val
  let c512_i32 : BitVec 32 := 512#32
  let v17 : BitVec 32 := Scalar.muli arg2 c512_i32
  let v18 : BitVec 32 := v17
  let v19 : Index := Scalar.indexCast v18
  let c0_13 : Index := 0#32
  ![v19.toNat, 0]
def k0_off12 (i : grid0.Coords) : Fin 2 → Nat :=
  let arg2 : BitVec 32 := BitVec.ofNat 32 (i 2).val
  let c512_i32 : BitVec 32 := 512#32
  let v17 : BitVec 32 := Scalar.muli arg2 c512_i32
  let v18 : BitVec 32 := v17
  let v22 : Index := Scalar.indexCast v18
  let c0_16 : Index := 0#32
  ![v22.toNat, 0]
def k0_off13 (i : grid0.Coords) : Fin 2 → Nat :=
  let arg2 : BitVec 32 := BitVec.ofNat 32 (i 2).val
  let c512_i32 : BitVec 32 := 512#32
  let v17 : BitVec 32 := Scalar.muli arg2 c512_i32
  let v18 : BitVec 32 := v17
  let v24 : Index := Scalar.indexCast v18
  let c128 : Index := 128#32
  ![v24.toNat, 128]
def k0_off14 (i : grid0.Coords) : Fin 2 → Nat :=
  let arg2 : BitVec 32 := BitVec.ofNat 32 (i 2).val
  let c512_i32 : BitVec 32 := 512#32
  let v17 : BitVec 32 := Scalar.muli arg2 c512_i32
  let v18 : BitVec 32 := v17
  let v68 : Index := Scalar.indexCast v18
  let c256_42 : Index := 256#32
  ![v68.toNat, 256]
def k0_off15 (i : grid0.Coords) : Fin 2 → Nat :=
  let arg2 : BitVec 32 := BitVec.ofNat 32 (i 2).val
  let c512_i32 : BitVec 32 := 512#32
  let v17 : BitVec 32 := Scalar.muli arg2 c512_i32
  let v18 : BitVec 32 := v17
  let v70 : Index := Scalar.indexCast v18
  let c384 : Index := 384#32
  ![v70.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8192x4096 : Shape := ⟨2, ![8192, 4096]⟩
abbrev S8192x128 : Shape := ⟨2, ![8192, 128]⟩
abbrev S8192x2048 : Shape := ⟨2, ![8192, 2048]⟩
abbrev S2x4096x16x256 : Shape := ⟨4, ![2, 4096, 16, 256]⟩
abbrev S2x4096x16x128 : Shape := ⟨4, ![2, 4096, 16, 128]⟩
abbrev S2x4096x16x64 : Shape := ⟨4, ![2, 4096, 16, 64]⟩
abbrev S2x4096x128 : Shape := ⟨3, ![2, 4096, 128]⟩
abbrev S2x4096x64 : Shape := ⟨3, ![2, 4096, 64]⟩
abbrev S2x16x4096x4096 : Shape := ⟨4, ![2, 16, 4096, 4096]⟩
abbrev S2x4096x4096x16 : Shape := ⟨4, ![2, 4096, 4096, 16]⟩
abbrev S_ : Shape := ⟨0, ![]⟩
abbrev S4096 : Shape := ⟨1, ![4096]⟩
abbrev S1x1x1x4096 : Shape := ⟨4, ![1, 1, 1, 4096]⟩
abbrev S1x1x4096x1 : Shape := ⟨4, ![1, 1, 4096, 1]⟩
abbrev S1x1x4096x4096 : Shape := ⟨4, ![1, 1, 4096, 4096]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩

abbrev nBuf : Space → Nat
  | .hbm => 62
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x128, .bf16⟩
  | .hbm, ⟨3, _⟩ => ⟨S8192x2048, .bf16⟩
  | .hbm, ⟨4, _⟩ => ⟨S8192x4096, .f32⟩
  | .hbm, ⟨5, _⟩ => ⟨S2x4096x16x256, .f32⟩
  | .hbm, ⟨6, _⟩ => ⟨S2x4096x16x128, .f32⟩
  | .hbm, ⟨7, _⟩ => ⟨S2x4096x16x64, .f32⟩
  | .hbm, ⟨8, _⟩ => ⟨S8192x4096, .f32⟩
  | .hbm, ⟨9, _⟩ => ⟨S2x4096x16x256, .f32⟩
  | .hbm, ⟨10, _⟩ => ⟨S2x4096x16x128, .f32⟩
  | .hbm, ⟨11, _⟩ => ⟨S2x4096x16x128, .f32⟩
  | .hbm, ⟨12, _⟩ => ⟨S8192x128, .f32⟩
  | .hbm, ⟨13, _⟩ => ⟨S2x4096x128, .f32⟩
  | .hbm, ⟨14, _⟩ => ⟨S2x4096x64, .f32⟩
  | .hbm, ⟨15, _⟩ => ⟨S2x16x4096x4096, .f32⟩
  | .hbm, ⟨16, _⟩ => ⟨S2x4096x4096x16, .f32⟩
  | .hbm, ⟨17, _⟩ => ⟨S2x16x4096x4096, .f32⟩
  | .hbm, ⟨18, _⟩ => ⟨S2x16x4096x4096, .f32⟩
  | .hbm, ⟨19, _⟩ => ⟨S_, .f32⟩
  | .hbm, ⟨20, _⟩ => ⟨S2x16x4096x4096, .f32⟩
  | .hbm, ⟨21, _⟩ => ⟨S2x16x4096x4096, .f32⟩
  | .hbm, ⟨22, _⟩ => ⟨S4096, .i32⟩
  | .hbm, ⟨23, _⟩ => ⟨S1x1x1x4096, .i32⟩
  | .hbm, ⟨24, _⟩ => ⟨S1x1x4096x1, .i32⟩
  | .hbm, ⟨25, _⟩ => ⟨S1x1x4096x4096, .i32⟩
  | .hbm, ⟨26, _⟩ => ⟨S1x1x4096x4096, .i32⟩
  | .hbm, ⟨27, _⟩ => ⟨S1x1x4096x4096, .i1⟩
  | .hbm, ⟨28, _⟩ => ⟨S_, .f32⟩
  | .hbm, ⟨29, _⟩ => ⟨S_, .f32⟩
  | .hbm, ⟨30, _⟩ => ⟨S2x16x4096x4096, .i1⟩
  | .hbm, ⟨31, _⟩ => ⟨S2x16x4096x4096, .f32⟩
  | .hbm, ⟨32, _⟩ => ⟨S2x16x4096x4096, .f32⟩
  | .hbm, ⟨33, _⟩ => ⟨S_, .f32⟩
  | .hbm, ⟨34, _⟩ => ⟨S2x16x4096, .f32⟩
  | .hbm, ⟨35, _⟩ => ⟨S_, .f32⟩
  | .hbm, ⟨36, _⟩ => ⟨S2x16x4096, .f32⟩
  | .hbm, ⟨37, _⟩ => ⟨S2x16x4096, .f32⟩
  | .hbm, ⟨38, _⟩ => ⟨S2x16x4096x1, .f32⟩
  | .hbm, ⟨39, _⟩ => ⟨S2x16x4096x4096, .f32⟩
  | .hbm, ⟨40, _⟩ => ⟨S2x16x4096x4096, .f32⟩
  | .hbm, ⟨41, _⟩ => ⟨S2x16x4096x4096, .f32⟩
  | .hbm, ⟨42, _⟩ => ⟨S_, .f32⟩
  | .hbm, ⟨43, _⟩ => ⟨S2x16x4096, .f32⟩
  | .hbm, ⟨44, _⟩ => ⟨S2x16x4096x1, .f32⟩
  | .hbm, ⟨45, _⟩ => ⟨S2x16x4096x4096, .f32⟩
  | .hbm, ⟨46, _⟩ => ⟨S2x16x4096x4096, .f32⟩
  | .hbm, ⟨47, _⟩ => ⟨S2x16x128x4096, .f32⟩
  | .hbm, ⟨48, _⟩ => ⟨S2x4096x16x128, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== KernelA.lean ====
abbrev S8192x2048 : Shape := ⟨2, ![8192, 2048]⟩
abbrev S1x2048 : Shape := ⟨2, ![1, 2048]⟩
abbrev S1x2048x5712 : Shape := ⟨3, ![1, 2048, 5712]⟩
abbrev S2048 : Shape := ⟨1, ![2048]⟩
abbrev S512x2048 : Shape := ⟨2, ![512, 2048]⟩
abbrev S512 : Shape := ⟨1, ![512]⟩
abbrev S512x1 : Shape := ⟨2, ![512, 1]⟩
abbrev S2048x5712 : Shape := ⟨2, ![2048, 5712]⟩
abbrev S2048x2048 : Shape := ⟨2, ![2048, 2048]⟩
abbrev S2048x256 : Shape := ⟨2, ![2048, 256]⟩
abbrev S2048x1024 : Shape := ⟨2, ![2048, 1024]⟩
abbrev S2048x64 : Shape := ⟨2, ![2048, 64]⟩
abbrev S2048x16 : Shape := ⟨2, ![2048, 16]⟩
abbrev S2048x80 : Shape := ⟨2, ![2048, 80]⟩
abbrev S_ : Shape := ⟨0, ![]⟩
abbrev S2048x128 : Shape := ⟨2, ![2048, 128]⟩
abbrev S4096 : Shape := ⟨1, ![4096]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S32 : Shape := ⟨1, ![32]⟩
abbrev S1x32 : Shape := ⟨2, ![1, 32]⟩
abbrev S4096x32 : Shape := ⟨2, ![4096, 32]⟩
abbrev S2048x512 : Shape := ⟨2, ![2048, 512]⟩
abbrev S512x128 : Shape := ⟨2, ![512, 128]⟩
abbrev S512x512 : Shape := ⟨2, ![512, 512]⟩
abbrev S8192x256 : Shape := ⟨2, ![8192, 256]⟩
abbrev S512x256 : Shape := ⟨2, ![512, 256]⟩
abbrev S8192x1024 : Shape := ⟨2, ![8192, 1024]⟩
abbrev S8192x128 : Shape := ⟨2, ![8192, 128]⟩

abbrev nBuf : Space → Nat
  | .hbm => 98
  | .vmem => 58
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x5712, .f32⟩
  | .hbm, ⟨3, _⟩ => ⟨S2048, .f32⟩
  | .hbm, ⟨4, _⟩ => ⟨S1x2048, .f32⟩
  | .hbm, ⟨5, _⟩ => ⟨S8192x2048, .bf16⟩
  | .hbm, ⟨6, _⟩ => ⟨S2048x5712, .f32⟩
  | .hbm, ⟨7, _⟩ => ⟨S2048x2048, .f32⟩
  | .hbm, ⟨8, _⟩ => ⟨S2048x256, .f32⟩
  | .hbm, ⟨9, _⟩ => ⟨S2048x256, .f32⟩
  | .hbm, ⟨10, _⟩ => ⟨S2048x1024, .f32⟩
  | .hbm, ⟨11, _⟩ => ⟨S2048x64, .f32⟩
  | .hbm, ⟨12, _⟩ => ⟨S2048x16, .f32⟩
  | .hbm, ⟨13, _⟩ => ⟨S2048x2048, .f32⟩
  | .hbm, ⟨14, _⟩ => ⟨S2048x80, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x2048, .bf16⟩
  | .hbm, ⟨19, _⟩ => ⟨S2048x256, .bf16⟩
  | .hbm, ⟨20, _⟩ => ⟨S2048x256, .bf16⟩
  | .hbm, ⟨21, _⟩ => ⟨S2048x1024, .bf16⟩
  | .hbm, ⟨22, _⟩ => ⟨S2048x128, .bf16⟩
  | .hbm, ⟨23, _⟩ => ⟨S2048x2048, .bf16⟩
  | .hbm, ⟨24, _⟩ => ⟨S4096, .i32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S4096, .f32⟩
  | .hbm, ⟨34, _⟩ => ⟨S4096x1, .f32⟩
  | .hbm, ⟨35, _⟩ => ⟨S1x64, .f32⟩
  | .hbm, ⟨36, _⟩ => ⟨S4096x64, .f32⟩
  | .hbm, ⟨37, _⟩ => ⟨S4096x64, .f32⟩
  | .hbm, ⟨38, _⟩ => ⟨S4096x64, .f32⟩
  | .hbm, ⟨39, _⟩ => ⟨S4096x64, .f32⟩
  | .hbm, ⟨40, _⟩ => ⟨S4096x64, .f32⟩
  | .hbm, ⟨41, _⟩ => ⟨S4096x128, .f32⟩
  | .hbm, ⟨42, _⟩ => ⟨S4096x64, .f32⟩
  | .hbm, ⟨43, _⟩ => ⟨S4096x128, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S4096, .f32⟩
  | .hbm, ⟨53, _⟩ => ⟨S4096x1, .f32⟩
  | .hbm, ⟨54, _⟩ => ⟨S1x32, .f32⟩
  | .hbm, ⟨55, _⟩ => ⟨S4096x32, .f32⟩
  | .hbm, ⟨56, _⟩ => ⟨S4096x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S4096x64, .f32⟩
  | .hbm, ⟨61, _⟩ => ⟨S4096x32, .f32⟩
  | .hbm, ⟨62, _⟩ => ⟨S4096x64, .f32⟩
  | .hbm, ⟨63, _⟩ => ⟨S4096x128, .f32⟩
  | .hbm, ⟨64, _⟩ => ⟨S4096x128, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S4096, .f32⟩
  | .hbm, ⟨74, _⟩ => ⟨S4096x1, .f32⟩
  | .hbm, ⟨75, _⟩ => ⟨S1x32, .f32⟩
  | .hbm, ⟨76, _⟩ => ⟨S4096x32, .f32⟩
  | .hbm, ⟨77, _⟩ => ⟨S4096x32, .f32⟩
  | .hbm, ⟨78, _⟩ => ⟨S4096x32, .f32⟩
  | .hbm, ⟨79, _⟩ => ⟨S4096x32, .f32⟩
  | .hbm, ⟨80, _⟩ => ⟨S4096x32, .f32⟩
  | .hbm, ⟨81, _⟩ => ⟨S4096x64, .f32⟩
  | .hbm, ⟨82, _⟩ => ⟨S4096x32, .f32⟩
  | .hbm, ⟨83, _⟩ => ⟨S4096x64, .f32⟩
  | .hbm, ⟨84, _⟩ => ⟨S_, .f32⟩
  | .hbm, ⟨85, _⟩ => ⟨S4096x64, .f32⟩
  | .hbm, ⟨86, _⟩ => ⟨S4096x128, .f32⟩
  | .hbm, ⟨87, _⟩ => ⟨S_, .f32⟩
  | .hbm, ⟨88, _⟩ => ⟨S4096x64, .f32⟩
  | .hbm, ⟨89, _⟩ => ⟨S4096x128, .f32⟩
  | .hbm, ⟨90, _⟩ => ⟨S8192x2048, .bf16⟩
  | .hbm, ⟨91, _⟩ => ⟨S8192x256, .f32⟩
  | .hbm, ⟨92, _⟩ => ⟨S8192x256, .bf16⟩
  | .hbm, ⟨93, _⟩ => ⟨S8192x256, .f32⟩
  | .hbm, ⟨94, _⟩ => ⟨S8192x256, .bf16⟩
  | .hbm, ⟨95, _⟩ => ⟨S8192x1024, .bf16⟩
  | .hbm, ⟨96, _⟩ => ⟨S8192x128, .f32⟩
  | .hbm, ⟨97, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S2048x512, .bf16⟩
  | .local _ .vmem, ⟨8, _⟩ => ⟨S2048x512, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x512, .bf16⟩
  | .local _ .vmem, ⟨14, _⟩ => ⟨S512x512, .bf16⟩
  | .local _ .vmem, ⟨15, _⟩ => ⟨S512x2048, .bf16⟩
  | .local _ .vmem, ⟨16, _⟩ => ⟨S512x2048, .bf16⟩
  | .local _ .vmem, ⟨17, _⟩ => ⟨S2048x256, .bf16⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x256, .f32⟩
  | .local _ .vmem, ⟨23, _⟩ => ⟨S512x256, .f32⟩
  | .local _ .vmem, ⟨24, _⟩ => ⟨S512x256, .bf16⟩
  | .local _ .vmem, ⟨25, _⟩ => ⟨S512x256, .bf16⟩
  | .local _ .vmem, ⟨26, _⟩ => ⟨S512x2048, .bf16⟩
  | .local _ .vmem, ⟨27, _⟩ => ⟨S512x2048, .bf16⟩
  | .local _ .vmem, ⟨28, _⟩ => ⟨S2048x256, .bf16⟩
  | .local _ .vmem, ⟨29, _⟩ => ⟨S512x256, .f32⟩
  | .local _ .vmem, ⟨30, _⟩ => ⟨S512x256, .f32⟩
  | .local _ .vmem, ⟨31, _⟩ => ⟨S512x256, .bf16⟩
  | .local _ .vmem, ⟨32, _⟩ => ⟨S512x256, .bf16⟩
  | .local _ .vmem, ⟨33, _⟩ => ⟨S512x2048, .bf16⟩
  | .local _ .vmem, ⟨34, _⟩ => ⟨S512x2048, .bf16⟩
  | .local _ .vmem, ⟨35, _⟩ => ⟨S2048x512, .bf16⟩
  | .local _ .vmem, ⟨36, _⟩ => ⟨S2048x512, .bf16⟩
  | .local _ .vmem, ⟨37, _⟩ => ⟨S512x128, .f32⟩
  | .local _ .vmem, ⟨38, _⟩ => ⟨S512x128, .f32⟩
  | .local _ .vmem, ⟨39, _⟩ => ⟨S512x128, .f32⟩
  | .local _ .vmem, ⟨40, _⟩ => ⟨S512x128, .f32⟩
  | .local _ .vmem, ⟨41, _⟩ => ⟨S512x512, .bf16⟩
  | .local _ .vmem, ⟨42, _⟩ => ⟨S512x512, .bf16⟩
  | .local _ .vmem, ⟨43, _⟩ => ⟨S512x2048, .bf16⟩
  | .local _ .vmem, ⟨44, _⟩ => ⟨S512x2048, .bf16⟩
  | .local _ .vmem, ⟨45, _⟩ => ⟨S2048x128, .bf16⟩
  | .local _ .vmem, ⟨46, _⟩ => ⟨S512x128, .f32⟩
  | .local _ .vmem, ⟨47, _⟩ => ⟨S512x128, .f32⟩
  | .local _ .vmem, ⟨48, _⟩ => ⟨S512x128, .f32⟩
  | .local _ .vmem, ⟨49, _⟩ => ⟨S512x128, .f32⟩
  | .local _ .vmem, ⟨50, _⟩ => ⟨S512x128, .f32⟩
  | .local _ .vmem, ⟨51, _⟩ => ⟨S512x128, .f32⟩
  | .local _ .vmem, ⟨52, _⟩ => ⟨S512x2048, .bf16⟩
  | .local _ .vmem, ⟨53, _⟩ => ⟨S512x2048, .bf16⟩
  | .local _ .vmem, ⟨54, _⟩ => ⟨S2048x512, .bf16⟩
  | .local _ .vmem, ⟨55, _⟩ => ⟨S2048x512, .bf16⟩
  | .local _ .vmem, ⟨56, _⟩ => ⟨S512x512, .bf16⟩
  | .local _ .vmem, ⟨57, _⟩ => ⟨S512x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_1 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_3 : Ref sig .tc := ⟨.hbm, 67, rfl⟩
abbrev main_v58 : Ref sig .tc := ⟨.hbm, 68, rfl⟩
abbrev main_v59 : Ref sig .tc := ⟨.hbm, 69, rfl⟩
abbrev main_cst_4 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_5 : Ref sig .tc := ⟨.hbm, 84, rfl⟩
abbrev main_v73 : Ref sig .tc := ⟨.hbm, 85, rfl⟩
abbrev main_v74 : Ref sig .tc := ⟨.hbm, 86, rfl⟩
abbrev main_cst_6 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78_0 : Ref sig .tc := ⟨.hbm, 91, rfl⟩
abbrev main_v78_1 : Ref sig .tc := ⟨.hbm, 92, rfl⟩
abbrev main_v79_0 : Ref sig .tc := ⟨.hbm, 93, rfl⟩
abbrev main_v79_1 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg3_1 : Ref sig .tc := ⟨.vmem, 40, rfl⟩
abbrev cc4_stg4_0 : Ref sig .tc := ⟨.vmem, 41, rfl⟩
abbrev cc4_stg4_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg3_1 : Ref sig .tc := ⟨.vmem, 49, rfl⟩
abbrev cc5_stg4_0 : Ref sig .tc := ⟨.vmem, 50, rfl⟩
abbrev cc5_stg4_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg2_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem3_1 : DmaSem sig := 40
abbrev cc4_sem4_0 : DmaSem sig := 41
abbrev cc4_sem4_1 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem2_1 : DmaSem sig := 47
abbrev cc5_sem3_0 : DmaSem sig := 48
abbrev cc5_sem3_1 : DmaSem sig := 49
abbrev cc5_sem4_0 : DmaSem sig := 50
abbrev cc5_sem4_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem2_1 : DmaSem sig := 57

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![1, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_3 (i : grid2.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S2048x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S512x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![1, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S2048x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S512x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![2, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc4_transform_3 (i : grid4.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S512x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S512x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S512x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨2, ![1, 16], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc5_transform_3 (i : grid5.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S512x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 1 → Memref sig .tc .vmem S2048x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false]

abbrev stage5_2 : Fin 2 → Memref sig .tc .vmem S512x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S512x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S512x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev grid6 : Pipeline.Grid := ⟨2, ![4, 16], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S512x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S2048x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S512x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]
-- ==== ReferenceAIdeal.lean ====
abbrev S8192x2048 : Shape := ⟨2, ![8192, 2048]⟩
abbrev S1x2048 : Shape := ⟨2, ![1, 2048]⟩
abbrev S1x2048x5712 : Shape := ⟨3, ![1, 2048, 5712]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x5712 : Shape := ⟨2, ![2048, 5712]⟩
abbrev S8192x5712 : Shape := ⟨2, ![8192, 5712]⟩
abbrev S2x4096x16x128 : Shape := ⟨4, ![2, 4096, 16, 128]⟩
abbrev S64 : Shape := ⟨1, ![64]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S2x4096x16x64 : Shape := ⟨4, ![2, 4096, 16, 64]⟩
abbrev S1x4096x1x64 : Shape := ⟨4, ![1, 4096, 1, 64]⟩
abbrev S8192x256 : Shape := ⟨2, ![8192, 256]⟩
abbrev S2x4096x2x128 : Shape := ⟨4, ![2, 4096, 2, 128]⟩
abbrev S2x4096x2x64 : Shape := ⟨4, ![2, 4096, 2, 64]⟩
abbrev S8192x1024 : Shape := ⟨2, ![8192, 1024]⟩
abbrev S32 : Shape := ⟨1, ![32]⟩
abbrev S1x32 : Shape := ⟨2, ![1, 32]⟩
abbrev S4096x32 : Shape := ⟨2, ![4096, 32]⟩
abbrev S4096x1x32 : Shape := ⟨3, ![4096, 1, 32]⟩
abbrev S2x4096x16x32 : Shape := ⟨4, ![2, 4096, 16, 32]⟩
abbrev S1x4096x1x32 : Shape := ⟨4, ![1, 4096, 1, 32]⟩
abbrev S8192x64 : Shape := ⟨2, ![8192, 64]⟩
abbrev S2x4096x1x64 : Shape := ⟨4, ![2, 4096, 1, 64]⟩
abbrev S2x4096x1x32 : Shape := ⟨4, ![2, 4096, 1, 32]⟩
abbrev S8192x16 : Shape := ⟨2, ![8192, 16]⟩
abbrev S8192x48 : Shape := ⟨2, ![8192, 48]⟩
abbrev S8192x128 : Shape := ⟨2, ![8192, 128]⟩

abbrev nBuf : Space → Nat
  | .hbm => 189
  | .vmem => 0
  | .smem => 0
  | _ => 0

abbrev hbmTy0_0 (i : Nat) : BufTy := match i % 128 with
  | 0 => ⟨S8192x2048, .f32⟩
  | 1 => ⟨S1x2048, .f32⟩
  | 2 => ⟨S1x2048x5712, .f32⟩
  | 3 => ⟨S2048, .f32⟩
  | 4 => ⟨S8192x2048, .f32⟩
  | 5 => ⟨S_, .f32⟩
  | 6 => ⟨S8192, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192x1, .f32⟩
  | 13 => ⟨S8192x1, .f32⟩
  | 14 => ⟨S8192x1, .f32⟩
  | 15 => ⟨S8192x2048, .f32⟩
  | 16 => ⟨S8192x2048, .f32⟩
  | 17 => ⟨S1x2048, .f32⟩
  | 18 => ⟨S8192x2048, .f32⟩
  | 19 => ⟨S8192x2048, .f32⟩
  | 20 => ⟨S2048x5712, .f32⟩
  | 21 => ⟨S8192x5712, .f32⟩
  | 22 => ⟨S8192x2048, .f32⟩
  | 23 => ⟨S2x4096x16x128, .f32⟩
  | 24 => ⟨S64, .f32⟩
  | 25 => ⟨S64, .f32⟩
  | 26 => ⟨S_, .f32⟩
  | 27 => ⟨S64, .f32⟩
  | 28 => ⟨S64, .f32⟩
  | 29 => ⟨S_, .f32⟩
  | 30 => ⟨S64, .f32⟩
  | 31 => ⟨S64, .f32⟩
  | 32 => ⟨S4096, .i32⟩
  | 33 => ⟨S4096, .f32⟩
  | 34 => ⟨S4096x1, .f32⟩
  | 35 => ⟨S1x64, .f32⟩
  | 36 => ⟨S4096x64, .f32⟩
  | 37 => ⟨S4096x64, .f32⟩
  | 38 => ⟨S4096x64, .f32⟩
  | 39 => ⟨S4096x64, .f32⟩
  | 40 => ⟨S4096x1x64, .f32⟩
  | 41 => ⟨S4096x64, .f32⟩
  | 42 => ⟨S4096x1x64, .f32⟩
  | 43 => ⟨S2x4096x16x64, .f32⟩
  | 44 => ⟨S2x4096x16x64, .f32⟩
  | 45 => ⟨S1x4096x1x64, .f32⟩
  | 46 => ⟨S2x4096x16x64, .f32⟩
  | 47 => ⟨S2x4096x16x64, .f32⟩
  | 48 => ⟨S1x4096x1x64, .f32⟩
  | 49 => ⟨S2x4096x16x64, .f32⟩
  | 50 => ⟨S2x4096x16x64, .f32⟩
  | 51 => ⟨S2x4096x16x64, .f32⟩
  | 52 => ⟨S1x4096x1x64, .f32⟩
  | 53 => ⟨S2x4096x16x64, .f32⟩
  | 54 => ⟨S2x4096x16x64, .f32⟩
  | 55 => ⟨S1x4096x1x64, .f32⟩
  | 56 => ⟨S2x4096x16x64, .f32⟩
  | 57 => ⟨S2x4096x16x64, .f32⟩
  | 58 => ⟨S2x4096x16x64, .f32⟩
  | 59 => ⟨S2x4096x16x128, .f32⟩
  | 60 => ⟨S8192x2048, .f32⟩
  | 61 => ⟨S8192x256, .f32⟩
  | 62 => ⟨S2x4096x2x128, .f32⟩
  | 63 => ⟨S64, .f32⟩
  | 64 => ⟨S64, .f32⟩
  | 65 => ⟨S_, .f32⟩
  | 66 => ⟨S64, .f32⟩
  | 67 => ⟨S64, .f32⟩
  | 68 => ⟨S_, .f32⟩
  | 69 => ⟨S64, .f32⟩
  | 70 => ⟨S64, .f32⟩
  | 71 => ⟨S4096, .i32⟩
  | 72 => ⟨S4096, .f32⟩
  | 73 => ⟨S4096x1, .f32⟩
  | 74 => ⟨S1x64, .f32⟩
  | 75 => ⟨S4096x64, .f32⟩
  | 76 => ⟨S4096x64, .f32⟩
  | 77 => ⟨S4096x64, .f32⟩
  | 78 => ⟨S4096x64, .f32⟩
  | 79 => ⟨S4096x1x64, .f32⟩
  | 80 => ⟨S4096x64, .f32⟩
  | 81 => ⟨S4096x1x64, .f32⟩
  | 82 => ⟨S2x4096x2x64, .f32⟩
  | 83 => ⟨S2x4096x2x64, .f32⟩
  | 84 => ⟨S1x4096x1x64, .f32⟩
  | 85 => ⟨S2x4096x2x64, .f32⟩
  | 86 => ⟨S2x4096x2x64, .f32⟩
  | 87 => ⟨S1x4096x1x64, .f32⟩
  | 88 => ⟨S2x4096x2x64, .f32⟩
  | 89 => ⟨S2x4096x2x64, .f32⟩
  | 90 => ⟨S2x4096x2x64, .f32⟩
  | 91 => ⟨S1x4096x1x64, .f32⟩
  | 92 => ⟨S2x4096x2x64, .f32⟩
  | 93 => ⟨S2x4096x2x64, .f32⟩
  | 94 => ⟨S1x4096x1x64, .f32⟩
  | 95 => ⟨S2x4096x2x64, .f32⟩
  | 96 => ⟨S2x4096x2x64, .f32⟩
  | 97 => ⟨S2x4096x2x64, .f32⟩
  | 98 => ⟨S2x4096x2x128, .f32⟩
  | 99 => ⟨S8192x256, .f32⟩
  | 100 => ⟨S8192x256, .f32⟩
  | 101 => ⟨S8192x1024, .f32⟩
  | 102 => ⟨S2x4096x16x64, .f32⟩
  | 103 => ⟨S32, .f32⟩
  | 104 => ⟨S32, .f32⟩
  | 105 => ⟨S_, .f32⟩
  | 106 => ⟨S32, .f32⟩
  | 107 => ⟨S32, .f32⟩
  | 108 => ⟨S_, .f32⟩
  | 109 => ⟨S32, .f32⟩
  | 110 => ⟨S32, .f32⟩
  | 111 => ⟨S4096, .i32⟩
  | 112 => ⟨S4096, .f32⟩
  | 113 => ⟨S4096x1, .f32⟩
  | 114 => ⟨S1x32, .f32⟩
  | 115 => ⟨S4096x32, .f32⟩
  | 116 => ⟨S4096x32, .f32⟩
  | 117 => ⟨S4096x32, .f32⟩
  | 118 => ⟨S4096x32, .f32⟩
  | 119 => ⟨S4096x1x32, .f32⟩
  | 120 => ⟨S4096x32, .f32⟩
  | 121 => ⟨S4096x1x32, .f32⟩
  | 122 => ⟨S2x4096x16x32, .f32⟩
  | 123 => ⟨S2x4096x16x32, .f32⟩
  | 124 => ⟨S1x4096x1x32, .f32⟩
  | 125 => ⟨S2x4096x16x32, .f32⟩
  | 126 => ⟨S2x4096x16x32, .f32⟩
  | 127 => ⟨S1x4096x1x32, .f32⟩
  | _ => ⟨S8192x2048, .f32⟩

abbrev hbmTy0_1 (i : Nat) : BufTy := match i % 128 with
  | 0 => ⟨S2x4096x16x32, .f32⟩
  | 1 => ⟨S2x4096x16x32, .f32⟩
  | 2 => ⟨S2x4096x16x32, .f32⟩
  | 3 => ⟨S1x4096x1x32, .f32⟩
  | 4 => ⟨S2x4096x16x32, .f32⟩
  | 5 => ⟨S2x4096x16x32, .f32⟩
  | 6 => ⟨S1x4096x1x32, .f32⟩
  | 7 => ⟨S2x4096x16x32, .f32⟩
  | 8 => ⟨S2x4096x16x32, .f32⟩
  | 9 => ⟨S2x4096x16x32, .f32⟩
  | 10 => ⟨S2x4096x16x64, .f32⟩
  | 11 => ⟨S8192x1024, .f32⟩
  | 12 => ⟨S8192x64, .f32⟩
  | 13 => ⟨S2x4096x1x64, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S4096, .i32⟩
  | 23 => ⟨S4096, .f32⟩
  | 24 => ⟨S4096x1, .f32⟩
  | 25 => ⟨S1x32, .f32⟩
  | 26 => ⟨S4096x32, .f32⟩
  | 27 => ⟨S4096x32, .f32⟩
  | 28 => ⟨S4096x32, .f32⟩
  | 29 => ⟨S4096x32, .f32⟩
  | 30 => ⟨S4096x1x32, .f32⟩
  | 31 => ⟨S4096x32, .f32⟩
  | 32 => ⟨S4096x1x32, .f32⟩
  | 33 => ⟨S2x4096x1x32, .f32⟩
  | 34 => ⟨S2x4096x1x32, .f32⟩
  | 35 => ⟨S1x4096x1x32, .f32⟩
  | 36 => ⟨S2x4096x1x32, .f32⟩
  | 37 => ⟨S2x4096x1x32, .f32⟩
  | 38 => ⟨S1x4096x1x32, .f32⟩
  | 39 => ⟨S2x4096x1x32, .f32⟩
  | 40 => ⟨S2x4096x1x32, .f32⟩
  | 41 => ⟨S2x4096x1x32, .f32⟩
  | 42 => ⟨S1x4096x1x32, .f32⟩
  | 43 => ⟨S2x4096x1x32, .f32⟩
  | 44 => ⟨S2x4096x1x32, .f32⟩
  | 45 => ⟨S1x4096x1x32, .f32⟩
  | 46 => ⟨S2x4096x1x32, .f32⟩
  | 47 => ⟨S2x4096x1x32, .f32⟩
  | 48 => ⟨S2x4096x1x32, .f32⟩
  | 49 => ⟨S2x4096x1x64, .f32⟩
  | 50 => ⟨S8192x64, .f32⟩
  | 51 => ⟨S8192x16, .f32⟩
  | 52 => ⟨S8192x2048, .f32⟩
  | 53 => ⟨S_, .f32⟩
  | 54 => ⟨S8192x48, .f32⟩
  | 55 => ⟨S8192x128, .f32⟩
  | 56 => ⟨S8192x2048, .bf16⟩
  | 57 => ⟨S8192x256, .bf16⟩
  | 58 => ⟨S8192x256, .bf16⟩
  | 59 => ⟨S8192x1024, .bf16⟩
  | 60 => ⟨S8192x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_4 : Ref sig .tc := ⟨.hbm, 65, rfl⟩
abbrev main_v57 : Ref sig .tc := ⟨.hbm, 66, rfl⟩
abbrev main_v58 : Ref sig .tc := ⟨.hbm, 67, rfl⟩
abbrev main_cst_5 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_cst_6 : Ref sig .tc := ⟨.hbm, 105, rfl⟩
abbrev main_v95 : Ref sig .tc := ⟨.hbm, 106, rfl⟩
abbrev main_v96 : Ref sig .tc := ⟨.hbm, 107, rfl⟩
abbrev main_cst_7 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_cst_8 : Ref sig .tc := ⟨.hbm, 144, rfl⟩
abbrev main_v132 : Ref sig .tc := ⟨.hbm, 145, rfl⟩
abbrev main_v133 : Ref sig .tc := ⟨.hbm, 146, rfl⟩
abbrev main_cst_9 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_cst_10 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩

abbrev nD : Nat := 1
abbrev τ : Topo := Topo.v7x

variable {F : FTy → Type} [FloatOps F]
-- ==== KernelB.lean ====
abbrev S8192x2048 : Shape := ⟨2, ![8192, 2048]⟩
abbrev S1x2048x2048 : Shape := ⟨3, ![1, 2048, 2048]⟩
abbrev S1x2048 : Shape := ⟨2, ![1, 2048]⟩
abbrev S1x2048x3136 : Shape := ⟨3, ![1, 2048, 3136]⟩
abbrev S1x512 : Shape := ⟨2, ![1, 512]⟩
abbrev S1x512x3072 : Shape := ⟨3, ![1, 512, 3072]⟩
abbrev S1x512x4096 : Shape := ⟨3, ![1, 512, 4096]⟩
abbrev S2048x2048 : Shape := ⟨2, ![2048, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩
abbrev S2048x3136 : Shape := ⟨2, ![2048, 3136]⟩
abbrev S512x3072 : Shape := ⟨2, ![512, 3072]⟩
abbrev S2048x512 : Shape := ⟨2, ![2048, 512]⟩
abbrev S2048x64 : Shape := ⟨2, ![2048, 64]⟩
abbrev S_ : Shape := ⟨0, ![]⟩
abbrev S2048x128 : Shape := ⟨2, ![2048, 128]⟩
abbrev S512x16x192 : Shape := ⟨3, ![512, 16, 192]⟩
abbrev S512x16x256 : Shape := ⟨3, ![512, 16, 256]⟩
abbrev S512x4096 : Shape := ⟨2, ![512, 4096]⟩
abbrev S4096 : Shape := ⟨1, ![4096]⟩
abbrev S512 : Shape := ⟨1, ![512]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S8192x512 : Shape := ⟨2, ![8192, 512]⟩
abbrev S512x2048 : Shape := ⟨2, ![512, 2048]⟩
abbrev S512x512 : Shape := ⟨2, ![512, 512]⟩
abbrev S512x1 : Shape := ⟨2, ![512, 1]⟩
abbrev S8192x128 : Shape := ⟨2, ![8192, 128]⟩
abbrev S512x128 : Shape := ⟨2, ![512, 128]⟩
abbrev S8192x4096 : Shape := ⟨2, ![8192, 4096]⟩
abbrev S1024x512 : Shape := ⟨2, ![1024, 512]⟩
abbrev S512x1024 : Shape := ⟨2, ![512, 1024]⟩
abbrev S1024x128 : Shape := ⟨2, ![1024, 128]⟩
abbrev S1024x1024 : Shape := ⟨2, ![1024, 1024]⟩

abbrev nBuf : Space → Nat
  | .hbm => 74
  | .vmem => 57
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x2048, .f32⟩
  | .hbm, ⟨3, _⟩ => ⟨S1x2048, .f32⟩
  | .hbm, ⟨4, _⟩ => ⟨S1x2048x3136, .f32⟩
  | .hbm, ⟨5, _⟩ => ⟨S1x512, .f32⟩
  | .hbm, ⟨6, _⟩ => ⟨S1x512x3072, .f32⟩
  | .hbm, ⟨7, _⟩ => ⟨S1x512, .f32⟩
  | .hbm, ⟨8, _⟩ => ⟨S1x512x4096, .f32⟩
  | .hbm, ⟨9, _⟩ => ⟨S2048x2048, .f32⟩
  | .hbm, ⟨10, _⟩ => ⟨S2048x2048, .bf16⟩
  | .hbm, ⟨11, _⟩ => ⟨S2048, .f32⟩
  | .hbm, ⟨12, _⟩ => ⟨S1x2048, .f32⟩
  | .hbm, ⟨13, _⟩ => ⟨S8192x2048, .f32⟩
  | .hbm, ⟨14, _⟩ => ⟨S8192x2048, .bf16⟩
  | .hbm, ⟨15, _⟩ => ⟨S2048x3136, .f32⟩
  | .hbm, ⟨16, _⟩ => ⟨S512x3072, .f32⟩
  | .hbm, ⟨17, _⟩ => ⟨S2048x512, .f32⟩
  | .hbm, ⟨18, _⟩ => ⟨S2048x512, .f32⟩
  | .hbm, ⟨19, _⟩ => ⟨S2048x64, .f32⟩
  | .hbm, ⟨20, _⟩ => ⟨S_, .i32⟩
  | .hbm, ⟨21, _⟩ => ⟨S_, .f32⟩
  | .hbm, ⟨22, _⟩ => ⟨S2048x128, .f32⟩
  | .hbm, ⟨23, _⟩ => ⟨S2048x2048, .f32⟩
  | .hbm, ⟨24, _⟩ => ⟨S512x16x192, .f32⟩
  | .hbm, ⟨25, _⟩ => ⟨S_, .i32⟩
  | .hbm, ⟨26, _⟩ => ⟨S_, .f32⟩
  | .hbm, ⟨27, _⟩ => ⟨S512x16x256, .f32⟩
  | .hbm, ⟨28, _⟩ => ⟨S512x4096, .f32⟩
  | .hbm, ⟨29, _⟩ => ⟨S2048x512, .bf16⟩
  | .hbm, ⟨30, _⟩ => ⟨S2048x512, .bf16⟩
  | .hbm, ⟨31, _⟩ => ⟨S2048x128, .bf16⟩
  | .hbm, ⟨32, _⟩ => ⟨S2048x2048, .bf16⟩
  | .hbm, ⟨33, _⟩ => ⟨S512x4096, .bf16⟩
  | .hbm, ⟨34, _⟩ => ⟨S4096, .i32⟩
  | .hbm, ⟨35, _⟩ => ⟨S512, .f32⟩
  | .hbm, ⟨36, _⟩ => ⟨S512, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S4096, .f32⟩
  | .hbm, ⟨46, _⟩ => ⟨S4096x1, .f32⟩
  | .hbm, ⟨47, _⟩ => ⟨S1x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S4096x32, .f32⟩
  | .hbm, ⟨53, _⟩ => ⟨S4096x64, .f32⟩
  | .hbm, ⟨54, _⟩ => ⟨S4096x32, .f32⟩
  | .hbm, ⟨55, _⟩ => ⟨S4096x64, .f32⟩
  | .hbm, ⟨56, _⟩ => ⟨S_, .f32⟩
  | .hbm, ⟨57, _⟩ => ⟨S4096x64, .f32⟩
  | .hbm, ⟨58, _⟩ => ⟨S4096x128, .f32⟩
  | .hbm, ⟨59, _⟩ => ⟨S_, .f32⟩
  | .hbm, ⟨60, _⟩ => ⟨S4096x64, .f32⟩
  | .hbm, ⟨61, _⟩ => ⟨S4096x128, .f32⟩
  | .hbm, ⟨62, _⟩ => ⟨S1x512, .f32⟩
  | .hbm, ⟨63, _⟩ => ⟨S8192x512, .bf16⟩
  | .hbm, ⟨64, _⟩ => ⟨S1x512, .f32⟩
  | .hbm, ⟨65, _⟩ => ⟨S8192x512, .f32⟩
  | .hbm, ⟨66, _⟩ => ⟨S8192x512, .bf16⟩
  | .hbm, ⟨67, _⟩ => ⟨S8192x128, .f32⟩
  | .hbm, ⟨68, _⟩ => ⟨S8192x128, .bf16⟩
  | .hbm, ⟨69, _⟩ => ⟨S8192x2048, .bf16⟩
  | .hbm, ⟨70, _⟩ => ⟨S8192x4096, .bf16⟩
  | .hbm, ⟨71, _⟩ => ⟨S512x4096, .f32⟩
  | .hbm, ⟨72, _⟩ => ⟨S512x4096, .bf16⟩
  | .hbm, ⟨73, _⟩ => ⟨S8192x4096, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S512x2048, .bf16⟩
  | .local _ .vmem, ⟨11, _⟩ => ⟨S512x2048, .bf16⟩
  | .local _ .vmem, ⟨12, _⟩ => ⟨S2048x512, .bf16⟩
  | .local _ .vmem, ⟨13, _⟩ => ⟨S1x512, .f32⟩
  | .local _ .vmem, ⟨14, _⟩ => ⟨S512x512, .bf16⟩
  | .local _ .vmem, ⟨15, _⟩ => ⟨S512x512, .bf16⟩
  | .local _ .vmem, ⟨16, _⟩ => ⟨S512x2048, .bf16⟩
  | .local _ .vmem, ⟨17, _⟩ => ⟨S512x2048, .bf16⟩
  | .local _ .vmem, ⟨18, _⟩ => ⟨S2048x512, .bf16⟩
  | .local _ .vmem, ⟨19, _⟩ => ⟨S1x512, .f32⟩
  | .local _ .vmem, ⟨20, _⟩ => ⟨S512x512, .f32⟩
  | .local _ .vmem, ⟨21, _⟩ => ⟨S512x512, .f32⟩
  | .local _ .vmem, ⟨22, _⟩ => ⟨S512x512, .bf16⟩
  | .local _ .vmem, ⟨23, _⟩ => ⟨S512x512, .bf16⟩
  | .local _ .vmem, ⟨24, _⟩ => ⟨S512x2048, .bf16⟩
  | .local _ .vmem, ⟨25, _⟩ => ⟨S512x2048, .bf16⟩
  | .local _ .vmem, ⟨26, _⟩ => ⟨S2048x128, .bf16⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .bf16⟩
  | .local _ .vmem, ⟨34, _⟩ => ⟨S512x128, .bf16⟩
  | .local _ .vmem, ⟨35, _⟩ => ⟨S512x2048, .bf16⟩
  | .local _ .vmem, ⟨36, _⟩ => ⟨S512x2048, .bf16⟩
  | .local _ .vmem, ⟨37, _⟩ => ⟨S2048x512, .bf16⟩
  | .local _ .vmem, ⟨38, _⟩ => ⟨S2048x512, .bf16⟩
  | .local _ .vmem, ⟨39, _⟩ => ⟨S512x512, .bf16⟩
  | .local _ .vmem, ⟨40, _⟩ => ⟨S512x512, .bf16⟩
  | .local _ .vmem, ⟨41, _⟩ => ⟨S1024x512, .bf16⟩
  | .local _ .vmem, ⟨42, _⟩ => ⟨S1024x512, .bf16⟩
  | .local _ .vmem, ⟨43, _⟩ => ⟨S512x1024, .bf16⟩
  | .local _ .vmem, ⟨44, _⟩ => ⟨S512x1024, .bf16⟩
  | .local _ .vmem, ⟨45, _⟩ => ⟨S1024x128, .f32⟩
  | .local _ .vmem, ⟨46, _⟩ => ⟨S1024x128, .f32⟩
  | .local _ .vmem, ⟨47, _⟩ => ⟨S1024x128, .f32⟩
  | .local _ .vmem, ⟨48, _⟩ => ⟨S1024x128, .f32⟩
  | .local _ .vmem, ⟨49, _⟩ => ⟨S1024x1024, .bf16⟩
  | .local _ .vmem, ⟨50, _⟩ => ⟨S1024x1024, .bf16⟩
  | .local _ .vmem, ⟨51, _⟩ => ⟨S1024x512, .bf16⟩
  | .local _ .vmem, ⟨52, _⟩ => ⟨S1024x512, .bf16⟩
  | .local _ .vmem, ⟨53, _⟩ => ⟨S512x1024, .bf16⟩
  | .local _ .vmem, ⟨54, _⟩ => ⟨S512x1024, .bf16⟩
  | .local _ .vmem, ⟨55, _⟩ => ⟨S1024x1024, .bf16⟩
  | .local _ .vmem, ⟨56, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_0 : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_2 : Ref sig .tc := ⟨.hbm, 56, rfl⟩
abbrev main_v40 : Ref sig .tc := ⟨.hbm, 57, rfl⟩
abbrev main_v41 : Ref sig .tc := ⟨.hbm, 58, rfl⟩
abbrev main_cst_3 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47_0 : Ref sig .tc := ⟨.hbm, 65, rfl⟩
abbrev main_v47_1 : Ref sig .tc := ⟨.hbm, 66, rfl⟩
abbrev main_v48_0 : Ref sig .tc := ⟨.hbm, 67, rfl⟩
abbrev main_v48_1 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc3_stg5_0 : Ref sig .tc := ⟨.vmem, 33, rfl⟩
abbrev cc3_stg5_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg3_1 : Ref sig .tc := ⟨.vmem, 48, rfl⟩
abbrev cc5_stg4_0 : Ref sig .tc := ⟨.vmem, 49, rfl⟩
abbrev cc5_stg4_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg2_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem3_1 : DmaSem sig := 30
abbrev cc3_sem4_0 : DmaSem sig := 31
abbrev cc3_sem4_1 : DmaSem sig := 32
abbrev cc3_sem5_0 : DmaSem sig := 33
abbrev cc3_sem5_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem3_1 : DmaSem sig := 48
abbrev cc5_sem4_0 : DmaSem sig := 49
abbrev cc5_sem4_1 : DmaSem sig := 50
abbrev cc6_sem0_0 : DmaSem sig := 51
abbrev cc6_sem0_1 : DmaSem sig := 52
abbrev cc6_sem1_0 : DmaSem sig := 53
abbrev cc6_sem1_1 : DmaSem sig := 54
abbrev cc6_sem2_0 : DmaSem sig := 55
abbrev cc6_sem2_1 : DmaSem sig := 56

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![1, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![1, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S2048x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![1, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc3_transform_3 (i : grid3.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S2048x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S512x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S512x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S512x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨2, ![4, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S512x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc5_transform_3 (i : grid5.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S1024x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S512x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1024x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S1024x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S1024x1024 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev grid6 : Pipeline.Grid := ⟨2, ![4, 8], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S1024x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S512x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1024x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]
-- ==== ReferenceBIdeal.lean ====
abbrev S8192x2048 : Shape := ⟨2, ![8192, 2048]⟩
abbrev S1x2048x2048 : Shape := ⟨3, ![1, 2048, 2048]⟩
abbrev S1x2048 : Shape := ⟨2, ![1, 2048]⟩
abbrev S1x2048x3136 : Shape := ⟨3, ![1, 2048, 3136]⟩
abbrev S1x512 : Shape := ⟨2, ![1, 512]⟩
abbrev S1x512x3072 : Shape := ⟨3, ![1, 512, 3072]⟩
abbrev S1x512x4096 : Shape := ⟨3, ![1, 512, 4096]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x3136 : Shape := ⟨2, ![2048, 3136]⟩
abbrev S8192x3136 : Shape := ⟨2, ![8192, 3136]⟩
abbrev S8192x512 : Shape := ⟨2, ![8192, 512]⟩
abbrev S512 : Shape := ⟨1, ![512]⟩
abbrev S512x3072 : Shape := ⟨2, ![512, 3072]⟩
abbrev S8192x3072 : Shape := ⟨2, ![8192, 3072]⟩
abbrev S8192x64 : Shape := ⟨2, ![8192, 64]⟩
abbrev S2x4096x1x64 : Shape := ⟨4, ![2, 4096, 1, 64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S2x4096x1x32 : Shape := ⟨4, ![2, 4096, 1, 32]⟩
abbrev S1x4096x1x32 : Shape := ⟨4, ![1, 4096, 1, 32]⟩
abbrev S8192x16x192 : Shape := ⟨3, ![8192, 16, 192]⟩
abbrev S8192x16x64 : Shape := ⟨3, ![8192, 16, 64]⟩
abbrev S8192x1024 : Shape := ⟨2, ![8192, 1024]⟩
abbrev S2x4096x16x64 : Shape := ⟨4, ![2, 4096, 16, 64]⟩
abbrev S2x4096x16x32 : Shape := ⟨4, ![2, 4096, 16, 32]⟩
abbrev S8192x16x128 : Shape := ⟨3, ![8192, 16, 128]⟩
abbrev S8192x16x256 : Shape := ⟨3, ![8192, 16, 256]⟩
abbrev S8192x128 : Shape := ⟨2, ![8192, 128]⟩
abbrev S512x4096 : Shape := ⟨2, ![512, 4096]⟩
abbrev S8192x4096 : Shape := ⟨2, ![8192, 4096]⟩

abbrev nBuf : Space → Nat
  | .hbm => 166
  | .vmem => 0
  | .smem => 0
  | _ => 0

abbrev hbmTy0_0 (i : Nat) : BufTy := match i % 128 with
  | 0 => ⟨S8192x2048, .bf16⟩
  | 1 => ⟨S8192x2048, .f32⟩
  | 2 => ⟨S1x2048x2048, .f32⟩
  | 3 => ⟨S1x2048, .f32⟩
  | 4 => ⟨S1x2048x3136, .f32⟩
  | 5 => ⟨S1x512, .f32⟩
  | 6 => ⟨S1x512x3072, .f32⟩
  | 7 => ⟨S1x512, .f32⟩
  | 8 => ⟨S1x512x4096, .f32⟩
  | 9 => ⟨S8192x2048, .f32⟩
  | 10 => ⟨S2048x2048, .f32⟩
  | 11 => ⟨S8192x2048, .f32⟩
  | 12 => ⟨S8192x2048, .f32⟩
  | 13 => ⟨S2048, .f32⟩
  | 14 => ⟨S8192x2048, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1, .f32⟩
  | 25 => ⟨S8192x2048, .f32⟩
  | 26 => ⟨S8192x2048, .f32⟩
  | 27 => ⟨S1x2048, .f32⟩
  | 28 => ⟨S8192x2048, .f32⟩
  | 29 => ⟨S8192x2048, .f32⟩
  | 30 => ⟨S2048x3136, .f32⟩
  | 31 => ⟨S8192x3136, .f32⟩
  | 32 => ⟨S8192x512, .f32⟩
  | 33 => ⟨S512, .f32⟩
  | 34 => ⟨S8192x512, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x1, .f32⟩
  | 45 => ⟨S8192x512, .f32⟩
  | 46 => ⟨S8192x512, .f32⟩
  | 47 => ⟨S1x512, .f32⟩
  | 48 => ⟨S8192x512, .f32⟩
  | 49 => ⟨S8192x512, .f32⟩
  | 50 => ⟨S512x3072, .f32⟩
  | 51 => ⟨S8192x3072, .f32⟩
  | 52 => ⟨S8192x512, .f32⟩
  | 53 => ⟨S512, .f32⟩
  | 54 => ⟨S8192x512, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192x1, .f32⟩
  | 63 => ⟨S8192x1, .f32⟩
  | 64 => ⟨S8192x1, .f32⟩
  | 65 => ⟨S8192x512, .f32⟩
  | 66 => ⟨S8192x512, .f32⟩
  | 67 => ⟨S1x512, .f32⟩
  | 68 => ⟨S8192x512, .f32⟩
  | 69 => ⟨S8192x512, .f32⟩
  | 70 => ⟨S8192x64, .f32⟩
  | 71 => ⟨S2x4096x1x64, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S4096, .i32⟩
  | 81 => ⟨S4096, .f32⟩
  | 82 => ⟨S4096x1, .f32⟩
  | 83 => ⟨S1x32, .f32⟩
  | 84 => ⟨S4096x32, .f32⟩
  | 85 => ⟨S4096x32, .f32⟩
  | 86 => ⟨S4096x32, .f32⟩
  | 87 => ⟨S4096x32, .f32⟩
  | 88 => ⟨S4096x1x32, .f32⟩
  | 89 => ⟨S4096x32, .f32⟩
  | 90 => ⟨S4096x1x32, .f32⟩
  | 91 => ⟨S2x4096x1x32, .f32⟩
  | 92 => ⟨S2x4096x1x32, .f32⟩
  | 93 => ⟨S1x4096x1x32, .f32⟩
  | 94 => ⟨S2x4096x1x32, .f32⟩
  | 95 => ⟨S2x4096x1x32, .f32⟩
  | 96 => ⟨S1x4096x1x32, .f32⟩
  | 97 => ⟨S2x4096x1x32, .f32⟩
  | 98 => ⟨S2x4096x1x32, .f32⟩
  | 99 => ⟨S2x4096x1x32, .f32⟩
  | 100 => ⟨S1x4096x1x32, .f32⟩
  | 101 => ⟨S2x4096x1x32, .f32⟩
  | 102 => ⟨S2x4096x1x32, .f32⟩
  | 103 => ⟨S1x4096x1x32, .f32⟩
  | 104 => ⟨S2x4096x1x32, .f32⟩
  | 105 => ⟨S2x4096x1x32, .f32⟩
  | 106 => ⟨S2x4096x1x32, .f32⟩
  | 107 => ⟨S2x4096x1x64, .f32⟩
  | 108 => ⟨S8192x64, .f32⟩
  | 109 => ⟨S8192x2048, .f32⟩
  | 110 => ⟨S8192x16x192, .f32⟩
  | 111 => ⟨S8192x16x64, .f32⟩
  | 112 => ⟨S8192x1024, .f32⟩
  | 113 => ⟨S2x4096x16x64, .f32⟩
  | 114 => ⟨S32, .f32⟩
  | 115 => ⟨S32, .f32⟩
  | 116 => ⟨S_, .f32⟩
  | 117 => ⟨S32, .f32⟩
  | 118 => ⟨S32, .f32⟩
  | 119 => ⟨S_, .f32⟩
  | 120 => ⟨S32, .f32⟩
  | 121 => ⟨S32, .f32⟩
  | 122 => ⟨S4096, .i32⟩
  | 123 => ⟨S4096, .f32⟩
  | 124 => ⟨S4096x1, .f32⟩
  | 125 => ⟨S1x32, .f32⟩
  | 126 => ⟨S4096x32, .f32⟩
  | 127 => ⟨S4096x32, .f32⟩
  | _ => ⟨S8192x2048, .bf16⟩

abbrev hbmTy0_1 (i : Nat) : BufTy := match i % 128 with
  | 0 => ⟨S4096x32, .f32⟩
  | 1 => ⟨S4096x32, .f32⟩
  | 2 => ⟨S4096x1x32, .f32⟩
  | 3 => ⟨S4096x32, .f32⟩
  | 4 => ⟨S4096x1x32, .f32⟩
  | 5 => ⟨S2x4096x16x32, .f32⟩
  | 6 => ⟨S2x4096x16x32, .f32⟩
  | 7 => ⟨S1x4096x1x32, .f32⟩
  | 8 => ⟨S2x4096x16x32, .f32⟩
  | 9 => ⟨S2x4096x16x32, .f32⟩
  | 10 => ⟨S1x4096x1x32, .f32⟩
  | 11 => ⟨S2x4096x16x32, .f32⟩
  | 12 => ⟨S2x4096x16x32, .f32⟩
  | 13 => ⟨S2x4096x16x32, .f32⟩
  | 14 => ⟨S1x4096x1x32, .f32⟩
  | 15 => ⟨S2x4096x16x32, .f32⟩
  | 16 => ⟨S2x4096x16x32, .f32⟩
  | 17 => ⟨S1x4096x1x32, .f32⟩
  | 18 => ⟨S2x4096x16x32, .f32⟩
  | 19 => ⟨S2x4096x16x32, .f32⟩
  | 20 => ⟨S2x4096x16x32, .f32⟩
  | 21 => ⟨S2x4096x16x64, .f32⟩
  | 22 => ⟨S8192x1024, .f32⟩
  | 23 => ⟨S8192x16x64, .f32⟩
  | 24 => ⟨S8192x16x128, .f32⟩
  | 25 => ⟨S_, .f32⟩
  | 26 => ⟨S8192x16x64, .f32⟩
  | 27 => ⟨S8192x16x256, .f32⟩
  | 28 => ⟨S_, .f32⟩
  | 29 => ⟨S8192x64, .f32⟩
  | 30 => ⟨S8192x128, .f32⟩
  | 31 => ⟨S512x4096, .f32⟩
  | 32 => ⟨S8192x4096, .f32⟩
  | 33 => ⟨S8192x4096, .f32⟩
  | 34 => ⟨S8192x4096, .bf16⟩
  | 35 => ⟨S8192x128, .bf16⟩
  | 36 => ⟨S8192x2048, .bf16⟩
  | 37 => ⟨S8192x4096, .bf16⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_cst_10 : Ref sig .tc := ⟨.hbm, 116, rfl⟩
abbrev main_v96 : Ref sig .tc := ⟨.hbm, 117, rfl⟩
abbrev main_v97 : Ref sig .tc := ⟨.hbm, 118, rfl⟩
abbrev main_cst_11 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_cst_12 : Ref sig .tc := ⟨.hbm, 153, rfl⟩
abbrev main_v131 : Ref sig .tc := ⟨.hbm, 154, rfl⟩
abbrev main_v132 : Ref sig .tc := ⟨.hbm, 155, rfl⟩
abbrev main_cst_13 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩

abbrev nD : Nat := 1
abbrev τ : Topo := Topo.v7x

variable {F : FTy → Type} [FloatOps F]
-- ==== KernelC.lean ====
abbrev S8192x2048 : Shape := ⟨2, ![8192, 2048]⟩
abbrev S1x2048x2048 : Shape := ⟨3, ![1, 2048, 2048]⟩
abbrev S2048 : Shape := ⟨1, ![2048]⟩
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x2048, .f32⟩
  | .hbm, ⟨3, _⟩ => ⟨S2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceCIdeal.lean ====
abbrev S8192x2048 : Shape := ⟨2, ![8192, 2048]⟩
abbrev S1x2048x2048 : Shape := ⟨3, ![1, 2048, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x2048, .f32⟩
  | .hbm, ⟨3, _⟩ => ⟨S2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelS.lean ====
abbrev S128x2048 : Shape := ⟨2, ![128, 2048]⟩
abbrev S1x2048 : Shape := ⟨2, ![1, 2048]⟩
abbrev S1x2048x5712 : Shape := ⟨3, ![1, 2048, 5712]⟩
abbrev S1x2048x2048 : Shape := ⟨3, ![1, 2048, 2048]⟩
abbrev S1x2048x3136 : Shape := ⟨3, ![1, 2048, 3136]⟩
abbrev S1x512 : Shape := ⟨2, ![1, 512]⟩
abbrev S2048 : Shape := ⟨1, ![2048]⟩
abbrev S_ : Shape := ⟨0, ![]⟩
abbrev S128 : Shape := ⟨1, ![128]⟩
abbrev S64 : Shape := ⟨1, ![64]⟩
abbrev S128x1 : Shape := ⟨2, ![128, 1]⟩
abbrev S1x64 : Shape := ⟨2, ![1, 64]⟩
abbrev S128x64 : Shape := ⟨2, ![128, 64]⟩
abbrev S128x128 : Shape := ⟨2, ![128, 128]⟩
abbrev S32 : Shape := ⟨1, ![32]⟩
abbrev S1x32 : Shape := ⟨2, ![1, 32]⟩
abbrev S128x32 : Shape := ⟨2, ![128, 32]⟩
abbrev S2048x5712 : Shape := ⟨2, ![2048, 5712]⟩
abbrev S2048x2048 : Shape := ⟨2, ![2048, 2048]⟩
abbrev S2048x256 : Shape := ⟨2, ![2048, 256]⟩
abbrev S2048x1024 : Shape := ⟨2, ![2048, 1024]⟩
abbrev S2048x64 : Shape := ⟨2, ![2048, 64]⟩
abbrev S2048x16 : Shape := ⟨2, ![2048, 16]⟩
abbrev S2048x80 : Shape := ⟨2, ![2048, 80]⟩
abbrev S2048x128 : Shape := ⟨2, ![2048, 128]⟩
abbrev S2048x3136 : Shape := ⟨2, ![2048, 3136]⟩
abbrev S2048x512 : Shape := ⟨2, ![2048, 512]⟩
abbrev S128x256 : Shape := ⟨2, ![128, 256]⟩
abbrev S512 : Shape := ⟨1, ![512]⟩
abbrev S128x512 : Shape := ⟨2, ![128, 512]⟩

abbrev nBuf : Space → Nat
  | .hbm => 108
  | .vmem => 40
  | .smem => 0
  | _ => 0

abbrev bufTy : (tb : Table) → Fin (tcTables nBuf tb) → BufTy
  | .hbm, ⟨0, _⟩ => ⟨S128x2048, .f32⟩
  | .hbm, ⟨1, _⟩ => ⟨S128x2048, .bf16⟩
  | .hbm, ⟨2, _⟩ => ⟨S128x2048, .bf16⟩
  | .hbm, ⟨3, _⟩ => ⟨S1x2048, .f32⟩
  | .hbm, ⟨4, _⟩ => ⟨S1x2048x5712, .f32⟩
  | .hbm, ⟨5, _⟩ => ⟨S1x2048x2048, .f32⟩
  | .hbm, ⟨6, _⟩ => ⟨S1x2048, .f32⟩
  | .hbm, ⟨7, _⟩ => ⟨S1x2048x3136, .f32⟩
  | .hbm, ⟨8, _⟩ => ⟨S1x512, .f32⟩
  | .hbm, ⟨9, _⟩ => ⟨S1x2048x2048, .f32⟩
  | .hbm, ⟨10, _⟩ => ⟨S2048, .f32⟩
  | .hbm, ⟨11, _⟩ => ⟨S_, .i32⟩
  | .hbm, ⟨12, _⟩ => ⟨S128, .i32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S128, .f32⟩
  | .hbm, ⟨22, _⟩ => ⟨S128x1, .f32⟩
  | .hbm, ⟨23, _⟩ => ⟨S1x64, .f32⟩
  | .hbm, ⟨24, _⟩ => ⟨S128x64, .f32⟩
  | .hbm, ⟨25, _⟩ => ⟨S128x64, .f32⟩
  | .hbm, ⟨26, _⟩ => ⟨S128x64, .f32⟩
  | .hbm, ⟨27, _⟩ => ⟨S128x64, .f32⟩
  | .hbm, ⟨28, _⟩ => ⟨S128x64, .f32⟩
  | .hbm, ⟨29, _⟩ => ⟨S128x128, .f32⟩
  | .hbm, ⟨30, _⟩ => ⟨S128x64, .f32⟩
  | .hbm, ⟨31, _⟩ => ⟨S128x128, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S128, .f32⟩
  | .hbm, ⟨41, _⟩ => ⟨S128x1, .f32⟩
  | .hbm, ⟨42, _⟩ => ⟨S1x32, .f32⟩
  | .hbm, ⟨43, _⟩ => ⟨S128x32, .f32⟩
  | .hbm, ⟨44, _⟩ => ⟨S128x32, .f32⟩
  | .hbm, ⟨45, _⟩ => ⟨S128x32, .f32⟩
  | .hbm, ⟨46, _⟩ => ⟨S128x32, .f32⟩
  | .hbm, ⟨47, _⟩ => ⟨S128x32, .f32⟩
  | .hbm, ⟨48, _⟩ => ⟨S128x64, .f32⟩
  | .hbm, ⟨49, _⟩ => ⟨S128x32, .f32⟩
  | .hbm, ⟨50, _⟩ => ⟨S128x64, .f32⟩
  | .hbm, ⟨51, _⟩ => ⟨S_, .f32⟩
  | .hbm, ⟨52, _⟩ => ⟨S128x64, .f32⟩
  | .hbm, ⟨53, _⟩ => ⟨S128x128, .f32⟩
  | .hbm, ⟨54, _⟩ => ⟨S_, .f32⟩
  | .hbm, ⟨55, _⟩ => ⟨S128x64, .f32⟩
  | .hbm, ⟨56, _⟩ => ⟨S128x128, .f32⟩
  | .hbm, ⟨57, _⟩ => ⟨S2048x5712, .f32⟩
  | .hbm, ⟨58, _⟩ => ⟨S2048x2048, .f32⟩
  | .hbm, ⟨59, _⟩ => ⟨S2048x256, .f32⟩
  | .hbm, ⟨60, _⟩ => ⟨S2048x256, .f32⟩
  | .hbm, ⟨61, _⟩ => ⟨S2048x1024, .f32⟩
  | .hbm, ⟨62, _⟩ => ⟨S2048x64, .f32⟩
  | .hbm, ⟨63, _⟩ => ⟨S2048x16, .f32⟩
  | .hbm, ⟨64, _⟩ => ⟨S2048x2048, .f32⟩
  | .hbm, ⟨65, _⟩ => ⟨S2048x80, .f32⟩
  | .hbm, ⟨66, _⟩ => ⟨S_, .i32⟩
  | .hbm, ⟨67, _⟩ => ⟨S_, .f32⟩
  | .hbm, ⟨68, _⟩ => ⟨S2048x128, .f32⟩
  | .hbm, ⟨69, _⟩ => ⟨S2048x2048, .bf16⟩
  | .hbm, ⟨70, _⟩ => ⟨S2048x256, .bf16⟩
  | .hbm, ⟨71, _⟩ => ⟨S2048x256, .bf16⟩
  | .hbm, ⟨72, _⟩ => ⟨S2048x1024, .bf16⟩
  | .hbm, ⟨73, _⟩ => ⟨S2048x128, .bf16⟩
  | .hbm, ⟨74, _⟩ => ⟨S2048x2048, .bf16⟩
  | .hbm, ⟨75, _⟩ => ⟨S2048x3136, .f32⟩
  | .hbm, ⟨76, _⟩ => ⟨S2048x512, .f32⟩
  | .hbm, ⟨77, _⟩ => ⟨S2048x3136, .f32⟩
  | .hbm, ⟨78, _⟩ => ⟨S2048x64, .f32⟩
  | .hbm, ⟨79, _⟩ => ⟨S_, .i32⟩
  | .hbm, ⟨80, _⟩ => ⟨S_, .f32⟩
  | .hbm, ⟨81, _⟩ => ⟨S2048x128, .f32⟩
  | .hbm, ⟨82, _⟩ => ⟨S2048x512, .bf16⟩
  | .hbm, ⟨83, _⟩ => ⟨S2048x128, .bf16⟩
  | .hbm, ⟨84, _⟩ => ⟨S2048, .f32⟩
  | .hbm, ⟨85, _⟩ => ⟨S1x2048, .f32⟩
  | .hbm, ⟨86, _⟩ => ⟨S128x2048, .bf16⟩
  | .hbm, ⟨87, _⟩ => ⟨S128x256, .f32⟩
  | .hbm, ⟨88, _⟩ => ⟨S128x256, .bf16⟩
  | .hbm, ⟨89, _⟩ => ⟨S128x256, .f32⟩
  | .hbm, ⟨90, _⟩ => ⟨S128x256, .bf16⟩
  | .hbm, ⟨91, _⟩ => ⟨S128x128, .f32⟩
  | .hbm, ⟨92, _⟩ => ⟨S2048x2048, .f32⟩
  | .hbm, ⟨93, _⟩ => ⟨S2048x2048, .bf16⟩
  | .hbm, ⟨94, _⟩ => ⟨S2048, .f32⟩
  | .hbm, ⟨95, _⟩ => ⟨S1x2048, .f32⟩
  | .hbm, ⟨96, _⟩ => ⟨S128x2048, .f32⟩
  | .hbm, ⟨97, _⟩ => ⟨S128x2048, .bf16⟩
  | .hbm, ⟨98, _⟩ => ⟨S512, .f32⟩
  | .hbm, ⟨99, _⟩ => ⟨S1x512, .f32⟩
  | .hbm, ⟨100, _⟩ => ⟨S128x512, .f32⟩
  | .hbm, ⟨101, _⟩ => ⟨S128x512, .bf16⟩
  | .hbm, ⟨102, _⟩ => ⟨S128x128, .f32⟩
  | .hbm, ⟨103, _⟩ => ⟨S128x128, .bf16⟩
  | .hbm, ⟨104, _⟩ => ⟨S2048x2048, .f32⟩
  | .hbm, ⟨105, _⟩ => ⟨S2048x2048, .bf16⟩
  | .hbm, ⟨106, _⟩ => ⟨S1x2048, .f32⟩
  | .hbm, ⟨107, _⟩ => ⟨S128x2048, .f32⟩
  | .local _ .vmem, ⟨0, _⟩ => ⟨S128x2048, .f32⟩
  | .local _ .vmem, ⟨1, _⟩ => ⟨S1x2048, .f32⟩
  | .local _ .vmem, ⟨2, _⟩ => ⟨S128x2048, .bf16⟩
  | .local _ .vmem, ⟨3, _⟩ => ⟨S128x2048, .bf16⟩
  | .local _ .vmem, ⟨4, _⟩ => ⟨S2048x256, .bf16⟩
  | .local _ .vmem, ⟨5, _⟩ => ⟨S128x128, .f32⟩
  | .local _ .vmem, ⟨6, _⟩ => ⟨S128x128, .f32⟩
  | .local _ .vmem, ⟨7, _⟩ => ⟨S128x256, .f32⟩
  | .local _ .vmem, ⟨8, _⟩ => ⟨S128x256, .bf16⟩
  | .local _ .vmem, ⟨9, _⟩ => ⟨S128x2048, .bf16⟩
  | .local _ .vmem, ⟨10, _⟩ => ⟨S2048x256, .bf16⟩
  | .local _ .vmem, ⟨11, _⟩ => ⟨S128x256, .f32⟩
  | .local _ .vmem, ⟨12, _⟩ => ⟨S128x256, .bf16⟩
  | .local _ .vmem, ⟨13, _⟩ => ⟨S128x2048, .bf16⟩
  | .local _ .vmem, ⟨14, _⟩ => ⟨S2048x128, .bf16⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x2048, .bf16⟩
  | .local _ .vmem, ⟨19, _⟩ => ⟨S2048x2048, .bf16⟩
  | .local _ .vmem, ⟨20, _⟩ => ⟨S128x2048, .f32⟩
  | .local _ .vmem, ⟨21, _⟩ => ⟨S1x2048, .f32⟩
  | .local _ .vmem, ⟨22, _⟩ => ⟨S128x2048, .f32⟩
  | .local _ .vmem, ⟨23, _⟩ => ⟨S128x2048, .bf16⟩
  | .local _ .vmem, ⟨24, _⟩ => ⟨S128x2048, .bf16⟩
  | .local _ .vmem, ⟨25, _⟩ => ⟨S2048x512, .bf16⟩
  | .local _ .vmem, ⟨26, _⟩ => ⟨S1x512, .f32⟩
  | .local _ .vmem, ⟨27, _⟩ => ⟨S128x512, .f32⟩
  | .local _ .vmem, ⟨28, _⟩ => ⟨S128x512, .bf16⟩
  | .local _ .vmem, ⟨29, _⟩ => ⟨S128x2048, .bf16⟩
  | .local _ .vmem, ⟨30, _⟩ => ⟨S2048x128, .bf16⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S128x128, .bf16⟩
  | .local _ .vmem, ⟨35, _⟩ => ⟨S128x2048, .bf16⟩
  | .local _ .vmem, ⟨36, _⟩ => ⟨S2048x2048, .bf16⟩
  | .local _ .vmem, ⟨37, _⟩ => ⟨S128x2048, .f32⟩
  | .local _ .vmem, ⟨38, _⟩ => ⟨S1x2048, .f32⟩
  | .local _ .vmem, ⟨39, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_5 : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_6 : Ref sig .tc := ⟨.hbm, 79, rfl⟩
abbrev main_call1_v0 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65_0 : Ref sig .tc := ⟨.hbm, 87, rfl⟩
abbrev main_v65_1 : Ref sig .tc := ⟨.hbm, 88, rfl⟩
abbrev main_v66_0 : Ref sig .tc := ⟨.hbm, 89, rfl⟩
abbrev main_v66_1 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72_0 : Ref sig .tc := ⟨.hbm, 96, rfl⟩
abbrev main_v72_1 : Ref sig .tc := ⟨.hbm, 97, rfl⟩
abbrev main_v73 : Ref sig .tc := ⟨.hbm, 98, rfl⟩
abbrev main_v74 : Ref sig .tc := ⟨.hbm, 99, rfl⟩
abbrev main_v75_0 : Ref sig .tc := ⟨.hbm, 100, rfl⟩
abbrev main_v75_1 : Ref sig .tc := ⟨.hbm, 101, rfl⟩
abbrev main_v76_0 : Ref sig .tc := ⟨.hbm, 102, rfl⟩
abbrev main_v76_1 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc3_stg0_0 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg3_0 : Ref sig .tc := ⟨.vmem, 16, rfl⟩
abbrev cc3_stg4_0 : Ref sig .tc := ⟨.vmem, 17, rfl⟩
abbrev cc4_stg0_0 : Ref sig .tc := ⟨.vmem, 18, rfl⟩
abbrev cc4_stg1_0 : Ref sig .tc := ⟨.vmem, 19, rfl⟩
abbrev cc4_stg2_0 : Ref sig .tc := ⟨.vmem, 20, rfl⟩
abbrev cc4_stg3_0 : Ref sig .tc := ⟨.vmem, 21, rfl⟩
abbrev cc4_stg4_0 : Ref sig .tc := ⟨.vmem, 22, rfl⟩
abbrev cc4_stg5_0 : Ref sig .tc := ⟨.vmem, 23, rfl⟩
abbrev cc5_stg0_0 : Ref sig .tc := ⟨.vmem, 24, rfl⟩
abbrev cc5_stg1_0 : Ref sig .tc := ⟨.vmem, 25, rfl⟩
abbrev cc5_stg2_0 : Ref sig .tc := ⟨.vmem, 26, rfl⟩
abbrev cc5_stg3_0 : Ref sig .tc := ⟨.vmem, 27, rfl⟩
abbrev cc5_stg4_0 : Ref sig .tc := ⟨.vmem, 28, rfl⟩
abbrev cc6_stg0_0 : Ref sig .tc := ⟨.vmem, 29, rfl⟩
abbrev cc6_stg1_0 : Ref sig .tc := ⟨.vmem, 30, rfl⟩
abbrev cc6_stg2_0 : Ref sig .tc := ⟨.vmem, 31, rfl⟩
abbrev cc6_stg3_0 : Ref sig .tc := ⟨.vmem, 32, rfl⟩
abbrev cc6_stg4_0 : Ref sig .tc := ⟨.vmem, 33, rfl⟩
abbrev cc6_stg5_0 : Ref sig .tc := ⟨.vmem, 34, rfl⟩
abbrev cc7_stg0_0 : Ref sig .tc := ⟨.vmem, 35, rfl⟩
abbrev cc7_stg1_0 : Ref sig .tc := ⟨.vmem, 36, rfl⟩
abbrev cc7_stg2_0 : Ref sig .tc := ⟨.vmem, 37, rfl⟩
abbrev cc7_stg3_0 : Ref sig .tc := ⟨.vmem, 38, rfl⟩
abbrev cc7_stg4_0 : Ref sig .tc := ⟨.vmem, 39, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc2_sem0_0 : DmaSem sig := 9
abbrev cc2_sem1_0 : DmaSem sig := 10
abbrev cc2_sem2_0 : DmaSem sig := 11
abbrev cc2_sem3_0 : DmaSem sig := 12
abbrev cc3_sem0_0 : DmaSem sig := 13
abbrev cc3_sem1_0 : DmaSem sig := 14
abbrev cc3_sem2_0 : DmaSem sig := 15
abbrev cc3_sem3_0 : DmaSem sig := 16
abbrev cc3_sem4_0 : DmaSem sig := 17
abbrev cc4_sem0_0 : DmaSem sig := 18
abbrev cc4_sem1_0 : DmaSem sig := 19
abbrev cc4_sem2_0 : DmaSem sig := 20
abbrev cc4_sem3_0 : DmaSem sig := 21
abbrev cc4_sem4_0 : DmaSem sig := 22
abbrev cc4_sem5_0 : DmaSem sig := 23
abbrev cc5_sem0_0 : DmaSem sig := 24
abbrev cc5_sem1_0 : DmaSem sig := 25
abbrev cc5_sem2_0 : DmaSem sig := 26
abbrev cc5_sem3_0 : DmaSem sig := 27
abbrev cc5_sem4_0 : DmaSem sig := 28
abbrev cc6_sem0_0 : DmaSem sig := 29
abbrev cc6_sem1_0 : DmaSem sig := 30
abbrev cc6_sem2_0 : DmaSem sig := 31
abbrev cc6_sem3_0 : DmaSem sig := 32
abbrev cc6_sem4_0 : DmaSem sig := 33
abbrev cc6_sem5_0 : DmaSem sig := 34
abbrev cc7_sem0_0 : DmaSem sig := 35
abbrev cc7_sem1_0 : DmaSem sig := 36
abbrev cc7_sem2_0 : DmaSem sig := 37
abbrev cc7_sem3_0 : DmaSem sig := 38
abbrev cc7_sem4_0 : DmaSem sig := 39

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S128x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 1 → Memref sig .tc .vmem S2048x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S128x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev grid2 : Pipeline.Grid := ⟨2, ![1, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 1 → Memref sig .tc .vmem S128x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 1 → Memref sig .tc .vmem S2048x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]

abbrev stage2_3 : Fin 1 → Memref sig .tc .vmem S128x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 1 → Memref sig .tc .vmem S128x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 1 → Memref sig .tc .vmem S2048x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S128x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S2048x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S1x2048 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x2048 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S128x2048 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev grid5 : Pipeline.Grid := ⟨2, ![1, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 1 → Memref sig .tc .vmem S128x2048 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, true]

abbrev stage5_1 : Fin 1 → Memref sig .tc .vmem S2048x512 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S128x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true, true]

abbrev stage5_4 : Fin 1 → Memref sig .tc .vmem S128x512 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true, true]

abbrev grid6 : Pipeline.Grid := ⟨2, ![1, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 1 → Memref sig .tc .vmem S128x2048 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, true]

abbrev stage6_1 : Fin 1 → Memref sig .tc .vmem S2048x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, false]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true, true]

abbrev stage6_5 : Fin 1 → Memref sig .tc .vmem S128x128 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true, true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S128x2048 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S2048x2048 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128x2048 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev stage7_3 : Fin 1 → Memref sig .tc .vmem S1x2048 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x2048 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![true]
-- ==== ReferenceSIdeal.lean ====
abbrev S128x2048 : Shape := ⟨2, ![128, 2048]⟩
abbrev S1x2048 : Shape := ⟨2, ![1, 2048]⟩
abbrev S1x2048x5712 : Shape := ⟨3, ![1, 2048, 5712]⟩
abbrev S1x2048x2048 : Shape := ⟨3, ![1, 2048, 2048]⟩
abbrev S1x2048x3136 : Shape := ⟨3, ![1, 2048, 3136]⟩
abbrev S1x512 : Shape := ⟨2, ![1, 512]⟩
abbrev S2048 : Shape := ⟨1, ![2048]⟩
abbrev S1 : Shape := ⟨1, ![1]⟩
abbrev S_ : Shape := ⟨0, ![]⟩
abbrev S128 : Shape := ⟨1, ![128]⟩
abbrev S128x1 : Shape := ⟨2, ![128, 1]⟩
abbrev S2048x5712 : Shape := ⟨2, ![2048, 5712]⟩
abbrev S128x5712 : Shape := ⟨2, ![128, 5712]⟩
abbrev S128x256 : Shape := ⟨2, ![128, 256]⟩
abbrev S128x1x2x128 : Shape := ⟨4, ![128, 1, 2, 128]⟩
abbrev S64 : Shape := ⟨1, ![64]⟩
abbrev S1x1 : Shape := ⟨2, ![1, 1]⟩
abbrev S1x64 : Shape := ⟨2, ![1, 64]⟩
abbrev S1x1x64 : Shape := ⟨3, ![1, 1, 64]⟩
abbrev S128x1x2x64 : Shape := ⟨4, ![128, 1, 2, 64]⟩
abbrev S1x1x1x64 : Shape := ⟨4, ![1, 1, 1, 64]⟩
abbrev S128x64 : Shape := ⟨2, ![128, 64]⟩
abbrev S128x1x1x64 : Shape := ⟨4, ![128, 1, 1, 64]⟩
abbrev S32 : Shape := ⟨1, ![32]⟩
abbrev S1x32 : Shape := ⟨2, ![1, 32]⟩
abbrev S1x1x32 : Shape := ⟨3, ![1, 1, 32]⟩
abbrev S128x1x1x32 : Shape := ⟨4, ![128, 1, 1, 32]⟩
abbrev S1x1x1x32 : Shape := ⟨4, ![1, 1, 1, 32]⟩
abbrev S128x16 : Shape := ⟨2, ![128, 16]⟩
abbrev S128x48 : Shape := ⟨2, ![128, 48]⟩
abbrev S128x128 : Shape := ⟨2, ![128, 128]⟩
abbrev S2048x2048 : Shape := ⟨2, ![2048, 2048]⟩
abbrev S2048x3136 : Shape := ⟨2, ![2048, 3136]⟩
abbrev S128x3136 : Shape := ⟨2, ![128, 3136]⟩
abbrev S128x512 : Shape := ⟨2, ![128, 512]⟩
abbrev S512 : Shape := ⟨1, ![512]⟩

abbrev nBuf : Space → Nat
  | .hbm => 214
  | .vmem => 0
  | .smem => 0
  | _ => 0

abbrev hbmTy0_0 (i : Nat) : BufTy := match i % 128 with
  | 0 => ⟨S128x2048, .f32⟩
  | 1 => ⟨S128x2048, .bf16⟩
  | 2 => ⟨S128x2048, .bf16⟩
  | 3 => ⟨S1x2048, .f32⟩
  | 4 => ⟨S1x2048x5712, .f32⟩
  | 5 => ⟨S1x2048x2048, .f32⟩
  | 6 => ⟨S1x2048, .f32⟩
  | 7 => ⟨S1x2048x3136, .f32⟩
  | 8 => ⟨S1x512, .f32⟩
  | 9 => ⟨S1x2048x2048, .f32⟩
  | 10 => ⟨S2048, .f32⟩
  | 11 => ⟨S1, .i32⟩
  | 12 => ⟨S_, .i32⟩
  | 13 => ⟨S1, .i32⟩
  | 14 => ⟨S1, .i32⟩
  | 15 => ⟨S2048, .f32⟩
  | 16 => ⟨S128x2048, .f32⟩
  | 17 => ⟨S_, .f32⟩
  | 18 => ⟨S128, .f32⟩
  | 19 => ⟨S128x1, .f32⟩
  | 20 => ⟨S_, .f32⟩
  | 21 => ⟨S128x1, .f32⟩
  | 22 => ⟨S128x1, .f32⟩
  | 23 => ⟨S_, .f32⟩
  | 24 => ⟨S128x1, .f32⟩
  | 25 => ⟨S128x1, .f32⟩
  | 26 => ⟨S128x1, .f32⟩
  | 27 => ⟨S128x2048, .f32⟩
  | 28 => ⟨S128x2048, .f32⟩
  | 29 => ⟨S1x2048, .f32⟩
  | 30 => ⟨S128x2048, .f32⟩
  | 31 => ⟨S128x2048, .f32⟩
  | 32 => ⟨S2048x5712, .f32⟩
  | 33 => ⟨S128x5712, .f32⟩
  | 34 => ⟨S128x256, .f32⟩
  | 35 => ⟨S128x1x2x128, .f32⟩
  | 36 => ⟨S64, .f32⟩
  | 37 => ⟨S64, .f32⟩
  | 38 => ⟨S_, .f32⟩
  | 39 => ⟨S64, .f32⟩
  | 40 => ⟨S64, .f32⟩
  | 41 => ⟨S_, .f32⟩
  | 42 => ⟨S64, .f32⟩
  | 43 => ⟨S64, .f32⟩
  | 44 => ⟨S1, .f32⟩
  | 45 => ⟨S1x1, .f32⟩
  | 46 => ⟨S1x64, .f32⟩
  | 47 => ⟨S1x64, .f32⟩
  | 48 => ⟨S1x64, .f32⟩
  | 49 => ⟨S1x64, .f32⟩
  | 50 => ⟨S1x1x64, .f32⟩
  | 51 => ⟨S1x64, .f32⟩
  | 52 => ⟨S1x1x64, .f32⟩
  | 53 => ⟨S128x1x2x64, .f32⟩
  | 54 => ⟨S128x1x2x64, .f32⟩
  | 55 => ⟨S1x1x1x64, .f32⟩
  | 56 => ⟨S128x1x2x64, .f32⟩
  | 57 => ⟨S128x1x2x64, .f32⟩
  | 58 => ⟨S1x1x1x64, .f32⟩
  | 59 => ⟨S128x1x2x64, .f32⟩
  | 60 => ⟨S128x1x2x64, .f32⟩
  | 61 => ⟨S128x1x2x64, .f32⟩
  | 62 => ⟨S1x1x1x64, .f32⟩
  | 63 => ⟨S128x1x2x64, .f32⟩
  | 64 => ⟨S128x1x2x64, .f32⟩
  | 65 => ⟨S1x1x1x64, .f32⟩
  | 66 => ⟨S128x1x2x64, .f32⟩
  | 67 => ⟨S128x1x2x64, .f32⟩
  | 68 => ⟨S128x1x2x64, .f32⟩
  | 69 => ⟨S128x1x2x128, .f32⟩
  | 70 => ⟨S128x256, .f32⟩
  | 71 => ⟨S128x256, .f32⟩
  | 72 => ⟨S128x64, .f32⟩
  | 73 => ⟨S128x1x1x64, .f32⟩
  | 74 => ⟨S32, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S1, .f32⟩
  | 83 => ⟨S1x1, .f32⟩
  | 84 => ⟨S1x32, .f32⟩
  | 85 => ⟨S1x32, .f32⟩
  | 86 => ⟨S1x32, .f32⟩
  | 87 => ⟨S1x32, .f32⟩
  | 88 => ⟨S1x1x32, .f32⟩
  | 89 => ⟨S1x32, .f32⟩
  | 90 => ⟨S1x1x32, .f32⟩
  | 91 => ⟨S128x1x1x32, .f32⟩
  | 92 => ⟨S128x1x1x32, .f32⟩
  | 93 => ⟨S1x1x1x32, .f32⟩
  | 94 => ⟨S128x1x1x32, .f32⟩
  | 95 => ⟨S128x1x1x32, .f32⟩
  | 96 => ⟨S1x1x1x32, .f32⟩
  | 97 => ⟨S128x1x1x32, .f32⟩
  | 98 => ⟨S128x1x1x32, .f32⟩
  | 99 => ⟨S128x1x1x32, .f32⟩
  | 100 => ⟨S1x1x1x32, .f32⟩
  | 101 => ⟨S128x1x1x32, .f32⟩
  | 102 => ⟨S128x1x1x32, .f32⟩
  | 103 => ⟨S1x1x1x32, .f32⟩
  | 104 => ⟨S128x1x1x32, .f32⟩
  | 105 => ⟨S128x1x1x32, .f32⟩
  | 106 => ⟨S128x1x1x32, .f32⟩
  | 107 => ⟨S128x1x1x64, .f32⟩
  | 108 => ⟨S128x64, .f32⟩
  | 109 => ⟨S128x16, .f32⟩
  | 110 => ⟨S_, .f32⟩
  | 111 => ⟨S128x48, .f32⟩
  | 112 => ⟨S128x128, .f32⟩
  | 113 => ⟨S128x2048, .f32⟩
  | 114 => ⟨S2048x2048, .f32⟩
  | 115 => ⟨S128x2048, .f32⟩
  | 116 => ⟨S128x2048, .f32⟩
  | 117 => ⟨S2048, .f32⟩
  | 118 => ⟨S128x2048, .f32⟩
  | 119 => ⟨S_, .f32⟩
  | 120 => ⟨S128, .f32⟩
  | 121 => ⟨S128x1, .f32⟩
  | 122 => ⟨S_, .f32⟩
  | 123 => ⟨S128x1, .f32⟩
  | 124 => ⟨S128x1, .f32⟩
  | 125 => ⟨S_, .f32⟩
  | 126 => ⟨S128x1, .f32⟩
  | 127 => ⟨S128x1, .f32⟩
  | _ => ⟨S128x2048, .f32⟩

abbrev hbmTy0_1 (i : Nat) : BufTy := match i % 128 with
  | 0 => ⟨S128x1, .f32⟩
  | 1 => ⟨S128x2048, .f32⟩
  | 2 => ⟨S128x2048, .f32⟩
  | 3 => ⟨S1x2048, .f32⟩
  | 4 => ⟨S128x2048, .f32⟩
  | 5 => ⟨S128x2048, .f32⟩
  | 6 => ⟨S2048x3136, .f32⟩
  | 7 => ⟨S128x3136, .f32⟩
  | 8 => ⟨S128x512, .f32⟩
  | 9 => ⟨S512, .f32⟩
  | 10 => ⟨S128x512, .f32⟩
  | 11 => ⟨S_, .f32⟩
  | 12 => ⟨S128, .f32⟩
  | 13 => ⟨S128x1, .f32⟩
  | 14 => ⟨S_, .f32⟩
  | 15 => ⟨S128x1, .f32⟩
  | 16 => ⟨S128x1, .f32⟩
  | 17 => ⟨S_, .f32⟩
  | 18 => ⟨S128x1, .f32⟩
  | 19 => ⟨S128x1, .f32⟩
  | 20 => ⟨S128x1, .f32⟩
  | 21 => ⟨S128x512, .f32⟩
  | 22 => ⟨S128x512, .f32⟩
  | 23 => ⟨S1x512, .f32⟩
  | 24 => ⟨S128x512, .f32⟩
  | 25 => ⟨S128x512, .f32⟩
  | 26 => ⟨S128x64, .f32⟩
  | 27 => ⟨S128x1x1x64, .f32⟩
  | 28 => ⟨S32, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S1, .f32⟩
  | 37 => ⟨S1x1, .f32⟩
  | 38 => ⟨S1x32, .f32⟩
  | 39 => ⟨S1x32, .f32⟩
  | 40 => ⟨S1x32, .f32⟩
  | 41 => ⟨S1x32, .f32⟩
  | 42 => ⟨S1x1x32, .f32⟩
  | 43 => ⟨S1x32, .f32⟩
  | 44 => ⟨S1x1x32, .f32⟩
  | 45 => ⟨S128x1x1x32, .f32⟩
  | 46 => ⟨S128x1x1x32, .f32⟩
  | 47 => ⟨S1x1x1x32, .f32⟩
  | 48 => ⟨S128x1x1x32, .f32⟩
  | 49 => ⟨S128x1x1x32, .f32⟩
  | 50 => ⟨S1x1x1x32, .f32⟩
  | 51 => ⟨S128x1x1x32, .f32⟩
  | 52 => ⟨S128x1x1x32, .f32⟩
  | 53 => ⟨S128x1x1x32, .f32⟩
  | 54 => ⟨S1x1x1x32, .f32⟩
  | 55 => ⟨S128x1x1x32, .f32⟩
  | 56 => ⟨S128x1x1x32, .f32⟩
  | 57 => ⟨S1x1x1x32, .f32⟩
  | 58 => ⟨S128x1x1x32, .f32⟩
  | 59 => ⟨S128x1x1x32, .f32⟩
  | 60 => ⟨S128x1x1x32, .f32⟩
  | 61 => ⟨S128x1x1x64, .f32⟩
  | 62 => ⟨S128x64, .f32⟩
  | 63 => ⟨S_, .f32⟩
  | 64 => ⟨S128x64, .f32⟩
  | 65 => ⟨S128x128, .f32⟩
  | 66 => ⟨S128x2048, .f32⟩
  | 67 => ⟨S2048x2048, .f32⟩
  | 68 => ⟨S128x2048, .f32⟩
  | 69 => ⟨S128x2048, .f32⟩
  | 70 => ⟨S128x2048, .f32⟩
  | 71 => ⟨S_, .f32⟩
  | 72 => ⟨S128, .f32⟩
  | 73 => ⟨S128x1, .f32⟩
  | 74 => ⟨S_, .f32⟩
  | 75 => ⟨S128x1, .f32⟩
  | 76 => ⟨S128x1, .f32⟩
  | 77 => ⟨S_, .f32⟩
  | 78 => ⟨S128x1, .f32⟩
  | 79 => ⟨S128x1, .f32⟩
  | 80 => ⟨S128x1, .f32⟩
  | 81 => ⟨S128x2048, .f32⟩
  | 82 => ⟨S128x2048, .f32⟩
  | 83 => ⟨S1x2048, .f32⟩
  | 84 => ⟨S128x2048, .f32⟩
  | 85 => ⟨S128x2048, .f32⟩
  | _ => ⟨S128x2048, .f32⟩

abbrev hbmTy (i : Nat) : BufTy := match i / 128 with
  | 0 => hbmTy0_0 i
  | 1 => hbmTy0_1 i
  | _ => ⟨S128x2048, .f32⟩

abbrev bufTy : (tb : Table) → Fin (tcTables nBuf tb) → BufTy
  | .hbm, ⟨i, _⟩ => hbmTy i
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_4 : Ref sig .tc := ⟨.hbm, 76, rfl⟩
abbrev main_v59 : Ref sig .tc := ⟨.hbm, 77, rfl⟩
abbrev main_v60 : Ref sig .tc := ⟨.hbm, 78, rfl⟩
abbrev main_cst_5 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_6 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_7 : Ref sig .tc := ⟨.hbm, 119, rfl⟩
abbrev main_v99 : Ref sig .tc := ⟨.hbm, 120, rfl⟩
abbrev main_v100 : Ref sig .tc := ⟨.hbm, 121, rfl⟩
abbrev main_cst_8 : Ref sig .tc := ⟨.hbm, 122, rfl⟩
abbrev main_v101 : Ref sig .tc := ⟨.hbm, 123, rfl⟩
abbrev main_v102 : Ref sig .tc := ⟨.hbm, 124, rfl⟩
abbrev main_cst_9 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_cst_10 : Ref sig .tc := ⟨.hbm, 139, rfl⟩
abbrev main_v116 : Ref sig .tc := ⟨.hbm, 140, rfl⟩
abbrev main_v117 : Ref sig .tc := ⟨.hbm, 141, rfl⟩
abbrev main_cst_11 : Ref sig .tc := ⟨.hbm, 142, rfl⟩
abbrev main_v118 : Ref sig .tc := ⟨.hbm, 143, rfl⟩
abbrev main_v119 : Ref sig .tc := ⟨.hbm, 144, rfl⟩
abbrev main_cst_12 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_13 : Ref sig .tc := ⟨.hbm, 158, rfl⟩
abbrev main_v132 : Ref sig .tc := ⟨.hbm, 159, rfl⟩
abbrev main_v133 : Ref sig .tc := ⟨.hbm, 160, rfl⟩
abbrev main_cst_14 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_cst_15 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_cst_16 : Ref sig .tc := ⟨.hbm, 199, rfl⟩
abbrev main_v170 : Ref sig .tc := ⟨.hbm, 200, rfl⟩
abbrev main_v171 : Ref sig .tc := ⟨.hbm, 201, rfl⟩
abbrev main_cst_17 : Ref sig .tc := ⟨.hbm, 202, rfl⟩
abbrev main_v172 : Ref sig .tc := ⟨.hbm, 203, rfl⟩
abbrev main_v173 : Ref sig .tc := ⟨.hbm, 204, rfl⟩
abbrev main_cst_18 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩

abbrev nD : Nat := 1
abbrev τ : Topo := Topo.v7x

variable {F : FTy → Type} [FloatOps F]
-- ==== KernelU.lean ====
abbrev S128x4096 : Shape := ⟨2, ![128, 4096]⟩
abbrev S128x8192 : Shape := ⟨2, ![128, 8192]⟩
abbrev S1x512x4096 : Shape := ⟨3, ![1, 512, 4096]⟩
abbrev S128x2048 : Shape := ⟨2, ![128, 2048]⟩
abbrev S512x4096 : Shape := ⟨2, ![512, 4096]⟩
abbrev S128x128 : Shape := ⟨2, ![128, 128]⟩
abbrev S512x128 : Shape := ⟨2, ![512, 128]⟩
abbrev S128x512 : Shape := ⟨2, ![128, 512]⟩

abbrev nBuf : Space → Nat
  | .hbm => 8
  | .vmem => 14
  | .smem => 0
  | _ => 0

abbrev bufTy : (tb : Table) → Fin (tcTables nBuf tb) → BufTy
  | .hbm, ⟨0, _⟩ => ⟨S128x4096, .bf16⟩
  | .hbm, ⟨1, _⟩ => ⟨S128x8192, .bf16⟩
  | .hbm, ⟨2, _⟩ => ⟨S1x512x4096, .f32⟩
  | .hbm, ⟨3, _⟩ => ⟨S128x2048, .bf16⟩
  | .hbm, ⟨4, _⟩ => ⟨S512x4096, .f32⟩
  | .hbm, ⟨5, _⟩ => ⟨S512x4096, .bf16⟩
  | .hbm, ⟨6, _⟩ => ⟨S128x8192, .bf16⟩
  | .hbm, ⟨7, _⟩ => ⟨S128x2048, .bf16⟩
  | .local _ .vmem, ⟨0, _⟩ => ⟨S128x128, .bf16⟩
  | .local _ .vmem, ⟨1, _⟩ => ⟨S128x128, .bf16⟩
  | .local _ .vmem, ⟨2, _⟩ => ⟨S512x128, .bf16⟩
  | .local _ .vmem, ⟨3, _⟩ => ⟨S512x128, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S512x128, .bf16⟩
  | .local _ .vmem, ⟨9, _⟩ => ⟨S512x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S128x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceUIdeal.lean ====
abbrev S128x4096 : Shape := ⟨2, ![128, 4096]⟩
abbrev S128x8192 : Shape := ⟨2, ![128, 8192]⟩
abbrev S1x512x4096 : Shape := ⟨3, ![1, 512, 4096]⟩
abbrev S128x2048 : Shape := ⟨2, ![128, 2048]⟩
abbrev S512x4096 : Shape := ⟨2, ![512, 4096]⟩
abbrev S512x16x256 : Shape := ⟨3, ![512, 16, 256]⟩
abbrev S512x16x128 : Shape := ⟨3, ![512, 16, 128]⟩
abbrev S128x16x256 : Shape := ⟨3, ![128, 16, 256]⟩
abbrev S128x16x128 : Shape := ⟨3, ![128, 16, 128]⟩
abbrev S16x512x128 : Shape := ⟨3, ![16, 512, 128]⟩
abbrev S128x16x512 : Shape := ⟨3, ![128, 16, 512]⟩
abbrev S16x128x128 : Shape := ⟨3, ![16, 128, 128]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S128x8192, .bf16⟩
  | .hbm, ⟨2, _⟩ => ⟨S1x512x4096, .f32⟩
  | .hbm, ⟨3, _⟩ => ⟨S128x2048, .bf16⟩
  | .hbm, ⟨4, _⟩ => ⟨S512x4096, .f32⟩
  | .hbm, ⟨5, _⟩ => ⟨S512x16x256, .f32⟩
  | .hbm, ⟨6, _⟩ => ⟨S512x16x128, .f32⟩
  | .hbm, ⟨7, _⟩ => ⟨S512x16x128, .f32⟩
  | .hbm, ⟨8, _⟩ => ⟨S128x4096, .f32⟩
  | .hbm, ⟨9, _⟩ => ⟨S128x16x256, .f32⟩
  | .hbm, ⟨10, _⟩ => ⟨S128x16x128, .f32⟩
  | .hbm, ⟨11, _⟩ => ⟨S16x512x128, .f32⟩
  | .hbm, ⟨12, _⟩ => ⟨S128x16x512, .f32⟩
  | .hbm, ⟨13, _⟩ => ⟨S128x8192, .f32⟩
  | .hbm, ⟨14, _⟩ => ⟨S128x8192, .f32⟩
  | .hbm, ⟨15, _⟩ => ⟨S128x16x512, .f32⟩
  | .hbm, ⟨16, _⟩ => ⟨S16x128x128, .f32⟩
  | .hbm, ⟨17, _⟩ => ⟨S128x16x128, .f32⟩
  | .hbm, ⟨18, _⟩ => ⟨S128x2048, .f32⟩
  | .hbm, ⟨19, _⟩ => ⟨S128x2048, .f32⟩
  | .hbm, ⟨20, _⟩ => ⟨S128x2048, .f32⟩
  | .hbm, ⟨21, _⟩ => ⟨S128x2048, .f32⟩
  | .hbm, ⟨22, _⟩ => ⟨S_, .f32⟩
  | .hbm, ⟨23, _⟩ => ⟨S128x2048, .f32⟩
  | .hbm, ⟨24, _⟩ => ⟨S128x2048, .f32⟩
  | .hbm, ⟨25, _⟩ => ⟨S_, .f32⟩
  | .hbm, ⟨26, _⟩ => ⟨S128x2048, .f32⟩
  | .hbm, ⟨27, _⟩ => ⟨S128x2048, .f32⟩
  | .hbm, ⟨28, _⟩ => ⟨S128x2048, .f32⟩
  | .hbm, ⟨29, _⟩ => ⟨S128x2048, .f32⟩
  | .hbm, ⟨30, _⟩ => ⟨S128x8192, .bf16⟩
  | .hbm, ⟨31, _⟩ => ⟨S128x2048, .bf16⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== KernelT.lean ====
abbrev S128x2048 : Shape := ⟨2, ![128, 2048]⟩
abbrev S1x2048 : Shape := ⟨2, ![1, 2048]⟩
abbrev S1x2048x5712 : Shape := ⟨3, ![1, 2048, 5712]⟩
abbrev S_ : Shape := ⟨0, ![]⟩
abbrev S128 : Shape := ⟨1, ![128]⟩
abbrev S64 : Shape := ⟨1, ![64]⟩
abbrev S128x1 : Shape := ⟨2, ![128, 1]⟩
abbrev S1x64 : Shape := ⟨2, ![1, 64]⟩
abbrev S128x64 : Shape := ⟨2, ![128, 64]⟩
abbrev S128x128 : Shape := ⟨2, ![128, 128]⟩
abbrev S32 : Shape := ⟨1, ![32]⟩
abbrev S1x32 : Shape := ⟨2, ![1, 32]⟩
abbrev S128x32 : Shape := ⟨2, ![128, 32]⟩
abbrev S2048x5712 : Shape := ⟨2, ![2048, 5712]⟩
abbrev S2048x2048 : Shape := ⟨2, ![2048, 2048]⟩
abbrev S2048x256 : Shape := ⟨2, ![2048, 256]⟩
abbrev S2048x1024 : Shape := ⟨2, ![2048, 1024]⟩
abbrev S2048x64 : Shape := ⟨2, ![2048, 64]⟩
abbrev S2048x16 : Shape := ⟨2, ![2048, 16]⟩
abbrev S2048x80 : Shape := ⟨2, ![2048, 80]⟩
abbrev S2048x128 : Shape := ⟨2, ![2048, 128]⟩
abbrev S2048 : Shape := ⟨1, ![2048]⟩
abbrev S2048x512 : Shape := ⟨2, ![2048, 512]⟩
abbrev S128x512 : Shape := ⟨2, ![128, 512]⟩
abbrev S128x1024 : Shape := ⟨2, ![128, 1024]⟩

abbrev nBuf : Space → Nat
  | .hbm => 69
  | .vmem => 22
  | .smem => 0
  | _ => 0

abbrev bufTy : (tb : Table) → Fin (tcTables nBuf tb) → BufTy
  | .hbm, ⟨0, _⟩ => ⟨S128x2048, .f32⟩
  | .hbm, ⟨1, _⟩ => ⟨S1x2048, .f32⟩
  | .hbm, ⟨2, _⟩ => ⟨S1x2048x5712, .f32⟩
  | .hbm, ⟨3, _⟩ => ⟨S_, .i32⟩
  | .hbm, ⟨4, _⟩ => ⟨S128, .i32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S128, .f32⟩
  | .hbm, ⟨14, _⟩ => ⟨S128x1, .f32⟩
  | .hbm, ⟨15, _⟩ => ⟨S1x64, .f32⟩
  | .hbm, ⟨16, _⟩ => ⟨S128x64, .f32⟩
  | .hbm, ⟨17, _⟩ => ⟨S128x64, .f32⟩
  | .hbm, ⟨18, _⟩ => ⟨S128x64, .f32⟩
  | .hbm, ⟨19, _⟩ => ⟨S128x64, .f32⟩
  | .hbm, ⟨20, _⟩ => ⟨S128x64, .f32⟩
  | .hbm, ⟨21, _⟩ => ⟨S128x128, .f32⟩
  | .hbm, ⟨22, _⟩ => ⟨S128x64, .f32⟩
  | .hbm, ⟨23, _⟩ => ⟨S128x128, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S128, .f32⟩
  | .hbm, ⟨33, _⟩ => ⟨S128x1, .f32⟩
  | .hbm, ⟨34, _⟩ => ⟨S1x32, .f32⟩
  | .hbm, ⟨35, _⟩ => ⟨S128x32, .f32⟩
  | .hbm, ⟨36, _⟩ => ⟨S128x32, .f32⟩
  | .hbm, ⟨37, _⟩ => ⟨S128x32, .f32⟩
  | .hbm, ⟨38, _⟩ => ⟨S128x32, .f32⟩
  | .hbm, ⟨39, _⟩ => ⟨S128x32, .f32⟩
  | .hbm, ⟨40, _⟩ => ⟨S128x64, .f32⟩
  | .hbm, ⟨41, _⟩ => ⟨S128x32, .f32⟩
  | .hbm, ⟨42, _⟩ => ⟨S128x64, .f32⟩
  | .hbm, ⟨43, _⟩ => ⟨S128x128, .f32⟩
  | .hbm, ⟨44, _⟩ => ⟨S128x128, .f32⟩
  | .hbm, ⟨45, _⟩ => ⟨S2048x5712, .f32⟩
  | .hbm, ⟨46, _⟩ => ⟨S2048x2048, .f32⟩
  | .hbm, ⟨47, _⟩ => ⟨S2048x256, .f32⟩
  | .hbm, ⟨48, _⟩ => ⟨S2048x256, .f32⟩
  | .hbm, ⟨49, _⟩ => ⟨S2048x1024, .f32⟩
  | .hbm, ⟨50, _⟩ => ⟨S2048x64, .f32⟩
  | .hbm, ⟨51, _⟩ => ⟨S2048x16, .f32⟩
  | .hbm, ⟨52, _⟩ => ⟨S2048x2048, .f32⟩
  | .hbm, ⟨53, _⟩ => ⟨S2048x80, .f32⟩
  | .hbm, ⟨54, _⟩ => ⟨S_, .i32⟩
  | .hbm, ⟨55, _⟩ => ⟨S_, .f32⟩
  | .hbm, ⟨56, _⟩ => ⟨S2048x128, .f32⟩
  | .hbm, ⟨57, _⟩ => ⟨S2048x2048, .bf16⟩
  | .hbm, ⟨58, _⟩ => ⟨S2048x256, .bf16⟩
  | .hbm, ⟨59, _⟩ => ⟨S2048x256, .bf16⟩
  | .hbm, ⟨60, _⟩ => ⟨S2048x1024, .bf16⟩
  | .hbm, ⟨61, _⟩ => ⟨S2048x128, .bf16⟩
  | .hbm, ⟨62, _⟩ => ⟨S2048x2048, .bf16⟩
  | .hbm, ⟨63, _⟩ => ⟨S2048, .f32⟩
  | .hbm, ⟨64, _⟩ => ⟨S1x2048, .f32⟩
  | .hbm, ⟨65, _⟩ => ⟨S128x2048, .bf16⟩
  | .hbm, ⟨66, _⟩ => ⟨S128x2048, .bf16⟩
  | .hbm, ⟨67, _⟩ => ⟨S128x1024, .bf16⟩
  | .hbm, ⟨68, _⟩ => ⟨S128x2048, .bf16⟩
  | .local _ .vmem, ⟨0, _⟩ => ⟨S128x2048, .f32⟩
  | .local _ .vmem, ⟨1, _⟩ => ⟨S1x2048, .f32⟩
  | .local _ .vmem, ⟨2, _⟩ => ⟨S128x2048, .bf16⟩
  | .local _ .vmem, ⟨3, _⟩ => ⟨S128x2048, .bf16⟩
  | .local _ .vmem, ⟨4, _⟩ => ⟨S2048x512, .bf16⟩
  | .local _ .vmem, ⟨5, _⟩ => ⟨S2048x512, .bf16⟩
  | .local _ .vmem, ⟨6, _⟩ => ⟨S128x128, .f32⟩
  | .local _ .vmem, ⟨7, _⟩ => ⟨S128x128, .f32⟩
  | .local _ .vmem, ⟨8, _⟩ => ⟨S128x512, .bf16⟩
  | .local _ .vmem, ⟨9, _⟩ => ⟨S128x512, .bf16⟩
  | .local _ .vmem, ⟨10, _⟩ => ⟨S128x2048, .bf16⟩
  | .local _ .vmem, ⟨11, _⟩ => ⟨S2048x512, .bf16⟩
  | .local _ .vmem, ⟨12, _⟩ => ⟨S2048x512, .bf16⟩
  | .local _ .vmem, ⟨13, _⟩ => ⟨S128x128, .f32⟩
  | .local _ .vmem, ⟨14, _⟩ => ⟨S128x128, .f32⟩
  | .local _ .vmem, ⟨15, _⟩ => ⟨S128x512, .bf16⟩
  | .local _ .vmem, ⟨16, _⟩ => ⟨S128x512, .bf16⟩
  | .local _ .vmem, ⟨17, _⟩ => ⟨S128x2048, .bf16⟩
  | .local _ .vmem, ⟨18, _⟩ => ⟨S2048x512, .bf16⟩
  | .local _ .vmem, ⟨19, _⟩ => ⟨S2048x512, .bf16⟩
  | .local _ .vmem, ⟨20, _⟩ => ⟨S128x512, .bf16⟩
  | .local _ .vmem, ⟨21, _⟩ => ⟨S128x512, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c_3 : Ref sig .tc := ⟨.hbm, 54, rfl⟩
abbrev main_call0_v0 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg4_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem4_0 : DmaSem sig := 15
abbrev cc2_sem4_1 : DmaSem sig := 16
abbrev cc3_sem0_0 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S128x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S128x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![2, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 1 → Memref sig .tc .vmem S128x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S128x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![4, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 1 → Memref sig .tc .vmem S128x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S128x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== ReferenceTIdeal.lean ====
abbrev S128x2048 : Shape := ⟨2, ![128, 2048]⟩
abbrev S1x2048 : Shape := ⟨2, ![1, 2048]⟩
abbrev S1x2048x5712 : Shape := ⟨3, ![1, 2048, 5712]⟩
abbrev S1 : Shape := ⟨1, ![1]⟩
abbrev S_ : Shape := ⟨0, ![]⟩
abbrev S2048 : Shape := ⟨1, ![2048]⟩
abbrev S128 : Shape := ⟨1, ![128]⟩
abbrev S128x1 : Shape := ⟨2, ![128, 1]⟩
abbrev S2048x5712 : Shape := ⟨2, ![2048, 5712]⟩
abbrev S128x5712 : Shape := ⟨2, ![128, 5712]⟩
abbrev S128x1x16x128 : Shape := ⟨4, ![128, 1, 16, 128]⟩
abbrev S64 : Shape := ⟨1, ![64]⟩
abbrev S1x1 : Shape := ⟨2, ![1, 1]⟩
abbrev S1x64 : Shape := ⟨2, ![1, 64]⟩
abbrev S1x1x64 : Shape := ⟨3, ![1, 1, 64]⟩
abbrev S128x1x16x64 : Shape := ⟨4, ![128, 1, 16, 64]⟩
abbrev S1x1x1x64 : Shape := ⟨4, ![1, 1, 1, 64]⟩
abbrev S128x1024 : Shape := ⟨2, ![128, 1024]⟩
abbrev S32 : Shape := ⟨1, ![32]⟩
abbrev S1x32 : Shape := ⟨2, ![1, 32]⟩
abbrev S1x1x32 : Shape := ⟨3, ![1, 1, 32]⟩
abbrev S128x1x16x32 : Shape := ⟨4, ![128, 1, 16, 32]⟩
abbrev S1x1x1x32 : Shape := ⟨4, ![1, 1, 1, 32]⟩

abbrev nBuf : Space → Nat
  | .hbm => 104
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S1x2048, .f32⟩
  | .hbm, ⟨2, _⟩ => ⟨S1x2048x5712, .f32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S1, .i32⟩
  | .hbm, ⟨7, _⟩ => ⟨S2048, .f32⟩
  | .hbm, ⟨8, _⟩ => ⟨S128x2048, .f32⟩
  | .hbm, ⟨9, _⟩ => ⟨S_, .f32⟩
  | .hbm, ⟨10, _⟩ => ⟨S128, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x1, .f32⟩
  | .hbm, ⟨19, _⟩ => ⟨S128x2048, .f32⟩
  | .hbm, ⟨20, _⟩ => ⟨S128x2048, .f32⟩
  | .hbm, ⟨21, _⟩ => ⟨S1x2048, .f32⟩
  | .hbm, ⟨22, _⟩ => ⟨S128x2048, .f32⟩
  | .hbm, ⟨23, _⟩ => ⟨S128x2048, .f32⟩
  | .hbm, ⟨24, _⟩ => ⟨S2048x5712, .f32⟩
  | .hbm, ⟨25, _⟩ => ⟨S128x5712, .f32⟩
  | .hbm, ⟨26, _⟩ => ⟨S128x2048, .f32⟩
  | .hbm, ⟨27, _⟩ => ⟨S128x1x16x128, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S1, .f32⟩
  | .hbm, ⟨37, _⟩ => ⟨S1x1, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x1x64, .f32⟩
  | .hbm, ⟨43, _⟩ => ⟨S1x64, .f32⟩
  | .hbm, ⟨44, _⟩ => ⟨S1x1x64, .f32⟩
  | .hbm, ⟨45, _⟩ => ⟨S128x1x16x64, .f32⟩
  | .hbm, ⟨46, _⟩ => ⟨S128x1x16x64, .f32⟩
  | .hbm, ⟨47, _⟩ => ⟨S1x1x1x64, .f32⟩
  | .hbm, ⟨48, _⟩ => ⟨S128x1x16x64, .f32⟩
  | .hbm, ⟨49, _⟩ => ⟨S128x1x16x64, .f32⟩
  | .hbm, ⟨50, _⟩ => ⟨S1x1x1x64, .f32⟩
  | .hbm, ⟨51, _⟩ => ⟨S128x1x16x64, .f32⟩
  | .hbm, ⟨52, _⟩ => ⟨S128x1x16x64, .f32⟩
  | .hbm, ⟨53, _⟩ => ⟨S128x1x16x64, .f32⟩
  | .hbm, ⟨54, _⟩ => ⟨S1x1x1x64, .f32⟩
  | .hbm, ⟨55, _⟩ => ⟨S128x1x16x64, .f32⟩
  | .hbm, ⟨56, _⟩ => ⟨S128x1x16x64, .f32⟩
  | .hbm, ⟨57, _⟩ => ⟨S1x1x1x64, .f32⟩
  | .hbm, ⟨58, _⟩ => ⟨S128x1x16x64, .f32⟩
  | .hbm, ⟨59, _⟩ => ⟨S128x1x16x64, .f32⟩
  | .hbm, ⟨60, _⟩ => ⟨S128x1x16x64, .f32⟩
  | .hbm, ⟨61, _⟩ => ⟨S128x1x16x128, .f32⟩
  | .hbm, ⟨62, _⟩ => ⟨S128x2048, .f32⟩
  | .hbm, ⟨63, _⟩ => ⟨S128x1024, .f32⟩
  | .hbm, ⟨64, _⟩ => ⟨S128x1x16x64, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S1, .f32⟩
  | .hbm, ⟨74, _⟩ => ⟨S1x1, .f32⟩
  | .hbm, ⟨75, _⟩ => ⟨S1x32, .f32⟩
  | .hbm, ⟨76, _⟩ => ⟨S1x32, .f32⟩
  | .hbm, ⟨77, _⟩ => ⟨S1x32, .f32⟩
  | .hbm, ⟨78, _⟩ => ⟨S1x32, .f32⟩
  | .hbm, ⟨79, _⟩ => ⟨S1x1x32, .f32⟩
  | .hbm, ⟨80, _⟩ => ⟨S1x32, .f32⟩
  | .hbm, ⟨81, _⟩ => ⟨S1x1x32, .f32⟩
  | .hbm, ⟨82, _⟩ => ⟨S128x1x16x32, .f32⟩
  | .hbm, ⟨83, _⟩ => ⟨S128x1x16x32, .f32⟩
  | .hbm, ⟨84, _⟩ => ⟨S1x1x1x32, .f32⟩
  | .hbm, ⟨85, _⟩ => ⟨S128x1x16x32, .f32⟩
  | .hbm, ⟨86, _⟩ => ⟨S128x1x16x32, .f32⟩
  | .hbm, ⟨87, _⟩ => ⟨S1x1x1x32, .f32⟩
  | .hbm, ⟨88, _⟩ => ⟨S128x1x16x32, .f32⟩
  | .hbm, ⟨89, _⟩ => ⟨S128x1x16x32, .f32⟩
  | .hbm, ⟨90, _⟩ => ⟨S128x1x16x32, .f32⟩
  | .hbm, ⟨91, _⟩ => ⟨S1x1x1x32, .f32⟩
  | .hbm, ⟨92, _⟩ => ⟨S128x1x16x32, .f32⟩
  | .hbm, ⟨93, _⟩ => ⟨S128x1x16x32, .f32⟩
  | .hbm, ⟨94, _⟩ => ⟨S1x1x1x32, .f32⟩
  | .hbm, ⟨95, _⟩ => ⟨S128x1x16x32, .f32⟩
  | .hbm, ⟨96, _⟩ => ⟨S128x1x16x32, .f32⟩
  | .hbm, ⟨97, _⟩ => ⟨S128x1x16x32, .f32⟩
  | .hbm, ⟨98, _⟩ => ⟨S128x1x16x64, .f32⟩
  | .hbm, ⟨99, _⟩ => ⟨S128x1024, .f32⟩
  | .hbm, ⟨100, _⟩ => ⟨S128x2048, .bf16⟩
  | .hbm, ⟨101, _⟩ => ⟨S128x1024, .bf16⟩
  | .hbm, ⟨102, _⟩ => ⟨S128x2048, .f32⟩
  | .hbm, ⟨103, _⟩ => ⟨S128x2048, .bf16⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_4 : Ref sig .tc := ⟨.hbm, 67, rfl⟩
abbrev main_v58 : Ref sig .tc := ⟨.hbm, 68, rfl⟩
abbrev main_v59 : Ref sig .tc := ⟨.hbm, 69, rfl⟩
abbrev main_cst_5 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩

abbrev nD : Nat := 1
abbrev τ : Topo := Topo.v7x

variable {F : FTy → Type} [FloatOps F]
-- ==== KernelV.lean ====
abbrev S128x2048 : Shape := ⟨2, ![128, 2048]⟩
abbrev S1x2048x2048 : Shape := ⟨3, ![1, 2048, 2048]⟩
abbrev S1x2048 : Shape := ⟨2, ![1, 2048]⟩
abbrev S1x2048x3136 : Shape := ⟨3, ![1, 2048, 3136]⟩
abbrev S1x512 : Shape := ⟨2, ![1, 512]⟩
abbrev S1x512x3072 : Shape := ⟨3, ![1, 512, 3072]⟩
abbrev S_ : Shape := ⟨0, ![]⟩
abbrev S128 : Shape := ⟨1, ![128]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x64 : Shape := ⟨2, ![128, 64]⟩
abbrev S128x128 : Shape := ⟨2, ![128, 128]⟩
abbrev S2048x3136 : Shape := ⟨2, ![2048, 3136]⟩
abbrev S512x3072 : Shape := ⟨2, ![512, 3072]⟩
abbrev S2048x512 : Shape := ⟨2, ![2048, 512]⟩
abbrev S2048x64 : Shape := ⟨2, ![2048, 64]⟩
abbrev S2048x128 : Shape := ⟨2, ![2048, 128]⟩
abbrev S2048x2048 : Shape := ⟨2, ![2048, 2048]⟩
abbrev S512x16x192 : Shape := ⟨3, ![512, 16, 192]⟩
abbrev S512x16x256 : Shape := ⟨3, ![512, 16, 256]⟩
abbrev S512x4096 : Shape := ⟨2, ![512, 4096]⟩
abbrev S2048 : Shape := ⟨1, ![2048]⟩
abbrev S512 : Shape := ⟨1, ![512]⟩
abbrev S128x512 : Shape := ⟨2, ![128, 512]⟩
abbrev S128x4096 : Shape := ⟨2, ![128, 4096]⟩
abbrev S512x1024 : Shape := ⟨2, ![512, 1024]⟩
abbrev S128x1024 : Shape := ⟨2, ![128, 1024]⟩

abbrev nBuf : Space → Nat
  | .hbm => 64
  | .vmem => 22
  | .smem => 0
  | _ => 0

abbrev bufTy : (tb : Table) → Fin (tcTables nBuf tb) → BufTy
  | .hbm, ⟨0, _⟩ => ⟨S128x2048, .f32⟩
  | .hbm, ⟨1, _⟩ => ⟨S128x2048, .bf16⟩
  | .hbm, ⟨2, _⟩ => ⟨S1x2048x2048, .f32⟩
  | .hbm, ⟨3, _⟩ => ⟨S1x2048, .f32⟩
  | .hbm, ⟨4, _⟩ => ⟨S1x2048x3136, .f32⟩
  | .hbm, ⟨5, _⟩ => ⟨S1x512, .f32⟩
  | .hbm, ⟨6, _⟩ => ⟨S1x512x3072, .f32⟩
  | .hbm, ⟨7, _⟩ => ⟨S_, .i32⟩
  | .hbm, ⟨8, _⟩ => ⟨S128, .i32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S128, .f32⟩
  | .hbm, ⟨18, _⟩ => ⟨S128x1, .f32⟩
  | .hbm, ⟨19, _⟩ => ⟨S1x32, .f32⟩
  | .hbm, ⟨20, _⟩ => ⟨S128x32, .f32⟩
  | .hbm, ⟨21, _⟩ => ⟨S128x32, .f32⟩
  | .hbm, ⟨22, _⟩ => ⟨S128x32, .f32⟩
  | .hbm, ⟨23, _⟩ => ⟨S128x32, .f32⟩
  | .hbm, ⟨24, _⟩ => ⟨S128x32, .f32⟩
  | .hbm, ⟨25, _⟩ => ⟨S128x64, .f32⟩
  | .hbm, ⟨26, _⟩ => ⟨S128x32, .f32⟩
  | .hbm, ⟨27, _⟩ => ⟨S128x64, .f32⟩
  | .hbm, ⟨28, _⟩ => ⟨S_, .f32⟩
  | .hbm, ⟨29, _⟩ => ⟨S128x64, .f32⟩
  | .hbm, ⟨30, _⟩ => ⟨S128x128, .f32⟩
  | .hbm, ⟨31, _⟩ => ⟨S_, .f32⟩
  | .hbm, ⟨32, _⟩ => ⟨S128x64, .f32⟩
  | .hbm, ⟨33, _⟩ => ⟨S128x128, .f32⟩
  | .hbm, ⟨34, _⟩ => ⟨S2048x3136, .f32⟩
  | .hbm, ⟨35, _⟩ => ⟨S512x3072, .f32⟩
  | .hbm, ⟨36, _⟩ => ⟨S2048x512, .f32⟩
  | .hbm, ⟨37, _⟩ => ⟨S2048x512, .f32⟩
  | .hbm, ⟨38, _⟩ => ⟨S2048x64, .f32⟩
  | .hbm, ⟨39, _⟩ => ⟨S_, .i32⟩
  | .hbm, ⟨40, _⟩ => ⟨S_, .f32⟩
  | .hbm, ⟨41, _⟩ => ⟨S2048x128, .f32⟩
  | .hbm, ⟨42, _⟩ => ⟨S2048x2048, .f32⟩
  | .hbm, ⟨43, _⟩ => ⟨S512x16x192, .f32⟩
  | .hbm, ⟨44, _⟩ => ⟨S_, .i32⟩
  | .hbm, ⟨45, _⟩ => ⟨S_, .f32⟩
  | .hbm, ⟨46, _⟩ => ⟨S512x16x256, .f32⟩
  | .hbm, ⟨47, _⟩ => ⟨S512x4096, .f32⟩
  | .hbm, ⟨48, _⟩ => ⟨S2048x512, .bf16⟩
  | .hbm, ⟨49, _⟩ => ⟨S2048x512, .bf16⟩
  | .hbm, ⟨50, _⟩ => ⟨S2048x128, .bf16⟩
  | .hbm, ⟨51, _⟩ => ⟨S2048x2048, .bf16⟩
  | .hbm, ⟨52, _⟩ => ⟨S512x4096, .bf16⟩
  | .hbm, ⟨53, _⟩ => ⟨S2048x2048, .f32⟩
  | .hbm, ⟨54, _⟩ => ⟨S2048x2048, .bf16⟩
  | .hbm, ⟨55, _⟩ => ⟨S2048, .f32⟩
  | .hbm, ⟨56, _⟩ => ⟨S1x2048, .f32⟩
  | .hbm, ⟨57, _⟩ => ⟨S128x2048, .f32⟩
  | .hbm, ⟨58, _⟩ => ⟨S128x2048, .bf16⟩
  | .hbm, ⟨59, _⟩ => ⟨S512, .f32⟩
  | .hbm, ⟨60, _⟩ => ⟨S1x512, .f32⟩
  | .hbm, ⟨61, _⟩ => ⟨S128x512, .bf16⟩
  | .hbm, ⟨62, _⟩ => ⟨S128x2048, .bf16⟩
  | .hbm, ⟨63, _⟩ => ⟨S128x4096, .bf16⟩
  | .local _ .vmem, ⟨0, _⟩ => ⟨S128x2048, .bf16⟩
  | .local _ .vmem, ⟨1, _⟩ => ⟨S2048x2048, .bf16⟩
  | .local _ .vmem, ⟨2, _⟩ => ⟨S128x2048, .f32⟩
  | .local _ .vmem, ⟨3, _⟩ => ⟨S1x2048, .f32⟩
  | .local _ .vmem, ⟨4, _⟩ => ⟨S128x2048, .f32⟩
  | .local _ .vmem, ⟨5, _⟩ => ⟨S128x2048, .bf16⟩
  | .local _ .vmem, ⟨6, _⟩ => ⟨S128x2048, .bf16⟩
  | .local _ .vmem, ⟨7, _⟩ => ⟨S2048x512, .bf16⟩
  | .local _ .vmem, ⟨8, _⟩ => ⟨S1x512, .f32⟩
  | .local _ .vmem, ⟨9, _⟩ => ⟨S128x512, .bf16⟩
  | .local _ .vmem, ⟨10, _⟩ => ⟨S128x2048, .bf16⟩
  | .local _ .vmem, ⟨11, _⟩ => ⟨S2048x512, .bf16⟩
  | .local _ .vmem, ⟨12, _⟩ => ⟨S2048x512, .bf16⟩
  | .local _ .vmem, ⟨13, _⟩ => ⟨S128x512, .bf16⟩
  | .local _ .vmem, ⟨14, _⟩ => ⟨S128x512, .bf16⟩
  | .local _ .vmem, ⟨15, _⟩ => ⟨S128x512, .bf16⟩
  | .local _ .vmem, ⟨16, _⟩ => ⟨S512x1024, .bf16⟩
  | .local _ .vmem, ⟨17, _⟩ => ⟨S512x1024, .bf16⟩
  | .local _ .vmem, ⟨18, _⟩ => ⟨S128x128, .f32⟩
  | .local _ .vmem, ⟨19, _⟩ => ⟨S128x128, .f32⟩
  | .local _ .vmem, ⟨20, _⟩ => ⟨S128x1024, .bf16⟩
  | .local _ .vmem, ⟨21, _⟩ => ⟨S128x1024, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_call0_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_call1_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41_0 : Ref sig .tc := ⟨.hbm, 57, rfl⟩
abbrev main_v41_1 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg4_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem3_0 : DmaSem sig := 19
abbrev cc3_sem4_0 : DmaSem sig := 20
abbrev cc3_sem4_1 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev grid1 : Pipeline.Grid := ⟨2, ![1, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S128x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 1 → Memref sig .tc .vmem S128x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S128x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 1 → Memref sig .tc .vmem S128x512 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 2 → Memref sig .tc .vmem S512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S128x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== ReferenceVIdeal.lean ====
abbrev S128x2048 : Shape := ⟨2, ![128, 2048]⟩
abbrev S1x2048x2048 : Shape := ⟨3, ![1, 2048, 2048]⟩
abbrev S1x2048 : Shape := ⟨2, ![1, 2048]⟩
abbrev S1x2048x3136 : Shape := ⟨3, ![1, 2048, 3136]⟩
abbrev S1x512 : Shape := ⟨2, ![1, 512]⟩
abbrev S1x512x3072 : Shape := ⟨3, ![1, 512, 3072]⟩
abbrev S1 : Shape := ⟨1, ![1]⟩
abbrev S_ : Shape := ⟨0, ![]⟩
abbrev S2048x2048 : Shape := ⟨2, ![2048, 2048]⟩
abbrev S2048 : Shape := ⟨1, ![2048]⟩
abbrev S128 : Shape := ⟨1, ![128]⟩
abbrev S128x1 : Shape := ⟨2, ![128, 1]⟩
abbrev S2048x3136 : Shape := ⟨2, ![2048, 3136]⟩
abbrev S128x3136 : Shape := ⟨2, ![128, 3136]⟩
abbrev S128x512 : Shape := ⟨2, ![128, 512]⟩
abbrev S512 : Shape := ⟨1, ![512]⟩
abbrev S512x3072 : Shape := ⟨2, ![512, 3072]⟩
abbrev S128x3072 : Shape := ⟨2, ![128, 3072]⟩
abbrev S128x16x192 : Shape := ⟨3, ![128, 16, 192]⟩
abbrev S128x16x64 : Shape := ⟨3, ![128, 16, 64]⟩
abbrev S128x1024 : Shape := ⟨2, ![128, 1024]⟩
abbrev S128x1x16x64 : Shape := ⟨4, ![128, 1, 16, 64]⟩
abbrev S32 : Shape := ⟨1, ![32]⟩
abbrev S1x1 : Shape := ⟨2, ![1, 1]⟩
abbrev S1x32 : Shape := ⟨2, ![1, 32]⟩
abbrev S1x1x32 : Shape := ⟨3, ![1, 1, 32]⟩
abbrev S128x1x16x32 : Shape := ⟨4, ![128, 1, 16, 32]⟩
abbrev S1x1x1x32 : Shape := ⟨4, ![1, 1, 1, 32]⟩
abbrev S128x16x128 : Shape := ⟨3, ![128, 16, 128]⟩
abbrev S128x16x256 : Shape := ⟨3, ![128, 16, 256]⟩
abbrev S128x4096 : Shape := ⟨2, ![128, 4096]⟩

abbrev nBuf : Space → Nat
  | .hbm => 102
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x2048, .bf16⟩
  | .hbm, ⟨2, _⟩ => ⟨S1x2048x2048, .f32⟩
  | .hbm, ⟨3, _⟩ => ⟨S1x2048, .f32⟩
  | .hbm, ⟨4, _⟩ => ⟨S1x2048x3136, .f32⟩
  | .hbm, ⟨5, _⟩ => ⟨S1x512, .f32⟩
  | .hbm, ⟨6, _⟩ => ⟨S1x512x3072, .f32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S128x2048, .f32⟩
  | .hbm, ⟨12, _⟩ => ⟨S2048x2048, .f32⟩
  | .hbm, ⟨13, _⟩ => ⟨S128x2048, .f32⟩
  | .hbm, ⟨14, _⟩ => ⟨S128x2048, .f32⟩
  | .hbm, ⟨15, _⟩ => ⟨S2048, .f32⟩
  | .hbm, ⟨16, _⟩ => ⟨S128x2048, .f32⟩
  | .hbm, ⟨17, _⟩ => ⟨S_, .f32⟩
  | .hbm, ⟨18, _⟩ => ⟨S128, .f32⟩
  | .hbm, ⟨19, _⟩ => ⟨S128x1, .f32⟩
  | .hbm, ⟨20, _⟩ => ⟨S_, .f32⟩
  | .hbm, ⟨21, _⟩ => ⟨S128x1, .f32⟩
  | .hbm, ⟨22, _⟩ => ⟨S128x1, .f32⟩
  | .hbm, ⟨23, _⟩ => ⟨S_, .f32⟩
  | .hbm, ⟨24, _⟩ => ⟨S128x1, .f32⟩
  | .hbm, ⟨25, _⟩ => ⟨S128x1, .f32⟩
  | .hbm, ⟨26, _⟩ => ⟨S128x1, .f32⟩
  | .hbm, ⟨27, _⟩ => ⟨S128x2048, .f32⟩
  | .hbm, ⟨28, _⟩ => ⟨S128x2048, .f32⟩
  | .hbm, ⟨29, _⟩ => ⟨S1x2048, .f32⟩
  | .hbm, ⟨30, _⟩ => ⟨S128x2048, .f32⟩
  | .hbm, ⟨31, _⟩ => ⟨S128x2048, .f32⟩
  | .hbm, ⟨32, _⟩ => ⟨S2048x3136, .f32⟩
  | .hbm, ⟨33, _⟩ => ⟨S128x3136, .f32⟩
  | .hbm, ⟨34, _⟩ => ⟨S128x512, .f32⟩
  | .hbm, ⟨35, _⟩ => ⟨S512, .f32⟩
  | .hbm, ⟨36, _⟩ => ⟨S128x512, .f32⟩
  | .hbm, ⟨37, _⟩ => ⟨S_, .f32⟩
  | .hbm, ⟨38, _⟩ => ⟨S128, .f32⟩
  | .hbm, ⟨39, _⟩ => ⟨S128x1, .f32⟩
  | .hbm, ⟨40, _⟩ => ⟨S_, .f32⟩
  | .hbm, ⟨41, _⟩ => ⟨S128x1, .f32⟩
  | .hbm, ⟨42, _⟩ => ⟨S128x1, .f32⟩
  | .hbm, ⟨43, _⟩ => ⟨S_, .f32⟩
  | .hbm, ⟨44, _⟩ => ⟨S128x1, .f32⟩
  | .hbm, ⟨45, _⟩ => ⟨S128x1, .f32⟩
  | .hbm, ⟨46, _⟩ => ⟨S128x1, .f32⟩
  | .hbm, ⟨47, _⟩ => ⟨S128x512, .f32⟩
  | .hbm, ⟨48, _⟩ => ⟨S128x512, .f32⟩
  | .hbm, ⟨49, _⟩ => ⟨S1x512, .f32⟩
  | .hbm, ⟨50, _⟩ => ⟨S128x512, .f32⟩
  | .hbm, ⟨51, _⟩ => ⟨S128x512, .f32⟩
  | .hbm, ⟨52, _⟩ => ⟨S512x3072, .f32⟩
  | .hbm, ⟨53, _⟩ => ⟨S128x3072, .f32⟩
  | .hbm, ⟨54, _⟩ => ⟨S128x16x192, .f32⟩
  | .hbm, ⟨55, _⟩ => ⟨S128x16x64, .f32⟩
  | .hbm, ⟨56, _⟩ => ⟨S128x1024, .f32⟩
  | .hbm, ⟨57, _⟩ => ⟨S128x1x16x64, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S1, .f32⟩
  | .hbm, ⟨67, _⟩ => ⟨S1x1, .f32⟩
  | .hbm, ⟨68, _⟩ => ⟨S1x32, .f32⟩
  | .hbm, ⟨69, _⟩ => ⟨S1x32, .f32⟩
  | .hbm, ⟨70, _⟩ => ⟨S1x32, .f32⟩
  | .hbm, ⟨71, _⟩ => ⟨S1x32, .f32⟩
  | .hbm, ⟨72, _⟩ => ⟨S1x1x32, .f32⟩
  | .hbm, ⟨73, _⟩ => ⟨S1x32, .f32⟩
  | .hbm, ⟨74, _⟩ => ⟨S1x1x32, .f32⟩
  | .hbm, ⟨75, _⟩ => ⟨S128x1x16x32, .f32⟩
  | .hbm, ⟨76, _⟩ => ⟨S128x1x16x32, .f32⟩
  | .hbm, ⟨77, _⟩ => ⟨S1x1x1x32, .f32⟩
  | .hbm, ⟨78, _⟩ => ⟨S128x1x16x32, .f32⟩
  | .hbm, ⟨79, _⟩ => ⟨S128x1x16x32, .f32⟩
  | .hbm, ⟨80, _⟩ => ⟨S1x1x1x32, .f32⟩
  | .hbm, ⟨81, _⟩ => ⟨S128x1x16x32, .f32⟩
  | .hbm, ⟨82, _⟩ => ⟨S128x1x16x32, .f32⟩
  | .hbm, ⟨83, _⟩ => ⟨S128x1x16x32, .f32⟩
  | .hbm, ⟨84, _⟩ => ⟨S1x1x1x32, .f32⟩
  | .hbm, ⟨85, _⟩ => ⟨S128x1x16x32, .f32⟩
  | .hbm, ⟨86, _⟩ => ⟨S128x1x16x32, .f32⟩
  | .hbm, ⟨87, _⟩ => ⟨S1x1x1x32, .f32⟩
  | .hbm, ⟨88, _⟩ => ⟨S128x1x16x32, .f32⟩
  | .hbm, ⟨89, _⟩ => ⟨S128x1x16x32, .f32⟩
  | .hbm, ⟨90, _⟩ => ⟨S128x1x16x32, .f32⟩
  | .hbm, ⟨91, _⟩ => ⟨S128x1x16x64, .f32⟩
  | .hbm, ⟨92, _⟩ => ⟨S128x1024, .f32⟩
  | .hbm, ⟨93, _⟩ => ⟨S128x16x64, .f32⟩
  | .hbm, ⟨94, _⟩ => ⟨S128x16x128, .f32⟩
  | .hbm, ⟨95, _⟩ => ⟨S_, .f32⟩
  | .hbm, ⟨96, _⟩ => ⟨S128x16x64, .f32⟩
  | .hbm, ⟨97, _⟩ => ⟨S128x16x256, .f32⟩
  | .hbm, ⟨98, _⟩ => ⟨S128x4096, .f32⟩
  | .hbm, ⟨99, _⟩ => ⟨S128x4096, .bf16⟩
  | .hbm, ⟨100, _⟩ => ⟨S128x2048, .f32⟩
  | .hbm, ⟨101, _⟩ => ⟨S128x2048, .bf16⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_7 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩

abbrev nD : Nat := 1
abbrev τ : Topo := Topo.v7x

variable {F : FTy → Type} [FloatOps F]
-- ==== Proof.Softmax.lean ====
/- The softmax of a row, taken block by block: the running maximum, the running denominator and the running
   weighted sum that a pass over the keys keeps, as closed forms of the keys seen so far, and their quotient
   as the sum of the values weighted by the softmax. All over the extended reals; a masked key's score is ⊥. -/
module

public import Idealize.ShloMosaic.PureOps.Ideal

@[expose] public section

noncomputable section

namespace Cert.Softmax

open Idealize.ShloMosaic Finset

theorem exp_nonneg (x : EReal) : 0 ≤ Ideal.exp x := by
  induction x with
  | bot => simp
  | top => simp
  | coe r => rw [Ideal.exp_coe]; exact_mod_cast (Real.exp_pos r).le

theorem exp_ne_top {x : EReal} (h : x ≠ ⊤) : Ideal.exp x ≠ ⊤ := by
  induction x with
  | bot => simp
  | top => exact absurd rfl h
  | coe r => rw [Ideal.exp_coe]; exact EReal.coe_ne_top _

theorem sub_ne_top {x m : EReal} (h : x ≤ m) : x - m ≠ ⊤ := by
  induction x with
  | bot => simp [sub_eq_add_neg]
  | top => obtain rfl := top_le_iff.mp h; simp [sub_eq_add_neg]
  | coe r =>
    induction m with
    | bot => exact absurd h (by simp)
    | top => simp [sub_eq_add_neg]
    | coe s => rw [← EReal.coe_sub]; exact EReal.coe_ne_top _

/-- Moving the reference point of an exponential from `m` up to `m'`. -/
theorem rescale {x m m' : EReal} (h : x ≤ m) (h' : m ≤ m') (ht : m' ≠ ⊤) :
    Ideal.exp (m - m') * Ideal.exp (x - m) = Ideal.exp (x - m') := by
  induction x with
  | bot => simp [sub_eq_add_neg]
  | top => exact absurd (top_le_iff.mp (h.trans h')) ht
  | coe r =>
    induction m with
    | bot => exact absurd h (by simp)
    | top => exact absurd (top_le_iff.mp h') ht
    | coe s =>
      induction m' with
      | bot => exact absurd h' (by simp)
      | top => exact absurd rfl ht
      | coe t =>
        rw [← EReal.coe_sub, ← EReal.coe_sub, ← EReal.coe_sub, Ideal.exp_coe, Ideal.exp_coe, Ideal.exp_coe,
          ← EReal.coe_mul, ← Real.exp_add]
        congr 2; ring

/-- A nonnegative finite factor goes through a sum. -/
theorem mul_sum' {ι : Type*} {c : EReal} (h0 : 0 ≤ c) (ht : c ≠ ⊤) (T : Finset ι) (f : ι → EReal) :
    c * ∑ k ∈ T, f k = ∑ k ∈ T, c * f k := by
  classical
  induction T using Finset.induction_on with
  | empty => simp
  | insert a s ha ih => rw [sum_insert ha, sum_insert ha, EReal.left_distrib_of_nonneg_of_ne_top h0 ht, ih]

variable (X V : ℕ → EReal)

/-- The sum over the keys `T` of their values weighted by `exp (score − M)`. -/
def num (T : Finset ℕ) (M : EReal) : EReal := ∑ k ∈ T, Ideal.exp (X k - M) * V k

/-- The sum over the keys `T` of `exp (score − M)`. -/
def den (T : Finset ℕ) (M : EReal) : EReal := ∑ k ∈ T, Ideal.exp (X k - M)

/-- The largest score among the first `N` keys. -/
abbrev top (N : ℕ) : EReal := (range N).sup X

theorem top_mono {N N' : ℕ} (h : N ≤ N') : top X N ≤ top X N' := sup_mono (range_mono h)

theorem top_ne_top (hX : ∀ k, X k ≠ ⊤) (N : ℕ) : top X N ≠ ⊤ :=
  ((Finset.sup_lt_iff (bot_lt_top)).mpr fun k _ => (hX k).lt_top).ne

theorem le_top {N k : ℕ} (h : k < N) : X k ≤ top X N := le_sup (f := X) (mem_range.mpr h)

/-- The maximum after one more block. -/
theorem top_step (N n : ℕ) : max (top X N) (univ.sup fun c : Fin n => X (N + c)) = top X (N + n) := by
  apply le_antisymm
  · refine max_le (top_mono X (Nat.le_add_right N n)) (Finset.sup_le fun c _ => le_top X (by have := c.isLt; omega))
  · refine Finset.sup_le fun k hk => ?_
    rw [mem_range] at hk
    by_cases h : k < N
    · exact (le_top X h).trans (le_max_left _ _)
    · refine le_trans ?_ (le_max_right _ _)
      have := le_sup (f := fun c : Fin n => X (N + c)) (mem_univ ⟨k - N, by omega⟩)
      simpa [show N + (k - N) = k by omega] using this

/-- The weighted sum after one more block: the old one rescaled, plus the block's. -/
theorem num_step (hX : ∀ k, X k ≠ ⊤) (N n : ℕ) :
    Ideal.exp (top X N - top X (N + n)) * num X V (range N) (top X N)
        + ∑ c : Fin n, Ideal.exp (X (N + c) - top X (N + n)) * V (N + c)
      = num X V (range (N + n)) (top X (N + n)) := by
  have hm := top_mono X (Nat.le_add_right N n)
  unfold num
  rw [mul_sum' (exp_nonneg _) (exp_ne_top (sub_ne_top hm)), sum_range_add,
    Finset.sum_range fun x => Ideal.exp (X (N + x) - top X (N + n)) * V (N + x)]
  congr 1
  refine sum_congr rfl fun k hk => ?_
  rw [← mul_assoc, rescale (le_top X (mem_range.mp hk)) hm (top_ne_top X hX _)]

/-- The denominator after one more block. -/
theorem den_step (hX : ∀ k, X k ≠ ⊤) (N n : ℕ) :
    Ideal.exp (top X N - top X (N + n)) * den X (range N) (top X N)
        + ∑ c : Fin n, Ideal.exp (X (N + c) - top X (N + n))
      = den X (range (N + n)) (top X (N + n)) := by
  simpa [num, den] using num_step X (fun _ => 1) hX N n

theorem inv_nonneg {x : EReal} (h : 0 ≤ x) : 0 ≤ x⁻¹ := EReal.inv_nonneg_of_nonneg h

/-- The quotient of the pass over the keys `range N` is the softmax-weighted sum of the values over any longer
    range whose further keys are masked. -/
theorem quotient (hX : ∀ k, X k ≠ ⊤) {N U k0 : ℕ} (hNU : N ≤ U) (hm : ∀ k, N ≤ k → X k = ⊥) (hk : k0 < N)
    (h0 : X k0 ≠ ⊥) :
    Ideal.div (num X V (range N) (top X N)) (den X (range N) (top X N))
      = ∑ k : Fin U, V k * Ideal.div (Ideal.exp (X k - top X U)) (∑ k : Fin U, Ideal.exp (X k - top X U)) := by
  have hM : top X U = top X N := by
    apply le_antisymm _ (top_mono X hNU)
    refine Finset.sup_le fun k _ => ?_
    by_cases h : k < N
    · exact le_top X h
    · rw [hm k (by omega)]; exact bot_le
  have hz : ∀ k ∈ range U, k ∉ range N → Ideal.exp (X k - top X N) = 0 := fun k _ h => by
    rw [hm k (by simpa using h)]; simp [sub_eq_add_neg]
  have hsub : range N ⊆ range U := range_mono hNU
  have hL : (∑ k : Fin U, Ideal.exp (X k - top X U)) = den X (range N) (top X N) := by
    rw [hM, ← Finset.sum_range fun k => Ideal.exp (X k - top X N)]
    exact (sum_subset hsub hz).symm
  rw [hL, hM]
  generalize hLd : den X (range N) (top X N) = L
  have hL0 : 0 ≤ L := hLd ▸ sum_nonneg fun k _ => exp_nonneg _
  have hLpos : L ≠ 0 := by
    have h1 : Ideal.exp (X k0 - top X N) ≤ L := hLd ▸
      single_le_sum (f := fun k => Ideal.exp (X k - top X N)) (fun k _ => exp_nonneg _) (mem_range.mpr hk)
    have h2 : 0 < Ideal.exp (X k0 - top X N) := by
      have hle := le_top X hk
      have htt := top_ne_top X hX N
      generalize top X N = M at hle htt
      generalize X k0 = x at h0 hle
      induction x with
      | bot => exact absurd rfl h0
      | top => exact absurd (top_le_iff.mp hle) htt
      | coe r =>
        induction M with
        | bot => exact absurd hle (by simp)
        | top => exact absurd rfl htt
        | coe s => rw [← EReal.coe_sub, Ideal.exp_coe]; exact_mod_cast Real.exp_pos _
    exact (h2.trans_le h1).ne'
  have hi0 : 0 ≤ L⁻¹ := inv_nonneg hL0
  have hit : L⁻¹ ≠ ⊤ := by
    induction L with
    | bot => simp
    | top => simp
    | coe r => rw [← EReal.coe_inv]; exact EReal.coe_ne_top _
  have hd : ∀ x, Ideal.div x L = x * L⁻¹ := fun x => by rw [Ideal.div, if_neg hLpos]
  simp only [hd]
  rw [num, mul_comm, mul_sum' hi0 hit, ← Finset.sum_range fun k => V k * (Ideal.exp (X k - top X N) * L⁻¹)]
  rw [← sum_subset hsub (fun k hk hn => by rw [hz k hk hn, zero_mul, mul_zero])]
  exact sum_congr rfl fun k _ => by rw [mul_comm (V k), mul_right_comm, mul_comm (L⁻¹)]

theorem sle_ofNat {a b : ℕ} (ha : a < 2 ^ 31) (hb : b < 2 ^ 31) :
    (BitVec.ofNat 32 a).sle (BitVec.ofNat 32 b) = decide (a ≤ b) := by
  have h1 : (BitVec.ofNat 32 a).toInt = a := by
    rw [BitVec.toInt_eq_toNat_of_lt] <;> rw [BitVec.toNat_ofNat, Nat.mod_eq_of_lt] <;> omega
  have h2 : (BitVec.ofNat 32 b).toInt = b := by
    rw [BitVec.toInt_eq_toNat_of_lt] <;> rw [BitVec.toNat_ofNat, Nat.mod_eq_of_lt] <;> omega
  rw [BitVec.sle, h1, h2]; simp

theorem neg_inf : Ideal.ofBits .f32 0xFF800000#32 = ⊥ := by simp [Ideal.ofBits, Ideal.ieee]

theorem top_eq_univ (X : ℕ → EReal) (N : ℕ) : top X N = univ.sup fun k : Fin N => X k := by
  have := top_step X 0 N
  simpa using this.symm

end Cert.Softmax

end
-- ==== Proof.RefRead.lean ====
/- The reference's attention, read at an element. -/
module

public import proofs.«01_k».proof.Proof.Gen.ReferenceIdeal.Read
public import proofs.«01_k».proof.Proof.Softmax
public import Idealize.ShloMosaic.Lib.Pointwise

@[expose] public section

set_option maxRecDepth 16384

noncomputable section

namespace Cert.Spec

open Idealize.ShloMosaic Idealize.ShloMosaic.Pointwise Cert.Softmax

/-- A matrix read at natural coordinates (0 outside it). -/
def rd {n m : ℕ} (A : (⟨2, ![n, m]⟩ : Shape).Idx → EReal) (r c : ℕ) : EReal :=
  if h : r < n ∧ c < m then A (ix2 ⟨r, h.1⟩ ⟨c, h.2⟩) else 0

theorem rd_of {n m : ℕ} (A : (⟨2, ![n, m]⟩ : Shape).Idx → EReal) (r : Fin n) (c : Fin m) :
    A (ix2 r c) = rd A r c := by
  rw [rd, dif_pos ⟨r.isLt, c.isLt⟩]

theorem rd_eq {n m : ℕ} (A : (⟨2, ![n, m]⟩ : Shape).Idx → EReal) (r : Fin n) (c : Fin m) {r' c' : ℕ}
    (hr : r.val = r') (hc : c.val = c') : A (ix2 r c) = rd A r' c' := by
  subst hr hc; exact rd_of A r c

theorem rd_idx {n m : ℕ} (A : (⟨2, ![n, m]⟩ : Shape).Idx → EReal) (i : (⟨2, ![n, m]⟩ : Shape).Idx) {r c : ℕ}
    (hr : (i 0).val = r) (hc : (i 1).val = c) : A i = rd A r c := by
  subst hr hc
  have h0 : (i 0).val < n := (i 0).isLt
  have h1 : (i 1).val < m := (i 1).isLt
  rw [rd, dif_pos ⟨h0, h1⟩]
  congr 1
  funext a
  match a with
  | ⟨0, _⟩ => rfl
  | ⟨1, _⟩ => rfl

abbrev Mat (n m : ℕ) := (⟨2, ![n, m]⟩ : Shape).Idx → EReal

/-- The score of key `k` for the query at position `t` of batch `b` and head `h`: −∞ for a later key. -/
def score (q kv : Mat 8192 4096) (kpe : Mat 8192 128) (b h t k : ℕ) : EReal :=
  if k ≤ t then
    ((∑ x : Fin 128, rd q (4096 * b + t) (256 * h + x) * rd kv (4096 * b + k) (256 * h + x))
      + ∑ x : Fin 64, rd q (4096 * b + t) (256 * h + 128 + x) * rd kpe (4096 * b + k) x)
      * Ideal.ofBits .f32 0x3D93CD3A#32
  else ⊥

/-- Lane `d` of the value of key `k`. -/
def value (kv : Mat 8192 4096) (b h d k : ℕ) : EReal := rd kv (4096 * b + k) (256 * h + 128 + d)

/-- The softmax-weighted sum of the values. -/
def attn (q kv : Mat 8192 4096) (kpe : Mat 8192 128) (b h t d : ℕ) : EReal :=
  ∑ k : Fin 4096, value kv b h d k
    * Ideal.div (Ideal.exp (score q kv kpe b h t k - top (score q kv kpe b h t) 4096))
        (∑ k : Fin 4096, Ideal.exp (score q kv kpe b h t k - top (score q kv kpe b h t) 4096))

/-- `g · sigmoid g`. -/
def silu (g : EReal) : EReal := g * Ideal.div 1 (1 + Ideal.exp (-g))

/-- The attention's result: row `R` is position `R % 4096` of batch `R / 4096`, column `C` lane `C % 128` of head
    `C / 128`. -/
def out (q kv : Mat 8192 4096) (kpe : Mat 8192 128) (g : Mat 8192 2048) (R C : ℕ) : EReal :=
  attn q kv kpe (R / 4096) (C / 128) (R % 4096) (C % 128) * silu (rd g R C)

end Cert.Spec

namespace Cert.ReferenceIdeal.RefRead

open Cert.ReferenceIdeal Cert.ReferenceIdeal.Gen Cert.ReferenceIdeal.Read Idealize.ShloMosaic
  Idealize.ShloMosaic.Pointwise Cert.Softmax Cert.Spec

variable (q kv : Mat 8192 4096) (kpe : Mat 8192 128) (g : Mat 8192 2048)

theorem ext3 {A B C : ℕ} {i : (⟨3, ![A, B, C]⟩ : Shape).Idx} {a : Fin A} {b : Fin B} {c : Fin C}
    (h0 : (i 0).val = a.val) (h1 : (i 1).val = b.val) (h2 : (i 2).val = c.val) : i = ix3 a b c := by
  funext x
  match x with
  | ⟨0, _⟩ => exact Fin.ext h0
  | ⟨1, _⟩ => exact Fin.ext h1
  | ⟨2, _⟩ => exact Fin.ext h2

theorem ext4 {A B C D : ℕ} {i : (⟨4, ![A, B, C, D]⟩ : Shape).Idx} {a : Fin A} {b : Fin B} {c : Fin C} {d : Fin D}
    (h0 : (i 0).val = a.val) (h1 : (i 1).val = b.val) (h2 : (i 2).val = c.val) (h3 : (i 3).val = d.val) :
    i = ix4 a b c d := by
  funext x
  match x with
  | ⟨0, _⟩ => exact Fin.ext h0
  | ⟨1, _⟩ => exact Fin.ext h1
  | ⟨2, _⟩ => exact Fin.ext h2
  | ⟨3, _⟩ => exact Fin.ext h3

theorem nope_at (b : Fin 2) (h : Fin 16) (t k : Fin 4096) :
    val_main_v11 (F := Ideal) q kv (ix4 b h t k)
      = ∑ x : Fin 128, rd q (4096 * b + t) (256 * h + x) * rd kv (4096 * b + k) (256 * h + x) := by
  rw [val_main_v11_apply]
  refine Finset.sum_congr rfl fun x _ => ?_
  rw [val_main_v2_apply, val_main_v1_apply, val_main_v0_apply, val_main_v6_apply, val_main_v5_apply, val_main_v4_apply]
  refine congrArg₂ (· * ·) (rd_idx q _ ?_ ?_) (rd_idx kv _ ?_ ?_)
  · show (((b.val * 4096 + t) * 16 + h) * 256 + x) / 4096 = _; omega
  · show (((b.val * 4096 + t) * 16 + h) * 256 + x) % 4096 = _; omega
  · show (((b.val * 4096 + k) * 16 + h) * 256 + x) / 4096 = _; omega
  · show (((b.val * 4096 + k) * 16 + h) * 256 + x) % 4096 = _; omega

theorem pe_at (b : Fin 2) (h : Fin 16) (t k : Fin 4096) :
    val_main_v13 (F := Ideal) q kpe (ix4 b h t k)
      = ∑ x : Fin 64, rd q (4096 * b + t) (256 * h + 128 + x) * rd kpe (4096 * b + k) x := by
  rw [val_main_v13_apply, val_main_v12_apply]
  refine Finset.sum_congr rfl fun x _ => ?_
  rw [val_main_v3_apply, val_main_v1_apply, val_main_v0_apply, val_main_v10_apply, val_main_v9_apply,
    val_main_v8_apply, mul_comm]
  refine congrArg₂ (· * ·) (rd_idx q _ ?_ ?_) (rd_idx kpe _ ?_ ?_)
  · show (((b.val * 4096 + t) * 16 + h) * 256 + (128 + x)) / 4096 = _; omega
  · show (((b.val * 4096 + t) * 16 + h) * 256 + (128 + x)) % 4096 = _; omega
  · show ((b.val * 4096 + k) * 128 + x) / 128 = _; omega
  · show ((b.val * 4096 + k) * 128 + x) % 128 = _; omega

theorem score_at (b : Fin 2) (h : Fin 16) (t k : Fin 4096) :
    val_main_v23 (F := Ideal) q kv kpe (ix4 b h t k) = score q kv kpe b h t k := by
  rw [val_main_v23_apply, val_main_v16_apply, val_main_v14_apply, nope_at, pe_at, val_main_v15_apply,
    val_main_cst_apply, val_main_call0_v1_apply, val_main_v22_apply, val_main_v20_apply, val_main_v18_apply,
    val_main_v17_apply, val_main_v21_apply, val_main_v19_apply, val_main_v17_apply, val_main_call0_v2_apply,
    val_main_call0_v0_apply, val_main_cst_0_apply]
  show Scalar.select (IntOp.cmpi CmpIPredicate.sle (BitVec.ofNat 32 k.val) (BitVec.ofNat 32 t.val)) _
    (Ideal.ofBits .f32 0xFF800000#32) = _
  have hc := sle_ofNat (a := k.val) (b := t.val) (by omega) (by omega)
  unfold score
  by_cases hk : k.val ≤ t.val
  · simp only [Scalar.select, IntOp.cmpi, hc, hk, neg_inf]; rfl
  · simp only [Scalar.select, IntOp.cmpi, hc, hk, neg_inf]; rfl

theorem max_at (b : Fin 2) (h : Fin 16) (t : Fin 4096) :
    val_main_v26 (F := Ideal) q kv kpe (ix3 b h t) = top (score q kv kpe b h t) 4096 := by
  have h24 : val_main_v24 (F := Ideal) q kv kpe (ix3 b h t) = top (score q kv kpe b h t) 4096 := by
    pointwise [val_main_v24]
    rw [val_main_cst_1_apply]
    simp only [score_at]
    show Finset.fold max (Ideal.ofBits .f32 0xFF800000#32) _ _ = _
    rw [neg_inf, top_eq_univ]
    rfl
  rw [val_main_v26_apply, h24, val_main_v25_apply, val_main_cst_2_apply]
  show max (Ideal.ofBits .f32 0xFF800000#32) _ = _
  rw [neg_inf, max_eq_right bot_le]

theorem exp_at (b : Fin 2) (h : Fin 16) (t k : Fin 4096) :
    val_main_v30 (F := Ideal) q kv kpe (ix4 b h t k)
      = Ideal.exp (score q kv kpe b h t k - top (score q kv kpe b h t) 4096) := by
  rw [val_main_v30_apply, val_main_v29_apply, val_main_v28_apply, val_main_v27_apply, score_at,
    show idx_main_v27 (idx_main_v28 (ix4 b h t k)) = ix3 b h t from ext3 rfl rfl rfl, max_at]
  rfl

theorem soft_at (b : Fin 2) (h : Fin 16) (t k : Fin 4096) :
    val_main_v34 (F := Ideal) q kv kpe (ix4 b h t k)
      = Ideal.div (Ideal.exp (score q kv kpe b h t k - top (score q kv kpe b h t) 4096))
        (∑ k : Fin 4096, Ideal.exp (score q kv kpe b h t k - top (score q kv kpe b h t) 4096)) := by
  rw [val_main_v34_apply, val_main_v33_apply, val_main_v32_apply, val_main_v31_apply, exp_at]
  have e (k' : Fin 4096) : idx_main_v31 (idx_main_v32 (idx_main_v33 (ix4 b h t k))) k' = ix4 b h t k' :=
    ext4 rfl rfl rfl rfl
  simp only [e, exp_at]
  show Ideal.div _ (Ideal.ofBits .f32 0x00000000#32 + _) = _
  rw [Ideal.ofBits_zero_f32, zero_add]

theorem attn_at (R : Fin 8192) (C : Fin 2048) :
    val_main_v37 (F := Ideal) q kv kpe (ix2 R C)
      = attn q kv kpe (R / 4096) (C / 128) (R % 4096) (C % 128) := by
  rw [val_main_v37_apply, val_main_v36_apply, val_main_v35_apply]
  unfold attn value
  refine Finset.sum_congr rfl fun k _ => ?_
  have hs := soft_at q kv kpe ⟨R / 4096, by omega⟩ ⟨C / 128, by omega⟩ ⟨R % 4096, by omega⟩ k
  rw [val_main_v7_apply, val_main_v5_apply, val_main_v4_apply]
  refine congrArg₂ (· * ·) (rd_idx kv _ ?_ ?_) (Eq.trans (congrArg _ ?_) hs)
  · show ((((R.val * 2048 + C.val) / 8388608 * 4096 + k.val) * 16 + (R.val * 2048 + C.val) / 128 % 16) * 256
      + (128 + (R.val * 2048 + C.val) % 128)) / 4096 = _
    omega
  · show ((((R.val * 2048 + C.val) / 8388608 * 4096 + k.val) * 16 + (R.val * 2048 + C.val) / 128 % 16) * 256
      + (128 + (R.val * 2048 + C.val) % 128)) % 4096 = _
    omega
  · refine ext4 ?_ ?_ ?_ rfl
    · show (R.val * 2048 + C.val) / 8388608 = R.val / 4096; omega
    · show (R.val * 2048 + C.val) / 128 % 16 = C.val / 128; omega
    · show (R.val * 2048 + C.val) / 2048 % 4096 = R.val % 4096; omega

theorem silu_at (i : S8192x2048.Idx) : val_main_v39 (F := Ideal) g i = silu (g i) := by
  rw [val_main_v39_apply, val_main_call1_v5_apply, val_main_call1_v4_apply, val_main_call1_cst_0_apply,
    val_main_call1_v3_apply, val_main_call1_v2_apply, val_main_call1_cst_apply, val_main_call1_v1_apply,
    val_main_call1_v0_apply, val_main_v38_apply]
  show g i * Ideal.div (Ideal.ofBits .f32 0x3F800000#32) (Ideal.ofBits .f32 0x3F800000#32 + Ideal.exp (-(g i))) = _
  rw [Ideal.ofBits_one_f32]
  rfl

theorem out_at (R : Fin 8192) (C : Fin 2048) :
    val_main_v41 (F := Ideal) q kv kpe g (ix2 R C) = out q kv kpe g R C := by
  rw [val_main_v41_apply, val_main_v40_apply, attn_at, silu_at, out, ← rd_of]
  rfl

end Cert.ReferenceIdeal.RefRead

end
-- ==== Proof.Steps.lean ====
/- One block of keys of the kernel's pass, as functions of the block's scores: the new running maximum, the
   new denominator and the new weighted sum, and what they keep true of a row. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Steps

open Cert.KernelIdeal Cert.KernelIdeal.Gen Idealize.ShloMosaic Idealize.ShloMosaic.Pointwise Cert.Softmax

/-- The running maxima after a block of scores `s`. -/
def mNew (s : FVec Ideal S512x512 .f32) (m : Vec Ideal S1x512x1 .f32) : FVec Ideal S512x1 .f32 :=
  maximumf (shapeCast S512x1 m shapeCasts_S1x512x1_S512x1)
    (shapeCast S512x1 (multiReduction .maximumf [1] S512 s 0xFF800000#32 reduces_S512x512_S512 (.inl rfl) rfl)
      shapeCasts_S512_S512x1)

/-- The factor by which the block rescales what was summed before. -/
def alpha (s : FVec Ideal S512x512 .f32) (m : Vec Ideal S1x512x1 .f32) : FVec Ideal S512x1 .f32 :=
  exp (subf (shapeCast S512x1 m shapeCasts_S1x512x1_S512x1) (mNew s m))

/-- The exponentials of the block. -/
def pExp (s : FVec Ideal S512x512 .f32) (m : Vec Ideal S1x512x1 .f32) : FVec Ideal S512x512 .f32 :=
  exp (subf s (broadcastTo S512x512 (mNew s m) broadcasts_S512x1_S512x512))

def mStep (s : FVec Ideal S512x512 .f32) (m : Vec Ideal S1x512x1 .f32) : FVec Ideal S1x512x1 .f32 :=
  shapeCast S1x512x1 (mNew s m) shapeCasts_S512x1_S1x512x1

def lStep (s : FVec Ideal S512x512 .f32) (m l : Vec Ideal S1x512x1 .f32) : FVec Ideal S1x512x1 .f32 :=
  shapeCast S1x512x1 (addf (mulf (alpha s m) (shapeCast S512x1 l shapeCasts_S1x512x1_S512x1))
    (shapeCast S512x1 (multiReduction .add [1] S512 (pExp s m) 0x00000000#32 reduces_S512x512_S512 (.inl rfl) rfl)
      shapeCasts_S512_S512x1)) shapeCasts_S512x1_S1x512x1

def aStep (s : FVec Ideal S512x512 .f32) (v : Vec Ideal S512x128 .bf16) (m : Vec Ideal S1x512x1 .f32)
    (a : Vec Ideal S1x512x128 .f32) : FVec Ideal S1x512x128 .f32 :=
  shapeCast S1x512x128 (addf (mulf (broadcastTo S512x128 (alpha s m) broadcasts_S512x1_S512x128)
      (shapeCast S512x128 a shapeCasts_S1x512x128_S512x128))
    (matmul (φ₁ := .bf16) (φ₂ := .bf16) dot_S512x512_S512x128_S512x128_1_0_0_1_n_n none
      (truncf .bf16 (pExp s m) bitsLt_bf16_f32 : FVec Ideal S512x512 .bf16) v
      (constant S512x128 .f32 0x00000000#32))) shapeCasts_S512x128_S1x512x128

theorem fold_sup {n : ℕ} (f : Fin n → EReal) : Finset.univ.fold max ⊥ f = Finset.univ.sup f := rfl

theorem mNew_at (s : FVec Ideal S512x512 .f32) (m : Vec Ideal S1x512x1 .f32) (r : Fin 512) :
    mNew s m (ix2 r 0) = max (m (ix3 0 r 0)) (Finset.univ.sup fun c : Fin 512 => s (ix2 r c)) := by
  pointwise [mNew]
  rw [neg_inf, fold_sup]

theorem alpha_at (s : FVec Ideal S512x512 .f32) (m : Vec Ideal S1x512x1 .f32) (r : Fin 512) :
    alpha s m (ix2 r 0) = Ideal.exp (m (ix3 0 r 0) - mNew s m (ix2 r 0)) := by
  pointwise [alpha]

theorem pExp_at (s : FVec Ideal S512x512 .f32) (m : Vec Ideal S1x512x1 .f32) (r c : Fin 512) :
    pExp s m (ix2 r c) = Ideal.exp (s (ix2 r c) - mNew s m (ix2 r 0)) := by
  pointwise [pExp]

theorem mStep_at (s : FVec Ideal S512x512 .f32) (m : Vec Ideal S1x512x1 .f32) (r : Fin 512) :
    mStep s m (ix3 0 r 0) = mNew s m (ix2 r 0) := by
  pointwise [mStep]

theorem lStep_at (s : FVec Ideal S512x512 .f32) (m l : Vec Ideal S1x512x1 .f32) (r : Fin 512) :
    lStep s m l (ix3 0 r 0) = alpha s m (ix2 r 0) * l (ix3 0 r 0) + ∑ c : Fin 512, pExp s m (ix2 r c) := by
  pointwise [lStep]

theorem aStep_at (s : FVec Ideal S512x512 .f32) (v : Vec Ideal S512x128 .bf16) (m : Vec Ideal S1x512x1 .f32)
    (a : Vec Ideal S1x512x128 .f32) (r : Fin 512) (d : Fin 128) :
    aStep s v m a (ix3 0 r d)
      = alpha s m (ix2 r 0) * a (ix3 0 r d) + ∑ c : Fin 512, pExp s m (ix2 r c) * v (ix2 c d) := by
  pointwise [aStep]

/-- What the three scratch slabs of a head hold after the first `N` keys, for each of the 512 query rows: the
    largest score, the denominator and the weighted sums. -/
structure Inv (X : Fin 512 → ℕ → EReal) (V : Fin 128 → ℕ → EReal) (N : ℕ) (m l : Vec Ideal S1x512x1 .f32)
    (a : Vec Ideal S1x512x128 .f32) : Prop where
  m_eq : ∀ r, m (ix3 0 r 0) = top (X r) N
  l_eq : ∀ r, l (ix3 0 r 0) = den (X r) (Finset.range N) (top (X r) N)
  a_eq : ∀ r d, a (ix3 0 r d) = num (X r) (V d) (Finset.range N) (top (X r) N)

/-- A block of 512 keys takes the scratch of the first `N` keys to that of the first `N + 512`. -/
theorem Inv.step {X : Fin 512 → ℕ → EReal} {V : Fin 128 → ℕ → EReal} {N : ℕ} {m l : Vec Ideal S1x512x1 .f32}
    {a : Vec Ideal S1x512x128 .f32} (h : Inv X V N m l a) (hX : ∀ r k, X r k ≠ ⊤)
    {s : FVec Ideal S512x512 .f32} {v : Vec Ideal S512x128 .bf16}
    (hs : ∀ r c : Fin 512, s (ix2 r c) = X r (N + c)) (hv : ∀ (c : Fin 512) d, v (ix2 c d) = V d (N + c)) :
    Inv X V (N + 512) (mStep s m) (lStep s m l) (aStep s v m a) := by
  have hm : ∀ r, mNew s m (ix2 r 0) = top (X r) (N + 512) := fun r => by
    rw [mNew_at, h.m_eq, ← top_step (X r) N 512]; simp only [hs]
  refine ⟨fun r => by rw [mStep_at, hm], fun r => ?_, fun r d => ?_⟩
  · rw [lStep_at, alpha_at, hm, h.m_eq, h.l_eq, ← den_step (X r) (hX r) N 512]
    simp only [pExp_at, hm, hs]
  · rw [aStep_at, alpha_at, hm, h.m_eq, h.a_eq, ← num_step (X r) (V d) (hX r) N 512]
    simp only [pExp_at, hm, hs, hv]

/-- Before the first key: −∞, 0 and 0. -/
theorem Inv.zero (X : Fin 512 → ℕ → EReal) (V : Fin 128 → ℕ → EReal) {m l : Vec Ideal S1x512x1 .f32}
    {a : Vec Ideal S1x512x128 .f32} (hm : ∀ r, m (ix3 0 r 0) = ⊥) (hl : ∀ r, l (ix3 0 r 0) = 0)
    (ha : ∀ r d, a (ix3 0 r d) = 0) : Inv X V 0 m l a := by
  refine ⟨fun r => by simp [hm, top], fun r => by simp [hl, den], fun r d => by simp [ha, num]⟩

/-- The scale of the scores. -/
abbrev scale : EReal := Ideal.ofBits .f32 0x3D93CD3A#32

theorem sum_pad (f : Fin 128 → EReal) (g : Fin 64 → EReal) (h : ∀ x : Fin 64, f ⟨64 + x, by omega⟩ = 0)
    (hg : ∀ x : Fin 64, f ⟨x, by omega⟩ = g x := by exact fun _ => rfl) : ∑ x, f x = ∑ x, g x := by
  rw [Fin.sum_univ_add (a := 64) (b := 64) f]
  have h0 : ∑ x : Fin 64, f (Fin.natAdd 64 x) = 0 := Finset.sum_eq_zero fun x _ => h x
  rw [h0, add_zero]
  exact Finset.sum_congr rfl fun x _ => hg x

/-- The scores of a block under the diagonal: the 192 lanes of the query against the key's 128 and the position
    key's 64, the lanes past them being zero in the query. -/
theorem qk_at (kp : Vec Ideal S512x128 .bf16) (q : Vec Ideal S512x256 .bf16) (kn : Vec Ideal S512x128 .bf16)
    (r c : Fin 512) (hq : ∀ x : Fin 256, 192 ≤ x.val → q (ix2 r x) = 0) :
    k0_pay2 kp q kn (ix2 r c)
      = ((∑ x : Fin 128, q (ix2 r ⟨x, by omega⟩) * kn (ix2 c x))
          + ∑ x : Fin 64, q (ix2 r ⟨128 + x, by omega⟩) * kp (ix2 c ⟨x, by omega⟩)) * scale := by
  pointwise [k0_pay2]
  exact congrArg (fun t => (_ + t) * scale) (sum_pad _ _ fun x => by rw [hq _ (by simp; omega), zero_mul])

/-- The scores of the block on the diagonal: those of the keys after the query are masked. -/
theorem masked_at (kp : Vec Ideal S512x128 .bf16) (q : Vec Ideal S512x256 .bf16) (kn : Vec Ideal S512x128 .bf16)
    (r c : Fin 512) :
    k0_pay50 kp q kn (ix2 r c) = if c ≤ r then k0_pay2 kp q kn (ix2 r c) else ⊥ := by
  pointwise [k0_pay50, k0_pay2]
  have hc := sle_ofNat (a := c.val) (b := r.val) (by omega) (by omega)
  have hn : (Named.named (F := Ideal) κ "mask" (φ := .f32) 0xF149F2CA#32 : EReal) = ⊥ := rfl
  by_cases h : c ≤ r <;> simp [Scalar.select, IntOp.cmpi, hc, h, hn, Fin.val_fin_le]

/-- The head's output: the quotient, gated by `g · sigmoid g`. -/
theorem out_at (a : Vec Ideal S1x512x128 .f32) (l : Vec Ideal S1x512x1 .f32) (g : Vec Ideal S512x128 .bf16)
    (r : Fin 512) (d : Fin 128) :
    k0_pay58 a l g (ix2 r d) = Ideal.div (a (ix3 0 r d)) (l (ix3 0 r 0))
      * (g (ix2 r d) * Ideal.div 1 (1 + Ideal.exp (- g (ix2 r d)))) := by
  pointwise [k0_pay58]
  rw [zero_sub]

theorem pay1_eq (a : Vec Ideal S1x512x128 .f32) (l : Vec Ideal S1x512x1 .f32) (g : Vec Ideal S512x128 .bf16) :
    k0_pay1 (k0_pay59 a) l g = k0_pay58 a l g := rfl

end Cert.KernelIdeal.Steps

end
-- ==== Proof.Loop.lean ====
/- The kernel's loop over the key blocks before the diagonal: what a trip stores in the scratch slabs of the two
   heads, and what the slabs hold after the trips. -/
module

public import proofs.«01_k».proof.Proof.Gen.KernelIdeal.Loops
public import proofs.«01_k».proof.Proof.Steps
public import Idealize.ShloMosaic.Lib.LoopRemainder
public import Idealize.ShloMosaic.Lib.WritesUnit
public import Idealize.ShloMosaic.Lib.Tactic

@[expose] public section

set_option maxRecDepth 16384

noncomputable section

namespace Cert.KernelIdeal.Slabs

open Cert.KernelIdeal Cert.KernelIdeal.Gen Cert.KernelIdeal.Steps Idealize.ShloMosaic Idealize.ShloMosaic.TcCoe
  Idealize.ShloMosaic.Tactic Idealize.SL.Sem

attribute [local instance] Cert.KernelIdeal.Gen.facts

variable (𝒱 : Variants) (c : Dev nD) (bd : Option 𝒱.V) (i : grid0.Coords) (arg3 : Memref sig .tc .vmem S512x512 .bf16) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S2x512x1 .f32) (harg8 : arg8.IsWhole) (arg9 : Memref sig .tc .vmem S2x512x1 .f32) (harg9 : arg9.IsWhole) (arg10 : Memref sig .tc .vmem S2x512x128 .f32) (harg10 : arg10.IsWhole)
  (X3 : BufTy.Contents (Elt Ideal) arg3.view.ty) (X4 : BufTy.Contents (Elt Ideal) arg4.view.ty) (X5 : BufTy.Contents (Elt Ideal) arg5.view.ty)
  (f8 : BufTy.Contents (Elt Ideal) arg8.view.ty) (f9 : BufTy.Contents (Elt Ideal) arg9.view.ty) (f10 : BufTy.Contents (Elt Ideal) arg10.view.ty)

/-- The slab of head 0 or 1 in a scratch buffer of one lane. -/
abbrev R0 : Rect S2x512x1 := Rect.unit (s := S2x512x1) ![0, 0, 0] S1x512x1.size inb_S2x512x1_S1x512x1_0_0_0
abbrev R1 : Rect S2x512x1 := Rect.unit (s := S2x512x1) ![1, 0, 0] S1x512x1.size inb_S2x512x1_S1x512x1_1_0_0
/-- … and in the scratch of 128 lanes. -/
abbrev Q0 : Rect S2x512x128 := Rect.unit (s := S2x512x128) ![0, 0, 0] S1x512x128.size inb_S2x512x128_S1x512x128_0_0_0
abbrev Q1 : Rect S2x512x128 := Rect.unit (s := S2x512x128) ![1, 0, 0] S1x512x128.size inb_S2x512x128_S1x512x128_1_0_0

abbrev qA : Vec Ideal S512x256 .bf16 := arg3.view.readAt (Elt Ideal) (Rect.unit (s := S512x512) ![0, 0] S512x256.size inb_S512x512_S512x256_0_0).toLoadRect X3
abbrev qB : Vec Ideal S512x256 .bf16 := arg3.view.readAt (Elt Ideal) (Rect.unit (s := S512x512) ![0, 256] S512x256.size inb_S512x512_S512x256_0_256).toLoadRect X3

variable (k : Fin (k0_t1_loop i).trips)

abbrev kp : Vec Ideal S512x128 .bf16 := arg5.view.readAt (Elt Ideal) (Rect.unit (s := S4096x128) (k0_off1 i k) S512x128.size (k0_off1_inb i k)).toLoadRect X5
abbrev knA : Vec Ideal S512x128 .bf16 := arg4.view.readAt (Elt Ideal) (Rect.unit (s := S4096x512) (k0_off2 i k) S512x128.size (k0_off2_inb i k)).toLoadRect X4
abbrev vA : Vec Ideal S512x128 .bf16 := arg4.view.readAt (Elt Ideal) (Rect.unit (s := S4096x512) (k0_off3 i k) S512x128.size (k0_off3_inb i k)).toLoadRect X4
abbrev knB : Vec Ideal S512x128 .bf16 := arg4.view.readAt (Elt Ideal) (Rect.unit (s := S4096x512) (k0_off4 i k) S512x128.size (k0_off4_inb i k)).toLoadRect X4
abbrev vB : Vec Ideal S512x128 .bf16 := arg4.view.readAt (Elt Ideal) (Rect.unit (s := S4096x512) (k0_off5 i k) S512x128.size (k0_off5_inb i k)).toLoadRect X4

/-- The scores of trip `k`, for the two heads. -/
abbrev sA : FVec Ideal S512x512 .f32 := k0_pay2 (kp i arg5 X5 k) (qA arg3 X3) (knA i arg4 X4 k)
abbrev sB : FVec Ideal S512x512 .f32 := k0_pay2 (kp i arg5 X5 k) (qB arg3 X3) (knB i arg4 X4 k)

/-- What trip `k` stores, over what it finds in the slabs. -/
theorem trip_pieces :
    tripL_k0_t1 (F := Ideal) 𝒱 c bd i arg3 harg3 arg4 harg4 arg5 harg5 arg6 harg6 arg7 harg7 arg8 harg8 arg9 harg9 arg10 harg10 X3 X4 X5 k f8 f9 f10
      = ([⟨R1, mStep (sB i arg3 arg4 arg5 X3 X4 X5 k) (arg8.view.readAt (Elt Ideal) R1.toLoadRect f8)⟩,
          ⟨R0, mStep (sA i arg3 arg4 arg5 X3 X4 X5 k) (arg8.view.readAt (Elt Ideal) R0.toLoadRect f8)⟩],
         [⟨R1, lStep (sB i arg3 arg4 arg5 X3 X4 X5 k) (arg8.view.readAt (Elt Ideal) R1.toLoadRect f8) (arg9.view.readAt (Elt Ideal) R1.toLoadRect f9)⟩,
          ⟨R0, lStep (sA i arg3 arg4 arg5 X3 X4 X5 k) (arg8.view.readAt (Elt Ideal) R0.toLoadRect f8) (arg9.view.readAt (Elt Ideal) R0.toLoadRect f9)⟩],
         [⟨Q1, aStep (sB i arg3 arg4 arg5 X3 X4 X5 k) (vB i arg4 X4 k) (arg8.view.readAt (Elt Ideal) R1.toLoadRect f8) (arg10.view.readAt (Elt Ideal) Q1.toLoadRect f10)⟩,
          ⟨Q0, aStep (sA i arg3 arg4 arg5 X3 X4 X5 k) (vA i arg4 X4 k) (arg8.view.readAt (Elt Ideal) R0.toLoadRect f8) (arg10.view.readAt (Elt Ideal) Q0.toLoadRect f10)⟩]) := by
  unfold tripL_k0_t1 trip_k0_t1
  dsimp only
  sl_unfold_words
  rfl

/-- A load of the rectangle stored last reads what was stored. -/
theorem readAt_hit {sp : Space} {S : Shape} {e : EltTy} (v : View sig .tc sp S e) (f : v.ty.Contents (Elt Ideal))
    {off size : Fin S.rank → ℕ} (inb : ∀ a, off a + size a ≤ S.size a)
    (w : (Rect.unit off size inb).shape.Idx → Elt Ideal e) (L : List (View.Piece (Elt Ideal) S e)) :
    v.readAt (Elt Ideal) (Rect.unit off size inb).toLoadRect (v.writes (Elt Ideal) f (⟨Rect.unit off size inb, w⟩ :: L)) = w := by
  funext x
  rw [View.readAt_apply]
  exact View.read_writes_cons_unit_of_mem v f inb w L _ x rfl fun a => by
    show off a + 1 * (x a).val = off a + (x a).val; omega

/-- A load apart from the rectangle stored last reads what was there before. -/
theorem readAt_miss {sp : Space} {S : Shape} {e : EltTy} (v : View sig .tc sp S e) (f : v.ty.Contents (Elt Ideal))
    {off size off' size' : Fin S.rank → ℕ} (inb : ∀ a, off a + size a ≤ S.size a) (inb' : ∀ a, off' a + size' a ≤ S.size a)
    (w : (Rect.unit off size inb).shape.Idx → Elt Ideal e) (L : List (View.Piece (Elt Ideal) S e)) (a : Fin S.rank)
    (h : off' a + size' a ≤ off a ∨ off a + size a ≤ off' a) :
    v.readAt (Elt Ideal) (Rect.unit off' size' inb').toLoadRect (v.writes (Elt Ideal) f (⟨Rect.unit off size inb, w⟩ :: L))
      = v.readAt (Elt Ideal) (Rect.unit off' size' inb').toLoadRect (v.writes (Elt Ideal) f L) := by
  funext x
  rw [View.readAt_apply, View.readAt_apply]
  have hx : (x a).val < size' a := (x a).isLt
  refine View.read_writes_cons_unit_of_not_mem v f inb w L _ rfl a ?_
  show off' a + 1 * (x a).val < off a ∨ off a + size a ≤ off' a + 1 * (x a).val
  omega

/-- What the slabs of a head hold over contents `f8`, `f9`, `f10` of the scratch buffers. -/
abbrev InvA (X : Fin 512 → ℕ → EReal) (V : Fin 128 → ℕ → EReal) (N : ℕ) : Prop :=
  Inv X V N (arg8.view.readAt (Elt Ideal) R0.toLoadRect f8) (arg9.view.readAt (Elt Ideal) R0.toLoadRect f9)
    (arg10.view.readAt (Elt Ideal) Q0.toLoadRect f10)
abbrev InvB (X : Fin 512 → ℕ → EReal) (V : Fin 128 → ℕ → EReal) (N : ℕ) : Prop :=
  Inv X V N (arg8.view.readAt (Elt Ideal) R1.toLoadRect f8) (arg9.view.readAt (Elt Ideal) R1.toLoadRect f9)
    (arg10.view.readAt (Elt Ideal) Q1.toLoadRect f10)

theorem loop_inv (XA XB : Fin 512 → ℕ → EReal) (VA VB : Fin 128 → ℕ → EReal)
    (hXA : ∀ r k, XA r k ≠ ⊤) (hXB : ∀ r k, XB r k ≠ ⊤)
    (hsA : ∀ (k : Fin (k0_t1_loop i).trips) (r c : Fin 512), sA i arg3 arg4 arg5 X3 X4 X5 k (ix2 r c) = XA r (512 * k + c))
    (hsB : ∀ (k : Fin (k0_t1_loop i).trips) (r c : Fin 512), sB i arg3 arg4 arg5 X3 X4 X5 k (ix2 r c) = XB r (512 * k + c))
    (hvA : ∀ (k : Fin (k0_t1_loop i).trips) (c : Fin 512) d, vA i arg4 X4 k (ix2 c d) = VA d (512 * k + c))
    (hvB : ∀ (k : Fin (k0_t1_loop i).trips) (c : Fin 512) d, vB i arg4 X4 k (ix2 c d) = VB d (512 * k + c))
    (h0A : InvA arg8 arg9 arg10 f8 f9 f10 XA VA 0) (h0B : InvB arg8 arg9 arg10 f8 f9 f10 XB VB 0)
    (n : ℕ) (hn : n ≤ (k0_t1_loop i).trips) :
    InvA arg8 arg9 arg10
        (arg8.view.writes (Elt Ideal) f8 (pb_k0_t1 (F := Ideal) 𝒱 c bd i arg3 harg3 arg4 harg4 arg5 harg5 arg6 harg6 arg7 harg7 arg8 harg8 arg9 harg9 arg10 harg10 X3 X4 X5 f8 f9 f10 n).1)
        (arg9.view.writes (Elt Ideal) f9 (pb_k0_t1 (F := Ideal) 𝒱 c bd i arg3 harg3 arg4 harg4 arg5 harg5 arg6 harg6 arg7 harg7 arg8 harg8 arg9 harg9 arg10 harg10 X3 X4 X5 f8 f9 f10 n).2.1)
        (arg10.view.writes (Elt Ideal) f10 (pb_k0_t1 (F := Ideal) 𝒱 c bd i arg3 harg3 arg4 harg4 arg5 harg5 arg6 harg6 arg7 harg7 arg8 harg8 arg9 harg9 arg10 harg10 X3 X4 X5 f8 f9 f10 n).2.2)
        XA VA (512 * n)
    ∧ InvB arg8 arg9 arg10
        (arg8.view.writes (Elt Ideal) f8 (pb_k0_t1 (F := Ideal) 𝒱 c bd i arg3 harg3 arg4 harg4 arg5 harg5 arg6 harg6 arg7 harg7 arg8 harg8 arg9 harg9 arg10 harg10 X3 X4 X5 f8 f9 f10 n).1)
        (arg9.view.writes (Elt Ideal) f9 (pb_k0_t1 (F := Ideal) 𝒱 c bd i arg3 harg3 arg4 harg4 arg5 harg5 arg6 harg6 arg7 harg7 arg8 harg8 arg9 harg9 arg10 harg10 X3 X4 X5 f8 f9 f10 n).2.1)
        (arg10.view.writes (Elt Ideal) f10 (pb_k0_t1 (F := Ideal) 𝒱 c bd i arg3 harg3 arg4 harg4 arg5 harg5 arg6 harg6 arg7 harg7 arg8 harg8 arg9 harg9 arg10 harg10 X3 X4 X5 f8 f9 f10 n).2.2)
        XB VB (512 * n) := by
  induction n with
  | zero => exact ⟨h0A, h0B⟩
  | succ n ih =>
    have ih := ih (by omega)
    rw [pb_k0_t1_succ 𝒱 c bd i arg3 harg3 arg4 harg4 arg5 harg5 arg6 harg6 arg7 harg7 arg8 harg8 arg9 harg9 arg10 harg10 X3 X4 X5 f8 f9 f10 ⟨n, hn⟩, trip_pieces]
    dsimp only
    generalize pb_k0_t1 (F := Ideal) 𝒱 c bd i arg3 harg3 arg4 harg4 arg5 harg5 arg6 harg6 arg7 harg7 arg8 harg8 arg9 harg9 arg10 harg10 X3 X4 X5 f8 f9 f10 n = P at ih ⊢
    obtain ⟨P8, P9, P10⟩ := P
    dsimp only [List.cons_append, List.nil_append] at ih ⊢
    constructor
    · unfold InvA
      rw [readAt_miss arg8.view f8 _ _ _ _ (0 : Fin 3) (Or.inl (by decide)), readAt_hit, readAt_miss arg9.view f9 _ _ _ _ (0 : Fin 3) (Or.inl (by decide)), readAt_hit,
        readAt_miss arg10.view f10 _ _ _ _ (0 : Fin 3) (Or.inl (by decide)), readAt_hit]
      exact ih.1.step hXA (hsA ⟨n, hn⟩) (hvA ⟨n, hn⟩)
    · unfold InvB
      rw [readAt_hit, readAt_hit, readAt_hit]
      exact ih.2.step hXB (hsB ⟨n, hn⟩) (hvB ⟨n, hn⟩)

end Cert.KernelIdeal.Slabs

end
-- ==== Proof.Pieces.lean ====
/- What the kernel's body leaves in its output block: the two heads' quotients, gated, over the slabs the pass
   over the keys leaves. -/
module

public import proofs.«01_k».proof.Proof.Gen.KernelIdeal.Frame
public import proofs.«01_k».proof.Proof.Loop

@[expose] public section

set_option maxRecDepth 16384

noncomputable section

namespace Cert.KernelIdeal.Slabs

open Cert.KernelIdeal Cert.KernelIdeal.Gen Cert.KernelIdeal.Steps Idealize.ShloMosaic Idealize.ShloMosaic.TcCoe
  Idealize.ShloMosaic.Tactic Idealize.ShloMosaic.Pointwise Idealize.SL.Sem

attribute [local instance] Cert.KernelIdeal.Gen.facts

/-- The pass makes one trip per block of 512 keys before the queries' own. -/
theorem trips_eq : ∀ i : grid0.Coords, (k0_t1_loop i).trips = (i 2).val := by decide +kernel

/-- The printed remainder loop makes no trip. -/
theorem trips2_eq (i : grid0.Coords) : (k0_t2_loop i).trips = 0 := Nat.le_zero.1 (k0_t2_abs i).2.1

variable (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S2x512x1 .f32) (harg8 : arg8.IsWhole) (arg9 : Memref sig .tc .vmem S2x512x1 .f32) (harg9 : arg9.IsWhole) (arg10 : Memref sig .tc .vmem S2x512x128 .f32) (harg10 : arg10.IsWhole)
  (x0 : Vec Ideal S512x512 .bf16) (x1 : Vec Ideal S4096x512 .bf16) (x2 : Vec Ideal S4096x128 .bf16) (x3 : Vec Ideal S512x256 .bf16)

/-- The scratch buffers as the body's first stores leave them. -/
abbrev L8 : List (View.Piece (Elt Ideal) S2x512x1 .f32) := [⟨Rect.unit (s := S2x512x1) ![0, 0, 0] S2x512x1.size inb_S2x512x1_S2x512x1_0_0_0, k0_pay32 (F := Ideal)⟩]
abbrev L9 : List (View.Piece (Elt Ideal) S2x512x1 .f32) := [⟨Rect.unit (s := S2x512x1) ![0, 0, 0] S2x512x1.size inb_S2x512x1_S2x512x1_0_0_0, k0_pay33 (F := Ideal)⟩]
abbrev L10 : List (View.Piece (Elt Ideal) S2x512x128 .f32) := [⟨Rect.unit (s := S2x512x128) ![0, 0, 0] S2x512x128.size inb_S2x512x128_S2x512x128_0_0_0, k0_pay34 (F := Ideal)⟩]

/-- The pieces the pass stores in the three scratch buffers. -/
abbrev pb := pb_k0_t1 (F := Ideal) Variants.none c none i arg3 harg3 arg4 harg4 arg5 harg5 arg6 harg6 arg7 harg7 arg8 harg8 arg9 harg9 arg10 harg10 (harg3.unread x0) (harg4.unread x1) (harg5.unread x2)
    (arg8.view.writes (Elt Ideal) arg8.view.junk L8) (arg9.view.writes (Elt Ideal) arg9.view.junk L9) (arg10.view.writes (Elt Ideal) arg10.view.junk L10) (k0_t1_loop i).trips

/-- The pieces the remainder loop stores. -/
abbrev pb2 (v : BitVec 32) := pb_k0_t2 (F := Ideal) Variants.none c none i arg3 harg3 arg4 harg4 arg5 harg5 arg6 harg6 arg7 harg7 arg8 harg8 arg9 harg9 arg10 harg10 v (harg3.unread x0) (harg4.unread x1) (harg5.unread x2)
    (arg8.view.writes (Elt Ideal) arg8.view.junk ((pb c i arg3 harg3 arg4 harg4 arg5 harg5 arg6 harg6 arg7 harg7 arg8 harg8 arg9 harg9 arg10 harg10 x0 x1 x2).1 ++ L8)) (arg9.view.writes (Elt Ideal) arg9.view.junk ((pb c i arg3 harg3 arg4 harg4 arg5 harg5 arg6 harg6 arg7 harg7 arg8 harg8 arg9 harg9 arg10 harg10 x0 x1 x2).2.1 ++ L9)) (arg10.view.writes (Elt Ideal) arg10.view.junk ((pb c i arg3 harg3 arg4 harg4 arg5 harg5 arg6 harg6 arg7 harg7 arg8 harg8 arg9 harg9 arg10 harg10 x0 x1 x2).2.2 ++ L10)) (k0_t2_loop i).trips

theorem pb2_eq (v : BitVec 32) : pb2 c i arg3 harg3 arg4 harg4 arg5 harg5 arg6 harg6 arg7 harg7 arg8 harg8 arg9 harg9 arg10 harg10 x0 x1 x2 v = ([], [], []) := by
  unfold pb2; rw [trips2_eq, pb_k0_t2.eq_1]

/-- The blocks of keys and values on the diagonal. -/
abbrev kpD : Vec Ideal S512x128 .bf16 := arg5.view.readAt (Elt Ideal) (Rect.unit (s := S4096x128) (k0_off11 i) S512x128.size (k0_off11_inb i)).toLoadRect (harg5.unread x2)
abbrev knDA : Vec Ideal S512x128 .bf16 := arg4.view.readAt (Elt Ideal) (Rect.unit (s := S4096x512) (k0_off12 i) S512x128.size (k0_off12_inb i)).toLoadRect (harg4.unread x1)
abbrev vDA : Vec Ideal S512x128 .bf16 := arg4.view.readAt (Elt Ideal) (Rect.unit (s := S4096x512) (k0_off13 i) S512x128.size (k0_off13_inb i)).toLoadRect (harg4.unread x1)
abbrev knDB : Vec Ideal S512x128 .bf16 := arg4.view.readAt (Elt Ideal) (Rect.unit (s := S4096x512) (k0_off14 i) S512x128.size (k0_off14_inb i)).toLoadRect (harg4.unread x1)
abbrev vDB : Vec Ideal S512x128 .bf16 := arg4.view.readAt (Elt Ideal) (Rect.unit (s := S4096x512) (k0_off15 i) S512x128.size (k0_off15_inb i)).toLoadRect (harg4.unread x1)
abbrev sDA : FVec Ideal S512x512 .f32 := k0_pay50 (kpD i arg5 harg5 x2) (qA arg3 (harg3.unread x0)) (knDA i arg4 harg4 x1)
abbrev sDB : FVec Ideal S512x512 .f32 := k0_pay50 (kpD i arg5 harg5 x2) (qB arg3 (harg3.unread x0)) (knDB i arg4 harg4 x1)

/-- The last step of the pass, as stores over the pieces `P8`, `P9`, `P10` in the scratch buffers, and the output it
    leads to. -/
def outPieces (P8 P9 : List (View.Piece (Elt Ideal) S2x512x1 .f32)) (P10 : List (View.Piece (Elt Ideal) S2x512x128 .f32)) :
    List (View.Piece (Elt Ideal) S512x256 .bf16) :=
  let mA := arg8.view.readCov P8 R0.toLoadRect
  let lA := arg9.view.readCov P9 R0.toLoadRect
  let aA := arg10.view.readCov P10 Q0.toLoadRect
  let T8 : List (View.Piece (Elt Ideal) S2x512x1 .f32) := ⟨R0, mStep (sDA i arg3 harg3 arg4 harg4 arg5 harg5 x0 x1 x2) mA⟩ :: P8
  let T9 : List (View.Piece (Elt Ideal) S2x512x1 .f32) := ⟨R0, lStep (sDA i arg3 harg3 arg4 harg4 arg5 harg5 x0 x1 x2) mA lA⟩ :: P9
  let T10 : List (View.Piece (Elt Ideal) S2x512x128 .f32) := ⟨Q0, aStep (sDA i arg3 harg3 arg4 harg4 arg5 harg5 x0 x1 x2) (vDA i arg4 harg4 x1) mA aA⟩ :: P10
  let mB := arg8.view.readCov T8 R1.toLoadRect
  let lB := arg9.view.readCov T9 R1.toLoadRect
  let aB := arg10.view.readCov T10 Q1.toLoadRect
  let U9 : List (View.Piece (Elt Ideal) S2x512x1 .f32) := ⟨R1, lStep (sDB i arg3 harg3 arg4 harg4 arg5 harg5 x0 x1 x2) mB lB⟩ :: T9
  let U10 : List (View.Piece (Elt Ideal) S2x512x128 .f32) := ⟨Q1, aStep (sDB i arg3 harg3 arg4 harg4 arg5 harg5 x0 x1 x2) (vDB i arg4 harg4 x1) mB aB⟩ :: T10
  [⟨Rect.unit (s := S512x256) ![0, 128] S512x128.size inb_S512x256_S512x128_0_128,
      k0_pay58 (arg10.view.readCov U10 Q1.toLoadRect) (arg9.view.readCov U9 R1.toLoadRect)
        (arg6.view.readAt (Elt Ideal) (Rect.unit (s := S512x256) ![0, 128] S512x128.size inb_S512x256_S512x128_0_128).toLoadRect (harg6.unread x3))⟩,
   ⟨Rect.unit (s := S512x256) ![0, 0] S512x128.size inb_S512x256_S512x128_0_0,
      k0_pay58 (arg10.view.readCov U10 Q0.toLoadRect) (arg9.view.readCov U9 R0.toLoadRect)
        (arg6.view.readAt (Elt Ideal) (Rect.unit (s := S512x256) ![0, 0] S512x128.size inb_S512x256_S512x128_0_0).toLoadRect (harg6.unread x3))⟩]

theorem run_pieces : ∃ v : BitVec 32,
    (kernelRun0_A (F := Ideal) c i arg3 harg3 arg4 harg4 arg5 harg5 arg6 harg6 arg7 harg7 arg8 harg8 arg9 harg9 arg10 harg10 x0 x1 x2 x3).1
      = outPieces i arg3 harg3 arg4 harg4 arg5 harg5 arg6 harg6 arg8 arg9 arg10 x0 x1 x2 x3
          ((pb2 c i arg3 harg3 arg4 harg4 arg5 harg5 arg6 harg6 arg7 harg7 arg8 harg8 arg9 harg9 arg10 harg10 x0 x1 x2 v).1 ++ ((pb c i arg3 harg3 arg4 harg4 arg5 harg5 arg6 harg6 arg7 harg7 arg8 harg8 arg9 harg9 arg10 harg10 x0 x1 x2).1 ++ L8))
          ((pb2 c i arg3 harg3 arg4 harg4 arg5 harg5 arg6 harg6 arg7 harg7 arg8 harg8 arg9 harg9 arg10 harg10 x0 x1 x2 v).2.1 ++ ((pb c i arg3 harg3 arg4 harg4 arg5 harg5 arg6 harg6 arg7 harg7 arg8 harg8 arg9 harg9 arg10 harg10 x0 x1 x2).2.1 ++ L9))
          ((pb2 c i arg3 harg3 arg4 harg4 arg5 harg5 arg6 harg6 arg7 harg7 arg8 harg8 arg9 harg9 arg10 harg10 x0 x1 x2 v).2.2 ++ ((pb c i arg3 harg3 arg4 harg4 arg5 harg5 arg6 harg6 arg7 harg7 arg8 harg8 arg9 harg9 arg10 harg10 x0 x1 x2).2.2 ++ L10)) := by
  refine ⟨kernelRun0_A.sl.v16 i, ?_⟩
  unfold kernelRun0_A
  dsimp only
  sl_unfold_words
  rfl

end Cert.KernelIdeal.Slabs

end
-- ==== Proof.Block.lean ====
/- The kernel's output block at a grid point, over the scores and values its slices of keys and values give. -/
module

public import proofs.«01_k».proof.Proof.Pieces

@[expose] public section

set_option maxRecDepth 16384

noncomputable section

namespace Cert.KernelIdeal.Slabs

open Cert.KernelIdeal Cert.KernelIdeal.Gen Cert.KernelIdeal.Steps Cert.Softmax Idealize.ShloMosaic Idealize.ShloMosaic.TcCoe
  Idealize.ShloMosaic.Tactic Idealize.ShloMosaic.Pointwise Idealize.SL.Sem

attribute [local instance] Cert.KernelIdeal.Gen.facts

variable (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S2x512x1 .f32) (harg8 : arg8.IsWhole) (arg9 : Memref sig .tc .vmem S2x512x1 .f32) (harg9 : arg9.IsWhole) (arg10 : Memref sig .tc .vmem S2x512x128 .f32) (harg10 : arg10.IsWhole)
  (x0 : Vec Ideal S512x512 .bf16) (x1 : Vec Ideal S4096x512 .bf16) (x2 : Vec Ideal S4096x128 .bf16) (x3 : Vec Ideal S512x256 .bf16)

/-- The scratch buffers before the first key hold −∞, 0 and 0. -/
theorem init8 (r : Fin 2 × Fin 512) : arg8.view.read (Elt Ideal) (arg8.view.writes (Elt Ideal) arg8.view.junk L8) (ix3 r.1 r.2 0) = ⊥ := by
  refine (View.read_writes_cons_unit_of_mem arg8.view _ _ _ _ _ (ix3 r.1 r.2 0) rfl (fun a => by fin_cases a <;> simp)).trans ?_
  pointwise [k0_pay32]
  rfl

theorem init9 (r : Fin 2 × Fin 512) : arg9.view.read (Elt Ideal) (arg9.view.writes (Elt Ideal) arg9.view.junk L9) (ix3 r.1 r.2 0) = 0 := by
  refine (View.read_writes_cons_unit_of_mem arg9.view _ _ _ _ _ (ix3 r.1 r.2 0) rfl (fun a => by fin_cases a <;> simp)).trans ?_
  pointwise [k0_pay33]

theorem init10 (r : Fin 2 × Fin 512) (d : Fin 128) : arg10.view.read (Elt Ideal) (arg10.view.writes (Elt Ideal) arg10.view.junk L10) (ix3 r.1 r.2 d) = 0 := by
  refine (View.read_writes_cons_unit_of_mem arg10.view _ _ _ _ _ (ix3 r.1 r.2 d) rfl (fun a => by fin_cases a <;> simp)).trans ?_
  pointwise [k0_pay34]

theorem initA (X : Fin 512 → ℕ → EReal) (V : Fin 128 → ℕ → EReal) :
    InvA arg8 arg9 arg10 (arg8.view.writes (Elt Ideal) arg8.view.junk L8) (arg9.view.writes (Elt Ideal) arg9.view.junk L9) (arg10.view.writes (Elt Ideal) arg10.view.junk L10) X V 0 :=
  Inv.zero X V
    (fun r => by rw [View.readAt_apply, ← init8 arg8 (0, r)]; congr 1; ext a; fin_cases a <;> simp [LoadRect.idx])
    (fun r => by rw [View.readAt_apply, ← init9 arg9 (0, r)]; congr 1; ext a; fin_cases a <;> simp [LoadRect.idx])
    (fun r d => by rw [View.readAt_apply, ← init10 arg10 (0, r) d]; congr 1; ext a; fin_cases a <;> simp [LoadRect.idx])

theorem initB (X : Fin 512 → ℕ → EReal) (V : Fin 128 → ℕ → EReal) :
    InvB arg8 arg9 arg10 (arg8.view.writes (Elt Ideal) arg8.view.junk L8) (arg9.view.writes (Elt Ideal) arg9.view.junk L9) (arg10.view.writes (Elt Ideal) arg10.view.junk L10) X V 0 :=
  Inv.zero X V
    (fun r => by rw [View.readAt_apply, ← init8 arg8 (1, r)]; congr 1; ext a; fin_cases a <;> simp [LoadRect.idx])
    (fun r => by rw [View.readAt_apply, ← init9 arg9 (1, r)]; congr 1; ext a; fin_cases a <;> simp [LoadRect.idx])
    (fun r d => by rw [View.readAt_apply, ← init10 arg10 (1, r) d]; congr 1; ext a; fin_cases a <;> simp [LoadRect.idx])

/-- The quotient of a row after the keys before `N`, gated. -/
def gated (X : ℕ → EReal) (V : ℕ → EReal) (N : ℕ) (g : EReal) : EReal :=
  Ideal.div (num X V (Finset.range N) (top X N)) (den X (Finset.range N) (top X N)) * (g * Ideal.div 1 (1 + Ideal.exp (- g)))

theorem Inv.out {X : Fin 512 → ℕ → EReal} {V : Fin 128 → ℕ → EReal} {N : ℕ} {m l : Vec Ideal S1x512x1 .f32}
    {a : Vec Ideal S1x512x128 .f32} (h : Inv X V N m l a) (g : Vec Ideal S512x128 .bf16) (r : Fin 512) (d : Fin 128) :
    k0_pay58 a l g (ix2 r d) = gated (X r) (V d) N (g (ix2 r d)) := by
  rw [out_at, h.l_eq, h.a_eq]; rfl

/-- The slab of one head, past a store in the other's. -/
theorem miss01 (v : View sig .tc .vmem S2x512x1 .f32) (f : v.ty.Contents (Elt Ideal)) (w : R0.shape.Idx → Elt Ideal .f32) (L : List (View.Piece (Elt Ideal) S2x512x1 .f32)) :
    v.readAt (Elt Ideal) R1.toLoadRect (v.writes (Elt Ideal) f (⟨R0, w⟩ :: L)) = v.readAt (Elt Ideal) R1.toLoadRect (v.writes (Elt Ideal) f L) :=
  readAt_miss v f _ _ w L (0 : Fin 3) (Or.inr (by decide))
theorem miss10 (v : View sig .tc .vmem S2x512x1 .f32) (f : v.ty.Contents (Elt Ideal)) (w : R1.shape.Idx → Elt Ideal .f32) (L : List (View.Piece (Elt Ideal) S2x512x1 .f32)) :
    v.readAt (Elt Ideal) R0.toLoadRect (v.writes (Elt Ideal) f (⟨R1, w⟩ :: L)) = v.readAt (Elt Ideal) R0.toLoadRect (v.writes (Elt Ideal) f L) :=
  readAt_miss v f _ _ w L (0 : Fin 3) (Or.inl (by decide))
theorem qmiss01 (v : View sig .tc .vmem S2x512x128 .f32) (f : v.ty.Contents (Elt Ideal)) (w : Q0.shape.Idx → Elt Ideal .f32) (L : List (View.Piece (Elt Ideal) S2x512x128 .f32)) :
    v.readAt (Elt Ideal) Q1.toLoadRect (v.writes (Elt Ideal) f (⟨Q0, w⟩ :: L)) = v.readAt (Elt Ideal) Q1.toLoadRect (v.writes (Elt Ideal) f L) :=
  readAt_miss v f _ _ w L (0 : Fin 3) (Or.inr (by decide))
theorem qmiss10 (v : View sig .tc .vmem S2x512x128 .f32) (f : v.ty.Contents (Elt Ideal)) (w : Q1.shape.Idx → Elt Ideal .f32) (L : List (View.Piece (Elt Ideal) S2x512x128 .f32)) :
    v.readAt (Elt Ideal) Q0.toLoadRect (v.writes (Elt Ideal) f (⟨Q1, w⟩ :: L)) = v.readAt (Elt Ideal) Q0.toLoadRect (v.writes (Elt Ideal) f L) :=
  readAt_miss v f _ _ w L (0 : Fin 3) (Or.inl (by decide))

/-- A block stored in two halves of 128 lanes, read at a lane of the first and of the second. -/
theorem halves_at (o : View sig .tc .vmem S512x256 .bf16) (A B : Vec Ideal S512x128 .bf16) (r : Fin 512) (d : Fin 128) :
    o.read (Elt Ideal) (o.writes (Elt Ideal) o.junk
        [⟨Rect.unit (s := S512x256) ![0, 128] S512x128.size inb_S512x256_S512x128_0_128, B⟩, ⟨Rect.unit (s := S512x256) ![0, 0] S512x128.size inb_S512x256_S512x128_0_0, A⟩])
        (ix2 r ⟨d, by omega⟩) = A (ix2 r d)
    ∧ o.read (Elt Ideal) (o.writes (Elt Ideal) o.junk
        [⟨Rect.unit (s := S512x256) ![0, 128] S512x128.size inb_S512x256_S512x128_0_128, B⟩, ⟨Rect.unit (s := S512x256) ![0, 0] S512x128.size inb_S512x256_S512x128_0_0, A⟩])
        (ix2 r ⟨128 + d, by omega⟩) = B (ix2 r d) := by
  constructor
  · refine (View.read_writes_cons_unit_of_not_mem o _ _ _ _ _ rfl (1 : Fin 2) (Or.inl (by simp))).trans ?_
    exact View.read_writes_cons_unit_of_mem o _ _ _ _ _ (ix2 r d) rfl (fun a => by fin_cases a <;> simp)
  · exact View.read_writes_cons_unit_of_mem o _ _ _ _ _ (ix2 r d) rfl (fun a => by fin_cases a <;> simp)

/-- A half of the gate's block. -/
theorem gate_at {off : ℕ} (inb : ∀ a, (![0, off] : Fin 2 → ℕ) a + S512x128.size a ≤ S512x256.size a) (r : Fin 512) (d : Fin 128) (h : off + d.val < 256) :
    arg6.view.readAt (Elt Ideal) (Rect.unit (s := S512x256) ![0, off] S512x128.size inb).toLoadRect (harg6.unread x3) (ix2 r d) = x3 (ix2 r ⟨off + d, h⟩) := by
  rw [View.readAt_apply, harg6.read_unread]
  congr 1; ext a; fin_cases a <;> simp [LoadRect.idx]

/-- The output block over slabs that hold what the keys before `N` leave. -/
theorem outPieces_at (XA XB : Fin 512 → ℕ → EReal) (VA VB : Fin 128 → ℕ → EReal)
    (hXA : ∀ r k, XA r k ≠ ⊤) (hXB : ∀ r k, XB r k ≠ ⊤) (N : ℕ)
    (hsA : ∀ r s : Fin 512, sDA i arg3 harg3 arg4 harg4 arg5 harg5 x0 x1 x2 (ix2 r s) = XA r (N + s))
    (hsB : ∀ r s : Fin 512, sDB i arg3 harg3 arg4 harg4 arg5 harg5 x0 x1 x2 (ix2 r s) = XB r (N + s))
    (hvA : ∀ (s : Fin 512) d, vDA i arg4 harg4 x1 (ix2 s d) = VA d (N + s))
    (hvB : ∀ (s : Fin 512) d, vDB i arg4 harg4 x1 (ix2 s d) = VB d (N + s))
    (P8 P9 : List (View.Piece (Elt Ideal) S2x512x1 .f32)) (P10 : List (View.Piece (Elt Ideal) S2x512x128 .f32))
    (hA : InvA arg8 arg9 arg10 (arg8.view.writes (Elt Ideal) arg8.view.junk P8) (arg9.view.writes (Elt Ideal) arg9.view.junk P9) (arg10.view.writes (Elt Ideal) arg10.view.junk P10) XA VA N)
    (hB : InvB arg8 arg9 arg10 (arg8.view.writes (Elt Ideal) arg8.view.junk P8) (arg9.view.writes (Elt Ideal) arg9.view.junk P9) (arg10.view.writes (Elt Ideal) arg10.view.junk P10) XB VB N)
    (o : View sig .tc .vmem S512x256 .bf16) (r : Fin 512) (d : Fin 128) :
    o.read (Elt Ideal) (o.writes (Elt Ideal) o.junk (outPieces i arg3 harg3 arg4 harg4 arg5 harg5 arg6 harg6 arg8 arg9 arg10 x0 x1 x2 x3 P8 P9 P10)) (ix2 r ⟨d, by omega⟩)
        = gated (XA r) (VA d) (N + 512) (x3 (ix2 r ⟨d, by omega⟩))
    ∧ o.read (Elt Ideal) (o.writes (Elt Ideal) o.junk (outPieces i arg3 harg3 arg4 harg4 arg5 harg5 arg6 harg6 arg8 arg9 arg10 x0 x1 x2 x3 P8 P9 P10)) (ix2 r ⟨128 + d, by omega⟩)
        = gated (XB r) (VB d) (N + 512) (x3 (ix2 r ⟨128 + d, by omega⟩)) := by
  unfold outPieces
  dsimp only
  have h := halves_at o
    (k0_pay58 (F := Ideal) (aStep (sDA i arg3 harg3 arg4 harg4 arg5 harg5 x0 x1 x2) (vDA i arg4 harg4 x1) (arg8.view.readCov P8 R0.toLoadRect) (arg10.view.readCov P10 Q0.toLoadRect))
      (lStep (sDA i arg3 harg3 arg4 harg4 arg5 harg5 x0 x1 x2) (arg8.view.readCov P8 R0.toLoadRect) (arg9.view.readCov P9 R0.toLoadRect))
      (arg6.view.readAt (Elt Ideal) (Rect.unit (s := S512x256) ![0, 0] S512x128.size inb_S512x256_S512x128_0_0).toLoadRect (harg6.unread x3)))
    (k0_pay58 (F := Ideal) (aStep (sDB i arg3 harg3 arg4 harg4 arg5 harg5 x0 x1 x2) (vDB i arg4 harg4 x1) (arg8.view.readCov P8 R1.toLoadRect) (arg10.view.readCov P10 Q1.toLoadRect))
      (lStep (sDB i arg3 harg3 arg4 harg4 arg5 harg5 x0 x1 x2) (arg8.view.readCov P8 R1.toLoadRect) (arg9.view.readCov P9 R1.toLoadRect))
      (arg6.view.readAt (Elt Ideal) (Rect.unit (s := S512x256) ![0, 128] S512x128.size inb_S512x256_S512x128_0_128).toLoadRect (harg6.unread x3))) r d
  unfold View.readCov at h ⊢
  rw [readAt_hit, readAt_hit, qmiss10, miss10, readAt_hit, readAt_hit, qmiss01, miss01, miss01]
  refine ⟨h.1.trans ((Inv.out (hA.step hXA hsA hvA) _ r d).trans (congrArg _ ?_)), h.2.trans ((Inv.out (hB.step hXB hsB hvB) _ r d).trans (congrArg _ ?_))⟩
  · rw [gate_at arg6 harg6 x3 _ r d (by omega)]; congr 3; omega
  · rw [gate_at arg6 harg6 x3 _ r d (by omega)]

end Cert.KernelIdeal.Slabs

end
-- ==== Proof.Pre.lean ====
/- What the precondition says: the pad lanes of the queries are zero, and the queries, the keys and the position
   keys are finite. -/
module

public import proofs.«01_k».proof.Defs
public import proofs.«01_k».proof.Proof.RefRead
public import proofs.«01_k».proof.Proof.Gen.Pre_finite_padded
public import Idealize.ShloMosaic.Lib.ReduceAll

@[expose] public section

set_option maxRecDepth 16384

noncomputable section

namespace Cert.PreRead

open Cert.Pre_finite_padded Cert.Pre_finite_padded.Gen Idealize.ShloMosaic Idealize.ShloMosaic.Pointwise Cert.Spec

attribute [local instance] Cert.Pre_finite_padded.Gen.facts

instance : Subsingleton S_.Idx := ⟨fun i j => funext fun a => a.elim0⟩

theorem inf_word : Ideal.ofBits .f32 0x7F800000#32 = ⊤ := by simp [Ideal.ofBits, Ideal.ieee]

theorem andi_one {x y : BitVec 1} (h : IntOp.andi x y = 1#1) : x = 1#1 ∧ y = 1#1 := IntOp.andi_eq_one.1 h

/-- A real number among the extended reals. -/
def IsReal (x : EReal) : Prop := ∃ r : ℝ, x = r

theorem isReal_zero : IsReal 0 := ⟨0, rfl⟩

theorem IsReal.mul {x y : EReal} (hx : IsReal x) (hy : IsReal y) : IsReal (x * y) := by
  obtain ⟨r, rfl⟩ := hx; obtain ⟨s, rfl⟩ := hy; exact ⟨r * s, rfl⟩

theorem IsReal.add {x y : EReal} (hx : IsReal x) (hy : IsReal y) : IsReal (x + y) := by
  obtain ⟨r, rfl⟩ := hx; obtain ⟨s, rfl⟩ := hy; exact ⟨r + s, rfl⟩

theorem isReal_sum {ι : Type*} (T : Finset ι) (f : ι → EReal) (h : ∀ i ∈ T, IsReal (f i)) : IsReal (∑ i ∈ T, f i) :=
  Finset.sum_induction f IsReal (fun _ _ => IsReal.add) isReal_zero h

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- A value whose magnitude is below +∞ is real. -/
theorem real_of_abs {x : EReal} (h : BitVec.ofBool (decide (max x (-x) < Ideal.ofBits .f32 0x7F800000#32)) = 1#1) :
    IsReal x := by
  rw [inf_word] at h
  have h' : max x (-x) < ⊤ := by by_contra hc; simp [hc] at h
  induction x with
  | bot => simp at h'
  | top => simp at h'
  | coe r => exact ⟨r, rfl⟩

theorem isReal_rd {n m : ℕ} {A : Mat n m} {r c : ℕ} (h : ∀ (hr : r < n) (hc : c < m), IsReal (A (ix2 ⟨r, hr⟩ ⟨c, hc⟩))) :
    IsReal (rd A r c) := by
  unfold rd
  split
  · rename_i hh; exact h hh.1 hh.2
  · exact isReal_zero

/-- What the claim supposes of its arguments. -/
structure Ok (q kv : Mat 8192 4096) (kpe : Mat 8192 128) : Prop where
  pad : ∀ R h x : ℕ, 192 ≤ x → x < 256 → rd q R (256 * h + x) = 0
  q_real : ∀ R C : ℕ, IsReal (rd q R C)
  k_real : ∀ R h x : ℕ, x < 128 → IsReal (rd kv R (256 * h + x))
  p_real : ∀ R x : ℕ, x < 64 → IsReal (rd kpe R x)

theorem read (q kv : Mat 8192 4096) (kpe : Mat 8192 128) (g : Mat 8192 2048)
    (h : Cert.Pre_finite_padded.fn (F := Ideal) q kv kpe g = fun _ => 1#1) : Ok q kv kpe := by
  have h0 := congrFun h (fun a => a.elim0)
  obtain ⟨h1, h24⟩ := andi_one h0
  obtain ⟨h15, h19⟩ := andi_one h1
  obtain ⟨h10, h14⟩ := andi_one h15
  have e10 := Host.reduce_andi_all _ _ _ _ _ h10
  have e14 := Host.reduce_andi_all _ _ _ _ _ h14
  have e19 := Host.reduce_andi_all _ _ _ _ _ h19
  have e24 := Host.reduce_andi_all _ _ _ _ _ h24
  clear h0 h1 h24 h15 h19 h10 h14
  refine ⟨fun R h x hx hx' => ?_, fun R C => isReal_rd fun hr hc => ?_,
    fun R h x hx => isReal_rd fun hr hc => ?_, fun R x hx => isReal_rd fun hr hc => ?_⟩
  · unfold rd
    split
    · rename_i hh
      have e := e10 (ix3 ⟨R, hh.1⟩ ⟨h, by omega⟩ ⟨x - 192, by omega⟩)
      pointwise at e
      have e' : q (ix2 ⟨R, hh.1⟩ ⟨h * 256 + (192 + (x - 192)), by omega⟩) = 0 := by
        by_contra hc; simp [hc] at e
      rw [← e']; congr 2; apply Fin.ext; show 256 * h + x = h * 256 + (192 + (x - 192)); omega
    · rfl
  · have e := e14 (ix3 ⟨R, hr⟩ ⟨C / 256, by omega⟩ ⟨C % 256, by omega⟩)
    pointwise at e
    have e' := real_of_abs e
    have : (⟨C / 256 * 256 + C % 256, by omega⟩ : Fin 4096) = ⟨C, hc⟩ := Fin.ext (by show C / 256 * 256 + C % 256 = C; omega)
    rwa [this] at e'
  · have e := e19 (ix3 ⟨R, hr⟩ ⟨h, by omega⟩ ⟨x, hx⟩)
    pointwise at e
    have e' := real_of_abs e
    have : (⟨h * 256 + x, by omega⟩ : Fin 4096) = ⟨256 * h + x, hc⟩ := Fin.ext (by show h * 256 + x = 256 * h + x; omega)
    rwa [this] at e'
  · have e := e24 (ix2 ⟨R, hr⟩ ⟨x, hx⟩)
    pointwise at e
    exact real_of_abs e

theorem scale_real : IsReal (Ideal.ofBits .f32 0x3D93CD3A#32) := by
  simp only [Ideal.ofBits, Ideal.ieee]
  exact ⟨_, rfl⟩

variable {q kv : Mat 8192 4096} {kpe : Mat 8192 128}

theorem Ok.score_real (h : Ok q kv kpe) (b hd t k : ℕ) (hk : k ≤ t) : IsReal (score q kv kpe b hd t k) := by
  rw [score, if_pos hk]
  refine ((isReal_sum _ _ fun x _ => ?_).add (isReal_sum _ _ fun x _ => ?_)).mul scale_real
  · exact (h.q_real _ _).mul (h.k_real _ _ _ x.isLt)
  · exact (h.q_real _ _).mul (h.p_real _ _ x.isLt)

theorem Ok.score_ne_top (h : Ok q kv kpe) (b hd t k : ℕ) : score q kv kpe b hd t k ≠ ⊤ := by
  by_cases hk : k ≤ t
  · exact (h.score_real b hd t k hk).ne_top
  · rw [score, if_neg hk]; exact bot_ne_top

end Cert.PreRead

end
-- ==== Proof.BlockValue.lean ====
/- The kernel's output block at a grid point, over what its input blocks are in the argument arrays. -/
module

public import proofs.«01_k».proof.Proof.Block
public import proofs.«01_k».proof.Proof.Pre

@[expose] public section

set_option maxRecDepth 16384

noncomputable section

namespace Cert.KernelIdeal.Slabs

open Cert.KernelIdeal Cert.KernelIdeal.Gen Cert.KernelIdeal.Steps Cert.Softmax Cert.Spec Cert.PreRead Idealize.ShloMosaic
  Idealize.ShloMosaic.TcCoe Idealize.ShloMosaic.Tactic Idealize.ShloMosaic.Pointwise Idealize.SL.Sem

attribute [local instance] Cert.KernelIdeal.Gen.facts

/-- A load from a whole buffer whose contents are a function of the coordinates. -/
theorem load_at {sz : Fin 2 → ℕ} (M : Memref sig .tc .vmem ⟨2, sz⟩ .bf16) (hM : M.IsWhole) (x : Vec Ideal ⟨2, sz⟩ .bf16)
    (f : ℕ → ℕ → EReal) (hx : ∀ y, x y = f (y 0).val (y 1).val) {off size : Fin 2 → ℕ} (inb : ∀ a, off a + size a ≤ sz a)
    {off' : Fin 2 → ℕ} (ho : off = off') (y : (Rect.unit (s := ⟨2, sz⟩) off size inb).toLoadRect.shape.Idx) :
    M.view.readAt (Elt Ideal) (Rect.unit (s := ⟨2, sz⟩) off size inb).toLoadRect (hM.unread x) y = f (off' 0 + (y 0).val) (off' 1 + (y 1).val) := by
  subst ho
  rw [View.readAt_apply, hM.read_unread, hx]
  refine congrArg₂ f ?_ ?_
  · show off 0 + 1 * (y 0).val = _; omega
  · show off 1 + 1 * (y 1).val = _; omega

variable (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S2x512x1 .f32) (harg8 : arg8.IsWhole) (arg9 : Memref sig .tc .vmem S2x512x1 .f32) (harg9 : arg9.IsWhole) (arg10 : Memref sig .tc .vmem S2x512x128 .f32) (harg10 : arg10.IsWhole)
  (x0 : Vec Ideal S512x512 .bf16) (x1 : Vec Ideal S4096x512 .bf16) (x2 : Vec Ideal S4096x128 .bf16) (x3 : Vec Ideal S512x256 .bf16)
  (q kv : Mat 8192 4096) (kpe : Mat 8192 128) (g : Mat 8192 2048) (b h p : ℕ)

/-- A block of scores, from slices of the arrays: the query rows at `R`, the key rows at `n`, head `hd`. -/
theorem block_score (hok : Ok q kv kpe) (kp : Vec Ideal S512x128 .bf16) (qq : Vec Ideal S512x256 .bf16) (kn : Vec Ideal S512x128 .bf16) (hd T n : ℕ)
    (hq : ∀ y, qq y = rd q (4096 * b + T + (y 0).val) (256 * hd + (y 1).val))
    (hn : ∀ y, kn y = rd kv (4096 * b + n + (y 0).val) (256 * hd + (y 1).val))
    (hp : ∀ y, kp y = rd kpe (4096 * b + n + (y 0).val) (y 1).val) (r s : Fin 512) (hle : n + s.val ≤ T + r.val) :
    k0_pay2 kp qq kn (ix2 r s) = score q kv kpe b hd (T + r) (n + s) := by
  rw [qk_at kp qq kn r s fun x hx => (hq _).trans (hok.pad _ hd x hx x.isLt), score, if_pos hle]
  refine congrArg (· * scale) (congrArg₂ (· + ·) (Finset.sum_congr rfl fun x _ => ?_) (Finset.sum_congr rfl fun x _ => ?_))
  · exact congrArg₂ (· * ·) ((hq _).trans (by simp [Nat.add_assoc])) ((hn _).trans (by simp [Nat.add_assoc]))
  · exact congrArg₂ (· * ·) ((hq _).trans (by simp [Nat.add_assoc])) ((hp _).trans (by simp [Nat.add_assoc]))

/-- The block on the diagonal: the scores after the query are −∞ on both sides. -/
theorem block_masked (hok : Ok q kv kpe) (kp : Vec Ideal S512x128 .bf16) (qq : Vec Ideal S512x256 .bf16) (kn : Vec Ideal S512x128 .bf16) (hd T : ℕ)
    (hq : ∀ y, qq y = rd q (4096 * b + T + (y 0).val) (256 * hd + (y 1).val))
    (hn : ∀ y, kn y = rd kv (4096 * b + T + (y 0).val) (256 * hd + (y 1).val))
    (hp : ∀ y, kp y = rd kpe (4096 * b + T + (y 0).val) (y 1).val) (r s : Fin 512) :
    k0_pay50 kp qq kn (ix2 r s) = score q kv kpe b hd (T + r) (T + s) := by
  rw [masked_at]
  by_cases hle : s ≤ r
  · rw [if_pos hle, block_score q kv kpe b hok kp qq kn hd T T hq hn hp r s (by have : s.val ≤ r.val := hle; omega)]
  · rw [if_neg hle, score, if_neg (by have : ¬ s.val ≤ r.val := hle; omega)]

/-- A row's gated quotient after the block on the diagonal is the attention's result. -/
theorem gated_eq (hok : Ok q kv kpe) (hd T : ℕ) (hT : T < 8) (r : Fin 512) (d : Fin 128) (R C : ℕ) (hR : R = 4096 * b + 512 * T + r)
    (hC : C = 128 * hd + d) :
    gated (score q kv kpe b hd (512 * T + r)) (value kv b hd d) (512 * T + 512) (rd g R C) = out q kv kpe g R C := by
  have h1 : R / 4096 = b := by omega
  have h2 : R % 4096 = 512 * T + r := by omega
  have h3 : C / 128 = hd := by omega
  have h4 : C % 128 = d := by omega
  rw [gated, out, h1, h2, h3, h4, attn, silu,
    quotient (score q kv kpe b hd (512 * T + r)) (value kv b hd d) (fun k => hok.score_ne_top b hd _ k)
      (N := 512 * T + 512) (U := 4096) (k0 := 0) (by omega) (fun k hk => by rw [score, if_neg (by omega)]) (by omega)
      (hok.score_real b hd _ 0 (by omega)).ne_bot]

theorem halves_all (Z : Vec Ideal S512x256 .bf16) (G : ℕ → ℕ → EReal)
    (hZ : ∀ (r : Fin 512) (d : Fin 128), Z (ix2 r ⟨d, by omega⟩) = G r d ∧ Z (ix2 r ⟨128 + d, by omega⟩) = G r (128 + d.val)) (y : S512x256.Idx) :
    Z y = G (y 0).val (y 1).val := by
  have hr : (y 0).val < 512 := (y 0).isLt
  have hd : (y 1).val < 256 := (y 1).isLt
  by_cases hlt : (y 1).val < 128
  · have hy : y = ix2 ⟨(y 0).val, hr⟩ ⟨(⟨(y 1).val, hlt⟩ : Fin 128).val, hd⟩ := by ext a; fin_cases a <;> rfl
    exact (congrArg Z hy).trans (hZ ⟨(y 0).val, hr⟩ ⟨(y 1).val, hlt⟩).1
  · have hy : y = ix2 ⟨(y 0).val, hr⟩ ⟨128 + (⟨(y 1).val - 128, by omega⟩ : Fin 128).val, by simp; omega⟩ := by
      ext a; fin_cases a
      · rfl
      · show (y 1).val = 128 + ((y 1).val - 128); omega
    refine (congrArg Z hy).trans ((hZ ⟨(y 0).val, hr⟩ ⟨(y 1).val - 128, by omega⟩).2.trans (congrArg (G _) ?_))
    show 128 + ((y 1).val - 128) = _; omega

theorem block_at (hok : Ok q kv kpe)
    (hx0 : ∀ y, x0 y = rd q (4096 * b + 512 * (i 2).val + (y 0).val) (512 * h + (y 1).val))
    (hx1 : ∀ y, x1 y = rd kv (4096 * b + (y 0).val) (512 * h + (y 1).val))
    (hx2 : ∀ y, x2 y = rd kpe (4096 * b + (y 0).val) (y 1).val)
    (hx3 : ∀ y, x3 y = rd g (4096 * b + 512 * (i 2).val + (y 0).val) (256 * h + (y 1).val)) (y : S512x256.Idx) :
    out0_A_4 (F := Ideal) c i arg3 harg3 arg4 harg4 arg5 harg5 arg6 harg6 arg7 harg7 arg8 harg8 arg9 harg9 arg10 harg10 x0 x1 x2 x3 y
      = out q kv kpe g (4096 * b + 512 * (i 2).val + (y 0).val) (256 * h + (y 1).val) := by
  have hi : (i 2).val < 8 := (i 2).isLt
  obtain ⟨v, hv⟩ := run_pieces c i arg3 harg3 arg4 harg4 arg5 harg5 arg6 harg6 arg7 harg7 arg8 harg8 arg9 harg9 arg10 harg10 x0 x1 x2 x3
  rw [pb2_eq] at hv
  dsimp only [List.nil_append] at hv
  unfold out0_A_4
  rw [hv]
  have hqA : ∀ y, qA arg3 (harg3.unread x0) y = rd q (4096 * b + 512 * (i 2).val + (y 0).val) (256 * (2 * h) + (y 1).val) := fun y =>
    (load_at arg3 harg3 x0 (fun r s => rd q (4096 * b + 512 * (i 2).val + r) (512 * h + s)) hx0 _ rfl y).trans (congrArg₂ _ (by simp) (by simp; omega))
  have hqB : ∀ y, qB arg3 (harg3.unread x0) y = rd q (4096 * b + 512 * (i 2).val + (y 0).val) (256 * (2 * h + 1) + (y 1).val) := fun y =>
    (load_at arg3 harg3 x0 (fun r s => rd q (4096 * b + 512 * (i 2).val + r) (512 * h + s)) hx0 _ rfl y).trans (congrArg₂ _ (by simp) (by simp; omega))
  have hloop := loop_inv Variants.none c none i arg3 harg3 arg4 harg4 arg5 harg5 arg6 harg6 arg7 harg7 arg8 harg8 arg9 harg9 arg10 harg10
    (harg3.unread x0) (harg4.unread x1) (harg5.unread x2)
    (arg8.view.writes (Elt Ideal) arg8.view.junk L8) (arg9.view.writes (Elt Ideal) arg9.view.junk L9) (arg10.view.writes (Elt Ideal) arg10.view.junk L10)
    (fun r => score q kv kpe b (2 * h) (512 * (i 2).val + r)) (fun r => score q kv kpe b (2 * h + 1) (512 * (i 2).val + r))
    (fun d => value kv b (2 * h) d) (fun d => value kv b (2 * h + 1) d)
    (fun r k => hok.score_ne_top _ _ _ _) (fun r k => hok.score_ne_top _ _ _ _)
    (fun k r s => block_score q kv kpe b hok _ _ _ (2 * h) (512 * (i 2).val) (512 * k) hqA
      (fun y => (load_at arg4 harg4 x1 (fun r s => rd kv (4096 * b + r) (512 * h + s)) hx1 _ (k0_off2_eq i k) y).trans (congrArg₂ _ (by simp; omega) (by simp; omega)))
      (fun y => (load_at arg5 harg5 x2 (fun r s => rd kpe (4096 * b + r) s) hx2 _ (k0_off1_eq i k) y).trans (congrArg₂ _ (by simp; omega) (by simp))) r s
      (by have := lt_of_lt_of_le k.isLt (trips_eq i).le; omega))
    (fun k r s => block_score q kv kpe b hok _ _ _ (2 * h + 1) (512 * (i 2).val) (512 * k) hqB
      (fun y => (load_at arg4 harg4 x1 (fun r s => rd kv (4096 * b + r) (512 * h + s)) hx1 _ (k0_off4_eq i k) y).trans (congrArg₂ _ (by simp; omega) (by simp; omega)))
      (fun y => (load_at arg5 harg5 x2 (fun r s => rd kpe (4096 * b + r) s) hx2 _ (k0_off1_eq i k) y).trans (congrArg₂ _ (by simp; omega) (by simp))) r s
      (by have := lt_of_lt_of_le k.isLt (trips_eq i).le; omega))
    (fun k s d => (load_at arg4 harg4 x1 (fun r s => rd kv (4096 * b + r) (512 * h + s)) hx1 _ (k0_off3_eq i k) _).trans (congrArg₂ _ (by simp) (by simp; omega)))
    (fun k s d => (load_at arg4 harg4 x1 (fun r s => rd kv (4096 * b + r) (512 * h + s)) hx1 _ (k0_off5_eq i k) _).trans (congrArg₂ _ (by simp) (by simp; omega)))
    (initA ..) (initB ..) (k0_t1_loop i).trips le_rfl
  have hN : 512 * (k0_t1_loop i).trips = 512 * (i 2).val := congrArg _ (trips_eq i)
  have hall := fun r d => outPieces_at i arg3 harg3 arg4 harg4 arg5 harg5 arg6 harg6 arg8 arg9 arg10 x0 x1 x2 x3
    (fun r => score q kv kpe b (2 * h) (512 * (i 2).val + r)) (fun r => score q kv kpe b (2 * h + 1) (512 * (i 2).val + r))
    (fun d => value kv b (2 * h) d) (fun d => value kv b (2 * h + 1) d)
    (fun r k => hok.score_ne_top _ _ _ _) (fun r k => hok.score_ne_top _ _ _ _) (512 * (i 2).val)
    (fun r s => block_masked q kv kpe b hok _ _ _ (2 * h) (512 * (i 2).val) hqA
      (fun y => (load_at arg4 harg4 x1 (fun r s => rd kv (4096 * b + r) (512 * h + s)) hx1 _ (k0_off12_eq i) y).trans (congrArg₂ _ (by simp; omega) (by simp; omega)))
      (fun y => (load_at arg5 harg5 x2 (fun r s => rd kpe (4096 * b + r) s) hx2 _ (k0_off11_eq i) y).trans (congrArg₂ _ (by simp; omega) (by simp))) r s)
    (fun r s => block_masked q kv kpe b hok _ _ _ (2 * h + 1) (512 * (i 2).val) hqB
      (fun y => (load_at arg4 harg4 x1 (fun r s => rd kv (4096 * b + r) (512 * h + s)) hx1 _ (k0_off14_eq i) y).trans (congrArg₂ _ (by simp; omega) (by simp; omega)))
      (fun y => (load_at arg5 harg5 x2 (fun r s => rd kpe (4096 * b + r) s) hx2 _ (k0_off11_eq i) y).trans (congrArg₂ _ (by simp; omega) (by simp))) r s)
    (fun s d => (load_at arg4 harg4 x1 (fun r s => rd kv (4096 * b + r) (512 * h + s)) hx1 _ (k0_off13_eq i) _).trans (congrArg₂ _ (by simp) (by simp; omega)))
    (fun s d => (load_at arg4 harg4 x1 (fun r s => rd kv (4096 * b + r) (512 * h + s)) hx1 _ (k0_off15_eq i) _).trans (congrArg₂ _ (by simp) (by simp; omega)))
    _ _ _
    (by have := hloop.1; rw [← View.writes_append, ← View.writes_append, ← View.writes_append] at this
        exact Eq.mp (congrArg (fun N => Inv _ _ N _ _ _) hN) this)
    (by have := hloop.2; rw [← View.writes_append, ← View.writes_append, ← View.writes_append] at this
        exact Eq.mp (congrArg (fun N => Inv _ _ N _ _ _) hN) this)
    VO0_4 r d
  refine halves_all _ (fun r s => out q kv kpe g (4096 * b + 512 * (i 2).val + r) (256 * h + s))
    (fun r d => ⟨(hall r d).1.trans ?_, (hall r d).2.trans ?_⟩) y
  · rw [hx3]
    exact gated_eq q kv kpe g b hok (2 * h) (i 2).val hi r d _ _ rfl (by simp; omega)
  · rw [hx3]
    exact gated_eq q kv kpe g b hok (2 * h + 1) (i 2).val hi r d _ _ rfl (by simp; omega)

end Cert.KernelIdeal.Slabs

end
-- ==== Proof.Final.lean ====
/- The kernel's result array after its run: the attention's result at every element. -/
module

public import proofs.«01_k».proof.Proof.Gen.KernelIdeal.Value
public import proofs.«01_k».proof.Proof.BlockValue
public import Idealize.ShloMosaic.Lib.Pipeline.ValueKit

@[expose] public section

set_option maxRecDepth 16384

noncomputable section

namespace Cert.KernelIdeal.Final

open Cert.KernelIdeal Cert.KernelIdeal.Gen Cert.KernelIdeal.Slabs Cert.Spec Cert.PreRead Idealize.ShloMosaic
  Idealize.ShloMosaic.TcCoe Idealize.ShloMosaic.Pointwise Idealize.SL.Sem

attribute [local instance] Cert.KernelIdeal.Gen.facts

variable (m : (ℓ : Loc nD τ sig) → Buf (Elt Ideal) ℓ) (c : Dev nD)

/-- The blocks of the point with coordinates (batch, pair of heads, block of queries). -/
theorem index0 : ∀ t : Fin cfg0.N, win0_0.index t = ![8 * (grid0.coords t 0).val + (grid0.coords t 2).val, (grid0.coords t 1).val] :=
  (by decide +kernel : ∀ t : Fin grid0.N, _)
theorem index1 : ∀ t : Fin cfg0.N, win0_1.index t = ![(grid0.coords t 0).val, (grid0.coords t 1).val] :=
  (by decide +kernel : ∀ t : Fin grid0.N, _)
theorem index2 : ∀ t : Fin cfg0.N, win0_2.index t = ![(grid0.coords t 0).val, 0] :=
  (by decide +kernel : ∀ t : Fin grid0.N, _)
theorem index3 : ∀ t : Fin cfg0.N, win0_3.index t = ![8 * (grid0.coords t 0).val + (grid0.coords t 2).val, (grid0.coords t 1).val] :=
  (by decide +kernel : ∀ t : Fin grid0.N, _)
theorem index4 : ∀ t : Fin cfg0.N, win0_4.index t = ![8 * (grid0.coords t 0).val + (grid0.coords t 2).val, (grid0.coords t 1).val] :=
  (by decide +kernel : ∀ t : Fin grid0.N, _)

theorem final (hok : Ok (m ((c : Thread nD τ).loc main_arg0)) (m ((c : Thread nD τ).loc main_arg1)) (m ((c : Thread nD τ).loc main_arg2))) :
    (dats m 0 c).arrAt 4 cfg0.N = fun y => out (m ((c : Thread nD τ).loc main_arg0)) (m ((c : Thread nD τ).loc main_arg1))
      (m ((c : Thread nD τ).loc main_arg2)) (m ((c : Thread nD τ).loc main_arg3)) (y 0).val (y 1).val := by
  refine (dats m 0 c).arrAt_eq_of_covers 4 _ (by decide +kernel) fun t hf y => ?_
  blk_simp [index4]
  rw [after0_4]
  unfold outsAt0
  refine (block_at c (grid0.coords t) _ _ _ _ _ _ _ _ _ _ _ _ _ _ _ _ _ _ _ _ (m ((c : Thread nD τ).loc main_arg0)) (m ((c : Thread nD τ).loc main_arg1))
      (m ((c : Thread nD τ).loc main_arg2)) (m ((c : Thread nD τ).loc main_arg3)) (grid0.coords t 0).val (grid0.coords t 1).val hok
      (fun y => ?_) (fun y => ?_) (fun y => ?_) (fun y => ?_) y).trans ?_
  · exact rd_idx (m ((c : Thread nD τ).loc main_arg0)) _ (by blk_simp [index0]; simp; omega) (by blk_simp [index0]; simp; omega)
  · exact rd_idx (m ((c : Thread nD τ).loc main_arg1)) _ (by blk_simp [index1]; simp; omega) (by blk_simp [index1]; simp; omega)
  · exact rd_idx (m ((c : Thread nD τ).loc main_arg2)) _ (by blk_simp [index2]; simp; omega) (by blk_simp [index2])
  · exact rd_idx (m ((c : Thread nD τ).loc main_arg3)) _ (by blk_simp [index3]; simp; omega) (by blk_simp [index3]; simp; omega)
  · refine congrArg₂ (out _ _ _ _) ?_ ?_
    · simp; omega
    · simp; omega

end Cert.KernelIdeal.Final

end
-- ==== Proof.Claims.lean ====
/- The claims of this certificate, each from the modules before it. -/
module

public import proofs.«01_k».proof.Defs
public import proofs.«01_k».proof.Proof.Gen.Kernel.Frame
public import proofs.«01_k».proof.Proof.Gen.ReferenceIdeal.Run
public import proofs.«01_k».proof.Proof.Final
public import proofs.«01_k».proof.Proof.RefRead
public import Idealize.ShloMosaic.Lib.Quiescent

@[expose] public section

noncomputable section

namespace Cert.Attention

open Idealize.ShloMosaic Idealize.ShloMosaic.TcCoe Idealize.ShloMosaic.Pointwise Idealize.SL.Sem

attribute [local instance] Cert.Kernel.Gen.facts Cert.KernelIdeal.Gen.facts Cert.ReferenceIdeal.Gen.facts
  Cert.Pre_finite_padded.Gen.facts

/-- The reference's run leaves its arguments and every semaphore counter as they were. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems (by decide) r.2⟩)
    (Cert.ReferenceIdeal.Value.run (F := Ideal) m g)

/-- Each replaced mask is −∞ over the extended reals. -/
theorem preserves : Cert.preserves_Kernel_KernelIdeal :=
  IdealRules.named_const.statement Cert.KernelIdeal.κ "mask" .f32 0xF149F2CA#32 ⊥ rfl

/-- The kernel's run and the reference's end at the attention's result of the arguments. -/
theorem algebraic : Cert.algebraic_KernelIdeal_ReferenceIdeal_pre_finite_padded := by
  intro m g m' g' hpre hagree
  refine ⟨fun c y => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (y 0).val (y 1).val, ?_, ?_⟩
  · refine (θ_run _ _ _).mono (fun r h c => ⟨(h c).1.trans ?_, (h c).2⟩) (Cert.KernelIdeal.Value.run_blocks (F := Ideal) m g)
    exact Cert.KernelIdeal.Final.final m c (Cert.PreRead.read _ _ _ _ (hpre c))
  · refine (θ_run _ _ _).mono (fun r h c => ⟨(h c).1.trans ?_, (h c).2⟩) (Cert.ReferenceIdeal.Value.run (F := Ideal) m' g')
    rw [Cert.ReferenceIdeal.Read.val_main_v41_eq, (hagree c).1, (hagree c).2.1, (hagree c).2.2.1, (hagree c).2.2.2]
    funext y
    refine (congrArg _ (eq_ix2 y)).trans (Cert.ReferenceIdeal.RefRead.out_at _ _ _ _ (y 0) (y 1))

end Cert.Attention

end
-- ==== Proof.Layer.lean ====
/- The layer's mathematics over tables of numbers: products, the norm of a row, and arrays read as tables. -/
module

public import proofs.«01_k».proof.Proof.RefRead

@[expose] public section

noncomputable section

namespace Cert.Spec

open Idealize.ShloMosaic Idealize.ShloMosaic.Pointwise

abbrev Vect (n : ℕ) := (⟨1, ![n]⟩ : Shape).Idx → EReal
abbrev Stack (n m : ℕ) := (⟨3, ![1, n, m]⟩ : Shape).Idx → EReal

/-- A vector read at a natural coordinate (0 outside it). -/
def rd1 {n : ℕ} (g : Vect n) (c : ℕ) : EReal := if h : c < n then g (ix1 ⟨c, h⟩) else 0

/-- A stack of one matrix read at natural coordinates (0 outside it). -/
def rd3 {n m : ℕ} (A : Stack n m) (r c : ℕ) : EReal :=
  if h : r < n ∧ c < m then A (ix3 (0 : Fin 1) ⟨r, h.1⟩ ⟨c, h.2⟩) else 0

theorem rd1_idx {n : ℕ} (g : Vect n) (i : (⟨1, ![n]⟩ : Shape).Idx) {c : ℕ} (hc : (i 0).val = c) : g i = rd1 g c := by
  subst hc
  have h0 : (i 0).val < n := (i 0).isLt
  rw [rd1, dif_pos h0]
  congr 1
  funext a
  match a with
  | ⟨0, _⟩ => rfl

theorem rd3_idx {n m : ℕ} (A : Stack n m) (i : (⟨3, ![1, n, m]⟩ : Shape).Idx) {r c : ℕ}
    (hr : (i 1).val = r) (hc : (i 2).val = c) : A i = rd3 A r c := by
  subst hr hc
  have h0 : (i 0).val < 1 := (i 0).isLt
  have h1 : (i 1).val < n := (i 1).isLt
  have h2 : (i 2).val < m := (i 2).isLt
  rw [rd3, dif_pos ⟨h1, h2⟩]
  congr 1
  funext a
  match a with
  | ⟨0, _⟩ => exact Fin.ext (by show (i 0).val = 0; omega)
  | ⟨1, _⟩ => rfl
  | ⟨2, _⟩ => rfl

/-- The entry at row `r`, column `c` of the product of `h` and `w` over `K` terms. -/
def prod (K : ℕ) (h w : ℕ → ℕ → EReal) (r c : ℕ) : EReal := ∑ k : Fin K, h r k * w k c

/-- The mean square norm of row `r` of `N` entries, scaled by `g`; `s` is `N` as the programs' constant. -/
def norm (N : ℕ) (s : EReal) (x : ℕ → ℕ → EReal) (g : ℕ → EReal) (r c : ℕ) : EReal :=
  x r c * Ideal.rsqrt (Ideal.div (∑ k : Fin N, x r k * x r k) s + Ideal.ofBits .f32 897988541#32) * g c

/-- The residual stream after an output projection. -/
def resid (x : ℕ → ℕ → EReal) (o w : ℕ → ℕ → EReal) (r c : ℕ) : EReal := x r c + prod 2048 o w r c

end Cert.Spec

end
-- ==== Proof.Rope.lean ====
/- The rotary positions over tables of numbers: the angles' tables, a rotated table, and the spellings of one rotated entry. -/
module

public import proofs.«01_k».proof.Proof.Layer

@[expose] public section

noncomputable section

namespace Cert.Spec

open Idealize.ShloMosaic Idealize.ShloMosaic.Pointwise

/-- The angle at position `p` of frequency `f`; `b` is the number of frequencies as the programs' constant. -/
def ang (b : EReal) (p f : ℕ) : EReal :=
  FloatOps.sitofp (F := Ideal) .f32 (BitVec.ofNat 32 p)
    * Ideal.pow (Ideal.ofBits .f32 1176256512#32) (Ideal.div (-FloatOps.sitofp (F := Ideal) .f32 (BitVec.ofNat 32 f)) b)

/-- The cosines by position and lane, repeating every `half` lanes. -/
def cosT (half : ℕ) (b : EReal) (p l : ℕ) : EReal := Ideal.cos (ang b p (l % half))

/-- The sines by position and lane, negative in the first half of each `2 * half` lanes. -/
def sinT (half : ℕ) (b : EReal) (p l : ℕ) : EReal :=
  if l % (2 * half) < half then -Ideal.sin (ang b p (l % half)) else Ideal.sin (ang b p (l % half))

theorem cosT_of {half f p l : ℕ} {b : EReal} (hf : f = l % half) : Ideal.cos (ang b p f) = cosT half b p l := by
  subst hf
  rfl

theorem sinT_pos {half f p l : ℕ} {b : EReal} (hf : f = l % half) (hl : ¬ l % (2 * half) < half) :
    Ideal.sin (ang b p f) = sinT half b p l := by
  rw [sinT, if_neg hl, hf]

theorem sinT_neg {half f p l : ℕ} {b : EReal} (hf : f = l % half) (hl : l % (2 * half) < half) :
    -Ideal.sin (ang b p f) = sinT half b p l := by
  rw [sinT, if_pos hl, hf]

/-- The tables that leave the lanes from 64 on as they are. -/
def cosI (b : EReal) (p l : ℕ) : EReal := if l < 64 then cosT 32 b p l else 1
def sinI (b : EReal) (p l : ℕ) : EReal := if l < 64 then sinT 32 b p l else 0

/-- The partner of column `c` under a rotation of heads of `2 * half` columns. -/
def sw (half c : ℕ) : ℕ := if c % (2 * half) < half then c + half else c - half

/-- The table `z` rotated, by tables of 4096 positions and 128 lanes. -/
def roped (half : ℕ) (z C S : ℕ → ℕ → EReal) (r c : ℕ) : EReal :=
  z r c * C (r % 4096) (c % 128) + z r (sw half c) * S (r % 4096) (c % 128)

theorem roped_of {K half a b l p r c : ℕ} {H W C S : ℕ → ℕ → EReal} (ha : a = c) (hb : b = sw half c) (hl : l = c % 128)
    (hp : p = r % 4096) :
    (∑ k : Fin K, H r k * W k a) * C p l + (∑ k : Fin K, H r k * W k b) * S p l = roped half (prod K H W) C S r c := by
  subst ha hb hl hp
  rfl

theorem roped_id {half r c : ℕ} {z : ℕ → ℕ → EReal} {b : EReal} (h : ¬ c % 128 < 64) : roped half z (cosI b) (sinI b) r c = z r c := by
  unfold roped cosI sinI
  rw [if_neg h, if_neg h, mul_one, mul_zero, add_zero]

theorem roped_low {half r c : ℕ} {z : ℕ → ℕ → EReal} {b : EReal} (h : c % 128 < 64) :
    roped half z (cosI b) (sinI b) r c = roped half z (cosT 32 b) (sinT 32 b) r c := by
  unfold roped cosI sinI
  rw [if_pos h, if_pos h]

/-- The first half of a head rotated as a difference. -/
theorem roped_first {half f p r c : ℕ} {z : ℕ → ℕ → EReal} {b u v : EReal} (hc : c % (2 * half) < half)
    (hl : c % 128 % (2 * half) < half) (hu : u = z r c) (hv : v = z r (c + half)) (hf : f = c % 128 % half) (hp : p = r % 4096) :
    u * Ideal.cos (ang b p f) - v * Ideal.sin (ang b p f) = roped half z (cosT half b) (sinT half b) r c := by
  subst hu hv hf hp
  rw [roped, sw, if_pos hc, cosT, sinT, if_pos hl, mul_neg, ← sub_eq_add_neg]

/-- The second half of a head rotated as a sum. -/
theorem roped_second {half f p r c : ℕ} {z : ℕ → ℕ → EReal} {b u v : EReal} (hc : ¬ c % (2 * half) < half)
    (hl : ¬ c % 128 % (2 * half) < half) (hu : u = z r c) (hv : v = z r (c - half)) (hf : f = c % 128 % half) (hp : p = r % 4096) :
    u * Ideal.cos (ang b p f) + v * Ideal.sin (ang b p f) = roped half z (cosT half b) (sinT half b) r c := by
  subst hu hv hf hp
  rw [roped, sw, if_neg hc, cosT, sinT, if_neg hl]

/-- A product with columns of zeros. -/
theorem prod_padded {K n off r c : ℕ} {h w : ℕ → ℕ → EReal} :
    prod K h (fun k j => if j < n then w k (off + j) else 0) r c = if c < n then prod K h w r (off + c) else 0 := by
  unfold prod
  by_cases hc : c < n
  · simp only [if_pos hc]
  · simp only [if_neg hc, mul_zero, Finset.sum_const_zero]

/-- The kernel's test of a lane against the first 32 of its 64. -/
def mask (n : ℕ) : BitVec 1 :=
  IntOp.cmpi .slt (Scalar.select (IntOp.andi (IntOp.xori (IntOp.cmpi .slt (IntOp.remsi ArithUnit.vector (BitVec.ofNat 32 n)
      (Scalar.select (Scalar.cmpi .eq 64#32 0#32) 1#32 64#32)) 0#32)
        (Scalar.cmpi .slt (Scalar.select (Scalar.cmpi .eq 64#32 0#32) 1#32 64#32) 0#32))
      (IntOp.cmpi .ne (IntOp.remsi ArithUnit.vector (BitVec.ofNat 32 n) (Scalar.select (Scalar.cmpi .eq 64#32 0#32) 1#32 64#32)) 0#32))
    (IntOp.addi (IntOp.remsi ArithUnit.vector (BitVec.ofNat 32 n) (Scalar.select (Scalar.cmpi .eq 64#32 0#32) 1#32 64#32))
      (Scalar.select (Scalar.cmpi .eq 64#32 0#32) 1#32 64#32))
    (IntOp.remsi ArithUnit.vector (BitVec.ofNat 32 n) (Scalar.select (Scalar.cmpi .eq 64#32 0#32) 1#32 64#32))) 32#32

theorem mask_eq : ∀ j : Fin 128, mask j.val = if j.val % 64 < 32 then 1#1 else 0#1 := by decide +kernel

theorem roped_sel {K a b b' l n p r c : ℕ} {H W C S : ℕ → ℕ → EReal} (ha : a = c) (hb : c % 64 < 32 → b = c + 32)
    (hb' : ¬ c % 64 < 32 → b' = c - 32) (hn : n = c % 128) (hl : l = c % 128) (hp : p = r % 4096) :
    (∑ k : Fin K, H r k * W k a) * C p l
        + Scalar.select (mask n) (∑ k : Fin K, H r k * W k b) (∑ k : Fin K, H r k * W k b') * S p l
      = roped 32 (prod K H W) C S r c := by
  subst ha hn hl hp
  have hm := mask_eq ⟨a % 128, Nat.mod_lt _ (by decide)⟩
  have ht : a % 128 % 64 = a % 64 := Nat.mod_mod_of_dvd _ (by decide)
  simp only [ht] at hm
  rw [hm]
  unfold roped sw
  by_cases h : a % 64 < 32
  · rw [if_pos h, if_pos h, hb h]; rfl
  · rw [if_neg h, if_neg h, hb' h]; rfl

end Cert.Spec

end
-- ==== Proof.RegionsA.lean ====
/- The arrays mixer A's seven calls leave, each from the arrays it is entered with: the norm, and the projections. -/
module

public import proofs.«01_k».proof.Proof.Gen.KernelAIdeal.Frame
public import proofs.«01_k».proof.Proof.Rope
public import Idealize.ShloMosaic.Lib.Pipeline.ValueKit

@[expose] public section

set_option maxRecDepth 16384

noncomputable section

namespace Cert.KernelAIdeal.Final

open Cert.KernelAIdeal Cert.KernelAIdeal.Gen Cert.Spec Idealize.ShloMosaic
  Idealize.ShloMosaic.TcCoe Idealize.ShloMosaic.Pointwise Idealize.SL.Sem

attribute [local instance] Cert.KernelAIdeal.Gen.facts

variable (V : (c : Dev nD) → (b : Ref sig .tc) → Buf (Elt Ideal) ((c : Thread nD τ).loc b)) (c : Dev nD)

/-! ## The blocks of each grid point -/

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![t.val, 0] := (by decide +kernel : ∀ t : Fin grid0.N, _)
theorem index1_0 : ∀ t : Fin cfg1.N, win1_0.index t = ![(grid1.coords t 1).val, 0] := (by decide +kernel : ∀ t : Fin grid1.N, _)
theorem index1_1 : ∀ t : Fin cfg1.N, win1_1.index t = ![0, (grid1.coords t 0).val] := (by decide +kernel : ∀ t : Fin grid1.N, _)
theorem index1_2 : ∀ t : Fin cfg1.N, win1_2.index t = ![(grid1.coords t 1).val % 8, 0] := (by decide +kernel : ∀ t : Fin grid1.N, _)
theorem index1_3 : ∀ t : Fin cfg1.N, win1_3.index t = ![(grid1.coords t 1).val % 8, 0] := (by decide +kernel : ∀ t : Fin grid1.N, _)
theorem index1_4 : ∀ t : Fin cfg1.N, win1_4.index t = ![(grid1.coords t 1).val, (grid1.coords t 0).val] := (by decide +kernel : ∀ t : Fin grid1.N, _)
theorem index2_0 : ∀ t : Fin cfg2.N, win2_0.index t = ![(grid2.coords t 1).val, 0] := (by decide +kernel : ∀ t : Fin grid2.N, _)
theorem index2_1 : ∀ t : Fin cfg2.N, win2_1.index t = ![0, (grid2.coords t 0).val] := (by decide +kernel : ∀ t : Fin grid2.N, _)
theorem index2_2 : ∀ t : Fin cfg2.N, win2_2.index t = ![(grid2.coords t 1).val % 8, 0] := (by decide +kernel : ∀ t : Fin grid2.N, _)
theorem index2_3 : ∀ t : Fin cfg2.N, win2_3.index t = ![(grid2.coords t 1).val % 8, 0] := (by decide +kernel : ∀ t : Fin grid2.N, _)
theorem index2_4 : ∀ t : Fin cfg2.N, win2_4.index t = ![(grid2.coords t 1).val, (grid2.coords t 0).val] := (by decide +kernel : ∀ t : Fin grid2.N, _)
theorem index2_5 : ∀ t : Fin cfg2.N, win2_5.index t = ![(grid2.coords t 1).val, (grid2.coords t 0).val] := (by decide +kernel : ∀ t : Fin grid2.N, _)
theorem index4_0 : ∀ t : Fin cfg4.N, win4_0.index t = ![(grid4.coords t 1).val, 0] := (by decide +kernel : ∀ t : Fin grid4.N, _)
theorem index4_1 : ∀ t : Fin cfg4.N, win4_1.index t = ![0, (grid4.coords t 0).val] := (by decide +kernel : ∀ t : Fin grid4.N, _)
theorem index4_2 : ∀ t : Fin cfg4.N, win4_2.index t = ![(grid4.coords t 1).val % 8, 0] := (by decide +kernel : ∀ t : Fin grid4.N, _)
theorem index4_3 : ∀ t : Fin cfg4.N, win4_3.index t = ![(grid4.coords t 1).val % 8, 0] := (by decide +kernel : ∀ t : Fin grid4.N, _)
theorem index4_4 : ∀ t : Fin cfg4.N, win4_4.index t = ![(grid4.coords t 1).val, (grid4.coords t 0).val] := (by decide +kernel : ∀ t : Fin grid4.N, _)
theorem index5_0 : ∀ t : Fin cfg5.N, win5_0.index t = ![(grid5.coords t 1).val, 0] := (by decide +kernel : ∀ t : Fin grid5.N, _)
theorem index5_1 : ∀ t : Fin cfg5.N, win5_1.index t = ![0, (grid5.coords t 0).val] := (by decide +kernel : ∀ t : Fin grid5.N, _)
theorem index5_2 : ∀ t : Fin cfg5.N, win5_2.index t = ![(grid5.coords t 1).val % 8, 0] := (by decide +kernel : ∀ t : Fin grid5.N, _)
theorem index5_3 : ∀ t : Fin cfg5.N, win5_3.index t = ![(grid5.coords t 1).val % 8, 0] := (by decide +kernel : ∀ t : Fin grid5.N, _)
theorem index5_4 : ∀ t : Fin cfg5.N, win5_4.index t = ![(grid5.coords t 1).val, (grid5.coords t 0).val] := (by decide +kernel : ∀ t : Fin grid5.N, _)
theorem index3_0 : ∀ t : Fin cfg3.N, win3_0.index t = ![(grid3.coords t 1).val, 0] := (by decide +kernel : ∀ t : Fin grid3.N, _)
theorem index3_1 : ∀ t : Fin cfg3.N, win3_1.index t = ![0, (grid3.coords t 0).val] := (by decide +kernel : ∀ t : Fin grid3.N, _)
theorem index3_2 : ∀ t : Fin cfg3.N, win3_2.index t = ![(grid3.coords t 1).val, (grid3.coords t 0).val] := (by decide +kernel : ∀ t : Fin grid3.N, _)
theorem index3_3 : ∀ t : Fin cfg3.N, win3_3.index t = ![(grid3.coords t 1).val, (grid3.coords t 0).val] := (by decide +kernel : ∀ t : Fin grid3.N, _)
theorem index6_0 : ∀ t : Fin cfg6.N, win6_0.index t = ![(grid6.coords t 1).val, 0] := (by decide +kernel : ∀ t : Fin grid6.N, _)
theorem index6_1 : ∀ t : Fin cfg6.N, win6_1.index t = ![0, (grid6.coords t 0).val] := (by decide +kernel : ∀ t : Fin grid6.N, _)
theorem index6_2 : ∀ t : Fin cfg6.N, win6_2.index t = ![(grid6.coords t 1).val, (grid6.coords t 0).val] := (by decide +kernel : ∀ t : Fin grid6.N, _)

/-! ## The normalised rows -/

theorem pay0 (v0 : Vec Ideal S512x2048 .f32) (v11 : Vec Ideal S1x2048 .f32) (x : ℕ → ℕ → EReal) (g : ℕ → EReal) (t : ℕ)
    (h0 : ∀ i k, v0 (ix2 i k) = x (t * 512 + i.val) k.val) (h1 : ∀ i k, v11 (ix2 i k) = g k.val) (i : Fin 512) (j : Fin 2048) :
    k0_pay1 (F := Ideal) v0 v11 (ix2 i j) = norm 2048 (Ideal.ofBits .f32 1157627904#32) x g (t * 512 + i.val) j.val := by
  pointwise [k0_pay1]
  simp only [h0, h1]
  rfl

theorem final0 (x : ℕ → ℕ → EReal) (g : ℕ → EReal) (hx : ∀ y, V c main_arg0 y = x (y 0).val (y 1).val)
    (hg : ∀ y, V c main_v1 y = g (y 1).val) :
    (dat0 V c).arrAt 2 cfg0.N = fun y => norm 2048 (Ideal.ofBits .f32 1157627904#32) x g (y 0).val (y 1).val := by
  refine (dat0 V c).arrAt_eq_of_covers 2 _ (by decide +kernel) fun t hf y => ?_
  blk_simp [index0_2]
  rw [after0_2]
  frame_out
  refine (congrArg _ (eq_ix2 y)).trans (pay0 _ _ x g t.val (fun i k => ?_) (fun i k => ?_) (y 0) (y 1))
  · exact (hx _).trans (congrArg₂ x (by blk_simp [index0_0]) (by blk_simp [index0_0]))
  · exact (hg _).trans (congrArg g (by blk_simp [index0_1]))

/-! ## The rotated projections -/

section Rotated

variable (H W C S : ℕ → ℕ → EReal)

theorem pay1 (v0 : Vec Ideal S512x2048 .bf16) (v2 : Vec Ideal S2048x512 .bf16) (v5 v7 : Vec Ideal S512x128 .f32) (t u : ℕ)
    (h0 : ∀ i k, v0 (ix2 i k) = H (t * 512 + i.val) k.val) (h2 : ∀ k j, v2 (ix2 k j) = W k.val (u * 512 + j.val))
    (h5 : ∀ i l, v5 (ix2 i l) = C (t % 8 * 512 + i.val) l.val) (h7 : ∀ i l, v7 (ix2 i l) = S (t % 8 * 512 + i.val) l.val)
    (i : Fin 512) (j : Fin 512) :
    k1_pay1 (F := Ideal) v0 v2 v5 v7 (ix2 i j) = roped 64 (prod 2048 H W) C S (t * 512 + i.val) (u * 512 + j.val) := by
  have hi := i.isLt
  have hj := j.isLt
  have hp : t % 8 * 512 + i.val = (t * 512 + i.val) % 4096 := by omega
  pointwise [k1_pay1]
  simp only [h0, h2, h5, h7]
  split_ifs <;> exact roped_of (by omega) (by unfold sw; split_ifs <;> omega) (by omega) hp

theorem final1 (hH : ∀ y, V c main_v2 y = H (y 0).val (y 1).val) (hW : ∀ y, V c main_v13 y = W (y 0).val (y 1).val)
    (hC : ∀ y, V c main_v34 y = C (y 0).val (y 1).val) (hS : ∀ y, V c main_v36 y = S (y 0).val (y 1).val) :
    (dat1 V c).arrAt 4 cfg1.N = fun y => roped 64 (prod 2048 H W) C S (y 0).val (y 1).val := by
  refine (dat1 V c).arrAt_eq_of_covers 4 _ (by decide +kernel) fun t hf y => ?_
  blk_simp [index1_4]
  rw [after1_4]
  frame_out
  refine (congrArg _ (eq_ix2 y)).trans (pay1 H W C S _ _ _ _ (grid1.coords t 1).val (grid1.coords t 0).val
    (fun i k => ?_) (fun i k => ?_) (fun i k => ?_) (fun i k => ?_) (y 0) (y 1))
  · exact (hH _).trans (congrArg₂ H (by blk_simp [index1_0]) (by blk_simp [index1_0]))
  · exact (hW _).trans (congrArg₂ W (by blk_simp [index1_1]) (by blk_simp [index1_1]))
  · exact (hC _).trans (congrArg₂ C (by blk_simp [index1_2]) (by blk_simp [index1_2]))
  · exact (hS _).trans (congrArg₂ S (by blk_simp [index1_3]) (by blk_simp [index1_3]))

theorem pay2 (v0 : Vec Ideal S512x2048 .bf16) (v2 : Vec Ideal S2048x256 .bf16) (v5 v7 : Vec Ideal S512x128 .f32) (t : ℕ)
    (h0 : ∀ i k, v0 (ix2 i k) = H (t * 512 + i.val) k.val) (h2 : ∀ k j, v2 (ix2 k j) = W k.val j.val)
    (h5 : ∀ i l, v5 (ix2 i l) = C (t % 8 * 512 + i.val) l.val) (h7 : ∀ i l, v7 (ix2 i l) = S (t % 8 * 512 + i.val) l.val)
    (i : Fin 512) (j : Fin 256) :
    k2_pay1 (F := Ideal) v0 v2 v5 v7 (ix2 i j) = roped 64 (prod 2048 H W) C S (t * 512 + i.val) j.val := by
  have hi := i.isLt
  have hj := j.isLt
  have hp : t % 8 * 512 + i.val = (t * 512 + i.val) % 4096 := by omega
  pointwise [k2_pay1]
  simp only [h0, h2, h5, h7]
  split_ifs <;> exact roped_of (by omega) (by unfold sw; split_ifs <;> omega) (by omega) hp

theorem final2 (hH : ∀ y, V c main_v2 y = H (y 0).val (y 1).val) (hW : ∀ y, V c main_v14 y = W (y 0).val (y 1).val)
    (hC : ∀ y, V c main_v34 y = C (y 0).val (y 1).val) (hS : ∀ y, V c main_v36 y = S (y 0).val (y 1).val) :
    (dat2 V c).arrAt 4 cfg2.N = fun y => roped 64 (prod 2048 H W) C S (y 0).val (y 1).val := by
  refine (dat2 V c).arrAt_eq_of_covers 4 _ (by decide +kernel) fun t hf y => ?_
  blk_simp [index2_4]
  rw [after2_4]
  frame_out
  refine (congrArg _ (eq_ix2 y)).trans (pay2 H W C S _ _ _ _ (grid2.coords t 1).val
    (fun i k => ?_) (fun i k => ?_) (fun i k => ?_) (fun i k => ?_) (y 0) (y 1))
  · exact (hH _).trans (congrArg₂ H (by blk_simp [index2_0]) (by blk_simp [index2_0]))
  · exact (hW _).trans (congrArg₂ W (by blk_simp [index2_1]) (by blk_simp [index2_1]))
  · exact (hC _).trans (congrArg₂ C (by blk_simp [index2_2]) (by blk_simp [index2_2]))
  · exact (hS _).trans (congrArg₂ S (by blk_simp [index2_3]) (by blk_simp [index2_3]))

theorem pay2_half (v0 : Vec Ideal S512x2048 .bf16) (v2 : Vec Ideal S2048x256 .bf16) (v5 v7 : Vec Ideal S512x128 .f32) (y : S512x256.Idx) :
    k2_pay2 (F := Ideal) v0 v2 v5 v7 y = k2_pay1 (F := Ideal) v0 v2 v5 v7 y := rfl

theorem final2_half (hH : ∀ y, V c main_v2 y = H (y 0).val (y 1).val) (hW : ∀ y, V c main_v14 y = W (y 0).val (y 1).val)
    (hC : ∀ y, V c main_v34 y = C (y 0).val (y 1).val) (hS : ∀ y, V c main_v36 y = S (y 0).val (y 1).val) :
    (dat2 V c).arrAt 5 cfg2.N = fun y => roped 64 (prod 2048 H W) C S (y 0).val (y 1).val := by
  refine (dat2 V c).arrAt_eq_of_covers 5 _ (by decide +kernel) fun t hf y => ?_
  blk_simp [index2_5]
  rw [after2_5]
  frame_out
  refine ((pay2_half _ _ _ _ y).trans (congrArg _ (eq_ix2 y))).trans (pay2 H W C S _ _ _ _ (grid2.coords t 1).val
    (fun i k => ?_) (fun i k => ?_) (fun i k => ?_) (fun i k => ?_) (y 0) (y 1))
  · exact (hH _).trans (congrArg₂ H (by blk_simp [index2_0]) (by blk_simp [index2_0]))
  · exact (hW _).trans (congrArg₂ W (by blk_simp [index2_1]) (by blk_simp [index2_1]))
  · exact (hC _).trans (congrArg₂ C (by blk_simp [index2_2]) (by blk_simp [index2_2]))
  · exact (hS _).trans (congrArg₂ S (by blk_simp [index2_3]) (by blk_simp [index2_3]))

theorem pay4 (v0 : Vec Ideal S512x2048 .bf16) (v2 : Vec Ideal S2048x512 .bf16) (v5 v7 : Vec Ideal S512x128 .f32) (t u : ℕ)
    (h0 : ∀ i k, v0 (ix2 i k) = H (t * 512 + i.val) k.val) (h2 : ∀ k j, v2 (ix2 k j) = W k.val (u * 512 + j.val))
    (h5 : ∀ i l, v5 (ix2 i l) = C (t % 8 * 512 + i.val) l.val) (h7 : ∀ i l, v7 (ix2 i l) = S (t % 8 * 512 + i.val) l.val)
    (i : Fin 512) (j : Fin 512) :
    out4_4 (F := Ideal) v0 v2 v5 v7 (ix2 i j) = roped 32 (prod 2048 H W) C S (t * 512 + i.val) (u * 512 + j.val) := by
  have hi := i.isLt
  have hj := j.isLt
  have hp : t % 8 * 512 + i.val = (t * 512 + i.val) % 4096 := by omega
  frame_out
  pointwise [k4_pay1, k4_pay2, k4_pay3, k4_pay4, k4_pay5, k4_pay6, k4_pay7, k4_pay8, k4_pay9, k4_pay10, k4_pay11, k4_pay12, k4_pay13]
  simp only [h0, h2, h5, h7]
  split_ifs <;> exact roped_sel (by omega) (by omega) (by omega) (by omega) (by omega) hp

theorem final4 (hH : ∀ y, V c main_v2 y = H (y 0).val (y 1).val) (hW : ∀ y, V c main_v16 y = W (y 0).val (y 1).val)
    (hC : ∀ y, V c main_v54 y = C (y 0).val (y 1).val) (hS : ∀ y, V c main_v55 y = S (y 0).val (y 1).val) :
    (dat4 V c).arrAt 4 cfg4.N = fun y => roped 32 (prod 2048 H W) C S (y 0).val (y 1).val := by
  refine (dat4 V c).arrAt_eq_of_covers 4 _ (by decide +kernel) fun t hf y => ?_
  blk_simp [index4_4]
  rw [after4_4]
  refine (congrArg _ (eq_ix2 y)).trans (pay4 H W C S _ _ _ _ (grid4.coords t 1).val (grid4.coords t 0).val
    (fun i k => ?_) (fun i k => ?_) (fun i k => ?_) (fun i k => ?_) (y 0) (y 1))
  · exact (hH _).trans (congrArg₂ H (by blk_simp [index4_0]) (by blk_simp [index4_0]))
  · exact (hW _).trans (congrArg₂ W (by blk_simp [index4_1]) (by blk_simp [index4_1]))
  · exact (hC _).trans (congrArg₂ C (by blk_simp [index4_2]) (by blk_simp [index4_2]))
  · exact (hS _).trans (congrArg₂ S (by blk_simp [index4_3]) (by blk_simp [index4_3]))

theorem pay5 (v0 : Vec Ideal S512x2048 .bf16) (v2 : Vec Ideal S2048x128 .bf16) (v5 v7 : Vec Ideal S512x128 .f32) (t : ℕ)
    (h0 : ∀ i k, v0 (ix2 i k) = H (t * 512 + i.val) k.val) (h2 : ∀ k j, v2 (ix2 k j) = W k.val j.val)
    (h5 : ∀ i l, v5 (ix2 i l) = C (t % 8 * 512 + i.val) l.val) (h7 : ∀ i l, v7 (ix2 i l) = S (t % 8 * 512 + i.val) l.val)
    (i : Fin 512) (j : Fin 128) :
    k5_pay1 (F := Ideal) v0 v2 v5 v7 (ix2 i j) = roped 32 (prod 2048 H W) C S (t * 512 + i.val) j.val := by
  have hi := i.isLt
  have hj := j.isLt
  have hp : t % 8 * 512 + i.val = (t * 512 + i.val) % 4096 := by omega
  pointwise [k5_pay1]
  simp only [h0, h2, h5, h7]
  exact roped_sel (by omega) (by omega) (by omega) (by omega) (by omega) hp

theorem final5 (hH : ∀ y, V c main_v2 y = H (y 0).val (y 1).val) (hW : ∀ y, V c main_v17 y = W (y 0).val (y 1).val)
    (hC : ∀ y, V c main_v74 y = C (y 0).val (y 1).val) (hS : ∀ y, V c main_v76 y = S (y 0).val (y 1).val) :
    (dat5 V c).arrAt 4 cfg5.N = fun y => roped 32 (prod 2048 H W) C S (y 0).val (y 1).val := by
  refine (dat5 V c).arrAt_eq_of_covers 4 _ (by decide +kernel) fun t hf y => ?_
  blk_simp [index5_4]
  rw [after5_4]
  frame_out
  refine (congrArg _ (eq_ix2 y)).trans (pay5 H W C S _ _ _ _ (grid5.coords t 1).val
    (fun i k => ?_) (fun i k => ?_) (fun i k => ?_) (fun i k => ?_) (y 0) (y 1))
  · exact (hH _).trans (congrArg₂ H (by blk_simp [index5_0]) (by blk_simp [index5_0]))
  · exact (hW _).trans (congrArg₂ W (by blk_simp [index5_1]) (by blk_simp [index5_1]))
  · exact (hC _).trans (congrArg₂ C (by blk_simp [index5_2]) (by blk_simp [index5_2]))
  · exact (hS _).trans (congrArg₂ S (by blk_simp [index5_3]) (by blk_simp [index5_3]))

end Rotated

/-! ## The plain projections -/

section Plain

variable (H W : ℕ → ℕ → EReal)

theorem pay3 (v0 : Vec Ideal S512x2048 .bf16) (v2 : Vec Ideal S2048x256 .bf16) (t : ℕ)
    (h0 : ∀ i k, v0 (ix2 i k) = H (t * 512 + i.val) k.val) (h2 : ∀ k j, v2 (ix2 k j) = W k.val j.val)
    (i : Fin 512) (j : Fin 256) :
    k3_pay1 (F := Ideal) v0 v2 (ix2 i j) = prod 2048 H W (t * 512 + i.val) j.val := by
  pointwise [k3_pay1]
  simp only [h0, h2]
  rfl

theorem final3 (hH : ∀ y, V c main_v2 y = H (y 0).val (y 1).val) (hW : ∀ y, V c main_v15 y = W (y 0).val (y 1).val) :
    (dat3 V c).arrAt 2 cfg3.N = fun y => prod 2048 H W (y 0).val (y 1).val := by
  refine (dat3 V c).arrAt_eq_of_covers 2 _ (by decide +kernel) fun t hf y => ?_
  blk_simp [index3_2]
  rw [after3_2]
  frame_out
  refine (congrArg _ (eq_ix2 y)).trans (pay3 H W _ _ (grid3.coords t 1).val
    (fun i k => ?_) (fun i k => ?_) (y 0) (y 1))
  · exact (hH _).trans (congrArg₂ H (by blk_simp [index3_0]) (by blk_simp [index3_0]))
  · exact (hW _).trans (congrArg₂ W (by blk_simp [index3_1]) (by blk_simp [index3_1]))

theorem pay3_half (v0 : Vec Ideal S512x2048 .bf16) (v2 : Vec Ideal S2048x256 .bf16) (y : S512x256.Idx) :
    k3_pay2 (F := Ideal) v0 v2 y = k3_pay1 (F := Ideal) v0 v2 y := rfl

theorem final3_half (hH : ∀ y, V c main_v2 y = H (y 0).val (y 1).val) (hW : ∀ y, V c main_v15 y = W (y 0).val (y 1).val) :
    (dat3 V c).arrAt 3 cfg3.N = fun y => prod 2048 H W (y 0).val (y 1).val := by
  refine (dat3 V c).arrAt_eq_of_covers 3 _ (by decide +kernel) fun t hf y => ?_
  blk_simp [index3_3]
  rw [after3_3]
  frame_out
  refine ((pay3_half _ _ y).trans (congrArg _ (eq_ix2 y))).trans (pay3 H W _ _ (grid3.coords t 1).val
    (fun i k => ?_) (fun i k => ?_) (y 0) (y 1))
  · exact (hH _).trans (congrArg₂ H (by blk_simp [index3_0]) (by blk_simp [index3_0]))
  · exact (hW _).trans (congrArg₂ W (by blk_simp [index3_1]) (by blk_simp [index3_1]))

theorem pay6 (v0 : Vec Ideal S512x2048 .bf16) (v2 : Vec Ideal S2048x512 .bf16) (t u : ℕ)
    (h0 : ∀ i k, v0 (ix2 i k) = H (t * 512 + i.val) k.val) (h2 : ∀ k j, v2 (ix2 k j) = W k.val (u * 512 + j.val))
    (i : Fin 512) (j : Fin 512) :
    k6_pay1 (F := Ideal) v0 v2 (ix2 i j) = prod 2048 H W (t * 512 + i.val) (u * 512 + j.val) := by
  pointwise [k6_pay1]
  simp only [h0, h2]
  rfl

theorem final6 (hH : ∀ y, V c main_v2 y = H (y 0).val (y 1).val) (hW : ∀ y, V c main_v18 y = W (y 0).val (y 1).val) :
    (dat6 V c).arrAt 2 cfg6.N = fun y => prod 2048 H W (y 0).val (y 1).val := by
  refine (dat6 V c).arrAt_eq_of_covers 2 _ (by decide +kernel) fun t hf y => ?_
  blk_simp [index6_2]
  rw [after6_2]
  frame_out
  refine (congrArg _ (eq_ix2 y)).trans (pay6 H W _ _ (grid6.coords t 1).val (grid6.coords t 0).val
    (fun i k => ?_) (fun i k => ?_) (y 0) (y 1))
  · exact (hH _).trans (congrArg₂ H (by blk_simp [index6_0]) (by blk_simp [index6_0]))
  · exact (hW _).trans (congrArg₂ W (by blk_simp [index6_1]) (by blk_simp [index6_1]))

end Plain

end Cert.KernelAIdeal.Final

end
-- ==== Proof.HostA.lean ====
/- The arrays mixer A's host operations leave: the weights' slices and the tables of cosines and sines. -/
module

public import proofs.«01_k».proof.Proof.Gen.KernelAIdeal.Frame
public import proofs.«01_k».proof.Proof.Rope
public import Idealize.ShloMosaic.Lib.Pipeline.ValueKit

@[expose] public section

set_option maxRecDepth 16384

noncomputable section

namespace Cert.KernelAIdeal.Final

open Cert.KernelAIdeal Cert.KernelAIdeal.Gen Cert.Spec Idealize.ShloMosaic
  Idealize.ShloMosaic.TcCoe Idealize.ShloMosaic.Pointwise Idealize.SL.Sem

attribute [local instance] Cert.KernelAIdeal.Gen.facts

/-! ## The weights, sliced and padded -/

section Slices

variable (σ : Valuation τ sig (Elt Ideal))

theorem slice4 (y : S2048x2048.Idx) : StableHlo.after hostOps1 σ (Proc.devRef .tc main_v4) y
    = rd3 (σ (Proc.devRef .tc main_arg2) : Stack 2048 5712) (y 0).val (y 1).val := by
  entry_read
  refine (congrArg _ (eq_ix2 y)).trans ?_
  pointwise []
  exact rd3_idx _ _ rfl rfl

theorem slice5 (y : S2048x256.Idx) : StableHlo.after hostOps1 σ (Proc.devRef .tc main_v5) y
    = rd3 (σ (Proc.devRef .tc main_arg2) : Stack 2048 5712) (y 0).val (2048 + (y 1).val) := by
  entry_read
  refine (congrArg _ (eq_ix2 y)).trans ?_
  pointwise []
  exact rd3_idx _ _ rfl rfl

theorem slice6 (y : S2048x256.Idx) : StableHlo.after hostOps1 σ (Proc.devRef .tc main_v6) y
    = rd3 (σ (Proc.devRef .tc main_arg2) : Stack 2048 5712) (y 0).val (2304 + (y 1).val) := by
  entry_read
  refine (congrArg _ (eq_ix2 y)).trans ?_
  pointwise []
  exact rd3_idx _ _ rfl rfl

theorem slice7 (y : S2048x1024.Idx) : StableHlo.after hostOps1 σ (Proc.devRef .tc main_v7) y
    = rd3 (σ (Proc.devRef .tc main_arg2) : Stack 2048 5712) (y 0).val (2560 + (y 1).val) := by
  entry_read
  refine (congrArg _ (eq_ix2 y)).trans ?_
  pointwise []
  exact rd3_idx _ _ rfl rfl

theorem slice10 (y : S2048x2048.Idx) : StableHlo.after hostOps1 σ (Proc.devRef .tc main_v10) y
    = rd3 (σ (Proc.devRef .tc main_arg2) : Stack 2048 5712) (y 0).val (3664 + (y 1).val) := by
  entry_read
  refine (congrArg _ (eq_ix2 y)).trans ?_
  pointwise []
  exact rd3_idx _ _ rfl rfl

theorem slice11 (y : S2048x80.Idx) : StableHlo.after hostOps1 σ (Proc.devRef .tc main_v11) y
    = rd3 (σ (Proc.devRef .tc main_arg2) : Stack 2048 5712) (y 0).val (3584 + (y 1).val) := by
  entry_read
  refine (congrArg _ (eq_ix2 y)).trans ?_
  pointwise []
  by_cases h : (y 1).val < 64
  · rw [dif_pos h]
    exact rd3_idx _ _ rfl rfl
  · rw [dif_neg h]
    refine rd3_idx _ _ rfl ?_
    show 3648 + ((y 1).val - 64) = 3584 + (y 1).val
    omega

theorem padding : StableHlo.after hostOps1 σ (Proc.devRef .tc main_c) = constantI S_ 32 0#32 := by
  entry_read
  rfl

theorem pad_at (A : Vec Ideal S2048x80 .f32) (w : ℕ → ℕ → EReal) (hA : ∀ z, A z = w (z 0).val (3584 + (z 1).val)) (y : S2048x128.Idx) :
    pad S2048x128 ![0, 0] ![0, 48] ![0, 0] A (sitofp (F := Ideal) .f32 (constantI S_ 32 0#32)) pads_S2048x80_S2048x128_000_0480 h_S_ y
      = if (y 1).val < 80 then w (y 0).val (3584 + (y 1).val) else 0 := by
  refine (congrArg _ (eq_ix2 y)).trans ?_
  pointwise []
  by_cases h : (y 1).val < 80
  · rw [dif_pos h, if_pos h]
    exact hA _
  · rw [dif_neg h, if_neg h]
    show ((BitVec.toInt 0#32 : ℝ) : EReal) = 0
    simp

theorem padded (w : ℕ → ℕ → EReal) (hc : σ (Proc.devRef .tc main_c) = constantI S_ 32 0#32)
    (hA : ∀ z, σ (Proc.devRef .tc main_v11) z = w (z 0).val (3584 + (z 1).val)) (y : S2048x128.Idx) :
    StableHlo.after hostOps1_1 σ (Proc.devRef .tc main_v12) y = if (y 1).val < 80 then w (y 0).val (3584 + (y 1).val) else (0 : EReal) := by
  entry_read
  rw [hc]
  exact pad_at _ w hA y

theorem cast13 (y : S2048x2048.Idx) : StableHlo.after hostOps1_2 σ (Proc.devRef .tc main_v13) y
    = (σ (Proc.devRef .tc main_v4) y : EReal) := by
  entry_read
  refine (congrArg _ (eq_ix2 y)).trans ?_
  pointwise []

theorem cast14 (y : S2048x256.Idx) : StableHlo.after hostOps1_2 σ (Proc.devRef .tc main_v14) y
    = (σ (Proc.devRef .tc main_v5) y : EReal) := by
  entry_read
  refine (congrArg _ (eq_ix2 y)).trans ?_
  pointwise []

theorem cast15 (y : S2048x256.Idx) : StableHlo.after hostOps1_2 σ (Proc.devRef .tc main_v15) y
    = (σ (Proc.devRef .tc main_v6) y : EReal) := by
  entry_read
  refine (congrArg _ (eq_ix2 y)).trans ?_
  pointwise []

theorem cast16 (y : S2048x1024.Idx) : StableHlo.after hostOps1_2 σ (Proc.devRef .tc main_v16) y
    = (σ (Proc.devRef .tc main_v7) y : EReal) := by
  entry_read
  refine (congrArg _ (eq_ix2 y)).trans ?_
  pointwise []

theorem cast17 (y : S2048x128.Idx) : StableHlo.after hostOps1_2 σ (Proc.devRef .tc main_v17) y
    = (σ (Proc.devRef .tc main_v12) y : EReal) := by
  entry_read
  refine (congrArg _ (eq_ix2 y)).trans ?_
  pointwise []

theorem cast18 (y : S2048x2048.Idx) : StableHlo.after hostOps1_2 σ (Proc.devRef .tc main_v18) y
    = (σ (Proc.devRef .tc main_v10) y : EReal) := by
  entry_read
  refine (congrArg _ (eq_ix2 y)).trans ?_
  pointwise []

end Slices

/-! ## The tables -/

section Tables

variable (σ : Valuation τ sig (Elt Ideal)) (y : S4096x128.Idx)

theorem cos64 : StableHlo.after hostOps1_2 σ (Proc.devRef .tc main_v34) y
    = cosT 64 (Ideal.ofBits .f32 1115684864#32) (y 0).val (y 1).val := by
  have hy : (y 1).val < 128 := (y 1).isLt
  entry_read
  refine (congrArg _ (eq_ix2 y)).trans ?_
  pointwise []
  split_ifs <;> exact cosT_of (by omega)

theorem sin64 : StableHlo.after hostOps1_2 σ (Proc.devRef .tc main_v36) y
    = sinT 64 (Ideal.ofBits .f32 1115684864#32) (y 0).val (y 1).val := by
  have hy : (y 1).val < 128 := (y 1).isLt
  entry_read
  refine (congrArg _ (eq_ix2 y)).trans ?_
  pointwise []
  split_ifs <;> first | exact sinT_neg (by omega) (by omega) | exact sinT_pos (by omega) (by omega)

theorem cos32 : StableHlo.after hostOps1_2 σ (Proc.devRef .tc main_v54) y
    = cosT 32 (Ideal.ofBits .f32 1107296256#32) (y 0).val (y 1).val := by
  have hy : (y 1).val < 128 := (y 1).isLt
  entry_read
  refine (congrArg _ (eq_ix2 y)).trans ?_
  pointwise []
  split_ifs <;> exact cosT_of (by omega)

theorem sin32 : StableHlo.after hostOps1_2 σ (Proc.devRef .tc main_v55) y
    = sinT 32 (Ideal.ofBits .f32 1107296256#32) (y 0).val (y 1).val := by
  have hy : (y 1).val < 128 := (y 1).isLt
  entry_read
  refine (congrArg _ (eq_ix2 y)).trans ?_
  pointwise []
  split_ifs <;> first | exact sinT_neg (by omega) (by omega) | exact sinT_pos (by omega) (by omega)

theorem cosHalf : StableHlo.after hostOps1_2 σ (Proc.devRef .tc main_v74) y
    = cosI (Ideal.ofBits .f32 1107296256#32) (y 0).val (y 1).val := by
  have hy : (y 1).val < 128 := (y 1).isLt
  entry_read
  refine (congrArg _ (eq_ix2 y)).trans ?_
  pointwise []
  unfold cosI
  split_ifs <;> first | exact cosT_of (by omega) | rfl

theorem sinHalf : StableHlo.after hostOps1_2 σ (Proc.devRef .tc main_v76) y
    = sinI (Ideal.ofBits .f32 1107296256#32) (y 0).val (y 1).val := by
  have hy : (y 1).val < 128 := (y 1).isLt
  entry_read
  refine (congrArg _ (eq_ix2 y)).trans ?_
  pointwise []
  unfold sinI
  split_ifs <;> first | exact sinT_neg (by omega) (by omega) | exact sinT_pos (by omega) (by omega) | rfl

end Tables

end Cert.KernelAIdeal.Final

end
-- ==== Proof.RefA.lean ====
/- The results of mixer A's reference: the projections of the normalised rows, the rotated ones rotated. -/
module

public import proofs.«01_k».proof.Proof.Gen.ReferenceAIdeal.Read
public import proofs.«01_k».proof.Proof.Rope

@[expose] public section

set_option maxRecDepth 16384

noncomputable section

namespace Cert.ReferenceAIdeal.RefRead

open Cert.ReferenceAIdeal Cert.ReferenceAIdeal.Gen Cert.ReferenceAIdeal.Read Cert.Spec Idealize.ShloMosaic
  Idealize.ShloMosaic.Pointwise

variable (x : Mat 8192 2048) (g : Mat 1 2048) (w : Stack 2048 5712)

/-- The normalised rows. -/
abbrev hid (r j : ℕ) : EReal := norm 2048 (Ideal.ofBits .f32 1157627904#32) (rd x) (rd g 0) r j

theorem hid_at (r : Fin 8192) (c : Fin 2048) : val_main_v13 (F := Ideal) x g (ix2 r c) = hid x g r.val c.val := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  have hx : ∀ j, x (ix2 r j) = rd x r.val j.val := fun j => rd_idx x _ rfl rfl
  have hg : g (ix2 0 c) = rd g 0 c.val := rd_idx g _ rfl rfl
  simp only [hx, hg]
  rfl

theorem z_at (r : Fin 8192) (c : Fin 5712) : val_main_v15 (F := Ideal) x g w (ix2 r c) = prod 2048 (hid x g) (rd3 w) r.val c.val := by
  rw [val_main_v15_apply]
  refine Finset.sum_congr rfl fun k _ => congrArg₂ (· * ·) ?_ ?_
  · exact (congrArg _ (by funext a; match a with | ⟨0, _⟩ => rfl | ⟨1, _⟩ => rfl)).trans (hid_at x g r k)
  · rw [val_main_v14_apply]
    refine rd3_idx w _ ?_ ?_
    · show (k.val * 5712 + c.val) / 5712 % 2048 = k.val
      omega
    · show (k.val * 5712 + c.val) % 5712 = c.val
      omega

/-- The columns of the projected rows from `off` on. -/
abbrev cols (off : ℕ) : ℕ → ℕ → EReal := prod 2048 (hid x g) fun k j => rd3 w k (off + j)

theorem q_at (r : Fin 8192) (c : Fin 2048) : val_main_v52 (F := Ideal) x g w (ix2 r c)
    = roped 64 (prod 2048 (hid x g) (rd3 w)) (cosT 64 (Ideal.ofBits .f32 1115684864#32)) (sinT 64 (Ideal.ofBits .f32 1115684864#32)) r.val c.val := by
  have hc := c.isLt
  pointwise [val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_cst_2, val_main_cst_3]
  simp only [z_at]
  split_ifs
  · exact roped_first (by omega) (by omega) (congrArg (prod 2048 (hid x g) (rd3 w) _) (by omega)) (congrArg (prod 2048 (hid x g) (rd3 w) _) (by omega)) (by omega) rfl
  · exact roped_second (by omega) (by omega) (congrArg (prod 2048 (hid x g) (rd3 w) _) (by omega)) (congrArg (prod 2048 (hid x g) (rd3 w) _) (by omega)) (by omega) rfl

theorem k_at (r : Fin 8192) (c : Fin 256) : val_main_v89 (F := Ideal) x g w (ix2 r c)
    = roped 64 (cols x g w 2048) (cosT 64 (Ideal.ofBits .f32 1115684864#32)) (sinT 64 (Ideal.ofBits .f32 1115684864#32)) r.val c.val := by
  have hc := c.isLt
  pointwise [val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_cst_4, val_main_cst_5]
  simp only [z_at]
  split_ifs
  · exact roped_first (by omega) (by omega) (congrArg (prod 2048 (hid x g) (rd3 w) _) (by omega)) (congrArg (prod 2048 (hid x g) (rd3 w) _) (by omega)) (by omega) rfl
  · exact roped_second (by omega) (by omega) (congrArg (prod 2048 (hid x g) (rd3 w) _) (by omega)) (congrArg (prod 2048 (hid x g) (rd3 w) _) (by omega)) (by omega) rfl

theorem iq_at (r : Fin 8192) (c : Fin 1024) : val_main_v127 (F := Ideal) x g w (ix2 r c)
    = roped 32 (cols x g w 2560) (cosT 32 (Ideal.ofBits .f32 1107296256#32)) (sinT 32 (Ideal.ofBits .f32 1107296256#32)) r.val c.val := by
  have hc := c.isLt
  pointwise [val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_cst_6, val_main_cst_7]
  simp only [z_at]
  split_ifs
  · exact roped_first (by omega) (by omega) (congrArg (prod 2048 (hid x g) (rd3 w) _) (by omega)) (congrArg (prod 2048 (hid x g) (rd3 w) _) (by omega)) (by omega) rfl
  · exact roped_second (by omega) (by omega) (congrArg (prod 2048 (hid x g) (rd3 w) _) (by omega)) (congrArg (prod 2048 (hid x g) (rd3 w) _) (by omega)) (by omega) rfl

theorem ikw_at (r : Fin 8192) (c : Fin 128) : val_main_v168 (F := Ideal) x g w (ix2 r c)
    = roped 32 (prod 2048 (hid x g) fun k j => if j < 80 then rd3 w k (3584 + j) else 0) (cosI (Ideal.ofBits .f32 1107296256#32))
        (sinI (Ideal.ofBits .f32 1107296256#32)) r.val c.val := by
  have hc := c.isLt
  pointwise [val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_cst_8, val_main_cst_9, val_main_cst_10]
  simp only [z_at]
  split_ifs with h1 h2 h3
  · refine Eq.trans ?_ (roped_low (by omega)).symm
    exact roped_first (by omega) (by omega) (prod_padded.trans (if_pos (by omega))).symm ((congrArg (prod 2048 (hid x g) (rd3 w) _) (by omega)).trans (prod_padded.trans (if_pos (by omega))).symm) (by omega) rfl
  · refine Eq.trans ?_ (roped_low (by omega)).symm
    exact roped_second (by omega) (by omega) ((congrArg (prod 2048 (hid x g) (rd3 w) _) (by omega)).trans (prod_padded.trans (if_pos (by omega))).symm) ((congrArg (prod 2048 (hid x g) (rd3 w) _) (by omega)).trans (prod_padded.trans (if_pos (by omega))).symm) (by omega) rfl
  · refine Eq.trans ?_ (roped_id (by omega)).symm
    exact (congrArg (prod 2048 (hid x g) (rd3 w) _) (by omega)).trans (prod_padded.trans (if_pos (by omega))).symm
  · refine Eq.trans ?_ (roped_id (by omega)).symm
    exact (prod_padded.trans (if_neg (by omega))).symm

theorem v_at (r : Fin 8192) (c : Fin 256) : val_main_v90 (F := Ideal) x g w (ix2 r c) = cols x g w 2304 r.val c.val := by
  pointwise [val_main_v90]
  exact z_at x g w _ _

theorem gate_at (r : Fin 8192) (c : Fin 2048) : val_main_v173 (F := Ideal) x g w (ix2 r c) = cols x g w 3664 r.val c.val := by
  pointwise [val_main_v173, val_main_v166]
  exact z_at x g w _ _

end Cert.ReferenceAIdeal.RefRead

end
-- ==== Proof.ContentsA.lean ====
/- The contents of mixer A's result arrays after its run, from the launch memory. -/
module

public import proofs.«01_k».proof.Proof.RegionsA
public import proofs.«01_k».proof.Proof.HostA
public import proofs.«01_k».proof.Proof.RefA

@[expose] public section

set_option maxRecDepth 16384

noncomputable section

namespace Cert.KernelAIdeal.Final

open Cert.KernelAIdeal Cert.KernelAIdeal.Gen Cert.Spec Cert.ReferenceAIdeal.RefRead Idealize.ShloMosaic
  Idealize.ShloMosaic.TcCoe Idealize.ShloMosaic.Pointwise Idealize.SL.Sem

attribute [local instance] Cert.KernelAIdeal.Gen.facts

variable (m : (ℓ : Loc nD τ sig) → Buf (Elt Ideal) ℓ) (ρ : Dev nD → PrngReg) (c : Dev nD)

/-- The rows, the gains and the weights as the launch memory holds them. -/
abbrev rows : Mat 8192 2048 := m ((c : Thread nD τ).loc main_arg0)
abbrev gains : Mat 1 2048 := m ((c : Thread nD τ).loc main_arg1)
abbrev projs : Stack 2048 5712 := m ((c : Thread nD τ).loc main_arg2)

/-- The normalised rows and the weights' columns from `off` on. -/
abbrev hidden : ℕ → ℕ → EReal := hid (rows m c) (gains m c)
abbrev wcols (off : ℕ) : ℕ → ℕ → EReal := fun k j => rd3 (projs m c) k (off + j)
abbrev wpad : ℕ → ℕ → EReal := fun k j => if j < 80 then rd3 (projs m c) k (3584 + j) else 0

/-! ## The arrays the projections read -/

theorem hidden2 (y : S8192x2048.Idx) : W2 m ρ c (Proc.devRef .tc main_v2) y = hidden m c (y 0).val (y 1).val := by
  refine (congrFun (W2_arr m ρ c 2) y).trans (congrFun (final0 (V1 m ρ) c (rd (rows m c)) (rd (gains m c) 0) (fun z => ?_) (fun z => ?_)) y)
  · exact (congrFun (W1_args m ρ c main_arg0 (by decide)) z).trans (rd_idx (rows m c) z rfl rfl)
  · show StableHlo.after hostOps0 (W0 m ρ c) (Proc.devRef .tc main_v1) z = _
    entry_read
    refine (congrArg _ (eq_ix2 z)).trans ?_
    pointwise []
    exact (congrFun (W0_args m ρ c main_arg1 (by decide)) _).trans (rd_idx (gains m c) _ (by have h : (z 0).val < 1 := (z 0).isLt; show (z 0).val = 0; omega) rfl)

theorem hidden5 (y : S8192x2048.Idx) : W5 m ρ c (Proc.devRef .tc main_v2) y = hidden m c (y 0).val (y 1).val :=
  (congrFun ((W5_of m ρ c main_v2 (by decide)).trans ((W4_of m ρ c main_v2 (by decide)).trans (W3_of m ρ c main_v2 (by decide)))) y).trans (hidden2 m ρ c y)

theorem launched : W2 m ρ c (Proc.devRef .tc main_arg2) = projs m c := W2_args m ρ c main_arg2 (by decide)

theorem weights13 (y : S2048x2048.Idx) : W5 m ρ c (Proc.devRef .tc main_v13) y = rd3 (projs m c) (y 0).val (y 1).val :=
  (cast13 (W4 m ρ c) y).trans ((congrFun (W4_of m ρ c main_v4 (by decide)) y).trans
    ((slice4 (W2 m ρ c) y).trans (congrArg (fun A : Stack 2048 5712 => rd3 A _ _) (launched m ρ c))))

theorem weights14 (y : S2048x256.Idx) : W5 m ρ c (Proc.devRef .tc main_v14) y = wcols m c 2048 (y 0).val (y 1).val :=
  (cast14 (W4 m ρ c) y).trans ((congrFun (W4_of m ρ c main_v5 (by decide)) y).trans
    ((slice5 (W2 m ρ c) y).trans (congrArg (fun A : Stack 2048 5712 => rd3 A _ _) (launched m ρ c))))

theorem weights15 (y : S2048x256.Idx) : W5 m ρ c (Proc.devRef .tc main_v15) y = wcols m c 2304 (y 0).val (y 1).val :=
  (cast15 (W4 m ρ c) y).trans ((congrFun (W4_of m ρ c main_v6 (by decide)) y).trans
    ((slice6 (W2 m ρ c) y).trans (congrArg (fun A : Stack 2048 5712 => rd3 A _ _) (launched m ρ c))))

theorem weights16 (y : S2048x1024.Idx) : W5 m ρ c (Proc.devRef .tc main_v16) y = wcols m c 2560 (y 0).val (y 1).val :=
  (cast16 (W4 m ρ c) y).trans ((congrFun (W4_of m ρ c main_v7 (by decide)) y).trans
    ((slice7 (W2 m ρ c) y).trans (congrArg (fun A : Stack 2048 5712 => rd3 A _ _) (launched m ρ c))))

theorem weights18 (y : S2048x2048.Idx) : W5 m ρ c (Proc.devRef .tc main_v18) y = wcols m c 3664 (y 0).val (y 1).val :=
  (cast18 (W4 m ρ c) y).trans ((congrFun (W4_of m ρ c main_v10 (by decide)) y).trans
    ((slice10 (W2 m ρ c) y).trans (congrArg (fun A : Stack 2048 5712 => rd3 A _ _) (launched m ρ c))))

theorem weights17 (y : S2048x128.Idx) : W5 m ρ c (Proc.devRef .tc main_v17) y = wpad m c (y 0).val (y 1).val :=
  (cast17 (W4 m ρ c) y).trans (padded (W3 m ρ c) (rd3 (projs m c)) (padding (W2 m ρ c)) (fun z =>
    (slice11 (W2 m ρ c) z).trans (congrArg (fun A : Stack 2048 5712 => rd3 A _ _) (launched m ρ c))) y)

/-! ## What a later projection finds is what the first one found -/

/-- The arrays that the projections read. -/
abbrev kept : List (Ref sig .tc) := [main_v2, main_v14, main_v15, main_v16, main_v17, main_v18, main_v34, main_v36, main_v54, main_v55, main_v74, main_v76]

theorem keeps1 : ∀ r ∈ kept, ∀ w : Fin cfg1.W, Pipeline.arrRef spec1 w = r → (cfg1.win w).isOut = false :=
  ListAll.forall_mem_of_all_decide (by decide +kernel)
theorem keeps2 : ∀ r ∈ kept, ∀ w : Fin cfg2.W, Pipeline.arrRef spec2 w = r → (cfg2.win w).isOut = false :=
  ListAll.forall_mem_of_all_decide (by decide +kernel)
theorem keeps3 : ∀ r ∈ kept, ∀ w : Fin cfg3.W, Pipeline.arrRef spec3 w = r → (cfg3.win w).isOut = false :=
  ListAll.forall_mem_of_all_decide (by decide +kernel)
theorem keeps4 : ∀ r ∈ kept, ∀ w : Fin cfg4.W, Pipeline.arrRef spec4 w = r → (cfg4.win w).isOut = false :=
  ListAll.forall_mem_of_all_decide (by decide +kernel)
theorem keeps5 : ∀ r ∈ kept, ∀ w : Fin cfg5.W, Pipeline.arrRef spec5 w = r → (cfg5.win w).isOut = false :=
  ListAll.forall_mem_of_all_decide (by decide +kernel)

theorem at6 (r : Ref sig .tc) (h : r ∈ kept) : W6 m ρ c (Proc.devRef .tc r) = W5 m ρ c (Proc.devRef .tc r) :=
  W6_of m ρ c r (keeps1 r h)
theorem at7 (r : Ref sig .tc) (h : r ∈ kept) : W7 m ρ c (Proc.devRef .tc r) = W5 m ρ c (Proc.devRef .tc r) :=
  (W7_of m ρ c r (keeps2 r h)).trans (at6 m ρ c r h)
theorem at8 (r : Ref sig .tc) (h : r ∈ kept) : W8 m ρ c (Proc.devRef .tc r) = W5 m ρ c (Proc.devRef .tc r) :=
  (W8_of m ρ c r (keeps3 r h)).trans (at7 m ρ c r h)
theorem at9 (r : Ref sig .tc) (h : r ∈ kept) : W9 m ρ c (Proc.devRef .tc r) = W5 m ρ c (Proc.devRef .tc r) :=
  (W9_of m ρ c r (keeps4 r h)).trans (at8 m ρ c r h)
theorem at10 (r : Ref sig .tc) (h : r ∈ kept) : W10 m ρ c (Proc.devRef .tc r) = W5 m ρ c (Proc.devRef .tc r) :=
  (W10_of m ρ c r (keeps5 r h)).trans (at9 m ρ c r h)

/-! ## The results -/

theorem query : W11 m ρ c (Proc.devRef .tc main_v77) = fun y : S8192x2048.Idx => roped 64 (prod 2048 (hidden m c) (rd3 (projs m c))) (cosT 64 (Ideal.ofBits .f32 1115684864#32)) (sinT 64 (Ideal.ofBits .f32 1115684864#32)) (y 0).val (y 1).val :=
  (((W11_of m ρ c main_v77 (by decide +kernel)).trans ((W10_of m ρ c main_v77 (by decide +kernel)).trans ((W9_of m ρ c main_v77 (by decide +kernel)).trans ((W8_of m ρ c main_v77 (by decide +kernel)).trans (W7_of m ρ c main_v77 (by decide +kernel)))))).trans (W6_arr m ρ c 4)).trans
    (final1 (V5 m ρ) c (hidden m c) (rd3 (projs m c)) (cosT 64 (Ideal.ofBits .f32 1115684864#32)) (sinT 64 (Ideal.ofBits .f32 1115684864#32))
      (fun z => hidden5 m ρ c z) (fun z => weights13 m ρ c z) (fun z => cos64 (W4 m ρ c) z) (fun z => sin64 (W4 m ρ c) z))

theorem key : W11 m ρ c (Proc.devRef .tc main_v78_0) = fun y : S8192x256.Idx => roped 64 (prod 2048 (hidden m c) (wcols m c 2048)) (cosT 64 (Ideal.ofBits .f32 1115684864#32)) (sinT 64 (Ideal.ofBits .f32 1115684864#32)) (y 0).val (y 1).val :=
  (((W11_of m ρ c main_v78_0 (by decide +kernel)).trans ((W10_of m ρ c main_v78_0 (by decide +kernel)).trans ((W9_of m ρ c main_v78_0 (by decide +kernel)).trans (W8_of m ρ c main_v78_0 (by decide +kernel))))).trans (W7_arr m ρ c 4)).trans
    (final2 (V6 m ρ) c (hidden m c) (wcols m c 2048) (cosT 64 (Ideal.ofBits .f32 1115684864#32)) (sinT 64 (Ideal.ofBits .f32 1115684864#32))
      (fun z => (congrFun (at6 m ρ c main_v2 (by decide)) z).trans (hidden5 m ρ c z)) (fun z => (congrFun (at6 m ρ c main_v14 (by decide)) z).trans (weights14 m ρ c z)) (fun z => (congrFun (at6 m ρ c main_v34 (by decide)) z).trans (cos64 (W4 m ρ c) z)) (fun z => (congrFun (at6 m ρ c main_v36 (by decide)) z).trans (sin64 (W4 m ρ c) z)))

theorem key_half : W11 m ρ c (Proc.devRef .tc main_v78_1) = fun y : S8192x256.Idx => roped 64 (prod 2048 (hidden m c) (wcols m c 2048)) (cosT 64 (Ideal.ofBits .f32 1115684864#32)) (sinT 64 (Ideal.ofBits .f32 1115684864#32)) (y 0).val (y 1).val :=
  (((W11_of m ρ c main_v78_1 (by decide +kernel)).trans ((W10_of m ρ c main_v78_1 (by decide +kernel)).trans ((W9_of m ρ c main_v78_1 (by decide +kernel)).trans (W8_of m ρ c main_v78_1 (by decide +kernel))))).trans (W7_arr m ρ c 5)).trans
    (final2_half (V6 m ρ) c (hidden m c) (wcols m c 2048) (cosT 64 (Ideal.ofBits .f32 1115684864#32)) (sinT 64 (Ideal.ofBits .f32 1115684864#32))
      (fun z => (congrFun (at6 m ρ c main_v2 (by decide)) z).trans (hidden5 m ρ c z)) (fun z => (congrFun (at6 m ρ c main_v14 (by decide)) z).trans (weights14 m ρ c z)) (fun z => (congrFun (at6 m ρ c main_v34 (by decide)) z).trans (cos64 (W4 m ρ c) z)) (fun z => (congrFun (at6 m ρ c main_v36 (by decide)) z).trans (sin64 (W4 m ρ c) z)))

theorem value : W11 m ρ c (Proc.devRef .tc main_v79_0) = fun y : S8192x256.Idx => prod 2048 (hidden m c) (wcols m c 2304) (y 0).val (y 1).val :=
  (((W11_of m ρ c main_v79_0 (by decide +kernel)).trans ((W10_of m ρ c main_v79_0 (by decide +kernel)).trans (W9_of m ρ c main_v79_0 (by decide +kernel)))).trans (W8_arr m ρ c 2)).trans
    (final3 (V7 m ρ) c (hidden m c) (wcols m c 2304)
      (fun z => (congrFun (at7 m ρ c main_v2 (by decide)) z).trans (hidden5 m ρ c z)) (fun z => (congrFun (at7 m ρ c main_v15 (by decide)) z).trans (weights15 m ρ c z)))

theorem value_half : W11 m ρ c (Proc.devRef .tc main_v79_1) = fun y : S8192x256.Idx => prod 2048 (hidden m c) (wcols m c 2304) (y 0).val (y 1).val :=
  (((W11_of m ρ c main_v79_1 (by decide +kernel)).trans ((W10_of m ρ c main_v79_1 (by decide +kernel)).trans (W9_of m ρ c main_v79_1 (by decide +kernel)))).trans (W8_arr m ρ c 3)).trans
    (final3_half (V7 m ρ) c (hidden m c) (wcols m c 2304)
      (fun z => (congrFun (at7 m ρ c main_v2 (by decide)) z).trans (hidden5 m ρ c z)) (fun z => (congrFun (at7 m ρ c main_v15 (by decide)) z).trans (weights15 m ρ c z)))

theorem index_query : W11 m ρ c (Proc.devRef .tc main_v80) = fun y : S8192x1024.Idx => roped 32 (prod 2048 (hidden m c) (wcols m c 2560)) (cosT 32 (Ideal.ofBits .f32 1107296256#32)) (sinT 32 (Ideal.ofBits .f32 1107296256#32)) (y 0).val (y 1).val :=
  (((W11_of m ρ c main_v80 (by decide +kernel)).trans (W10_of m ρ c main_v80 (by decide +kernel))).trans (W9_arr m ρ c 4)).trans
    (final4 (V8 m ρ) c (hidden m c) (wcols m c 2560) (cosT 32 (Ideal.ofBits .f32 1107296256#32)) (sinT 32 (Ideal.ofBits .f32 1107296256#32))
      (fun z => (congrFun (at8 m ρ c main_v2 (by decide)) z).trans (hidden5 m ρ c z)) (fun z => (congrFun (at8 m ρ c main_v16 (by decide)) z).trans (weights16 m ρ c z)) (fun z => (congrFun (at8 m ρ c main_v54 (by decide)) z).trans (cos32 (W4 m ρ c) z)) (fun z => (congrFun (at8 m ρ c main_v55 (by decide)) z).trans (sin32 (W4 m ρ c) z)))

theorem index_key : W11 m ρ c (Proc.devRef .tc main_v81) = fun y : S8192x128.Idx => roped 32 (prod 2048 (hidden m c) (wpad m c)) (cosI (Ideal.ofBits .f32 1107296256#32)) (sinI (Ideal.ofBits .f32 1107296256#32)) (y 0).val (y 1).val :=
  ((W11_of m ρ c main_v81 (by decide +kernel)).trans (W10_arr m ρ c 4)).trans
    (final5 (V9 m ρ) c (hidden m c) (wpad m c) (cosI (Ideal.ofBits .f32 1107296256#32)) (sinI (Ideal.ofBits .f32 1107296256#32))
      (fun z => (congrFun (at9 m ρ c main_v2 (by decide)) z).trans (hidden5 m ρ c z)) (fun z => (congrFun (at9 m ρ c main_v17 (by decide)) z).trans (weights17 m ρ c z)) (fun z => (congrFun (at9 m ρ c main_v74 (by decide)) z).trans (cosHalf (W4 m ρ c) z)) (fun z => (congrFun (at9 m ρ c main_v76 (by decide)) z).trans (sinHalf (W4 m ρ c) z)))

theorem gate : W11 m ρ c (Proc.devRef .tc main_v82) = fun y : S8192x2048.Idx => prod 2048 (hidden m c) (wcols m c 3664) (y 0).val (y 1).val :=
  (W11_arr m ρ c 2).trans
    (final6 (V10 m ρ) c (hidden m c) (wcols m c 3664)
      (fun z => (congrFun (at10 m ρ c main_v2 (by decide)) z).trans (hidden5 m ρ c z)) (fun z => (congrFun (at10 m ρ c main_v18 (by decide)) z).trans (weights18 m ρ c z)))

end Cert.KernelAIdeal.Final

end
-- ==== Proof.RunA.lean ====
/- The projections of mixer A: the run of the kernel and of the reference, and the claims about them. -/
module

public import proofs.«01_k».proof.Defs
public import proofs.«01_k».proof.Proof.Gen.KernelA
public import proofs.«01_k».proof.Proof.Gen.ReferenceAIdeal.Run
public import proofs.«01_k».proof.Proof.ContentsA
public import Idealize.ShloMosaic.Lib.Claim
public import Idealize.ShloMosaic.Lib.Quiescent

@[expose] public section

set_option maxRecDepth 16384

noncomputable section

namespace Cert.KernelAIdeal.Final

open Cert.KernelAIdeal Cert.KernelAIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local instance] Cert.KernelAIdeal.Gen.facts

variable {F : FTy → Type} [FloatOps F] (m : (ℓ : Loc nD τ sig) → Buf (Elt F) ℓ) (ρ : Dev nD → PrngReg)

set_option backward.isDefEq.respectTransparency.types false in
/-- The run ends with every unscoped buffer at the contents after the last region. -/
theorem run_contents : θ_run defs (onTc (τ := τ) (main (F := F))) ⟨m, fun _ => 0, ρ⟩ (fun r =>
      ∀ c : Dev nD, ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

end Cert.KernelAIdeal.Final

namespace Cert.ProjectionsA

open Idealize.ShloMosaic Idealize.ShloMosaic.TcCoe Idealize.ShloMosaic.Pointwise Idealize.SL.Sem
open Cert.KernelAIdeal.Final Cert.KernelAIdeal.Gen Cert.Spec Cert.ReferenceAIdeal.RefRead

attribute [local instance] Cert.KernelA.Gen.facts Cert.KernelAIdeal.Gen.facts Cert.ReferenceAIdeal.Gen.facts

theorem frame_reference : Cert.quiescent_ReferenceAIdeal := fun m g _ =>
  (θ_run _ _ _).mono (fun r h => ⟨fun c => (h c).2.2.2.2.2.2.2.2, sem_eq_zero_of_no_sems (by decide) r.2⟩)
    (Cert.ReferenceAIdeal.Value.run (F := Ideal) m g)

/-- Both runs end at the same projections of the normalised rows. -/
theorem algebraic : Cert.algebraic_KernelAIdeal_ReferenceAIdeal := by
  intro m g m' g' hpre hagree
  refine ⟨fun c => W11 m g c (Proc.devRef .tc Cert.KernelAIdeal.main_v77), fun c => W11 m g c (Proc.devRef .tc Cert.KernelAIdeal.main_v78_0),
    fun c => W11 m g c (Proc.devRef .tc Cert.KernelAIdeal.main_v78_1), fun c => W11 m g c (Proc.devRef .tc Cert.KernelAIdeal.main_v79_0),
    fun c => W11 m g c (Proc.devRef .tc Cert.KernelAIdeal.main_v79_1), fun c => W11 m g c (Proc.devRef .tc Cert.KernelAIdeal.main_v80),
    fun c => W11 m g c (Proc.devRef .tc Cert.KernelAIdeal.main_v81), fun c => W11 m g c (Proc.devRef .tc Cert.KernelAIdeal.main_v82), ?_, ?_⟩
  · refine (θ_run _ _ _).mono (fun r h c => ?_) (run_contents (F := Ideal) m g)
    exact ⟨h c _ (mem_uc _ (by decide)), h c _ (mem_uc _ (by decide)), h c _ (mem_uc _ (by decide)), h c _ (mem_uc _ (by decide)),
      h c _ (mem_uc _ (by decide)), h c _ (mem_uc _ (by decide)), h c _ (mem_uc _ (by decide)), h c _ (mem_uc _ (by decide)),
      (h c _ (mem_uc Cert.KernelAIdeal.main_arg0 (by decide))).trans (W11_main_arg0 m g c),
      (h c _ (mem_uc Cert.KernelAIdeal.main_arg1 (by decide))).trans (W11_main_arg1 m g c),
      (h c _ (mem_uc Cert.KernelAIdeal.main_arg2 (by decide))).trans (W11_main_arg2 m g c)⟩
  · refine (θ_run _ _ _).mono (fun r h c => ?_) (Cert.ReferenceAIdeal.Value.run (F := Ideal) m' g')
    obtain ⟨h0, h1, h2, h3, h4, h5, h6, h7, hargs⟩ := h c
    have a0 : StableHlo.launchContents m' c (Proc.devRef .tc Cert.ReferenceAIdeal.main_arg0) = rows m c := (hagree c).1
    have a1 : StableHlo.launchContents m' c (Proc.devRef .tc Cert.ReferenceAIdeal.main_arg1) = gains m c := (hagree c).2.1
    have a2 : StableHlo.launchContents m' c (Proc.devRef .tc Cert.ReferenceAIdeal.main_arg2) = projs m c := (hagree c).2.2
    refine ⟨h0.trans ?_, h1.trans ?_, h2.trans ?_, h3.trans ?_, h4.trans ?_, h5.trans ?_, h6.trans ?_, h7.trans ?_, hargs⟩
    · rw [Cert.ReferenceAIdeal.Read.val_main_v169_eq, a0, a1, a2]
      refine Eq.trans ?_ (query m g c).symm
      funext y
      exact (congrArg _ (eq_ix2 y)).trans (q_at (rows m c) (gains m c) (projs m c) (y 0) (y 1))
    · rw [Cert.ReferenceAIdeal.Read.val_main_v89_eq, a0, a1, a2]
      refine Eq.trans ?_ (key m g c).symm
      funext y
      exact (congrArg _ (eq_ix2 y)).trans (k_at (rows m c) (gains m c) (projs m c) (y 0) (y 1))
    · rw [Cert.ReferenceAIdeal.Read.val_main_v170_eq, a0, a1, a2]
      refine Eq.trans ?_ (key_half m g c).symm
      funext y
      exact (congrArg _ (eq_ix2 y)).trans (k_at (rows m c) (gains m c) (projs m c) (y 0) (y 1))
    · rw [Cert.ReferenceAIdeal.Read.val_main_v90_eq, a0, a1, a2]
      refine Eq.trans ?_ (value m g c).symm
      funext y
      exact (congrArg _ (eq_ix2 y)).trans (v_at (rows m c) (gains m c) (projs m c) (y 0) (y 1))
    · rw [Cert.ReferenceAIdeal.Read.val_main_v171_eq, a0, a1, a2]
      refine Eq.trans ?_ (value_half m g c).symm
      funext y
      exact (congrArg _ (eq_ix2 y)).trans (v_at (rows m c) (gains m c) (projs m c) (y 0) (y 1))
    · rw [Cert.ReferenceAIdeal.Read.val_main_v172_eq, a0, a1, a2]
      refine Eq.trans ?_ (index_query m g c).symm
      funext y
      exact (congrArg _ (eq_ix2 y)).trans (iq_at (rows m c) (gains m c) (projs m c) (y 0) (y 1))
    · rw [Cert.ReferenceAIdeal.Read.val_main_v168_eq, a0, a1, a2]
      refine Eq.trans ?_ (index_key m g c).symm
      funext y
      exact (congrArg _ (eq_ix2 y)).trans (ikw_at (rows m c) (gains m c) (projs m c) (y 0) (y 1))
    · rw [Cert.ReferenceAIdeal.Read.val_main_v173_eq, a0, a1, a2]
      refine Eq.trans ?_ (gate m g c).symm
      funext y
      exact (congrArg _ (eq_ix2 y)).trans (gate_at (rows m c) (gains m c) (projs m c) (y 0) (y 1))

end Cert.ProjectionsA

end
-- ==== Proof.Heads.lean ====
/- Query heads of 256 columns: 128 kept as they are, then 64 rotated and 64 zeros. -/
module

public import proofs.«01_k».proof.Proof.Rope

@[expose] public section

noncomputable section

namespace Cert.Spec

open Idealize.ShloMosaic Idealize.ShloMosaic.Pointwise

/-- The table `z` with the second 128 columns of each 256 rotated. -/
def heads (z C S : ℕ → ℕ → EReal) (r c : ℕ) : EReal := if c % 256 < 128 then z r c else roped 32 z C S r c

theorem heads_plain {r c : ℕ} {z C S : ℕ → ℕ → EReal} (h : c % 256 < 128) : heads z C S r c = z r c := if_pos h

theorem heads_turned {r c : ℕ} {z C S : ℕ → ℕ → EReal} (h : ¬ c % 256 < 128) : heads z C S r c = roped 32 z C S r c := if_neg h

theorem heads_sum {K a r c : ℕ} {H W C S : ℕ → ℕ → EReal} (ha : a = c) (h : c % 256 < 128) :
    (∑ k : Fin K, H r k * W k a) = heads (prod K H W) C S r c := by
  subst ha
  exact (heads_plain (z := prod K H W) h).symm

/-- The queries' weights, each head of 192 columns followed by 64 columns of zeros. -/
def spread (w : ℕ → ℕ → EReal) (k j : ℕ) : EReal := if j % 256 < 192 then w k (192 * (j / 256) + j % 256) else 0

theorem prod_spread {K r c : ℕ} {h w : ℕ → ℕ → EReal} :
    prod K h (spread w) r c = if c % 256 < 192 then prod K h w r (192 * (c / 256) + c % 256) else 0 := by
  unfold prod spread
  by_cases hc : c % 256 < 192
  · simp only [if_pos hc]
  · simp only [if_neg hc, mul_zero, Finset.sum_const_zero]

/-- A product read at a column of a head that the spread weights hold. -/
theorem spread_at {h v : ℕ → ℕ → EReal} {K r a c : ℕ} (hc : c % 256 < 192) (ha : a = 192 * (c / 256) + c % 256) :
    prod K h v r a = prod K h (spread v) r c := by
  subst ha
  exact (prod_spread.trans (if_pos hc)).symm

end Cert.Spec

end
-- ==== Proof.RegionsB.lean ====
/- The arrays mixer B's seven calls leave, each from the arrays it is entered with: the residual stream and its norm, and the projections. -/
module

public import proofs.«01_k».proof.Proof.Gen.KernelBIdeal.Frame
public import proofs.«01_k».proof.Proof.Heads
public import Idealize.ShloMosaic.Lib.Pipeline.ValueKit

@[expose] public section

set_option maxRecDepth 16384

noncomputable section

namespace Cert.KernelBIdeal.Final

open Cert.KernelBIdeal Cert.KernelBIdeal.Gen Cert.Spec Idealize.ShloMosaic
  Idealize.ShloMosaic.TcCoe Idealize.ShloMosaic.Pointwise Idealize.SL.Sem

attribute [local instance] Cert.KernelBIdeal.Gen.facts

variable (V : (c : Dev nD) → (b : Ref sig .tc) → Buf (Elt Ideal) ((c : Thread nD τ).loc b)) (c : Dev nD)

/-! ## The blocks of each grid point -/

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![t.val, 0] := (by decide +kernel : ∀ t : Fin grid0.N, _)
theorem index0_3 : ∀ t : Fin cfg0.N, win0_3.index t = ![0, 0] := (by decide +kernel : ∀ t : Fin grid0.N, _)
theorem index0_4 : ∀ t : Fin cfg0.N, win0_4.index t = ![t.val, 0] := (by decide +kernel : ∀ t : Fin grid0.N, _)
theorem index0_5 : ∀ t : Fin cfg0.N, win0_5.index t = ![t.val, 0] := (by decide +kernel : ∀ t : Fin grid0.N, _)
theorem index1_0 : ∀ t : Fin cfg1.N, win1_0.index t = ![(grid1.coords t 1).val, 0] := (by decide +kernel : ∀ t : Fin grid1.N, _)
theorem index1_1 : ∀ t : Fin cfg1.N, win1_1.index t = ![0, (grid1.coords t 0).val] := (by decide +kernel : ∀ t : Fin grid1.N, _)
theorem index1_2 : ∀ t : Fin cfg1.N, win1_2.index t = ![0, 0] := (by decide +kernel : ∀ t : Fin grid1.N, _)
theorem index1_3 : ∀ t : Fin cfg1.N, win1_3.index t = ![(grid1.coords t 1).val, (grid1.coords t 0).val] := (by decide +kernel : ∀ t : Fin grid1.N, _)
theorem index2_0 : ∀ t : Fin cfg2.N, win2_0.index t = ![(grid2.coords t 1).val, 0] := (by decide +kernel : ∀ t : Fin grid2.N, _)
theorem index2_1 : ∀ t : Fin cfg2.N, win2_1.index t = ![0, (grid2.coords t 0).val] := (by decide +kernel : ∀ t : Fin grid2.N, _)
theorem index2_2 : ∀ t : Fin cfg2.N, win2_2.index t = ![0, 0] := (by decide +kernel : ∀ t : Fin grid2.N, _)
theorem index2_3 : ∀ t : Fin cfg2.N, win2_3.index t = ![(grid2.coords t 1).val, (grid2.coords t 0).val] := (by decide +kernel : ∀ t : Fin grid2.N, _)
theorem index2_4 : ∀ t : Fin cfg2.N, win2_4.index t = ![(grid2.coords t 1).val, (grid2.coords t 0).val] := (by decide +kernel : ∀ t : Fin grid2.N, _)
theorem index3_0 : ∀ t : Fin cfg3.N, win3_0.index t = ![(grid3.coords t 1).val, 0] := (by decide +kernel : ∀ t : Fin grid3.N, _)
theorem index3_1 : ∀ t : Fin cfg3.N, win3_1.index t = ![0, (grid3.coords t 0).val] := (by decide +kernel : ∀ t : Fin grid3.N, _)
theorem index3_2 : ∀ t : Fin cfg3.N, win3_2.index t = ![(grid3.coords t 1).val % 8, 0] := (by decide +kernel : ∀ t : Fin grid3.N, _)
theorem index3_3 : ∀ t : Fin cfg3.N, win3_3.index t = ![(grid3.coords t 1).val % 8, 0] := (by decide +kernel : ∀ t : Fin grid3.N, _)
theorem index3_4 : ∀ t : Fin cfg3.N, win3_4.index t = ![(grid3.coords t 1).val, (grid3.coords t 0).val] := (by decide +kernel : ∀ t : Fin grid3.N, _)
theorem index3_5 : ∀ t : Fin cfg3.N, win3_5.index t = ![(grid3.coords t 1).val, (grid3.coords t 0).val] := (by decide +kernel : ∀ t : Fin grid3.N, _)
theorem index4_0 : ∀ t : Fin cfg4.N, win4_0.index t = ![(grid4.coords t 1).val, 0] := (by decide +kernel : ∀ t : Fin grid4.N, _)
theorem index4_1 : ∀ t : Fin cfg4.N, win4_1.index t = ![0, (grid4.coords t 0).val] := (by decide +kernel : ∀ t : Fin grid4.N, _)
theorem index4_2 : ∀ t : Fin cfg4.N, win4_2.index t = ![(grid4.coords t 1).val, (grid4.coords t 0).val] := (by decide +kernel : ∀ t : Fin grid4.N, _)
theorem index5_0 : ∀ t : Fin cfg5.N, win5_0.index t = ![(grid5.coords t 1).val, 0] := (by decide +kernel : ∀ t : Fin grid5.N, _)
theorem index5_1 : ∀ t : Fin cfg5.N, win5_1.index t = ![0, (grid5.coords t 0).val] := (by decide +kernel : ∀ t : Fin grid5.N, _)
theorem index5_2 : ∀ t : Fin cfg5.N, win5_2.index t = ![(grid5.coords t 1).val % 4, 0] := (by decide +kernel : ∀ t : Fin grid5.N, _)
theorem index5_3 : ∀ t : Fin cfg5.N, win5_3.index t = ![(grid5.coords t 1).val % 4, 0] := (by decide +kernel : ∀ t : Fin grid5.N, _)
theorem index5_4 : ∀ t : Fin cfg5.N, win5_4.index t = ![(grid5.coords t 1).val, (grid5.coords t 0).val] := (by decide +kernel : ∀ t : Fin grid5.N, _)
theorem index6_0 : ∀ t : Fin cfg6.N, win6_0.index t = ![(grid6.coords t 1).val, 0] := (by decide +kernel : ∀ t : Fin grid6.N, _)
theorem index6_1 : ∀ t : Fin cfg6.N, win6_1.index t = ![0, (grid6.coords t 0).val] := (by decide +kernel : ∀ t : Fin grid6.N, _)
theorem index6_2 : ∀ t : Fin cfg6.N, win6_2.index t = ![(grid6.coords t 1).val, (grid6.coords t 0).val] := (by decide +kernel : ∀ t : Fin grid6.N, _)

/-! ## The residual stream and its norm -/

section Stream

variable (x o w : ℕ → ℕ → EReal) (g : ℕ → EReal)

theorem pay0 (v0 : Vec Ideal S256x2048 .f32) (v1 : Vec Ideal S256x2048 .bf16) (v2 : Vec Ideal S2048x2048 .bf16) (t : ℕ)
    (h0 : ∀ i k, v0 (ix2 i k) = x (t * 256 + i.val) k.val) (h1 : ∀ i k, v1 (ix2 i k) = o (t * 256 + i.val) k.val)
    (h2 : ∀ k j, v2 (ix2 k j) = w k.val j.val) (i : Fin 256) (j : Fin 2048) :
    k0_pay1 (F := Ideal) v0 v1 v2 (ix2 i j) = resid x o w (t * 256 + i.val) j.val := by
  pointwise [k0_pay1]
  simp only [h0, h1, h2]
  rfl

theorem final0 (hx : ∀ y, V c main_arg1 y = x (y 0).val (y 1).val) (ho : ∀ y, V c main_arg0 y = o (y 0).val (y 1).val)
    (hw : ∀ y, V c main_v1 y = w (y 0).val (y 1).val) :
    (dat0 V c).arrAt 4 cfg0.N = fun y => resid x o w (y 0).val (y 1).val := by
  refine (dat0 V c).arrAt_eq_of_covers 4 _ (by decide +kernel) fun t hf y => ?_
  blk_simp [index0_4]
  rw [after0_4]
  frame_out
  refine (congrArg _ (eq_ix2 y)).trans (pay0 x o w _ _ _ t.val (fun i k => ?_) (fun i k => ?_) (fun i k => ?_) (y 0) (y 1))
  · exact (hx _).trans (congrArg₂ x (by blk_simp [index0_2]) (by blk_simp [index0_2]))
  · exact (ho _).trans (congrArg₂ o (by blk_simp [index0_0]) (by blk_simp [index0_0]))
  · exact (hw _).trans (congrArg₂ w (by blk_simp [index0_1]) (by blk_simp [index0_1]))

theorem pay0_norm (v0 : Vec Ideal S256x2048 .f32) (v1 : Vec Ideal S256x2048 .bf16) (v2 : Vec Ideal S2048x2048 .bf16)
    (v16 : Vec Ideal S1x2048 .f32) (t : ℕ) (h0 : ∀ i k, v0 (ix2 i k) = x (t * 256 + i.val) k.val)
    (h1 : ∀ i k, v1 (ix2 i k) = o (t * 256 + i.val) k.val) (h2 : ∀ k j, v2 (ix2 k j) = w k.val j.val)
    (h3 : ∀ i k, v16 (ix2 i k) = g k.val) (i : Fin 256) (j : Fin 2048) :
    k0_pay2 (F := Ideal) v0 v1 v2 v16 (ix2 i j)
      = norm 2048 (Ideal.ofBits .f32 1157627904#32) (resid x o w) g (t * 256 + i.val) j.val := by
  pointwise [k0_pay2, k0_pay1]
  simp only [h0, h1, h2, h3]
  rfl

theorem final0_norm (hx : ∀ y, V c main_arg1 y = x (y 0).val (y 1).val) (ho : ∀ y, V c main_arg0 y = o (y 0).val (y 1).val)
    (hw : ∀ y, V c main_v1 y = w (y 0).val (y 1).val) (hg : ∀ y, V c main_v3 y = g (y 1).val) :
    (dat0 V c).arrAt 5 cfg0.N = fun y => norm 2048 (Ideal.ofBits .f32 1157627904#32) (resid x o w) g (y 0).val (y 1).val := by
  refine (dat0 V c).arrAt_eq_of_covers 5 _ (by decide +kernel) fun t hf y => ?_
  blk_simp [index0_5]
  rw [after0_5]
  frame_out
  refine (congrArg _ (eq_ix2 y)).trans (pay0_norm x o w g _ _ _ _ t.val (fun i k => ?_) (fun i k => ?_) (fun i k => ?_) (fun i k => ?_) (y 0) (y 1))
  · exact (hx _).trans (congrArg₂ x (by blk_simp [index0_2]) (by blk_simp [index0_2]))
  · exact (ho _).trans (congrArg₂ o (by blk_simp [index0_0]) (by blk_simp [index0_0]))
  · exact (hw _).trans (congrArg₂ w (by blk_simp [index0_1]) (by blk_simp [index0_1]))
  · exact (hg _).trans (congrArg g (by blk_simp [index0_3]))

end Stream

/-! ## The normalised projections -/

section Normed

variable (H W : ℕ → ℕ → EReal) (G : ℕ → EReal)

theorem pay1 (v0 : Vec Ideal S512x2048 .bf16) (v2 : Vec Ideal S2048x512 .bf16) (v5 : Vec Ideal S1x512 .f32) (t : ℕ)
    (h0 : ∀ i k, v0 (ix2 i k) = H (t * 512 + i.val) k.val) (h2 : ∀ k j, v2 (ix2 k j) = W k.val j.val)
    (h5 : ∀ i l, v5 (ix2 i l) = G l.val) (i : Fin 512) (j : Fin 512) :
    k1_pay1 (F := Ideal) v0 v2 v5 (ix2 i j) = norm 512 (Ideal.ofBits .f32 1140850688#32) (prod 2048 H W) G (t * 512 + i.val) j.val := by
  pointwise [k1_pay1]
  simp only [h0, h2, h5]
  rfl

theorem final1 (hH : ∀ y, V c main_v4_1 y = H (y 0).val (y 1).val) (hW : ∀ y, V c main_v15 y = W (y 0).val (y 1).val)
    (hG : ∀ y, V c main_v44 y = G (y 1).val) :
    (dat1 V c).arrAt 3 cfg1.N = fun y => norm 512 (Ideal.ofBits .f32 1140850688#32) (prod 2048 H W) G (y 0).val (y 1).val := by
  refine (dat1 V c).arrAt_eq_of_covers 3 _ (by decide +kernel) fun t hf y => ?_
  blk_simp [index1_3]
  rw [after1_3]
  frame_out
  refine (congrArg _ (eq_ix2 y)).trans (pay1 H W G _ _ _ (grid1.coords t 1).val
    (fun i k => ?_) (fun i k => ?_) (fun i k => ?_) (y 0) (y 1))
  · exact (hH _).trans (congrArg₂ H (by blk_simp [index1_0]) (by blk_simp [index1_0]))
  · exact (hW _).trans (congrArg₂ W (by blk_simp [index1_1]) (by blk_simp [index1_1]))
  · exact (hG _).trans (congrArg G (by blk_simp [index1_2]))

theorem pay2 (v0 : Vec Ideal S512x2048 .bf16) (v2 : Vec Ideal S2048x512 .bf16) (v5 : Vec Ideal S1x512 .f32) (y : S512x512.Idx) :
    k2_pay1 (F := Ideal) v0 v2 v5 y = k1_pay1 (F := Ideal) v0 v2 v5 y := rfl

theorem pay2_half (v0 : Vec Ideal S512x2048 .bf16) (v2 : Vec Ideal S2048x512 .bf16) (v5 : Vec Ideal S1x512 .f32) (y : S512x512.Idx) :
    k2_pay2 (F := Ideal) v0 v2 v5 y = k1_pay1 (F := Ideal) v0 v2 v5 y := rfl

theorem final2 (hH : ∀ y, V c main_v4_1 y = H (y 0).val (y 1).val) (hW : ∀ y, V c main_v16 y = W (y 0).val (y 1).val)
    (hG : ∀ y, V c main_v46 y = G (y 1).val) :
    (dat2 V c).arrAt 3 cfg2.N = fun y => norm 512 (Ideal.ofBits .f32 1140850688#32) (prod 2048 H W) G (y 0).val (y 1).val := by
  refine (dat2 V c).arrAt_eq_of_covers 3 _ (by decide +kernel) fun t hf y => ?_
  blk_simp [index2_3]
  rw [after2_3]
  frame_out
  refine ((pay2 _ _ _ y).trans (congrArg _ (eq_ix2 y))).trans (pay1 H W G _ _ _ (grid2.coords t 1).val
    (fun i k => ?_) (fun i k => ?_) (fun i k => ?_) (y 0) (y 1))
  · exact (hH _).trans (congrArg₂ H (by blk_simp [index2_0]) (by blk_simp [index2_0]))
  · exact (hW _).trans (congrArg₂ W (by blk_simp [index2_1]) (by blk_simp [index2_1]))
  · exact (hG _).trans (congrArg G (by blk_simp [index2_2]))

theorem final2_half (hH : ∀ y, V c main_v4_1 y = H (y 0).val (y 1).val) (hW : ∀ y, V c main_v16 y = W (y 0).val (y 1).val)
    (hG : ∀ y, V c main_v46 y = G (y 1).val) :
    (dat2 V c).arrAt 4 cfg2.N = fun y => norm 512 (Ideal.ofBits .f32 1140850688#32) (prod 2048 H W) G (y 0).val (y 1).val := by
  refine (dat2 V c).arrAt_eq_of_covers 4 _ (by decide +kernel) fun t hf y => ?_
  blk_simp [index2_4]
  rw [after2_4]
  frame_out
  refine ((pay2_half _ _ _ y).trans (congrArg _ (eq_ix2 y))).trans (pay1 H W G _ _ _ (grid2.coords t 1).val
    (fun i k => ?_) (fun i k => ?_) (fun i k => ?_) (y 0) (y 1))
  · exact (hH _).trans (congrArg₂ H (by blk_simp [index2_0]) (by blk_simp [index2_0]))
  · exact (hW _).trans (congrArg₂ W (by blk_simp [index2_1]) (by blk_simp [index2_1]))
  · exact (hG _).trans (congrArg G (by blk_simp [index2_2]))

end Normed

/-! ## The rotated projections -/

section Rotated

variable (H W C S : ℕ → ℕ → EReal)

theorem pay3 (v0 : Vec Ideal S512x2048 .bf16) (v2 : Vec Ideal S2048x128 .bf16) (v5 v7 : Vec Ideal S512x128 .f32) (t : ℕ)
    (h0 : ∀ i k, v0 (ix2 i k) = H (t * 512 + i.val) k.val) (h2 : ∀ k j, v2 (ix2 k j) = W k.val j.val)
    (h5 : ∀ i l, v5 (ix2 i l) = C (t % 8 * 512 + i.val) l.val) (h7 : ∀ i l, v7 (ix2 i l) = S (t % 8 * 512 + i.val) l.val)
    (i : Fin 512) (j : Fin 128) :
    k3_pay1 (F := Ideal) v0 v2 v5 v7 (ix2 i j) = roped 32 (prod 2048 H W) C S (t * 512 + i.val) j.val := by
  have hi := i.isLt
  have hj := j.isLt
  have hp : t % 8 * 512 + i.val = (t * 512 + i.val) % 4096 := by omega
  pointwise [k3_pay1]
  simp only [h0, h2, h5, h7]
  exact roped_sel (by omega) (by omega) (by omega) (by omega) (by omega) hp

theorem final3 (hH : ∀ y, V c main_v4_1 y = H (y 0).val (y 1).val) (hW : ∀ y, V c main_v17 y = W (y 0).val (y 1).val)
    (hC : ∀ y, V c main_v41 y = C (y 0).val (y 1).val) (hS : ∀ y, V c main_v43 y = S (y 0).val (y 1).val) :
    (dat3 V c).arrAt 4 cfg3.N = fun y => roped 32 (prod 2048 H W) C S (y 0).val (y 1).val := by
  refine (dat3 V c).arrAt_eq_of_covers 4 _ (by decide +kernel) fun t hf y => ?_
  blk_simp [index3_4]
  rw [after3_4]
  frame_out
  refine (congrArg _ (eq_ix2 y)).trans (pay3 H W C S _ _ _ _ (grid3.coords t 1).val
    (fun i k => ?_) (fun i k => ?_) (fun i k => ?_) (fun i k => ?_) (y 0) (y 1))
  · exact (hH _).trans (congrArg₂ H (by blk_simp [index3_0]) (by blk_simp [index3_0]))
  · exact (hW _).trans (congrArg₂ W (by blk_simp [index3_1]) (by blk_simp [index3_1]))
  · exact (hC _).trans (congrArg₂ C (by blk_simp [index3_2]) (by blk_simp [index3_2]))
  · exact (hS _).trans (congrArg₂ S (by blk_simp [index3_3]) (by blk_simp [index3_3]))

theorem pay3_half (v0 : Vec Ideal S512x2048 .bf16) (v2 : Vec Ideal S2048x128 .bf16) (v5 v7 : Vec Ideal S512x128 .f32) (y : S512x128.Idx) :
    k3_pay2 (F := Ideal) v0 v2 v5 v7 y = k3_pay1 (F := Ideal) v0 v2 v5 v7 y := rfl

theorem final3_half (hH : ∀ y, V c main_v4_1 y = H (y 0).val (y 1).val) (hW : ∀ y, V c main_v17 y = W (y 0).val (y 1).val)
    (hC : ∀ y, V c main_v41 y = C (y 0).val (y 1).val) (hS : ∀ y, V c main_v43 y = S (y 0).val (y 1).val) :
    (dat3 V c).arrAt 5 cfg3.N = fun y => roped 32 (prod 2048 H W) C S (y 0).val (y 1).val := by
  refine (dat3 V c).arrAt_eq_of_covers 5 _ (by decide +kernel) fun t hf y => ?_
  blk_simp [index3_5]
  rw [after3_5]
  frame_out
  refine ((pay3_half _ _ _ _ y).trans (congrArg _ (eq_ix2 y))).trans (pay3 H W C S _ _ _ _ (grid3.coords t 1).val
    (fun i k => ?_) (fun i k => ?_) (fun i k => ?_) (fun i k => ?_) (y 0) (y 1))
  · exact (hH _).trans (congrArg₂ H (by blk_simp [index3_0]) (by blk_simp [index3_0]))
  · exact (hW _).trans (congrArg₂ W (by blk_simp [index3_1]) (by blk_simp [index3_1]))
  · exact (hC _).trans (congrArg₂ C (by blk_simp [index3_2]) (by blk_simp [index3_2]))
  · exact (hS _).trans (congrArg₂ S (by blk_simp [index3_3]) (by blk_simp [index3_3]))

theorem pay5 (v0 : Vec Ideal S1024x512 .bf16) (v2 : Vec Ideal S512x1024 .bf16) (v5 v7 : Vec Ideal S1024x128 .f32) (t u : ℕ)
    (h0 : ∀ i k, v0 (ix2 i k) = H (t * 1024 + i.val) k.val) (h2 : ∀ k j, v2 (ix2 k j) = W k.val (u * 1024 + j.val))
    (h5 : ∀ i l, v5 (ix2 i l) = C (t % 4 * 1024 + i.val) l.val) (h7 : ∀ i l, v7 (ix2 i l) = S (t % 4 * 1024 + i.val) l.val)
    (i : Fin 1024) (j : Fin 1024) :
    out5_4 (F := Ideal) v0 v2 v5 v7 (ix2 i j) = heads (prod 512 H W) C S (t * 1024 + i.val) (u * 1024 + j.val) := by
  have hi := i.isLt
  have hj := j.isLt
  have hp : t % 4 * 1024 + i.val = (t * 1024 + i.val) % 4096 := by omega
  frame_out
  pointwise [k5_pay1, k5_pay2, k5_pay3, k5_pay4, k5_pay5, k5_pay6, k5_pay7, k5_pay8, k5_pay9, k5_pay10, k5_pay11, k5_pay12, k5_pay13, k5_pay14, k5_pay15]
  simp (maxSteps := 4000000) only [h0, h2, h5, h7]
  by_cases h : j.val < 128
  · rw [dif_pos h]
    exact heads_sum (by omega) (by omega)
  rw [dif_neg h]
  by_cases h : j.val - 128 < 128
  · rw [dif_pos h]
    exact (roped_sel (by omega) (by omega) (by omega) (by omega) (by omega) hp).trans (heads_turned (by omega)).symm
  rw [dif_neg h]
  by_cases h : j.val - 128 - 128 < 128
  · rw [dif_pos h]
    exact heads_sum (by omega) (by omega)
  rw [dif_neg h]
  by_cases h : j.val - 128 - 128 - 128 < 128
  · rw [dif_pos h]
    exact (roped_sel (by omega) (by omega) (by omega) (by omega) (by omega) hp).trans (heads_turned (by omega)).symm
  rw [dif_neg h]
  by_cases h : j.val - 128 - 128 - 128 - 128 < 128
  · rw [dif_pos h]
    exact heads_sum (by omega) (by omega)
  rw [dif_neg h]
  by_cases h : j.val - 128 - 128 - 128 - 128 - 128 < 128
  · rw [dif_pos h]
    exact (roped_sel (by omega) (by omega) (by omega) (by omega) (by omega) hp).trans (heads_turned (by omega)).symm
  rw [dif_neg h]
  by_cases h : j.val - 128 - 128 - 128 - 128 - 128 - 128 < 128
  · rw [dif_pos h]
    exact heads_sum (by omega) (by omega)
  rw [dif_neg h]
  exact (roped_sel (by omega) (by omega) (by omega) (by omega) (by omega) hp).trans (heads_turned (by omega)).symm

theorem final5 (hH : ∀ y, V c main_v45 y = H (y 0).val (y 1).val) (hW : ∀ y, V c main_v19 y = W (y 0).val (y 1).val)
    (hC : ∀ y, V c main_v41 y = C (y 0).val (y 1).val) (hS : ∀ y, V c main_v43 y = S (y 0).val (y 1).val) :
    (dat5 V c).arrAt 4 cfg5.N = fun y => heads (prod 512 H W) C S (y 0).val (y 1).val := by
  refine (dat5 V c).arrAt_eq_of_covers 4 _ (by decide +kernel) fun t hf y => ?_
  blk_simp [index5_4]
  rw [after5_4]
  refine (congrArg _ (eq_ix2 y)).trans (pay5 H W C S _ _ _ _ (grid5.coords t 1).val (grid5.coords t 0).val
    (fun i k => ?_) (fun i k => ?_) (fun i k => ?_) (fun i k => ?_) (y 0) (y 1))
  · exact (hH _).trans (congrArg₂ H (by blk_simp [index5_0]) (by blk_simp [index5_0]))
  · exact (hW _).trans (congrArg₂ W (by blk_simp [index5_1]) (by blk_simp [index5_1]))
  · exact (hC _).trans (congrArg₂ C (by blk_simp [index5_2]) (by blk_simp [index5_2]))
  · exact (hS _).trans (congrArg₂ S (by blk_simp [index5_3]) (by blk_simp [index5_3]))

end Rotated

/-! ## The plain projections -/

section Plain

variable (H W : ℕ → ℕ → EReal)

theorem pay4 (v0 : Vec Ideal S512x2048 .bf16) (v2 : Vec Ideal S2048x512 .bf16) (t u : ℕ)
    (h0 : ∀ i k, v0 (ix2 i k) = H (t * 512 + i.val) k.val) (h2 : ∀ k j, v2 (ix2 k j) = W k.val (u * 512 + j.val))
    (i : Fin 512) (j : Fin 512) :
    k4_pay1 (F := Ideal) v0 v2 (ix2 i j) = prod 2048 H W (t * 512 + i.val) (u * 512 + j.val) := by
  pointwise [k4_pay1]
  simp only [h0, h2]
  rfl

theorem final4 (hH : ∀ y, V c main_v4_1 y = H (y 0).val (y 1).val) (hW : ∀ y, V c main_v18 y = W (y 0).val (y 1).val) :
    (dat4 V c).arrAt 2 cfg4.N = fun y => prod 2048 H W (y 0).val (y 1).val := by
  refine (dat4 V c).arrAt_eq_of_covers 2 _ (by decide +kernel) fun t hf y => ?_
  blk_simp [index4_2]
  rw [after4_2]
  frame_out
  refine (congrArg _ (eq_ix2 y)).trans (pay4 H W _ _ (grid4.coords t 1).val (grid4.coords t 0).val
    (fun i k => ?_) (fun i k => ?_) (y 0) (y 1))
  · exact (hH _).trans (congrArg₂ H (by blk_simp [index4_0]) (by blk_simp [index4_0]))
  · exact (hW _).trans (congrArg₂ W (by blk_simp [index4_1]) (by blk_simp [index4_1]))

theorem pay6 (v0 : Vec Ideal S1024x512 .bf16) (v2 : Vec Ideal S512x1024 .bf16) (t u : ℕ)
    (h0 : ∀ i k, v0 (ix2 i k) = H (t * 1024 + i.val) k.val) (h2 : ∀ k j, v2 (ix2 k j) = W k.val (u * 1024 + j.val))
    (i : Fin 1024) (j : Fin 1024) :
    k6_pay1 (F := Ideal) v0 v2 (ix2 i j) = prod 512 H W (t * 1024 + i.val) (u * 1024 + j.val) := by
  pointwise [k6_pay1]
  simp only [h0, h2]
  rfl

theorem final6 (hH : ∀ y, V c main_v47_1 y = H (y 0).val (y 1).val) (hW : ∀ y, V c main_v52 y = W (y 0).val (y 1).val) :
    (dat6 V c).arrAt 2 cfg6.N = fun y => prod 512 H W (y 0).val (y 1).val := by
  refine (dat6 V c).arrAt_eq_of_covers 2 _ (by decide +kernel) fun t hf y => ?_
  blk_simp [index6_2]
  rw [after6_2]
  frame_out
  refine (congrArg _ (eq_ix2 y)).trans (pay6 H W _ _ (grid6.coords t 1).val (grid6.coords t 0).val
    (fun i k => ?_) (fun i k => ?_) (y 0) (y 1))
  · exact (hH _).trans (congrArg₂ H (by blk_simp [index6_0]) (by blk_simp [index6_0]))
  · exact (hW _).trans (congrArg₂ W (by blk_simp [index6_1]) (by blk_simp [index6_1]))

end Plain

end Cert.KernelBIdeal.Final

end
-- ==== Proof.HostB.lean ====
/- The arrays mixer B's host operations leave: the weights' slices, the gains, and the tables of cosines and sines. -/
module

public import proofs.«01_k».proof.Proof.Gen.KernelBIdeal.Frame
public import proofs.«01_k».proof.Proof.Heads
public import Idealize.ShloMosaic.Lib.Pipeline.ValueKit

@[expose] public section

set_option maxRecDepth 16384

noncomputable section

namespace Cert.KernelBIdeal.Final

open Cert.KernelBIdeal Cert.KernelBIdeal.Gen Cert.Spec Idealize.ShloMosaic
  Idealize.ShloMosaic.TcCoe Idealize.ShloMosaic.Pointwise Idealize.SL.Sem

attribute [local instance] Cert.KernelBIdeal.Gen.facts

variable (σ : Valuation τ sig (Elt Ideal))

/-! ## The first call's weights and gain -/

theorem weight1 (y : S2048x2048.Idx) : StableHlo.after hostOps0 σ (Proc.devRef .tc main_v1) y
    = rd3 (σ (Proc.devRef .tc main_arg2) : Stack 2048 2048) (y 0).val (y 1).val := by
  entry_read
  refine (congrArg _ (eq_ix2 y)).trans ?_
  pointwise []
  exact rd3_idx _ _ rfl rfl

theorem gain3 (y : S1x2048.Idx) : StableHlo.after hostOps0 σ (Proc.devRef .tc main_v3) y
    = rd (σ (Proc.devRef .tc main_arg3) : Mat 1 2048) 0 (y 1).val := by
  entry_read
  refine (congrArg _ (eq_ix2 y)).trans ?_
  pointwise []
  exact rd_idx _ _ (by first | rfl | (have h : (y 0).val < 1 := (y 0).isLt; show (y 0).val = 0; omega)) rfl

/-! ## The projections' weights, sliced and padded -/

theorem slice5 (y : S2048x3136.Idx) : StableHlo.after hostOps1 σ (Proc.devRef .tc main_v5) y
    = rd3 (σ (Proc.devRef .tc main_arg4) : Stack 2048 3136) (y 0).val (y 1).val := by
  entry_read
  refine (congrArg _ (eq_ix2 y)).trans ?_
  pointwise []
  exact rd3_idx _ _ rfl rfl

theorem slice6 (y : S512x3072.Idx) : StableHlo.after hostOps1 σ (Proc.devRef .tc main_v6) y
    = rd3 (σ (Proc.devRef .tc main_arg6) : Stack 512 3072) (y 0).val (y 1).val := by
  entry_read
  refine (congrArg _ (eq_ix2 y)).trans ?_
  pointwise []
  exact rd3_idx _ _ rfl rfl

theorem slice7 (y : S2048x512.Idx) : StableHlo.after hostOps1 σ (Proc.devRef .tc main_v7) y
    = rd3 (σ (Proc.devRef .tc main_arg4) : Stack 2048 3136) (y 0).val (y 1).val := by
  entry_read
  refine (congrArg _ (eq_ix2 y)).trans ?_
  pointwise []
  exact rd3_idx _ _ rfl rfl

theorem slice8 (y : S2048x512.Idx) : StableHlo.after hostOps1 σ (Proc.devRef .tc main_v8) y
    = rd3 (σ (Proc.devRef .tc main_arg4) : Stack 2048 3136) (y 0).val (512 + (y 1).val) := by
  entry_read
  refine (congrArg _ (eq_ix2 y)).trans ?_
  pointwise []
  exact rd3_idx _ _ rfl rfl

theorem slice9 (y : S2048x64.Idx) : StableHlo.after hostOps1 σ (Proc.devRef .tc main_v9) y
    = rd3 (σ (Proc.devRef .tc main_arg4) : Stack 2048 3136) (y 0).val (1024 + (y 1).val) := by
  entry_read
  refine (congrArg _ (eq_ix2 y)).trans ?_
  pointwise []
  exact rd3_idx _ _ rfl rfl

theorem padding : StableHlo.after hostOps1 σ (Proc.devRef .tc main_c) = constantI S_ 32 0#32 := by
  entry_read
  rfl

theorem pad_at (A : Vec Ideal S2048x64 .f32) (w : ℕ → ℕ → EReal) (hA : ∀ z, A z = w (z 0).val (1024 + (z 1).val)) (y : S2048x128.Idx) :
    pad S2048x128 ![0, 0] ![0, 64] ![0, 0] A (sitofp (F := Ideal) .f32 (constantI S_ 32 0#32)) pads_S2048x64_S2048x128_000_0640 h_S_ y
      = if (y 1).val < 64 then w (y 0).val (1024 + (y 1).val) else 0 := by
  refine (congrArg _ (eq_ix2 y)).trans ?_
  pointwise []
  by_cases h : (y 1).val < 64
  · rw [dif_pos h, if_pos h]
    exact hA _
  · rw [dif_neg h, if_neg h]
    show ((BitVec.toInt 0#32 : ℝ) : EReal) = 0
    simp

theorem padded (w : ℕ → ℕ → EReal) (hc : σ (Proc.devRef .tc main_c) = constantI S_ 32 0#32)
    (hA : ∀ z, σ (Proc.devRef .tc main_v9) z = w (z 0).val (1024 + (z 1).val)) (y : S2048x128.Idx) :
    StableHlo.after hostOps1_1 σ (Proc.devRef .tc main_v10) y = if (y 1).val < 64 then w (y 0).val (1024 + (y 1).val) else (0 : EReal) := by
  entry_read
  rw [hc]
  exact pad_at _ w hA y

theorem slice11 (w : ℕ → ℕ → EReal) (hA : ∀ z, σ (Proc.devRef .tc main_v5) z = w (z 0).val (z 1).val) (y : S2048x2048.Idx) :
    StableHlo.after hostOps1_2 σ (Proc.devRef .tc main_v11) y = w (y 0).val (1088 + (y 1).val) := by
  entry_read
  refine (congrArg _ (eq_ix2 y)).trans ?_
  pointwise []
  exact hA _

theorem split12 (w : ℕ → ℕ → EReal) (hA : ∀ z, σ (Proc.devRef .tc main_v6) z = w (z 0).val (z 1).val) (y : S512x16x192.Idx) :
    StableHlo.after hostOps1_2 σ (Proc.devRef .tc main_v12) y = w (y 0).val (192 * (y 1).val + (y 2).val) := by
  have h1 : (y 1).val < 16 := (y 1).isLt
  have h2 : (y 2).val < 192 := (y 2).isLt
  entry_read
  refine (congrArg _ (eq_ix3 y)).trans ?_
  pointwise []
  refine (hA _).trans (congrArg₂ w ?_ ?_)
  · rfl
  · show (y 1).val * 192 + (y 2).val = _
    omega

theorem padding_heads : StableHlo.after hostOps1_2 σ (Proc.devRef .tc main_c_0) = constantI S_ 32 0#32 := by
  entry_read
  rfl

theorem pad_heads_at (A : Vec Ideal S512x16x192 .f32) (w : ℕ → ℕ → EReal)
    (hA : ∀ z, A z = w (z 0).val (192 * (z 1).val + (z 2).val)) (y : S512x16x256.Idx) :
    pad S512x16x256 ![0, 0, 0] ![0, 0, 64] ![0, 0, 0] A (sitofp (F := Ideal) .f32 (constantI S_ 32 0#32)) pads_S512x16x192_S512x16x256_000_000_0640 h_S_ y
      = if (y 2).val < 192 then w (y 0).val (192 * (y 1).val + (y 2).val) else 0 := by
  refine (congrArg _ (eq_ix3 y)).trans ?_
  pointwise []
  by_cases h : (y 2).val < 192
  · rw [dif_pos h, if_pos h]
    exact hA _
  · rw [dif_neg h, if_neg h]
    show ((BitVec.toInt 0#32 : ℝ) : EReal) = 0
    simp

theorem padded_heads (w : ℕ → ℕ → EReal) (hc : σ (Proc.devRef .tc main_c_0) = constantI S_ 32 0#32)
    (hA : ∀ z, σ (Proc.devRef .tc main_v12) z = w (z 0).val (192 * (z 1).val + (z 2).val)) (y : S512x16x256.Idx) :
    StableHlo.after hostOps1_3 σ (Proc.devRef .tc main_v13) y
      = if (y 2).val < 192 then w (y 0).val (192 * (y 1).val + (y 2).val) else (0 : EReal) := by
  entry_read
  rw [hc]
  exact pad_heads_at _ w hA y

theorem joined (w : ℕ → ℕ → EReal)
    (hA : ∀ z, σ (Proc.devRef .tc main_v13) z = if (z 2).val < 192 then w (z 0).val (192 * (z 1).val + (z 2).val) else (0 : EReal))
    (y : S512x4096.Idx) : StableHlo.after hostOps1_4 σ (Proc.devRef .tc main_v19) y = spread w (y 0).val (y 1).val := by
  have h1 : (y 1).val < 4096 := (y 1).isLt
  entry_read
  refine (congrArg _ (eq_ix2 y)).trans ?_
  pointwise []
  exact hA _

theorem cast15 (y : S2048x512.Idx) : StableHlo.after hostOps1_4 σ (Proc.devRef .tc main_v15) y
    = (σ (Proc.devRef .tc main_v7) y : EReal) := by
  entry_read
  refine (congrArg _ (eq_ix2 y)).trans ?_
  pointwise []

theorem cast16 (y : S2048x512.Idx) : StableHlo.after hostOps1_4 σ (Proc.devRef .tc main_v16) y
    = (σ (Proc.devRef .tc main_v8) y : EReal) := by
  entry_read
  refine (congrArg _ (eq_ix2 y)).trans ?_
  pointwise []

theorem cast17 (y : S2048x128.Idx) : StableHlo.after hostOps1_4 σ (Proc.devRef .tc main_v17) y
    = (σ (Proc.devRef .tc main_v10) y : EReal) := by
  entry_read
  refine (congrArg _ (eq_ix2 y)).trans ?_
  pointwise []

theorem cast18 (y : S2048x2048.Idx) : StableHlo.after hostOps1_4 σ (Proc.devRef .tc main_v18) y
    = (σ (Proc.devRef .tc main_v11) y : EReal) := by
  entry_read
  refine (congrArg _ (eq_ix2 y)).trans ?_
  pointwise []

theorem cast52 (y : S512x4096.Idx) : StableHlo.after hostOps6 σ (Proc.devRef .tc main_v52) y
    = rd3 (σ (Proc.devRef .tc main_arg8) : Stack 512 4096) (y 0).val (y 1).val := by
  entry_read
  refine (congrArg _ (eq_ix2 y)).trans ?_
  pointwise []
  exact rd3_idx _ _ rfl rfl

/-! ## The gains of the two norms of 512 columns -/

theorem gain44 (y : S1x512.Idx) : StableHlo.after hostOps1_4 σ (Proc.devRef .tc main_v44) y
    = rd (σ (Proc.devRef .tc main_arg5) : Mat 1 512) 0 (y 1).val := by
  entry_read
  refine (congrArg _ (eq_ix2 y)).trans ?_
  pointwise []
  exact rd_idx _ _ (by first | rfl | (have h : (y 0).val < 1 := (y 0).isLt; show (y 0).val = 0; omega)) rfl

theorem gain22 (y : S512.Idx) : StableHlo.after hostOps1_4 σ (Proc.devRef .tc main_v22) y
    = rd (σ (Proc.devRef .tc main_arg7) : Mat 1 512) 0 (y 0).val := by
  entry_read
  refine (congrArg _ (eq_ix1 y)).trans ?_
  pointwise []
  exact rd_idx _ _ rfl rfl

theorem gain46 (g : ℕ → EReal) (hA : ∀ z, σ (Proc.devRef .tc main_v22) z = g (z 0).val) (y : S1x512.Idx) :
    StableHlo.after hostOps2 σ (Proc.devRef .tc main_v46) y = g (y 1).val := by
  entry_read
  refine (congrArg _ (eq_ix2 y)).trans ?_
  pointwise []
  exact hA _

/-! ## The tables -/

theorem cosHalf (y : S4096x128.Idx) : StableHlo.after hostOps1_4 σ (Proc.devRef .tc main_v41) y
    = cosI (Ideal.ofBits .f32 1107296256#32) (y 0).val (y 1).val := by
  have hy : (y 1).val < 128 := (y 1).isLt
  entry_read
  refine (congrArg _ (eq_ix2 y)).trans ?_
  pointwise []
  unfold cosI
  split_ifs <;> first | exact cosT_of (by omega) | rfl

theorem sinHalf (y : S4096x128.Idx) : StableHlo.after hostOps1_4 σ (Proc.devRef .tc main_v43) y
    = sinI (Ideal.ofBits .f32 1107296256#32) (y 0).val (y 1).val := by
  have hy : (y 1).val < 128 := (y 1).isLt
  entry_read
  refine (congrArg _ (eq_ix2 y)).trans ?_
  pointwise []
  unfold sinI
  split_ifs <;> first | exact sinT_neg (by omega) (by omega) | exact sinT_pos (by omega) (by omega) | rfl

end Cert.KernelBIdeal.Final

end
-- ==== Proof.RefB.lean ====
/- The results of mixer B's reference: the residual stream, and the projections of its norm, the rotated ones rotated. -/
module

public import proofs.«01_k».proof.Proof.Gen.ReferenceBIdeal.Read
public import proofs.«01_k».proof.Proof.Heads

@[expose] public section

set_option maxRecDepth 16384

noncomputable section

namespace Cert.ReferenceBIdeal.RefRead

open Cert.ReferenceBIdeal Cert.ReferenceBIdeal.Gen Cert.ReferenceBIdeal.Read Cert.Spec Idealize.ShloMosaic
  Idealize.ShloMosaic.Pointwise

variable (o x : Mat 8192 2048) (wo : Stack 2048 2048) (g : Mat 1 2048) (w : Stack 2048 3136) (gq : Mat 1 512) (wq : Stack 512 3072)
  (gk : Mat 1 512) (wk : Stack 512 4096)

/-- The residual stream after the projection, and its norm. -/
abbrev stream (r j : ℕ) : EReal := resid (rd x) (rd o) (rd3 wo) r j
abbrev hid (r j : ℕ) : EReal := norm 2048 (Ideal.ofBits .f32 1157627904#32) (stream o x wo) (rd g 0) r j

/-- The norm's columns of the query and of the key, and the columns of the projected rows from `off` on. -/
abbrev cols (off : ℕ) : ℕ → ℕ → EReal := prod 2048 (hid o x wo g) fun k j => rd3 w k (off + j)
abbrev cq (r j : ℕ) : EReal := norm 512 (Ideal.ofBits .f32 1140850688#32) (prod 2048 (hid o x wo g) (rd3 w)) (rd gq 0) r j
abbrev ck (r j : ℕ) : EReal := norm 512 (Ideal.ofBits .f32 1140850688#32) (cols o x wo g w 512) (rd gk 0) r j

theorem stream_at (r : Fin 8192) (c : Fin 2048) : val_main_v3 (F := Ideal) o x wo (ix2 r c) = stream o x wo r.val c.val := by
  rw [val_main_v3_apply, val_main_v2_apply]
  refine congrArg₂ (· + ·) (rd_idx x _ rfl rfl) (Finset.sum_congr rfl fun k _ => ?_)
  rw [val_main_v0_apply, val_main_v1_apply]
  refine congrArg₂ (· * ·) (rd_idx o _ rfl rfl) (rd3_idx wo _ ?_ ?_)
  · show (k.val * 2048 + c.val) / 2048 % 2048 = k.val
    omega
  · show (k.val * 2048 + c.val) % 2048 = c.val
    omega

theorem hid_at (r : Fin 8192) (c : Fin 2048) : val_main_v17 (F := Ideal) o x wo g (ix2 r c) = hid o x wo g r.val c.val := by
  pointwise [val_main_v4, val_main_v5, val_main_v6, val_main_v7, val_main_v8, val_main_v9, val_main_v10, val_main_v11, val_main_v12, val_main_v13, val_main_v14, val_main_v15, val_main_v16, val_main_v17, val_main_cst, val_main_cst_0, val_main_cst_1]
  have hg : g (ix2 0 c) = rd g 0 c.val := rd_idx g _ rfl rfl
  simp only [stream_at, hg]
  rfl

theorem z_at (r : Fin 8192) (c : Fin 3136) : val_main_v19 (F := Ideal) o x wo g w (ix2 r c) = prod 2048 (hid o x wo g) (rd3 w) r.val c.val := by
  rw [val_main_v19_apply]
  refine Finset.sum_congr rfl fun k _ => congrArg₂ (· * ·) ?_ ?_
  · exact (congrArg _ (by funext a; match a with | ⟨0, _⟩ => rfl | ⟨1, _⟩ => rfl)).trans (hid_at o x wo g r k)
  · rw [val_main_v18_apply]
    refine rd3_idx w _ ?_ ?_
    · show (k.val * 3136 + c.val) / 3136 % 2048 = k.val
      omega
    · show (k.val * 3136 + c.val) % 3136 = c.val
      omega

theorem cq_at (r : Fin 8192) (c : Fin 512) : val_main_v34 (F := Ideal) o x wo g w gq (ix2 r c) = cq o x wo g w gq r.val c.val := by
  pointwise [val_main_v20, val_main_v21, val_main_v22, val_main_v23, val_main_v24, val_main_v25, val_main_v26, val_main_v27, val_main_v28, val_main_v29, val_main_v30, val_main_v31, val_main_v32, val_main_v33, val_main_v34, val_main_cst_2, val_main_cst_3, val_main_cst_4]
  have hg : gq (ix2 0 c) = rd gq 0 c.val := rd_idx gq _ rfl rfl
  simp only [z_at, hg]
  rfl

theorem ck_at (r : Fin 8192) (c : Fin 512) : val_main_v51 (F := Ideal) o x wo g w gk (ix2 r c) = ck o x wo g w gk r.val c.val := by
  pointwise [val_main_v37, val_main_v38, val_main_v39, val_main_v40, val_main_v41, val_main_v42, val_main_v43, val_main_v44, val_main_v45, val_main_v46, val_main_v47, val_main_v48, val_main_v49, val_main_v50, val_main_v51, val_main_cst_5, val_main_cst_6, val_main_cst_7]
  have hg : gk (ix2 0 c) = rd gk 0 c.val := rd_idx gk _ rfl rfl
  simp only [z_at, hg]
  rfl

theorem qp_at (r : Fin 8192) (c : Fin 3072) : val_main_v36 (F := Ideal) o x wo g w gq wq (ix2 r c)
    = prod 512 (cq o x wo g w gq) (rd3 wq) r.val c.val := by
  rw [val_main_v36_apply]
  refine Finset.sum_congr rfl fun k _ => congrArg₂ (· * ·) ?_ ?_
  · exact (congrArg _ (by funext a; match a with | ⟨0, _⟩ => rfl | ⟨1, _⟩ => rfl)).trans (cq_at o x wo g w gq r k)
  · rw [val_main_v35_apply]
    refine rd3_idx wq _ ?_ ?_
    · show (k.val * 3072 + c.val) / 3072 % 512 = k.val
      omega
    · show (k.val * 3072 + c.val) % 3072 = c.val
      omega

theorem kv_at (r : Fin 8192) (c : Fin 4096) : val_main_v141 (F := Ideal) o x wo g w gk wk (ix2 r c)
    = prod 512 (ck o x wo g w gk) (rd3 wk) r.val c.val := by
  refine Eq.trans (b := val_main_v136 (F := Ideal) o x wo g w gk wk (ix2 r c)) rfl ?_
  rw [val_main_v136_apply]
  refine Finset.sum_congr rfl fun k _ => congrArg₂ (· * ·) ?_ ?_
  · exact (congrArg _ (by funext a; match a with | ⟨0, _⟩ => rfl | ⟨1, _⟩ => rfl)).trans (ck_at o x wo g w gk r k)
  · rw [val_main_v135_apply]
    refine rd3_idx wk _ ?_ ?_
    · show (k.val * 4096 + c.val) / 4096 % 512 = k.val
      omega
    · show (k.val * 4096 + c.val) % 4096 = c.val
      omega

theorem gate_at (r : Fin 8192) (c : Fin 2048) : val_main_v140 (F := Ideal) o x wo g w (ix2 r c) = cols o x wo g w 1088 r.val c.val := by
  pointwise [val_main_v140, val_main_v89]
  exact z_at o x wo g w _ _

theorem kpe_at (r : Fin 8192) (c : Fin 128) : val_main_v134 (F := Ideal) o x wo g w (ix2 r c)
    = roped 32 (prod 2048 (hid o x wo g) fun k j => if j < 64 then rd3 w k (1024 + j) else 0) (cosI (Ideal.ofBits .f32 1107296256#32))
        (sinI (Ideal.ofBits .f32 1107296256#32)) r.val c.val := by
  have hc := c.isLt
  pointwise [val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v133, val_main_v134, val_main_cst_8, val_main_cst_9, val_main_cst_13]
  simp only [z_at]
  split_ifs with h1 h2
  · refine Eq.trans ?_ (roped_low (by omega)).symm
    exact roped_first (by omega) (by omega) ((congrArg (prod 2048 (hid o x wo g) (rd3 w) _) (by omega)).trans (prod_padded.trans (if_pos (by omega))).symm) ((congrArg (prod 2048 (hid o x wo g) (rd3 w) _) (by omega)).trans (prod_padded.trans (if_pos (by omega))).symm) (by omega) rfl
  · refine Eq.trans ?_ (roped_low (by omega)).symm
    exact roped_second (by omega) (by omega) ((congrArg (prod 2048 (hid o x wo g) (rd3 w) _) (by omega)).trans (prod_padded.trans (if_pos (by omega))).symm) ((congrArg (prod 2048 (hid o x wo g) (rd3 w) _) (by omega)).trans (prod_padded.trans (if_pos (by omega))).symm) (by omega) rfl
  · refine Eq.trans ?_ (roped_id (by omega)).symm
    exact (prod_padded.trans (if_neg (by omega))).symm

set_option maxHeartbeats 1600000 in
theorem q_at (r : Fin 8192) (c : Fin 4096) : val_main_v138 (F := Ideal) o x wo g w gq wq (ix2 r c)
    = heads (prod 512 (cq o x wo g w gq) (spread (rd3 wq))) (cosI (Ideal.ofBits .f32 1107296256#32))
        (sinI (Ideal.ofBits .f32 1107296256#32)) r.val c.val := by
  have hc := c.isLt
  pointwise [val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v137, val_main_v138, val_main_cst_10, val_main_cst_11, val_main_cst_12]
  simp only [qp_at]
  split_ifs with h1 h2 h3
  · refine Eq.trans ?_ (heads_plain (by omega)).symm
    exact spread_at (by omega) (by omega)
  · refine Eq.trans ?_ ((heads_turned (by omega)).trans (roped_low (by omega))).symm
    exact roped_first (by omega) (by omega) (spread_at (by omega) (by omega)) (spread_at (by omega) (by omega)) (by omega) rfl
  · refine Eq.trans ?_ ((heads_turned (by omega)).trans (roped_low (by omega))).symm
    exact roped_second (by omega) (by omega) (spread_at (by omega) (by omega)) (spread_at (by omega) (by omega)) (by omega) rfl
  · refine Eq.trans ?_ ((heads_turned (by omega)).trans (roped_id (by omega))).symm
    exact (prod_spread.trans (if_neg (by omega))).symm

end Cert.ReferenceBIdeal.RefRead

end
-- ==== Proof.ContentsB.lean ====
/- The contents of mixer B's result arrays after its run, from the launch memory. -/
module

public import proofs.«01_k».proof.Proof.RegionsB
public import proofs.«01_k».proof.Proof.HostB
public import proofs.«01_k».proof.Proof.RefB

@[expose] public section

set_option maxRecDepth 16384

noncomputable section

namespace Cert.KernelBIdeal.Final

open Cert.KernelBIdeal Cert.KernelBIdeal.Gen Cert.Spec Cert.ReferenceBIdeal.RefRead Idealize.ShloMosaic
  Idealize.ShloMosaic.TcCoe Idealize.ShloMosaic.Pointwise Idealize.SL.Sem

attribute [local instance] Cert.KernelBIdeal.Gen.facts

variable (m : (ℓ : Loc nD τ sig) → Buf (Elt Ideal) ℓ) (ρ : Dev nD → PrngReg) (c : Dev nD)

/-- The attention's rows, the residual stream, the gains and the weights as the launch memory holds them. -/
abbrev heads_in : Mat 8192 2048 := m ((c : Thread nD τ).loc main_arg0)
abbrev rows : Mat 8192 2048 := m ((c : Thread nD τ).loc main_arg1)
abbrev out_w : Stack 2048 2048 := m ((c : Thread nD τ).loc main_arg2)
abbrev gains : Mat 1 2048 := m ((c : Thread nD τ).loc main_arg3)
abbrev projs : Stack 2048 3136 := m ((c : Thread nD τ).loc main_arg4)
abbrev gains_q : Mat 1 512 := m ((c : Thread nD τ).loc main_arg5)
abbrev proj_q : Stack 512 3072 := m ((c : Thread nD τ).loc main_arg6)
abbrev gains_k : Mat 1 512 := m ((c : Thread nD τ).loc main_arg7)
abbrev proj_k : Stack 512 4096 := m ((c : Thread nD τ).loc main_arg8)

/-- The residual stream, the normalised rows, the weights' columns from `off` on, and the two normed columns. -/
abbrev summed : ℕ → ℕ → EReal := stream (heads_in m c) (rows m c) (out_w m c)
abbrev hidden : ℕ → ℕ → EReal := hid (heads_in m c) (rows m c) (out_w m c) (gains m c)
abbrev wcols (off : ℕ) : ℕ → ℕ → EReal := fun k j => rd3 (projs m c) k (off + j)
abbrev wpad : ℕ → ℕ → EReal := fun k j => if j < 64 then rd3 (projs m c) k (1024 + j) else 0
abbrev normed_q : ℕ → ℕ → EReal := cq (heads_in m c) (rows m c) (out_w m c) (gains m c) (projs m c) (gains_q m c)
abbrev normed_k : ℕ → ℕ → EReal := ck (heads_in m c) (rows m c) (out_w m c) (gains m c) (projs m c) (gains_k m c)

/-! ## The residual stream and its norm -/

theorem rows1 (y : S8192x2048.Idx) : W1 m ρ c (Proc.devRef .tc main_arg1) y = rd (rows m c) (y 0).val (y 1).val :=
  (congrFun (W1_args m ρ c main_arg1 (by decide)) y).trans (rd_idx (rows m c) y rfl rfl)

theorem heads1 (y : S8192x2048.Idx) : W1 m ρ c (Proc.devRef .tc main_arg0) y = rd (heads_in m c) (y 0).val (y 1).val :=
  (congrFun (W1_args m ρ c main_arg0 (by decide)) y).trans (rd_idx (heads_in m c) y rfl rfl)

theorem out1 (y : S2048x2048.Idx) : W1 m ρ c (Proc.devRef .tc main_v1) y = rd3 (out_w m c) (y 0).val (y 1).val :=
  (weight1 (W0 m ρ c) y).trans (congrArg (fun A : Stack 2048 2048 => rd3 A _ _) (W0_args m ρ c main_arg2 (by decide)))

theorem gains1 (y : S1x2048.Idx) : W1 m ρ c (Proc.devRef .tc main_v3) y = rd (gains m c) 0 (y 1).val :=
  (gain3 (W0 m ρ c) y).trans (congrArg (fun A : Mat 1 2048 => rd A _ _) (W0_args m ρ c main_arg3 (by decide)))

theorem stream2 : W2 m ρ c (Proc.devRef .tc main_v4_0) = fun y : S8192x2048.Idx => summed m c (y 0).val (y 1).val :=
  (W2_arr m ρ c 4).trans (final0 (V1 m ρ) c (rd (rows m c)) (rd (heads_in m c)) (rd3 (out_w m c))
    (fun z => rows1 m ρ c z) (fun z => heads1 m ρ c z) (fun z => out1 m ρ c z))

theorem hidden2 : W2 m ρ c (Proc.devRef .tc main_v4_1) = fun y : S8192x2048.Idx => hidden m c (y 0).val (y 1).val :=
  (W2_arr m ρ c 5).trans (final0_norm (V1 m ρ) c (rd (rows m c)) (rd (heads_in m c)) (rd3 (out_w m c)) (rd (gains m c) 0)
    (fun z => rows1 m ρ c z) (fun z => heads1 m ρ c z) (fun z => out1 m ρ c z) (fun z => gains1 m ρ c z))

/-! ## The arrays the projections read -/

/-- What the host operations before the projections leave as it was. -/
theorem at7 (r : Ref sig .tc) (h3 : r ∉ hostOps1_W) (h4 : r ∉ hostOps1_1_W) (h5 : r ∉ hostOps1_2_W) (h6 : r ∉ hostOps1_3_W) (h7 : r ∉ hostOps1_4_W) :
    W7 m ρ c (Proc.devRef .tc r) = W2 m ρ c (Proc.devRef .tc r) :=
  (W7_of m ρ c r h7).trans ((W6_of m ρ c r h6).trans ((W5_of m ρ c r h5).trans ((W4_of m ρ c r h4).trans (W3_of m ρ c r h3))))

theorem hidden7 : W7 m ρ c (Proc.devRef .tc main_v4_1) = fun y : S8192x2048.Idx => hidden m c (y 0).val (y 1).val :=
  (at7 m ρ c main_v4_1 (by decide) (by decide) (by decide) (by decide) (by decide)).trans (hidden2 m ρ c)

theorem launched : W2 m ρ c (Proc.devRef .tc main_arg4) = projs m c := W2_args m ρ c main_arg4 (by decide)

theorem weights15 (y : S2048x512.Idx) : W7 m ρ c (Proc.devRef .tc main_v15) y = rd3 (projs m c) (y 0).val (y 1).val :=
  (cast15 (W6 m ρ c) y).trans ((congrFun ((W6_of m ρ c main_v7 (by decide)).trans ((W5_of m ρ c main_v7 (by decide)).trans (W4_of m ρ c main_v7 (by decide)))) y).trans
    ((slice7 (W2 m ρ c) y).trans (congrArg (fun A : Stack 2048 3136 => rd3 A _ _) (launched m ρ c))))

theorem weights16 (y : S2048x512.Idx) : W7 m ρ c (Proc.devRef .tc main_v16) y = wcols m c 512 (y 0).val (y 1).val :=
  (cast16 (W6 m ρ c) y).trans ((congrFun ((W6_of m ρ c main_v8 (by decide)).trans ((W5_of m ρ c main_v8 (by decide)).trans (W4_of m ρ c main_v8 (by decide)))) y).trans
    ((slice8 (W2 m ρ c) y).trans (congrArg (fun A : Stack 2048 3136 => rd3 A _ _) (launched m ρ c))))

theorem weights17 (y : S2048x128.Idx) : W7 m ρ c (Proc.devRef .tc main_v17) y = wpad m c (y 0).val (y 1).val :=
  (cast17 (W6 m ρ c) y).trans ((congrFun ((W6_of m ρ c main_v10 (by decide)).trans (W5_of m ρ c main_v10 (by decide))) y).trans
    (padded (W3 m ρ c) (rd3 (projs m c)) (padding (W2 m ρ c)) (fun z =>
      (slice9 (W2 m ρ c) z).trans (congrArg (fun A : Stack 2048 3136 => rd3 A _ _) (launched m ρ c))) y))

theorem weights18 (y : S2048x2048.Idx) : W7 m ρ c (Proc.devRef .tc main_v18) y = wcols m c 1088 (y 0).val (y 1).val :=
  (cast18 (W6 m ρ c) y).trans ((congrFun (W6_of m ρ c main_v11 (by decide)) y).trans
    (slice11 (W4 m ρ c) (rd3 (projs m c)) (fun z => (congrFun (W4_of m ρ c main_v5 (by decide)) z).trans
      ((slice5 (W2 m ρ c) z).trans (congrArg (fun A : Stack 2048 3136 => rd3 A _ _) (launched m ρ c)))) y))

theorem weights19 (y : S512x4096.Idx) : W7 m ρ c (Proc.devRef .tc main_v19) y = spread (rd3 (proj_q m c)) (y 0).val (y 1).val :=
  joined (W6 m ρ c) (rd3 (proj_q m c)) (fun y => padded_heads (W5 m ρ c) (rd3 (proj_q m c)) (padding_heads (W4 m ρ c)) (fun y =>
    split12 (W4 m ρ c) (rd3 (proj_q m c)) (fun z => (congrFun (W4_of m ρ c main_v6 (by decide)) z).trans
      ((slice6 (W2 m ρ c) z).trans (congrArg (fun A : Stack 512 3072 => rd3 A _ _) (W2_args m ρ c main_arg6 (by decide))))) y) y) y

theorem gains44 (y : S1x512.Idx) : W7 m ρ c (Proc.devRef .tc main_v44) y = rd (gains_q m c) 0 (y 1).val :=
  (gain44 (W6 m ρ c) y).trans (congrArg (fun A : Mat 1 512 => rd A _ _) (W6_args m ρ c main_arg5 (by decide)))

theorem gains22 (y : S512.Idx) : W7 m ρ c (Proc.devRef .tc main_v22) y = rd (gains_k m c) 0 (y 0).val :=
  (gain22 (W6 m ρ c) y).trans (congrArg (fun A : Mat 1 512 => rd A _ _) (W6_args m ρ c main_arg7 (by decide)))

/-! ## What a later projection finds is what the first one found -/

/-- The arrays that the projections read. -/
abbrev kept : List (Ref sig .tc) := [main_v4_1, main_v16, main_v17, main_v18, main_v19, main_v22, main_v41, main_v43]

theorem keeps1 : ∀ r ∈ kept, ∀ w : Fin cfg1.W, Pipeline.arrRef spec1 w = r → (cfg1.win w).isOut = false :=
  ListAll.forall_mem_of_all_decide (by decide +kernel)
theorem keepsHost : ∀ r ∈ kept, r ∉ hostOps2_W := ListAll.forall_mem_of_all_decide (by decide +kernel)
theorem keeps2 : ∀ r ∈ kept, ∀ w : Fin cfg2.W, Pipeline.arrRef spec2 w = r → (cfg2.win w).isOut = false :=
  ListAll.forall_mem_of_all_decide (by decide +kernel)
theorem keeps3 : ∀ r ∈ kept, ∀ w : Fin cfg3.W, Pipeline.arrRef spec3 w = r → (cfg3.win w).isOut = false :=
  ListAll.forall_mem_of_all_decide (by decide +kernel)
theorem keeps4 : ∀ r ∈ kept, ∀ w : Fin cfg4.W, Pipeline.arrRef spec4 w = r → (cfg4.win w).isOut = false :=
  ListAll.forall_mem_of_all_decide (by decide +kernel)

theorem at8 (r : Ref sig .tc) (h : r ∈ kept) : W8 m ρ c (Proc.devRef .tc r) = W7 m ρ c (Proc.devRef .tc r) :=
  W8_of m ρ c r (keeps1 r h)
theorem at9 (r : Ref sig .tc) (h : r ∈ kept) : W9 m ρ c (Proc.devRef .tc r) = W7 m ρ c (Proc.devRef .tc r) :=
  (W9_of m ρ c r (keepsHost r h)).trans (at8 m ρ c r h)
theorem at10 (r : Ref sig .tc) (h : r ∈ kept) : W10 m ρ c (Proc.devRef .tc r) = W7 m ρ c (Proc.devRef .tc r) :=
  (W10_of m ρ c r (keeps2 r h)).trans (at9 m ρ c r h)
theorem at11 (r : Ref sig .tc) (h : r ∈ kept) : W11 m ρ c (Proc.devRef .tc r) = W7 m ρ c (Proc.devRef .tc r) :=
  (W11_of m ρ c r (keeps3 r h)).trans (at10 m ρ c r h)
theorem at12 (r : Ref sig .tc) (h : r ∈ kept) : W12 m ρ c (Proc.devRef .tc r) = W7 m ρ c (Proc.devRef .tc r) :=
  (W12_of m ρ c r (keeps4 r h)).trans (at11 m ρ c r h)

theorem gains46 (y : S1x512.Idx) : W9 m ρ c (Proc.devRef .tc main_v46) y = rd (gains_k m c) 0 (y 1).val :=
  gain46 (W8 m ρ c) (rd (gains_k m c) 0) (fun z => (congrFun (at8 m ρ c main_v22 (by decide)) z).trans (gains22 m ρ c z)) y

/-! ## The results -/

theorem stream_out : W15 m ρ c (Proc.devRef .tc main_v4_0) = fun y : S8192x2048.Idx => summed m c (y 0).val (y 1).val :=
  (((W15_of m ρ c main_v4_0 (by decide +kernel)).trans ((W14_of m ρ c main_v4_0 (by decide +kernel)).trans ((W13_of m ρ c main_v4_0 (by decide +kernel)).trans ((W12_of m ρ c main_v4_0 (by decide +kernel)).trans ((W11_of m ρ c main_v4_0 (by decide +kernel)).trans ((W10_of m ρ c main_v4_0 (by decide +kernel)).trans ((W9_of m ρ c main_v4_0 (by decide +kernel)).trans (W8_of m ρ c main_v4_0 (by decide +kernel))))))))).trans
    (at7 m ρ c main_v4_0 (by decide) (by decide) (by decide) (by decide) (by decide))).trans (stream2 m ρ c)

theorem query_norm : W12 m ρ c (Proc.devRef .tc main_v45) = fun y : S8192x512.Idx => normed_q m c (y 0).val (y 1).val :=
  (((W12_of m ρ c main_v45 (by decide +kernel)).trans ((W11_of m ρ c main_v45 (by decide +kernel)).trans ((W10_of m ρ c main_v45 (by decide +kernel)).trans (W9_of m ρ c main_v45 (by decide +kernel))))).trans (W8_arr m ρ c 3)).trans
    (final1 (V7 m ρ) c (hidden m c) (rd3 (projs m c)) (rd (gains_q m c) 0)
      (fun z => congrFun (hidden7 m ρ c) z) (fun z => weights15 m ρ c z) (fun z => gains44 m ρ c z))

theorem key_norm : W15 m ρ c (Proc.devRef .tc main_v47_0) = fun y : S8192x512.Idx => normed_k m c (y 0).val (y 1).val :=
  (((W15_of m ρ c main_v47_0 (by decide +kernel)).trans ((W14_of m ρ c main_v47_0 (by decide +kernel)).trans ((W13_of m ρ c main_v47_0 (by decide +kernel)).trans ((W12_of m ρ c main_v47_0 (by decide +kernel)).trans (W11_of m ρ c main_v47_0 (by decide +kernel)))))).trans (W10_arr m ρ c 3)).trans
    (final2 (V9 m ρ) c (hidden m c) (wcols m c 512) (rd (gains_k m c) 0)
      (fun z => (congrFun (at9 m ρ c main_v4_1 (by decide)) z).trans (congrFun (hidden7 m ρ c) z)) (fun z => (congrFun (at9 m ρ c main_v16 (by decide)) z).trans (weights16 m ρ c z)) (fun z => gains46 m ρ c z))

theorem key_norm_half : W14 m ρ c (Proc.devRef .tc main_v47_1) = fun y : S8192x512.Idx => normed_k m c (y 0).val (y 1).val :=
  (((W14_of m ρ c main_v47_1 (by decide +kernel)).trans ((W13_of m ρ c main_v47_1 (by decide +kernel)).trans ((W12_of m ρ c main_v47_1 (by decide +kernel)).trans (W11_of m ρ c main_v47_1 (by decide +kernel))))).trans (W10_arr m ρ c 4)).trans
    (final2_half (V9 m ρ) c (hidden m c) (wcols m c 512) (rd (gains_k m c) 0)
      (fun z => (congrFun (at9 m ρ c main_v4_1 (by decide)) z).trans (congrFun (hidden7 m ρ c) z)) (fun z => (congrFun (at9 m ρ c main_v16 (by decide)) z).trans (weights16 m ρ c z)) (fun z => gains46 m ρ c z))

theorem key_turned : W15 m ρ c (Proc.devRef .tc main_v48_0) = fun y : S8192x128.Idx => roped 32 (prod 2048 (hidden m c) (wpad m c)) (cosI (Ideal.ofBits .f32 1107296256#32)) (sinI (Ideal.ofBits .f32 1107296256#32)) (y 0).val (y 1).val :=
  (((W15_of m ρ c main_v48_0 (by decide +kernel)).trans ((W14_of m ρ c main_v48_0 (by decide +kernel)).trans ((W13_of m ρ c main_v48_0 (by decide +kernel)).trans (W12_of m ρ c main_v48_0 (by decide +kernel))))).trans (W11_arr m ρ c 4)).trans
    (final3 (V10 m ρ) c (hidden m c) (wpad m c) (cosI (Ideal.ofBits .f32 1107296256#32)) (sinI (Ideal.ofBits .f32 1107296256#32))
      (fun z => (congrFun (at10 m ρ c main_v4_1 (by decide)) z).trans (congrFun (hidden7 m ρ c) z)) (fun z => (congrFun (at10 m ρ c main_v17 (by decide)) z).trans (weights17 m ρ c z)) (fun z => (congrFun (at10 m ρ c main_v41 (by decide)) z).trans (cosHalf (W6 m ρ c) z)) (fun z => (congrFun (at10 m ρ c main_v43 (by decide)) z).trans (sinHalf (W6 m ρ c) z)))

theorem key_turned_half : W15 m ρ c (Proc.devRef .tc main_v48_1) = fun y : S8192x128.Idx => roped 32 (prod 2048 (hidden m c) (wpad m c)) (cosI (Ideal.ofBits .f32 1107296256#32)) (sinI (Ideal.ofBits .f32 1107296256#32)) (y 0).val (y 1).val :=
  (((W15_of m ρ c main_v48_1 (by decide +kernel)).trans ((W14_of m ρ c main_v48_1 (by decide +kernel)).trans ((W13_of m ρ c main_v48_1 (by decide +kernel)).trans (W12_of m ρ c main_v48_1 (by decide +kernel))))).trans (W11_arr m ρ c 5)).trans
    (final3_half (V10 m ρ) c (hidden m c) (wpad m c) (cosI (Ideal.ofBits .f32 1107296256#32)) (sinI (Ideal.ofBits .f32 1107296256#32))
      (fun z => (congrFun (at10 m ρ c main_v4_1 (by decide)) z).trans (congrFun (hidden7 m ρ c) z)) (fun z => (congrFun (at10 m ρ c main_v17 (by decide)) z).trans (weights17 m ρ c z)) (fun z => (congrFun (at10 m ρ c main_v41 (by decide)) z).trans (cosHalf (W6 m ρ c) z)) (fun z => (congrFun (at10 m ρ c main_v43 (by decide)) z).trans (sinHalf (W6 m ρ c) z)))

theorem gate : W15 m ρ c (Proc.devRef .tc main_v49) = fun y : S8192x2048.Idx => prod 2048 (hidden m c) (wcols m c 1088) (y 0).val (y 1).val :=
  (((W15_of m ρ c main_v49 (by decide +kernel)).trans ((W14_of m ρ c main_v49 (by decide +kernel)).trans (W13_of m ρ c main_v49 (by decide +kernel)))).trans (W12_arr m ρ c 2)).trans
    (final4 (V11 m ρ) c (hidden m c) (wcols m c 1088)
      (fun z => (congrFun (at11 m ρ c main_v4_1 (by decide)) z).trans (congrFun (hidden7 m ρ c) z)) (fun z => (congrFun (at11 m ρ c main_v18 (by decide)) z).trans (weights18 m ρ c z)))

theorem query : W15 m ρ c (Proc.devRef .tc main_v50) = fun y : S8192x4096.Idx => heads (prod 512 (normed_q m c) (spread (rd3 (proj_q m c)))) (cosI (Ideal.ofBits .f32 1107296256#32)) (sinI (Ideal.ofBits .f32 1107296256#32)) (y 0).val (y 1).val :=
  (((W15_of m ρ c main_v50 (by decide +kernel)).trans (W14_of m ρ c main_v50 (by decide +kernel))).trans (W13_arr m ρ c 4)).trans
    (final5 (V12 m ρ) c (normed_q m c) (spread (rd3 (proj_q m c))) (cosI (Ideal.ofBits .f32 1107296256#32)) (sinI (Ideal.ofBits .f32 1107296256#32))
      (fun z => congrFun (query_norm m ρ c) z) (fun z => (congrFun (at12 m ρ c main_v19 (by decide)) z).trans (weights19 m ρ c z)) (fun z => (congrFun (at12 m ρ c main_v41 (by decide)) z).trans (cosHalf (W6 m ρ c) z)) (fun z => (congrFun (at12 m ρ c main_v43 (by decide)) z).trans (sinHalf (W6 m ρ c) z)))

theorem keys_values : W15 m ρ c (Proc.devRef .tc main_v53) = fun y : S8192x4096.Idx => prod 512 (normed_k m c) (rd3 (proj_k m c)) (y 0).val (y 1).val :=
  (W15_arr m ρ c 2).trans
    (final6 (V14 m ρ) c (normed_k m c) (rd3 (proj_k m c))
      (fun z => congrFun (key_norm_half m ρ c) z) (fun z => (cast52 (W13 m ρ c) z).trans (congrArg (fun A : Stack 512 4096 => rd3 A _ _) (W13_args m ρ c main_arg8 (by decide)))))

end Cert.KernelBIdeal.Final

end
-- ==== Proof.RunB.lean ====
/- The projections of mixer B: the run of the kernel and of the reference, and the claims about them. -/
module

public import proofs.«01_k».proof.Defs
public import proofs.«01_k».proof.Proof.Gen.KernelB
public import proofs.«01_k».proof.Proof.Gen.ReferenceBIdeal.Run
public import proofs.«01_k».proof.Proof.ContentsB
public import Idealize.ShloMosaic.Lib.Claim
public import Idealize.ShloMosaic.Lib.Quiescent

@[expose] public section

set_option maxRecDepth 16384

noncomputable section

namespace Cert.KernelBIdeal.Final

open Cert.KernelBIdeal Cert.KernelBIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local instance] Cert.KernelBIdeal.Gen.facts

variable {F : FTy → Type} [FloatOps F] (m : (ℓ : Loc nD τ sig) → Buf (Elt F) ℓ) (ρ : Dev nD → PrngReg)

set_option backward.isDefEq.respectTransparency.types false in
/-- The run ends with every unscoped buffer at the contents after the last region. -/
theorem run_contents : θ_run defs (onTc (τ := τ) (main (F := F))) ⟨m, fun _ => 0, ρ⟩ (fun r =>
      ∀ c : Dev nD, ∀ b ∈ Pipeline.ucRefs τ sig, r.2.mem (((c : Thread nD τ)).1, b) = W15 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => h)

end Cert.KernelBIdeal.Final

namespace Cert.ProjectionsB

open Idealize.ShloMosaic Idealize.ShloMosaic.TcCoe Idealize.ShloMosaic.Pointwise Idealize.SL.Sem
open Cert.KernelBIdeal.Final Cert.KernelBIdeal.Gen Cert.Spec Cert.ReferenceBIdeal.RefRead

attribute [local instance] Cert.KernelB.Gen.facts Cert.KernelBIdeal.Gen.facts Cert.ReferenceBIdeal.Gen.facts

theorem frame_reference : Cert.quiescent_ReferenceBIdeal := fun m g _ =>
  (θ_run _ _ _).mono (fun r h => ⟨fun c => (h c).2.2.2.2.2.2.2, sem_eq_zero_of_no_sems (by decide) r.2⟩)
    (Cert.ReferenceBIdeal.Value.run (F := Ideal) m g)

/-- Both runs end at the same residual stream and the same projections of its norm. -/
theorem algebraic : Cert.algebraic_KernelBIdeal_ReferenceBIdeal := by
  intro m g m' g' hpre hagree
  refine ⟨fun c => W15 m g c (Proc.devRef .tc Cert.KernelBIdeal.main_v4_0),
    fun c => W15 m g c (Proc.devRef .tc Cert.KernelBIdeal.main_v50),
    fun c => W15 m g c (Proc.devRef .tc Cert.KernelBIdeal.main_v47_0),
    fun c => W15 m g c (Proc.devRef .tc Cert.KernelBIdeal.main_v48_0),
    fun c => W15 m g c (Proc.devRef .tc Cert.KernelBIdeal.main_v48_1),
    fun c => W15 m g c (Proc.devRef .tc Cert.KernelBIdeal.main_v49),
    fun c => W15 m g c (Proc.devRef .tc Cert.KernelBIdeal.main_v53), ?_, ?_⟩
  · refine (θ_run _ _ _).mono (fun r h c => ?_) (run_contents (F := Ideal) m g)
    exact ⟨h c _ (mem_uc _ (by decide)), h c _ (mem_uc _ (by decide)), h c _ (mem_uc _ (by decide)), h c _ (mem_uc _ (by decide)), h c _ (mem_uc _ (by decide)), h c _ (mem_uc _ (by decide)), h c _ (mem_uc _ (by decide)),
      (h c _ (mem_uc Cert.KernelBIdeal.main_arg0 (by decide))).trans (W15_main_arg0 m g c),
      (h c _ (mem_uc Cert.KernelBIdeal.main_arg1 (by decide))).trans (W15_main_arg1 m g c),
      (h c _ (mem_uc Cert.KernelBIdeal.main_arg2 (by decide))).trans (W15_main_arg2 m g c),
      (h c _ (mem_uc Cert.KernelBIdeal.main_arg3 (by decide))).trans (W15_main_arg3 m g c),
      (h c _ (mem_uc Cert.KernelBIdeal.main_arg4 (by decide))).trans (W15_main_arg4 m g c),
      (h c _ (mem_uc Cert.KernelBIdeal.main_arg5 (by decide))).trans (W15_main_arg5 m g c),
      (h c _ (mem_uc Cert.KernelBIdeal.main_arg6 (by decide))).trans (W15_main_arg6 m g c),
      (h c _ (mem_uc Cert.KernelBIdeal.main_arg7 (by decide))).trans (W15_main_arg7 m g c),
      (h c _ (mem_uc Cert.KernelBIdeal.main_arg8 (by decide))).trans (W15_main_arg8 m g c)⟩
  · refine (θ_run _ _ _).mono (fun r h c => ?_) (Cert.ReferenceBIdeal.Value.run (F := Ideal) m' g')
    obtain ⟨h0, h1, h2, h3, h4, h5, h6, hargs⟩ := h c
    obtain ⟨g0, g1, g2, g3, g4, g5, g6, g7, g8⟩ := hagree c
    refine ⟨h0.trans ?_, h1.trans ?_, h2.trans ?_, h3.trans ?_, h4.trans ?_, h5.trans ?_, h6.trans ?_, hargs⟩
    · refine (Cert.ReferenceBIdeal.Read.val_main_v3_eq _ _ _).trans ?_
      rw [g0, g1, g2]
      refine Eq.trans ?_ (stream_out m g c).symm
      funext y
      exact (congrArg _ (eq_ix2 y)).trans (stream_at (heads_in m c) (rows m c) (out_w m c) (y 0) (y 1))
    · rw [Cert.ReferenceBIdeal.Read.val_main_v138_eq, g0, g1, g2, g3, g4, g5, g6]
      refine Eq.trans ?_ (query m g c).symm
      funext y
      exact (congrArg _ (eq_ix2 y)).trans (q_at (heads_in m c) (rows m c) (out_w m c) (gains m c) (projs m c) (gains_q m c) (proj_q m c) (y 0) (y 1))
    · rw [Cert.ReferenceBIdeal.Read.val_main_v51_eq, g0, g1, g2, g3, g4, g7]
      refine Eq.trans ?_ (key_norm m g c).symm
      funext y
      exact (congrArg _ (eq_ix2 y)).trans (ck_at (heads_in m c) (rows m c) (out_w m c) (gains m c) (projs m c) (gains_k m c) (y 0) (y 1))
    · rw [Cert.ReferenceBIdeal.Read.val_main_v134_eq, g0, g1, g2, g3, g4]
      refine Eq.trans ?_ (key_turned m g c).symm
      funext y
      exact (congrArg _ (eq_ix2 y)).trans (kpe_at (heads_in m c) (rows m c) (out_w m c) (gains m c) (projs m c) (y 0) (y 1))
    · rw [Cert.ReferenceBIdeal.Read.val_main_v139_eq, g0, g1, g2, g3, g4]
      refine Eq.trans ?_ (key_turned_half m g c).symm
      funext y
      exact (congrArg _ (eq_ix2 y)).trans (kpe_at (heads_in m c) (rows m c) (out_w m c) (gains m c) (projs m c) (y 0) (y 1))
    · refine (Cert.ReferenceBIdeal.Read.val_main_v140_eq _ _ _ _ _).trans ?_
      rw [g0, g1, g2, g3, g4]
      refine Eq.trans ?_ (gate m g c).symm
      funext y
      exact (congrArg _ (eq_ix2 y)).trans (gate_at (heads_in m c) (rows m c) (out_w m c) (gains m c) (projs m c) (y 0) (y 1))
    · rw [Cert.ReferenceBIdeal.Read.val_main_v141_eq, g0, g1, g2, g3, g4, g7, g8]
      refine Eq.trans ?_ (keys_values m g c).symm
      funext y
      exact (congrArg _ (eq_ix2 y)).trans (kv_at (heads_in m c) (rows m c) (out_w m c) (gains m c) (projs m c) (gains_k m c) (proj_k m c) (y 0) (y 1))

end Cert.ProjectionsB

end
-- ==== Proof.OutC.lean ====
/- The last output projection: the result array after the kernel's run, and the reference's result. -/
module

public import proofs.«01_k».proof.Defs
public import proofs.«01_k».proof.Proof.Gen.KernelC
public import proofs.«01_k».proof.Proof.Gen.KernelCIdeal.Value
public import proofs.«01_k».proof.Proof.Gen.ReferenceCIdeal.Run
public import proofs.«01_k».proof.Proof.Gen.ReferenceCIdeal.Read
public import proofs.«01_k».proof.Proof.Layer
public import Idealize.ShloMosaic.Lib.Pipeline.ValueKit
public import Idealize.ShloMosaic.Lib.Claim
public import Idealize.ShloMosaic.Lib.Quiescent

@[expose] public section

set_option maxRecDepth 16384

noncomputable section

namespace Cert.KernelCIdeal.Final

open Cert.KernelCIdeal Cert.KernelCIdeal.Gen Cert.Spec Idealize.ShloMosaic
  Idealize.ShloMosaic.TcCoe Idealize.ShloMosaic.Pointwise Idealize.SL.Sem

attribute [local instance] Cert.KernelCIdeal.Gen.facts

theorem pay_at (v0 : Vec Ideal S256x2048 .f32) (v1 : Vec Ideal S256x2048 .bf16) (v2 : Vec Ideal S2048x2048 .bf16) (v16 : Vec Ideal S1x2048 .f32)
    (x o w : ℕ → ℕ → EReal) (g : ℕ → EReal) (t : ℕ) (h0 : ∀ y, v0 y = x (t * 256 + (y 0).val) (y 1).val)
    (h1 : ∀ y, v1 y = o (t * 256 + (y 0).val) (y 1).val) (h2 : ∀ y, v2 y = w (y 0).val (y 1).val)
    (h3 : ∀ y, v16 y = g (y 1).val) (y : S256x2048.Idx) :
    k0_pay1 (F := Ideal) v0 v1 v2 v16 y
      = norm 2048 (Ideal.ofBits .f32 1157627904#32) (resid x o w) g (t * 256 + (y 0).val) (y 1).val := by
  refine (congrArg _ (eq_ix2 y)).trans ?_
  pointwise [k0_pay1]
  simp only [h0, h1, h2, h3]
  rfl

variable (m : (ℓ : Loc nD τ sig) → Buf (Elt Ideal) ℓ) (c : Dev nD)

theorem weights (y : S2048x2048.Idx) :
    V m c main_v1 y = rd3 (m ((c : Thread nD τ).loc main_arg2)) (y 0).val (y 1).val := by
  entry_read
  refine (congrArg _ (eq_ix2 y)).trans ?_
  pointwise []
  exact rd3_idx _ _ rfl rfl

theorem scale (y : S1x2048.Idx) : V m c main_v2 y = rd1 (m ((c : Thread nD τ).loc main_arg3)) (y 1).val := by
  entry_read
  refine (congrArg _ (eq_ix2 y)).trans ?_
  pointwise []
  exact rd1_idx _ _ rfl

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)

/-- The result array: the norm of the residual stream after the projection. -/
def result (r j : ℕ) : EReal :=
    norm 2048 (Ideal.ofBits .f32 1157627904#32)
      (resid (rd (m ((c : Thread nD τ).loc main_arg1) : Mat 8192 2048)) (rd (m ((c : Thread nD τ).loc main_arg0) : Mat 8192 2048)) (rd3 (m ((c : Thread nD τ).loc main_arg2))))
      (rd1 (m ((c : Thread nD τ).loc main_arg3))) r j

theorem final : (dats m 0 c).arrAt 4 cfg0.N = fun y => result m c (y 0).val (y 1).val := by
  refine (dats m 0 c).arrAt_eq_of_covers 4 _ (by decide +kernel) fun t hf y => ?_
  blk_simp [index4]
  rw [after0_4]
  frame_out
  refine pay_at _ _ _ _ (rd (m ((c : Thread nD τ).loc main_arg1) : Mat 8192 2048)) (rd (m ((c : Thread nD τ).loc main_arg0) : Mat 8192 2048))
    (rd3 (m ((c : Thread nD τ).loc main_arg2))) (rd1 (m ((c : Thread nD τ).loc main_arg3))) t.val (fun y => ?_) (fun y => ?_) (fun y => ?_) (fun y => ?_) y
  · exact rd_idx (m ((c : Thread nD τ).loc main_arg1)) _ (by blk_simp [index2]) (by blk_simp [index2])
  · exact rd_idx (m ((c : Thread nD τ).loc main_arg0)) _ (by blk_simp [index0]) (by blk_simp [index0])
  · exact (weights m c _).trans (congrArg₂ (rd3 (m ((c : Thread nD τ).loc main_arg2))) (by blk_simp [index1]) (by blk_simp [index1]))
  · exact (scale m c _).trans (congrArg (rd1 (m ((c : Thread nD τ).loc main_arg3))) (by blk_simp [index3]))

end Cert.KernelCIdeal.Final

namespace Cert.ReferenceCIdeal.RefRead

open Cert.ReferenceCIdeal Cert.ReferenceCIdeal.Gen Cert.ReferenceCIdeal.Read Cert.Spec Idealize.ShloMosaic
  Idealize.ShloMosaic.Pointwise

variable (o x : Mat 8192 2048) (w : Stack 2048 2048) (g : Vect 2048)

theorem resid_at (i : S8192x2048.Idx) :
    val_main_v3 (F := Ideal) o x w i = resid (rd x) (rd o) (rd3 w) (i 0).val (i 1).val := by
  rw [val_main_v3_apply, val_main_v2_apply]
  refine congrArg₂ (· + ·) (rd_idx x i rfl rfl) (Finset.sum_congr rfl fun k _ => ?_)
  rw [val_main_v0_apply, val_main_v1_apply]
  refine congrArg₂ (· * ·) (rd_idx o _ rfl rfl) (rd3_idx w _ ?_ ?_)
  · show (k.val * 2048 + (i 1).val) / 2048 % 2048 = k.val
    have : (i 1).val < 2048 := (i 1).isLt
    omega
  · show (k.val * 2048 + (i 1).val) % 2048 = (i 1).val
    have : (i 1).val < 2048 := (i 1).isLt
    omega

theorem out_at (i : S8192x2048.Idx) :
    val_main_v16 (F := Ideal) o x w g i
      = norm 2048 (Ideal.ofBits .f32 1157627904#32) (resid (rd x) (rd o) (rd3 w)) (rd1 g) (i 0).val (i 1).val := by
  rw [val_main_v16_apply, val_main_v13_apply, val_main_v12_apply, val_main_v11_apply, val_main_v10_apply,
    val_main_v8_apply, val_main_v6_apply, val_main_v5_apply, val_main_v7_apply, val_main_v9_apply, val_main_cst_apply,
    val_main_cst_0_apply, val_main_cst_1_apply, val_main_v15_apply, val_main_v14_apply, resid_at]
  simp only [val_main_v4_apply, resid_at]
  show _ * Ideal.rsqrt (Ideal.div (Ideal.ofBits .f32 0x00000000#32 + _) _ + _) * _ = _
  rw [Ideal.ofBits_zero_f32, zero_add]
  exact congrArg₂ (· * ·) rfl (rd1_idx g _ rfl)

end Cert.ReferenceCIdeal.RefRead

namespace Cert.LastProjection

open Idealize.ShloMosaic Idealize.ShloMosaic.TcCoe Idealize.ShloMosaic.Pointwise Idealize.SL.Sem

attribute [local instance] Cert.KernelC.Gen.facts Cert.KernelCIdeal.Gen.facts Cert.ReferenceCIdeal.Gen.facts

theorem frame_reference : Cert.quiescent_ReferenceCIdeal := fun m g _ =>
  (θ_run _ _ _).mono (fun r h => ⟨fun c => (h c).2, sem_eq_zero_of_no_sems (by decide) r.2⟩)
    (Cert.ReferenceCIdeal.Value.run (F := Ideal) m g)

/-- The kernel's run and the reference's end at the norm of the residual stream. -/
theorem algebraic : Cert.algebraic_KernelCIdeal_ReferenceCIdeal := by
  intro m g m' g' hpre hagree
  refine ⟨fun c y => Cert.KernelCIdeal.Final.result m c (y 0).val (y 1).val, ?_, ?_⟩
  · refine (θ_run _ _ _).mono (fun r h c => ⟨(h c).1.trans (Cert.KernelCIdeal.Final.final m c), (h c).2⟩) (Cert.KernelCIdeal.Value.run_blocks (F := Ideal) m g)
  · refine (θ_run _ _ _).mono (fun r h c => ⟨(h c).1.trans ?_, (h c).2⟩) (Cert.ReferenceCIdeal.Value.run (F := Ideal) m' g')
    rw [Cert.ReferenceCIdeal.Read.val_main_v16_eq, (hagree c).1, (hagree c).2.1, (hagree c).2.2.1, (hagree c).2.2.2]
    funext y
    exact Cert.ReferenceCIdeal.RefRead.out_at _ _ _ _ y

end Cert.LastProjection

end
-- ==== Proof.Still.lean ====
/- Rotations at one position for all rows: tables held at that position, and the spellings of one rotated entry. -/
module

public import proofs.«01_k».proof.Proof.Rope

@[expose] public section

noncomputable section

namespace Cert.Spec

open Idealize.ShloMosaic Idealize.ShloMosaic.Pointwise

/-- The table that holds at every position what `C` holds at position `q`. -/
def still (C : ℕ → ℕ → EReal) (q : ℕ) : ℕ → ℕ → EReal := fun _ l => C q l

theorem still_id {half q r c : ℕ} {z : ℕ → ℕ → EReal} {b : EReal} (h : ¬ c % 128 < 64) :
    roped half z (still (cosI b) q) (still (sinI b) q) r c = z r c := by
  unfold roped still cosI sinI
  rw [if_neg h, if_neg h, mul_one, mul_zero, add_zero]

theorem still_low {half q r c : ℕ} {z : ℕ → ℕ → EReal} {b : EReal} (h : c % 128 < 64) :
    roped half z (still (cosI b) q) (still (sinI b) q) r c
      = roped half z (still (cosT 32 b) q) (still (sinT 32 b) q) r c := by
  unfold roped still cosI sinI
  rw [if_pos h, if_pos h]

/-- The first half of a head rotated as a difference. -/
theorem still_first {half f q r c : ℕ} {z : ℕ → ℕ → EReal} {b u v : EReal} (hc : c % (2 * half) < half)
    (hl : c % 128 % (2 * half) < half) (hu : u = z r c) (hv : v = z r (c + half)) (hf : f = c % 128 % half) :
    u * Ideal.cos (ang b q f) - v * Ideal.sin (ang b q f)
      = roped half z (still (cosT half b) q) (still (sinT half b) q) r c := by
  subst hu hv hf
  unfold roped still sw cosT sinT
  rw [if_pos hc, if_pos hl, mul_neg, ← sub_eq_add_neg]

/-- The second half of a head rotated as a sum. -/
theorem still_second {half f q r c : ℕ} {z : ℕ → ℕ → EReal} {b u v : EReal} (hc : ¬ c % (2 * half) < half)
    (hl : ¬ c % 128 % (2 * half) < half) (hu : u = z r c) (hv : v = z r (c - half)) (hf : f = c % 128 % half) :
    u * Ideal.cos (ang b q f) + v * Ideal.sin (ang b q f)
      = roped half z (still (cosT half b) q) (still (sinT half b) q) r c := by
  subst hu hv hf
  unfold roped still sw cosT sinT
  rw [if_neg hc, if_neg hl]

end Cert.Spec

end
-- ==== Proof.RegionsS.lean ====
/- The arrays the samples' eight calls leave, each from the arrays it is entered with: the norms, the projections and the residual streams. -/
module

public import proofs.«01_k».proof.Proof.Gen.KernelSIdeal.Frame
public import proofs.«01_k».proof.Proof.Still
public import Idealize.ShloMosaic.Lib.Pipeline.ValueKit

@[expose] public section

set_option maxRecDepth 16384

noncomputable section

namespace Cert.KernelSIdeal.Final

open Cert.KernelSIdeal Cert.KernelSIdeal.Gen Cert.Spec Idealize.ShloMosaic
  Idealize.ShloMosaic.TcCoe Idealize.ShloMosaic.Pointwise Idealize.SL.Sem

attribute [local instance] Cert.KernelSIdeal.Gen.facts

variable (V : (c : Dev nD) → (b : Ref sig .tc) → Buf (Elt Ideal) ((c : Thread nD τ).loc b)) (c : Dev nD)

/-! ## The blocks: each call's grid is one point, and each block begins at its array's first entry -/

theorem index0_0 : ∀ t : Fin cfg0.N, win0_0.index t = ![0, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index1_0 : ∀ t : Fin cfg1.N, win1_0.index t = ![0, 0] := (by decide +kernel : ∀ t : Fin grid1.N, _)
theorem index1_1 : ∀ t : Fin cfg1.N, win1_1.index t = ![0, 0] := (by decide +kernel : ∀ t : Fin grid1.N, _)
theorem index1_2 : ∀ t : Fin cfg1.N, win1_2.index t = ![0, 0] := (by decide +kernel : ∀ t : Fin grid1.N, _)
theorem index1_3 : ∀ t : Fin cfg1.N, win1_3.index t = ![0, 0] := (by decide +kernel : ∀ t : Fin grid1.N, _)
theorem index1_4 : ∀ t : Fin cfg1.N, win1_4.index t = ![0, 0] := (by decide +kernel : ∀ t : Fin grid1.N, _)
theorem index2_0 : ∀ t : Fin cfg2.N, win2_0.index t = ![0, 0] := (by decide +kernel : ∀ t : Fin grid2.N, _)
theorem index2_1 : ∀ t : Fin cfg2.N, win2_1.index t = ![0, 0] := (by decide +kernel : ∀ t : Fin grid2.N, _)
theorem index2_2 : ∀ t : Fin cfg2.N, win2_2.index t = ![0, 0] := (by decide +kernel : ∀ t : Fin grid2.N, _)
theorem index3_0 : ∀ t : Fin cfg3.N, win3_0.index t = ![0, 0] := (by decide +kernel : ∀ t : Fin grid3.N, _)
theorem index3_1 : ∀ t : Fin cfg3.N, win3_1.index t = ![0, 0] := (by decide +kernel : ∀ t : Fin grid3.N, _)
theorem index3_2 : ∀ t : Fin cfg3.N, win3_2.index t = ![0, 0] := (by decide +kernel : ∀ t : Fin grid3.N, _)
theorem index3_3 : ∀ t : Fin cfg3.N, win3_3.index t = ![0, 0] := (by decide +kernel : ∀ t : Fin grid3.N, _)
theorem index3_4 : ∀ t : Fin cfg3.N, win3_4.index t = ![0, 0] := (by decide +kernel : ∀ t : Fin grid3.N, _)
theorem index4_0 : ∀ t : Fin cfg4.N, win4_0.index t = ![0, 0] := (by decide +kernel : ∀ t : Fin grid4.N, _)
theorem index4_1 : ∀ t : Fin cfg4.N, win4_1.index t = ![0, 0] := (by decide +kernel : ∀ t : Fin grid4.N, _)
theorem index4_2 : ∀ t : Fin cfg4.N, win4_2.index t = ![0, 0] := (by decide +kernel : ∀ t : Fin grid4.N, _)
theorem index4_3 : ∀ t : Fin cfg4.N, win4_3.index t = ![0, 0] := (by decide +kernel : ∀ t : Fin grid4.N, _)
theorem index4_4 : ∀ t : Fin cfg4.N, win4_4.index t = ![0, 0] := (by decide +kernel : ∀ t : Fin grid4.N, _)
theorem index4_5 : ∀ t : Fin cfg4.N, win4_5.index t = ![0, 0] := (by decide +kernel : ∀ t : Fin grid4.N, _)
theorem index5_0 : ∀ t : Fin cfg5.N, win5_0.index t = ![0, 0] := (by decide +kernel : ∀ t : Fin grid5.N, _)
theorem index5_1 : ∀ t : Fin cfg5.N, win5_1.index t = ![0, 0] := (by decide +kernel : ∀ t : Fin grid5.N, _)
theorem index5_2 : ∀ t : Fin cfg5.N, win5_2.index t = ![0, 0] := (by decide +kernel : ∀ t : Fin grid5.N, _)
theorem index5_3 : ∀ t : Fin cfg5.N, win5_3.index t = ![0, 0] := (by decide +kernel : ∀ t : Fin grid5.N, _)
theorem index6_0 : ∀ t : Fin cfg6.N, win6_0.index t = ![0, 0] := (by decide +kernel : ∀ t : Fin grid6.N, _)
theorem index6_1 : ∀ t : Fin cfg6.N, win6_1.index t = ![0, 0] := (by decide +kernel : ∀ t : Fin grid6.N, _)
theorem index6_2 : ∀ t : Fin cfg6.N, win6_2.index t = ![0, 0] := (by decide +kernel : ∀ t : Fin grid6.N, _)
theorem index6_3 : ∀ t : Fin cfg6.N, win6_3.index t = ![0, 0] := (by decide +kernel : ∀ t : Fin grid6.N, _)
theorem index6_4 : ∀ t : Fin cfg6.N, win6_4.index t = ![0, 0] := (by decide +kernel : ∀ t : Fin grid6.N, _)
theorem index7_0 : ∀ t : Fin cfg7.N, win7_0.index t = ![0, 0] := (by decide +kernel : ∀ t : Fin grid7.N, _)
theorem index7_1 : ∀ t : Fin cfg7.N, win7_1.index t = ![0, 0] := (by decide +kernel : ∀ t : Fin grid7.N, _)
theorem index7_2 : ∀ t : Fin cfg7.N, win7_2.index t = ![0, 0] := (by decide +kernel : ∀ t : Fin grid7.N, _)
theorem index7_3 : ∀ t : Fin cfg7.N, win7_3.index t = ![0, 0] := (by decide +kernel : ∀ t : Fin grid7.N, _)
theorem index7_4 : ∀ t : Fin cfg7.N, win7_4.index t = ![0, 0] := (by decide +kernel : ∀ t : Fin grid7.N, _)

variable (H W C S x o w : ℕ → ℕ → EReal) (G g : ℕ → EReal)

/-! ## The normalised rows -/

theorem pay0 (v0 : Vec Ideal S128x2048 .f32) (v11 : Vec Ideal S1x2048 .f32)
    (h0 : ∀ i k, v0 (ix2 i k) = x i.val k.val) (h1 : ∀ i k, v11 (ix2 i k) = g k.val) (i : Fin 128) (j : Fin 2048) :
    k0_pay1 (F := Ideal) v0 v11 (ix2 i j) = norm 2048 (Ideal.ofBits .f32 1157627904#32) x g i.val j.val := by
  pointwise [k0_pay1]
  simp only [h0, h1]
  rfl

theorem final0 (hx : ∀ y, V c main_arg0 y = x (y 0).val (y 1).val) (hg : ∀ y, V c main_v63 y = g (y 1).val) :
    (dat0 V c).arrAt 2 cfg0.N = fun y => norm 2048 (Ideal.ofBits .f32 1157627904#32) x g (y 0).val (y 1).val := by
  refine (dat0 V c).arrAt_eq_of_covers 2 _ (by decide +kernel) fun t hf y => ?_
  blk_simp [index0_2]
  rw [after0_2]
  frame_out
  refine (congrArg _ (eq_ix2 y)).trans
    (pay0 x g _ _ (fun i k => ?_) (fun i k => ?_) (y 0) (y 1))
  · exact (hx _).trans (congrArg₂ x (by blk_simp [index0_0]) (by blk_simp [index0_0]))
  · exact (hg _).trans (congrArg g (by blk_simp [index0_1]))

/-! ## Mixer A's projections -/

theorem pay1 (v0 : Vec Ideal S128x2048 .bf16) (v2 : Vec Ideal S2048x256 .bf16) (v5 v7 : Vec Ideal S128x128 .f32)
    (h0 : ∀ i k, v0 (ix2 i k) = H i.val k.val) (h2 : ∀ k j, v2 (ix2 k j) = W k.val j.val)
    (h5 : ∀ i l, v5 (ix2 i l) = C i.val l.val) (h7 : ∀ i l, v7 (ix2 i l) = S i.val l.val) (i : Fin 128) (j : Fin 256) :
    k1_pay1 (F := Ideal) v0 v2 v5 v7 (ix2 i j) = roped 64 (prod 2048 H W) C S i.val j.val := by
  have hi := i.isLt
  have hj := j.isLt
  have hp : i.val = i.val % 4096 := by omega
  pointwise [k1_pay1]
  simp only [h0, h2, h5, h7]
  split_ifs <;> exact roped_of (by omega) (by unfold sw; split_ifs <;> omega) (by omega) hp

theorem final1 (hH : ∀ y, V c main_v64 y = H (y 0).val (y 1).val) (hW : ∀ y, V c main_v50 y = W (y 0).val (y 1).val)
    (hC : ∀ y, V c main_v15 y = C (y 0).val (y 1).val) (hS : ∀ y, V c main_v17 y = S (y 0).val (y 1).val) :
    (dat1 V c).arrAt 4 cfg1.N = fun y => roped 64 (prod 2048 H W) C S (y 0).val (y 1).val := by
  refine (dat1 V c).arrAt_eq_of_covers 4 _ (by decide +kernel) fun t hf y => ?_
  blk_simp [index1_4]
  rw [after1_4]
  frame_out
  refine (congrArg _ (eq_ix2 y)).trans
    (pay1 H W C S _ _ _ _ (fun i k => ?_) (fun i k => ?_) (fun i k => ?_) (fun i k => ?_) (y 0) (y 1))
  · exact (hH _).trans (congrArg₂ H (by blk_simp [index1_0]) (by blk_simp [index1_0]))
  · exact (hW _).trans (congrArg₂ W (by blk_simp [index1_1]) (by blk_simp [index1_1]))
  · exact (hC _).trans (congrArg₂ C (by blk_simp [index1_2]) (by blk_simp [index1_2]))
  · exact (hS _).trans (congrArg₂ S (by blk_simp [index1_3]) (by blk_simp [index1_3]))

theorem pay2 (v0 : Vec Ideal S128x2048 .bf16) (v2 : Vec Ideal S2048x256 .bf16)
    (h0 : ∀ i k, v0 (ix2 i k) = H i.val k.val) (h2 : ∀ k j, v2 (ix2 k j) = W k.val j.val) (i : Fin 128) (j : Fin 256) :
    k2_pay1 (F := Ideal) v0 v2 (ix2 i j) = prod 2048 H W i.val j.val := by
  pointwise [k2_pay1]
  simp only [h0, h2]
  rfl

theorem final2 (hH : ∀ y, V c main_v64 y = H (y 0).val (y 1).val) (hW : ∀ y, V c main_v51 y = W (y 0).val (y 1).val) :
    (dat2 V c).arrAt 2 cfg2.N = fun y => prod 2048 H W (y 0).val (y 1).val := by
  refine (dat2 V c).arrAt_eq_of_covers 2 _ (by decide +kernel) fun t hf y => ?_
  blk_simp [index2_2]
  rw [after2_2]
  frame_out
  refine (congrArg _ (eq_ix2 y)).trans
    (pay2 H W _ _ (fun i k => ?_) (fun i k => ?_) (y 0) (y 1))
  · exact (hH _).trans (congrArg₂ H (by blk_simp [index2_0]) (by blk_simp [index2_0]))
  · exact (hW _).trans (congrArg₂ W (by blk_simp [index2_1]) (by blk_simp [index2_1]))

theorem pay3 (v0 : Vec Ideal S128x2048 .bf16) (v2 : Vec Ideal S2048x128 .bf16) (v5 v7 : Vec Ideal S128x128 .f32)
    (h0 : ∀ i k, v0 (ix2 i k) = H i.val k.val) (h2 : ∀ k j, v2 (ix2 k j) = W k.val j.val)
    (h5 : ∀ i l, v5 (ix2 i l) = C i.val l.val) (h7 : ∀ i l, v7 (ix2 i l) = S i.val l.val) (i : Fin 128) (j : Fin 128) :
    k3_pay1 (F := Ideal) v0 v2 v5 v7 (ix2 i j) = roped 32 (prod 2048 H W) C S i.val j.val := by
  have hi := i.isLt
  have hj := j.isLt
  have hp : i.val = i.val % 4096 := by omega
  pointwise [k3_pay1]
  simp only [h0, h2, h5, h7]
  exact roped_sel (by omega) (by omega) (by omega) (by omega) (by omega) hp

theorem final3 (hH : ∀ y, V c main_v64 y = H (y 0).val (y 1).val) (hW : ∀ y, V c main_v53 y = W (y 0).val (y 1).val)
    (hC : ∀ y, V c main_v36 y = C (y 0).val (y 1).val) (hS : ∀ y, V c main_v38 y = S (y 0).val (y 1).val) :
    (dat3 V c).arrAt 4 cfg3.N = fun y => roped 32 (prod 2048 H W) C S (y 0).val (y 1).val := by
  refine (dat3 V c).arrAt_eq_of_covers 4 _ (by decide +kernel) fun t hf y => ?_
  blk_simp [index3_4]
  rw [after3_4]
  frame_out
  refine (congrArg _ (eq_ix2 y)).trans
    (pay3 H W C S _ _ _ _ (fun i k => ?_) (fun i k => ?_) (fun i k => ?_) (fun i k => ?_) (y 0) (y 1))
  · exact (hH _).trans (congrArg₂ H (by blk_simp [index3_0]) (by blk_simp [index3_0]))
  · exact (hW _).trans (congrArg₂ W (by blk_simp [index3_1]) (by blk_simp [index3_1]))
  · exact (hC _).trans (congrArg₂ C (by blk_simp [index3_2]) (by blk_simp [index3_2]))
  · exact (hS _).trans (congrArg₂ S (by blk_simp [index3_3]) (by blk_simp [index3_3]))

/-! ## The residual streams and their norms -/

theorem pay4 (v0 : Vec Ideal S128x2048 .f32) (v1 : Vec Ideal S128x2048 .bf16) (v2 : Vec Ideal S2048x2048 .bf16) (h0 : ∀ i k, v0 (ix2 i k) = x i.val k.val)
    (h1 : ∀ i k, v1 (ix2 i k) = o i.val k.val) (h2 : ∀ k j, v2 (ix2 k j) = w k.val j.val) (i : Fin 128) (j : Fin 2048) :
    k4_pay1 (F := Ideal) v0 v1 v2 (ix2 i j) = resid x o w i.val j.val := by
  pointwise [k4_pay1]
  simp only [h0, h1, h2]
  rfl

theorem final4 (hx : ∀ y, V c main_arg0 y = x (y 0).val (y 1).val) (ho : ∀ y, V c main_arg1 y = o (y 0).val (y 1).val)
    (hw : ∀ y, V c main_v69 y = w (y 0).val (y 1).val) :
    (dat4 V c).arrAt 4 cfg4.N = fun y => resid x o w (y 0).val (y 1).val := by
  refine (dat4 V c).arrAt_eq_of_covers 4 _ (by decide +kernel) fun t hf y => ?_
  blk_simp [index4_4]
  rw [after4_4]
  frame_out
  refine (congrArg _ (eq_ix2 y)).trans
    (pay4 x o w _ _ _ (fun i k => ?_) (fun i k => ?_) (fun i k => ?_) (y 0) (y 1))
  · exact (hx _).trans (congrArg₂ x (by blk_simp [index4_2]) (by blk_simp [index4_2]))
  · exact (ho _).trans (congrArg₂ o (by blk_simp [index4_0]) (by blk_simp [index4_0]))
  · exact (hw _).trans (congrArg₂ w (by blk_simp [index4_1]) (by blk_simp [index4_1]))

theorem pay4_norm (v0 : Vec Ideal S128x2048 .f32) (v1 : Vec Ideal S128x2048 .bf16) (v2 : Vec Ideal S2048x2048 .bf16) (v16 : Vec Ideal S1x2048 .f32)
    (h0 : ∀ i k, v0 (ix2 i k) = x i.val k.val)
    (h1 : ∀ i k, v1 (ix2 i k) = o i.val k.val) (h2 : ∀ k j, v2 (ix2 k j) = w k.val j.val)
    (h3 : ∀ i k, v16 (ix2 i k) = g k.val) (i : Fin 128) (j : Fin 2048) :
    k4_pay2 (F := Ideal) v0 v1 v2 v16 (ix2 i j) = norm 2048 (Ideal.ofBits .f32 1157627904#32) (resid x o w) g i.val j.val := by
  pointwise [k4_pay2, k4_pay1]
  simp only [h0, h1, h2, h3]
  rfl

theorem final4_norm (hx : ∀ y, V c main_arg0 y = x (y 0).val (y 1).val) (ho : ∀ y, V c main_arg1 y = o (y 0).val (y 1).val)
    (hw : ∀ y, V c main_v69 y = w (y 0).val (y 1).val) (hg : ∀ y, V c main_v71 y = g (y 1).val) :
    (dat4 V c).arrAt 5 cfg4.N = fun y => norm 2048 (Ideal.ofBits .f32 1157627904#32) (resid x o w) g (y 0).val (y 1).val := by
  refine (dat4 V c).arrAt_eq_of_covers 5 _ (by decide +kernel) fun t hf y => ?_
  blk_simp [index4_5]
  rw [after4_5]
  frame_out
  refine (congrArg _ (eq_ix2 y)).trans
    (pay4_norm x o w g _ _ _ _ (fun i k => ?_) (fun i k => ?_) (fun i k => ?_) (fun i k => ?_) (y 0) (y 1))
  · exact (hx _).trans (congrArg₂ x (by blk_simp [index4_2]) (by blk_simp [index4_2]))
  · exact (ho _).trans (congrArg₂ o (by blk_simp [index4_0]) (by blk_simp [index4_0]))
  · exact (hw _).trans (congrArg₂ w (by blk_simp [index4_1]) (by blk_simp [index4_1]))
  · exact (hg _).trans (congrArg g (by blk_simp [index4_3]))

theorem pay7 (v0 : Vec Ideal S128x2048 .f32) (v2 : Vec Ideal S128x2048 .bf16) (v3 : Vec Ideal S2048x2048 .bf16) (v17 : Vec Ideal S1x2048 .f32)
    (h0 : ∀ i k, v0 (ix2 i k) = x i.val k.val) (h1 : ∀ i k, v2 (ix2 i k) = o i.val k.val)
    (h2 : ∀ k j, v3 (ix2 k j) = w k.val j.val) (h3 : ∀ i k, v17 (ix2 i k) = g k.val) (i : Fin 128) (j : Fin 2048) :
    k7_pay1 (F := Ideal) v0 v2 v3 v17 (ix2 i j) = norm 2048 (Ideal.ofBits .f32 1157627904#32) (resid x o w) g i.val j.val := by
  pointwise [k7_pay1]
  simp only [h0, h1, h2, h3]
  rfl

theorem final7 (hx : ∀ y, V c main_v72_0 y = x (y 0).val (y 1).val) (ho : ∀ y, V c main_arg2 y = o (y 0).val (y 1).val)
    (hw : ∀ y, V c main_v78 y = w (y 0).val (y 1).val) (hg : ∀ y, V c main_v79 y = g (y 1).val) :
    (dat7 V c).arrAt 4 cfg7.N = fun y => norm 2048 (Ideal.ofBits .f32 1157627904#32) (resid x o w) g (y 0).val (y 1).val := by
  refine (dat7 V c).arrAt_eq_of_covers 4 _ (by decide +kernel) fun t hf y => ?_
  blk_simp [index7_4]
  rw [after7_4]
  frame_out
  refine (congrArg _ (eq_ix2 y)).trans
    (pay7 x o w g _ _ _ _ (fun i k => ?_) (fun i k => ?_) (fun i k => ?_) (fun i k => ?_) (y 0) (y 1))
  · exact (hx _).trans (congrArg₂ x (by blk_simp [index7_2]) (by blk_simp [index7_2]))
  · exact (ho _).trans (congrArg₂ o (by blk_simp [index7_0]) (by blk_simp [index7_0]))
  · exact (hw _).trans (congrArg₂ w (by blk_simp [index7_1]) (by blk_simp [index7_1]))
  · exact (hg _).trans (congrArg g (by blk_simp [index7_3]))

/-! ## Mixer B's projections -/

theorem pay5 (v0 : Vec Ideal S128x2048 .bf16) (v2 : Vec Ideal S2048x512 .bf16) (v5 : Vec Ideal S1x512 .f32)
    (h0 : ∀ i k, v0 (ix2 i k) = H i.val k.val) (h2 : ∀ k j, v2 (ix2 k j) = W k.val j.val)
    (h5 : ∀ i l, v5 (ix2 i l) = G l.val) (i : Fin 128) (j : Fin 512) :
    k5_pay1 (F := Ideal) v0 v2 v5 (ix2 i j) = norm 512 (Ideal.ofBits .f32 1140850688#32) (prod 2048 H W) G i.val j.val := by
  pointwise [k5_pay1]
  simp only [h0, h2, h5]
  rfl

theorem final5 (hH : ∀ y, V c main_v72_1 y = H (y 0).val (y 1).val) (hW : ∀ y, V c main_v60 y = W (y 0).val (y 1).val)
    (hG : ∀ y, V c main_v74 y = G (y 1).val) :
    (dat5 V c).arrAt 3 cfg5.N = fun y => norm 512 (Ideal.ofBits .f32 1140850688#32) (prod 2048 H W) G (y 0).val (y 1).val := by
  refine (dat5 V c).arrAt_eq_of_covers 3 _ (by decide +kernel) fun t hf y => ?_
  blk_simp [index5_3]
  rw [after5_3]
  frame_out
  refine (congrArg _ (eq_ix2 y)).trans
    (pay5 H W G _ _ _ (fun i k => ?_) (fun i k => ?_) (fun i k => ?_) (y 0) (y 1))
  · exact (hH _).trans (congrArg₂ H (by blk_simp [index5_0]) (by blk_simp [index5_0]))
  · exact (hW _).trans (congrArg₂ W (by blk_simp [index5_1]) (by blk_simp [index5_1]))
  · exact (hG _).trans (congrArg G (by blk_simp [index5_2]))

theorem pay6 (v0 : Vec Ideal S128x2048 .bf16) (v2 : Vec Ideal S2048x128 .bf16) (v5 v7 : Vec Ideal S128x128 .f32) (y : S128x128.Idx) :
    k6_pay1 (F := Ideal) v0 v2 v5 v7 y = k3_pay1 (F := Ideal) v0 v2 v5 v7 y := rfl

theorem final6 (hH : ∀ y, V c main_v72_1 y = H (y 0).val (y 1).val) (hW : ∀ y, V c main_v61 y = W (y 0).val (y 1).val)
    (hC : ∀ y, V c main_v36 y = C (y 0).val (y 1).val) (hS : ∀ y, V c main_v38 y = S (y 0).val (y 1).val) :
    (dat6 V c).arrAt 4 cfg6.N = fun y => roped 32 (prod 2048 H W) C S (y 0).val (y 1).val := by
  refine (dat6 V c).arrAt_eq_of_covers 4 _ (by decide +kernel) fun t hf y => ?_
  blk_simp [index6_4]
  rw [after6_4]
  frame_out
  refine ((pay6 _ _ _ _ y).trans (congrArg _ (eq_ix2 y))).trans
    (pay3 H W C S _ _ _ _ (fun i k => ?_) (fun i k => ?_) (fun i k => ?_) (fun i k => ?_) (y 0) (y 1))
  · exact (hH _).trans (congrArg₂ H (by blk_simp [index6_0]) (by blk_simp [index6_0]))
  · exact (hW _).trans (congrArg₂ W (by blk_simp [index6_1]) (by blk_simp [index6_1]))
  · exact (hC _).trans (congrArg₂ C (by blk_simp [index6_2]) (by blk_simp [index6_2]))
  · exact (hS _).trans (congrArg₂ S (by blk_simp [index6_3]) (by blk_simp [index6_3]))

end Cert.KernelSIdeal.Final

end
-- ==== Proof.HostS.lean ====
/- The arrays the samples' host operations leave: the weights' slices, the gains, and the tables at the samples' position. -/
module

public import proofs.«01_k».proof.Proof.Gen.KernelSIdeal.Frame
public import proofs.«01_k».proof.Proof.Still
public import Idealize.ShloMosaic.Lib.Pipeline.ValueKit

@[expose] public section

set_option maxRecDepth 16384

noncomputable section

namespace Cert.KernelSIdeal.Final

open Cert.KernelSIdeal Cert.KernelSIdeal.Gen Cert.Spec Idealize.ShloMosaic
  Idealize.ShloMosaic.TcCoe Idealize.ShloMosaic.Pointwise Idealize.SL.Sem

attribute [local instance] Cert.KernelSIdeal.Gen.facts

variable (σ : Valuation τ sig (Elt Ideal))

/-! ## Mixer A's weights, sliced and padded -/

theorem slice41 (y : S2048x256.Idx) : StableHlo.after hostOps0 σ (Proc.devRef .tc main_v41) y
    = rd3 (σ (Proc.devRef .tc main_arg4) : Stack 2048 5712) (y 0).val (2048 + (y 1).val) := by
  entry_read
  refine (congrArg _ (eq_ix2 y)).trans ?_
  pointwise []
  exact rd3_idx _ _ rfl rfl

theorem slice42 (y : S2048x256.Idx) : StableHlo.after hostOps0 σ (Proc.devRef .tc main_v42) y
    = rd3 (σ (Proc.devRef .tc main_arg4) : Stack 2048 5712) (y 0).val (2304 + (y 1).val) := by
  entry_read
  refine (congrArg _ (eq_ix2 y)).trans ?_
  pointwise []
  exact rd3_idx _ _ rfl rfl

theorem slice47 (y : S2048x80.Idx) : StableHlo.after hostOps0 σ (Proc.devRef .tc main_v47) y
    = rd3 (σ (Proc.devRef .tc main_arg4) : Stack 2048 5712) (y 0).val (3584 + (y 1).val) := by
  entry_read
  refine (congrArg _ (eq_ix2 y)).trans ?_
  pointwise []
  by_cases h : (y 1).val < 64
  · rw [dif_pos h]
    exact rd3_idx _ _ rfl rfl
  · rw [dif_neg h]
    refine rd3_idx _ _ rfl ?_
    show 3648 + ((y 1).val - 64) = 3584 + (y 1).val
    omega

theorem padding : StableHlo.after hostOps0 σ (Proc.devRef .tc main_c_5) = constantI S_ 32 0#32 := by
  entry_read
  rfl

theorem pad_at (A : Vec Ideal S2048x80 .f32) (w : ℕ → ℕ → EReal) (hA : ∀ z, A z = w (z 0).val (3584 + (z 1).val)) (y : S2048x128.Idx) :
    pad S2048x128 ![0, 0] ![0, 48] ![0, 0] A (sitofp (F := Ideal) .f32 (constantI S_ 32 0#32)) pads_S2048x80_S2048x128_000_0480 h_S_ y
      = if (y 1).val < 80 then w (y 0).val (3584 + (y 1).val) else 0 := by
  refine (congrArg _ (eq_ix2 y)).trans ?_
  pointwise []
  by_cases h : (y 1).val < 80
  · rw [dif_pos h, if_pos h]
    exact hA _
  · rw [dif_neg h, if_neg h]
    show ((BitVec.toInt 0#32 : ℝ) : EReal) = 0
    simp

theorem padded (w : ℕ → ℕ → EReal) (hc : σ (Proc.devRef .tc main_c_5) = constantI S_ 32 0#32)
    (hA : ∀ z, σ (Proc.devRef .tc main_v47) z = w (z 0).val (3584 + (z 1).val)) (y : S2048x128.Idx) :
    StableHlo.after hostOps0_1 σ (Proc.devRef .tc main_v48) y = if (y 1).val < 80 then w (y 0).val (3584 + (y 1).val) else (0 : EReal) := by
  entry_read
  rw [hc]
  exact pad_at _ w hA y

theorem cast50 (y : S2048x256.Idx) : StableHlo.after hostOps0_2 σ (Proc.devRef .tc main_v50) y
    = (σ (Proc.devRef .tc main_v41) y : EReal) := by
  entry_read
  refine (congrArg _ (eq_ix2 y)).trans ?_
  pointwise []

theorem cast51 (y : S2048x256.Idx) : StableHlo.after hostOps0_2 σ (Proc.devRef .tc main_v51) y
    = (σ (Proc.devRef .tc main_v42) y : EReal) := by
  entry_read
  refine (congrArg _ (eq_ix2 y)).trans ?_
  pointwise []

theorem cast53 (y : S2048x128.Idx) : StableHlo.after hostOps0_2 σ (Proc.devRef .tc main_v53) y
    = (σ (Proc.devRef .tc main_v48) y : EReal) := by
  entry_read
  refine (congrArg _ (eq_ix2 y)).trans ?_
  pointwise []

/-! ## Mixer B's weights, sliced and padded, and the output projections -/

theorem slice56 (y : S2048x512.Idx) : StableHlo.after hostOps0_2 σ (Proc.devRef .tc main_v56) y
    = rd3 (σ (Proc.devRef .tc main_arg7) : Stack 2048 3136) (y 0).val (512 + (y 1).val) := by
  entry_read
  refine (congrArg _ (eq_ix2 y)).trans ?_
  pointwise []
  exact rd3_idx _ _ rfl rfl

theorem slice58 (y : S2048x64.Idx) : StableHlo.after hostOps0_2 σ (Proc.devRef .tc main_v58) y
    = rd3 (σ (Proc.devRef .tc main_arg7) : Stack 2048 3136) (y 0).val (1024 + (y 1).val) := by
  entry_read
  refine (congrArg _ (eq_ix2 y)).trans ?_
  pointwise []
  exact rd3_idx _ _ rfl rfl

theorem padding_key : StableHlo.after hostOps0_2 σ (Proc.devRef .tc main_c_6) = constantI S_ 32 0#32 := by
  entry_read
  rfl

theorem pad_key_at (A : Vec Ideal S2048x64 .f32) (w : ℕ → ℕ → EReal) (hA : ∀ z, A z = w (z 0).val (1024 + (z 1).val)) (y : S2048x128.Idx) :
    pad S2048x128 ![0, 0] ![0, 64] ![0, 0] A (sitofp (F := Ideal) .f32 (constantI S_ 32 0#32)) pads_S2048x64_S2048x128_000_0640 h_S_ y
      = if (y 1).val < 64 then w (y 0).val (1024 + (y 1).val) else 0 := by
  refine (congrArg _ (eq_ix2 y)).trans ?_
  pointwise []
  by_cases h : (y 1).val < 64
  · rw [dif_pos h, if_pos h]
    exact hA _
  · rw [dif_neg h, if_neg h]
    show ((BitVec.toInt 0#32 : ℝ) : EReal) = 0
    simp

theorem padded_key (w : ℕ → ℕ → EReal) (hc : σ (Proc.devRef .tc main_c_6) = constantI S_ 32 0#32)
    (hA : ∀ z, σ (Proc.devRef .tc main_v58) z = w (z 0).val (1024 + (z 1).val)) (y : S2048x128.Idx) :
    StableHlo.after hostOps0_3 σ (Proc.devRef .tc main_v59) y = if (y 1).val < 64 then w (y 0).val (1024 + (y 1).val) else (0 : EReal) := by
  entry_read
  rw [hc]
  exact pad_key_at _ w hA y

theorem cast60 (y : S2048x512.Idx) : StableHlo.after hostOps0_4 σ (Proc.devRef .tc main_v60) y
    = (σ (Proc.devRef .tc main_v56) y : EReal) := by
  entry_read
  refine (congrArg _ (eq_ix2 y)).trans ?_
  pointwise []

theorem cast61 (y : S2048x128.Idx) : StableHlo.after hostOps0_4 σ (Proc.devRef .tc main_v61) y
    = (σ (Proc.devRef .tc main_v59) y : EReal) := by
  entry_read
  refine (congrArg _ (eq_ix2 y)).trans ?_
  pointwise []

theorem weight69 (y : S2048x2048.Idx) : StableHlo.after hostOps4 σ (Proc.devRef .tc main_v69) y
    = rd3 (σ (Proc.devRef .tc main_arg5) : Stack 2048 2048) (y 0).val (y 1).val := by
  entry_read
  refine (congrArg _ (eq_ix2 y)).trans ?_
  pointwise []
  exact rd3_idx _ _ rfl rfl

theorem weight78 (y : S2048x2048.Idx) : StableHlo.after hostOps7 σ (Proc.devRef .tc main_v78) y
    = rd3 (σ (Proc.devRef .tc main_arg9) : Stack 2048 2048) (y 0).val (y 1).val := by
  entry_read
  refine (congrArg _ (eq_ix2 y)).trans ?_
  pointwise []
  exact rd3_idx _ _ rfl rfl

/-! ## The gains -/

theorem gain63 (y : S1x2048.Idx) : StableHlo.after hostOps0_4 σ (Proc.devRef .tc main_v63) y
    = rd (σ (Proc.devRef .tc main_arg3) : Mat 1 2048) 0 (y 1).val := by
  entry_read
  refine (congrArg _ (eq_ix2 y)).trans ?_
  pointwise []
  exact rd_idx _ _ (by first | rfl | (have h : (y 0).val < 1 := (y 0).isLt; show (y 0).val = 0; omega)) rfl

theorem gain71 (y : S1x2048.Idx) : StableHlo.after hostOps4 σ (Proc.devRef .tc main_v71) y
    = rd (σ (Proc.devRef .tc main_arg6) : Mat 1 2048) 0 (y 1).val := by
  entry_read
  refine (congrArg _ (eq_ix2 y)).trans ?_
  pointwise []
  exact rd_idx _ _ (by first | rfl | (have h : (y 0).val < 1 := (y 0).isLt; show (y 0).val = 0; omega)) rfl

theorem gain74 (y : S1x512.Idx) : StableHlo.after hostOps5 σ (Proc.devRef .tc main_v74) y
    = rd (σ (Proc.devRef .tc main_arg8) : Mat 1 512) 0 (y 1).val := by
  entry_read
  refine (congrArg _ (eq_ix2 y)).trans ?_
  pointwise []
  exact rd_idx _ _ (by first | rfl | (have h : (y 0).val < 1 := (y 0).isLt; show (y 0).val = 0; omega)) rfl

theorem gain79 (y : S1x2048.Idx) : StableHlo.after hostOps7 σ (Proc.devRef .tc main_v79) y
    = rd1 (σ (Proc.devRef .tc main_arg10) : Vect 2048) (y 1).val := by
  entry_read
  refine (congrArg _ (eq_ix2 y)).trans ?_
  pointwise []
  exact rd1_idx _ _ rfl

/-! ## The tables -/

section Tables

variable (y : S128x128.Idx)

theorem cos64 : StableHlo.after hostOps0 σ (Proc.devRef .tc main_v15) y
    = still (cosT 64 (Ideal.ofBits .f32 1115684864#32)) 16384 (y 0).val (y 1).val := by
  have hy : (y 1).val < 128 := (y 1).isLt
  entry_read
  refine (congrArg _ (eq_ix2 y)).trans ?_
  pointwise []
  show _ = cosT 64 _ 16384 (y 1).val
  split_ifs <;> exact cosT_of (by omega)

theorem sin64 : StableHlo.after hostOps0 σ (Proc.devRef .tc main_v17) y
    = still (sinT 64 (Ideal.ofBits .f32 1115684864#32)) 16384 (y 0).val (y 1).val := by
  have hy : (y 1).val < 128 := (y 1).isLt
  entry_read
  refine (congrArg _ (eq_ix2 y)).trans ?_
  pointwise []
  show _ = sinT 64 _ 16384 (y 1).val
  split_ifs <;> first | exact sinT_neg (by omega) (by omega) | exact sinT_pos (by omega) (by omega)

theorem cosHalf : StableHlo.after hostOps0 σ (Proc.devRef .tc main_v36) y
    = still (cosI (Ideal.ofBits .f32 1107296256#32)) 16384 (y 0).val (y 1).val := by
  have hy : (y 1).val < 128 := (y 1).isLt
  entry_read
  refine (congrArg _ (eq_ix2 y)).trans ?_
  pointwise []
  show _ = cosI _ 16384 (y 1).val
  unfold cosI
  split_ifs <;> first | exact cosT_of (by omega) | rfl

theorem sinHalf : StableHlo.after hostOps0 σ (Proc.devRef .tc main_v38) y
    = still (sinI (Ideal.ofBits .f32 1107296256#32)) 16384 (y 0).val (y 1).val := by
  have hy : (y 1).val < 128 := (y 1).isLt
  entry_read
  refine (congrArg _ (eq_ix2 y)).trans ?_
  pointwise []
  show _ = sinI _ 16384 (y 1).val
  unfold sinI
  split_ifs <;> first | exact sinT_neg (by omega) (by omega) | exact sinT_pos (by omega) (by omega) | rfl

end Tables

end Cert.KernelSIdeal.Final

end
-- ==== Proof.RefS.lean ====
/- The results of the samples' reference: the projections of both mixers, and the last residual stream's norm. -/
module

public import proofs.«01_k».proof.Proof.Gen.ReferenceSIdeal.Read
public import proofs.«01_k».proof.Proof.Still

@[expose] public section

set_option maxRecDepth 16384

noncomputable section

namespace Cert.ReferenceSIdeal.RefRead

open Cert.ReferenceSIdeal Cert.ReferenceSIdeal.Gen Cert.ReferenceSIdeal.Read Cert.Spec Idealize.ShloMosaic
  Idealize.ShloMosaic.Pointwise

variable (x oa ob : Mat 128 2048) (ga : Mat 1 2048) (wa : Stack 2048 5712) (woa : Stack 2048 2048) (gb : Mat 1 2048)
  (wb : Stack 2048 3136) (gk : Mat 1 512) (wob : Stack 2048 2048) (gf : Vect 2048)

/-- The normalised rows, and mixer A's columns from `off` on. -/
abbrev hid (r j : ℕ) : EReal := norm 2048 (Ideal.ofBits .f32 1157627904#32) (rd x) (rd ga 0) r j
abbrev cols (off : ℕ) : ℕ → ℕ → EReal := prod 2048 (hid x ga) fun k j => rd3 wa k (off + j)

/-- The residual stream after mixer A, its norm, mixer B's columns from `off` on, and the key's normed columns. -/
abbrev stream (r j : ℕ) : EReal := resid (rd x) (rd oa) (rd3 woa) r j
abbrev hidB (r j : ℕ) : EReal := norm 2048 (Ideal.ofBits .f32 1157627904#32) (stream x oa woa) (rd gb 0) r j
abbrev colsB (off : ℕ) : ℕ → ℕ → EReal := prod 2048 (hidB x oa woa gb) fun k j => rd3 wb k (off + j)
abbrev ck (r j : ℕ) : EReal := norm 512 (Ideal.ofBits .f32 1140850688#32) (colsB x oa woa gb wb 512) (rd gk 0) r j

/-- The norm of the residual stream after both mixers. -/
abbrev last (r j : ℕ) : EReal :=
  norm 2048 (Ideal.ofBits .f32 1157627904#32) (resid (stream x oa woa) (rd ob) (rd3 wob)) (rd1 gf) r j

/-! ## Mixer A -/

theorem hid_at (r : Fin 128) (c : Fin 2048) : val_main_v16 (F := Ideal) x ga (ix2 r c) = hid x ga r.val c.val := by
  pointwise [val_main_v3, val_main_v4, val_main_v5, val_main_v6, val_main_v7, val_main_v8, val_main_v9, val_main_v10, val_main_v11, val_main_v12, val_main_v13, val_main_v14, val_main_v15, val_main_v16, val_main_cst, val_main_cst_0, val_main_cst_1]
  have hx : ∀ j, x (ix2 r j) = rd x r.val j.val := fun j => rd_idx x _ rfl rfl
  have hg : ga (ix2 0 c) = rd ga 0 c.val := rd_idx ga _ rfl rfl
  simp only [hx, hg]
  rfl

theorem z_at (r : Fin 128) (c : Fin 5712) : val_main_v18 (F := Ideal) x ga wa (ix2 r c) = prod 2048 (hid x ga) (rd3 wa) r.val c.val := by
  rw [val_main_v18_apply]
  refine Finset.sum_congr rfl fun k _ => congrArg₂ (· * ·) ?_ ?_
  · exact (congrArg _ (by funext a; match a with | ⟨0, _⟩ => rfl | ⟨1, _⟩ => rfl)).trans (hid_at x ga r k)
  · rw [val_main_v17_apply]
    refine rd3_idx wa _ ?_ ?_
    · show (k.val * 5712 + c.val) / 5712 % 2048 = k.val
      omega
    · show (k.val * 5712 + c.val) % 5712 = c.val
      omega

theorem k_at (r : Fin 128) (c : Fin 256) : val_main_v53 (F := Ideal) x ga wa (ix2 r c)
    = roped 64 (cols x ga wa 2048) (still (cosT 64 (Ideal.ofBits .f32 1115684864#32)) 16384) (still (sinT 64 (Ideal.ofBits .f32 1115684864#32)) 16384) r.val c.val := by
  have hc := c.isLt
  have hr := r.isLt
  pointwise [val_main_v0, val_main_c, val_main_v1, val_main_v2, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_cst_2, val_main_cst_3]
  simp only [z_at]
  split_ifs
  · exact still_first (by omega) (by omega) (congrArg (prod 2048 (hid x ga) (rd3 wa) _) (by omega)) (congrArg (prod 2048 (hid x ga) (rd3 wa) _) (by omega)) (by omega)
  · exact still_second (by omega) (by omega) (congrArg (prod 2048 (hid x ga) (rd3 wa) _) (by omega)) (congrArg (prod 2048 (hid x ga) (rd3 wa) _) (by omega)) (by omega)

theorem v_at (r : Fin 128) (c : Fin 256) : val_main_v54 (F := Ideal) x ga wa (ix2 r c) = cols x ga wa 2304 r.val c.val := by
  pointwise [val_main_v54]
  exact z_at x ga wa _ _

theorem ikw_at (r : Fin 128) (c : Fin 128) : val_main_v92 (F := Ideal) x ga wa (ix2 r c)
    = roped 32 (prod 2048 (hid x ga) fun k j => if j < 80 then rd3 wa k (3584 + j) else 0) (still (cosI (Ideal.ofBits .f32 1107296256#32)) 16384)
        (still (sinI (Ideal.ofBits .f32 1107296256#32)) 16384) r.val c.val := by
  have hc := c.isLt
  have hr := r.isLt
  pointwise [val_main_v0, val_main_c, val_main_v1, val_main_v2, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_cst_4, val_main_cst_5, val_main_cst_6]
  simp only [z_at]
  split_ifs with h1 h2 h3
  · refine Eq.trans ?_ (still_low (by omega)).symm
    exact still_first (by omega) (by omega) ((congrArg (prod 2048 (hid x ga) (rd3 wa) _) (by omega)).trans (prod_padded.trans (if_pos (by omega))).symm) ((congrArg (prod 2048 (hid x ga) (rd3 wa) _) (by omega)).trans (prod_padded.trans (if_pos (by omega))).symm) (by omega)
  · refine Eq.trans ?_ (still_low (by omega)).symm
    exact still_second (by omega) (by omega) ((congrArg (prod 2048 (hid x ga) (rd3 wa) _) (by omega)).trans (prod_padded.trans (if_pos (by omega))).symm) ((congrArg (prod 2048 (hid x ga) (rd3 wa) _) (by omega)).trans (prod_padded.trans (if_pos (by omega))).symm) (by omega)
  · refine Eq.trans ?_ (still_id (by omega)).symm
    exact (congrArg (prod 2048 (hid x ga) (rd3 wa) _) (by omega)).trans (prod_padded.trans (if_pos (by omega))).symm
  · refine Eq.trans ?_ (still_id (by omega)).symm
    exact (prod_padded.trans (if_neg (by omega))).symm

/-! ## Mixer B -/

theorem stream_at (r : Fin 128) (c : Fin 2048) : val_main_v96 (F := Ideal) x oa woa (ix2 r c) = stream x oa woa r.val c.val := by
  rw [val_main_v96_apply, val_main_v95_apply]
  refine congrArg₂ (· + ·) (rd_idx x _ rfl rfl) (Finset.sum_congr rfl fun k _ => ?_)
  rw [val_main_v93_apply, val_main_v94_apply]
  refine congrArg₂ (· * ·) (rd_idx oa _ rfl rfl) (rd3_idx woa _ ?_ ?_)
  · show (k.val * 2048 + c.val) / 2048 % 2048 = k.val
    omega
  · show (k.val * 2048 + c.val) % 2048 = c.val
    omega

theorem hidB_at (r : Fin 128) (c : Fin 2048) : val_main_v110 (F := Ideal) x oa woa gb (ix2 r c) = hidB x oa woa gb r.val c.val := by
  pointwise [val_main_v97, val_main_v98, val_main_v99, val_main_v100, val_main_v101, val_main_v102, val_main_v103, val_main_v104, val_main_v105, val_main_v106, val_main_v107, val_main_v108, val_main_v109, val_main_v110, val_main_cst_7, val_main_cst_8, val_main_cst_9]
  have hg : gb (ix2 0 c) = rd gb 0 c.val := rd_idx gb _ rfl rfl
  simp only [stream_at, hg]
  rfl

theorem zB_at (r : Fin 128) (c : Fin 3136) : val_main_v112 (F := Ideal) x oa woa gb wb (ix2 r c) = prod 2048 (hidB x oa woa gb) (rd3 wb) r.val c.val := by
  rw [val_main_v112_apply]
  refine Finset.sum_congr rfl fun k _ => congrArg₂ (· * ·) ?_ ?_
  · exact (congrArg _ (by funext a; match a with | ⟨0, _⟩ => rfl | ⟨1, _⟩ => rfl)).trans (hidB_at x oa woa gb r k)
  · rw [val_main_v111_apply]
    refine rd3_idx wb _ ?_ ?_
    · show (k.val * 3136 + c.val) / 3136 % 2048 = k.val
      omega
    · show (k.val * 3136 + c.val) % 3136 = c.val
      omega

theorem ck_at (r : Fin 128) (c : Fin 512) : val_main_v127 (F := Ideal) x oa woa gb wb gk (ix2 r c) = ck x oa woa gb wb gk r.val c.val := by
  pointwise [val_main_v113, val_main_v114, val_main_v115, val_main_v116, val_main_v117, val_main_v118, val_main_v119, val_main_v120, val_main_v121, val_main_v122, val_main_v123, val_main_v124, val_main_v125, val_main_v126, val_main_v127, val_main_cst_10, val_main_cst_11, val_main_cst_12]
  have hg : gk (ix2 0 c) = rd gk 0 c.val := rd_idx gk _ rfl rfl
  simp only [zB_at, hg]
  rfl

theorem kpe_at (r : Fin 128) (c : Fin 128) : val_main_v164 (F := Ideal) x oa woa gb wb (ix2 r c)
    = roped 32 (prod 2048 (hidB x oa woa gb) fun k j => if j < 64 then rd3 wb k (1024 + j) else 0) (still (cosI (Ideal.ofBits .f32 1107296256#32)) 16384)
        (still (sinI (Ideal.ofBits .f32 1107296256#32)) 16384) r.val c.val := by
  have hc := c.isLt
  have hr := r.isLt
  pointwise [val_main_v0, val_main_c, val_main_v1, val_main_v2, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_cst_13, val_main_cst_14, val_main_cst_15]
  simp only [zB_at]
  split_ifs with h1 h2
  · refine Eq.trans ?_ (still_low (by omega)).symm
    exact still_first (by omega) (by omega) ((congrArg (prod 2048 (hidB x oa woa gb) (rd3 wb) _) (by omega)).trans (prod_padded.trans (if_pos (by omega))).symm) ((congrArg (prod 2048 (hidB x oa woa gb) (rd3 wb) _) (by omega)).trans (prod_padded.trans (if_pos (by omega))).symm) (by omega)
  · refine Eq.trans ?_ (still_low (by omega)).symm
    exact still_second (by omega) (by omega) ((congrArg (prod 2048 (hidB x oa woa gb) (rd3 wb) _) (by omega)).trans (prod_padded.trans (if_pos (by omega))).symm) ((congrArg (prod 2048 (hidB x oa woa gb) (rd3 wb) _) (by omega)).trans (prod_padded.trans (if_pos (by omega))).symm) (by omega)
  · refine Eq.trans ?_ (still_id (by omega)).symm
    exact (prod_padded.trans (if_neg (by omega))).symm

/-! ## The last norm -/

theorem sum_at (r : Fin 128) (c : Fin 2048) : val_main_v168 (F := Ideal) x oa ob woa wob (ix2 r c)
    = resid (stream x oa woa) (rd ob) (rd3 wob) r.val c.val := by
  rw [val_main_v168_apply, val_main_v167_apply]
  refine congrArg₂ (· + ·) (stream_at x oa woa r c) (Finset.sum_congr rfl fun k _ => ?_)
  rw [val_main_v165_apply, val_main_v166_apply]
  refine congrArg₂ (· * ·) (rd_idx ob _ rfl rfl) (rd3_idx wob _ ?_ ?_)
  · show (k.val * 2048 + c.val) / 2048 % 2048 = k.val
    omega
  · show (k.val * 2048 + c.val) % 2048 = c.val
    omega

theorem last_at (r : Fin 128) (c : Fin 2048) : val_main_v181 (F := Ideal) x oa ob woa wob gf (ix2 r c) = last x oa ob woa wob gf r.val c.val := by
  pointwise [val_main_v169, val_main_v170, val_main_v171, val_main_v172, val_main_v173, val_main_v174, val_main_v175, val_main_v176, val_main_v177, val_main_v178, val_main_v179, val_main_v180, val_main_v181, val_main_cst_16, val_main_cst_17, val_main_cst_18]
  have hg : gf (ix1 c) = rd1 gf c.val := rd1_idx gf _ rfl
  simp only [sum_at, hg]
  rfl

end Cert.ReferenceSIdeal.RefRead

end
-- ==== Proof.ContentsS.lean ====
/- The contents of the samples' result arrays after the run, from the launch memory. -/
module

public import proofs.«01_k».proof.Proof.RegionsS
public import proofs.«01_k».proof.Proof.HostS
public import proofs.«01_k».proof.Proof.RefS

@[expose] public section

set_option maxRecDepth 16384

noncomputable section

namespace Cert.KernelSIdeal.Final

open Cert.KernelSIdeal Cert.KernelSIdeal.Gen Cert.Spec Cert.ReferenceSIdeal.RefRead Idealize.ShloMosaic
  Idealize.ShloMosaic.TcCoe Idealize.ShloMosaic.Pointwise Idealize.SL.Sem

attribute [local instance] Cert.KernelSIdeal.Gen.facts

variable (m : (ℓ : Loc nD τ sig) → Buf (Elt Ideal) ℓ) (ρ : Dev nD → PrngReg) (c : Dev nD)

/-- The samples' rows, both attentions' gated rows, the gains and the weights as the launch memory holds them. -/
abbrev rows : Mat 128 2048 := m ((c : Thread nD τ).loc main_arg0)
abbrev heads_a : Mat 128 2048 := m ((c : Thread nD τ).loc main_arg1)
abbrev heads_b : Mat 128 2048 := m ((c : Thread nD τ).loc main_arg2)
abbrev gains_a : Mat 1 2048 := m ((c : Thread nD τ).loc main_arg3)
abbrev projs_a : Stack 2048 5712 := m ((c : Thread nD τ).loc main_arg4)
abbrev out_a : Stack 2048 2048 := m ((c : Thread nD τ).loc main_arg5)
abbrev gains_b : Mat 1 2048 := m ((c : Thread nD τ).loc main_arg6)
abbrev projs_b : Stack 2048 3136 := m ((c : Thread nD τ).loc main_arg7)
abbrev gains_k : Mat 1 512 := m ((c : Thread nD τ).loc main_arg8)
abbrev out_b : Stack 2048 2048 := m ((c : Thread nD τ).loc main_arg9)
abbrev gains_out : Vect 2048 := m ((c : Thread nD τ).loc main_arg10)

/-- Mixer A's normalised rows and weights, the residual stream after mixer A with its norm, and mixer B's weights. -/
abbrev hidden_a : ℕ → ℕ → EReal := hid (rows m c) (gains_a m c)
abbrev wcols_a (off : ℕ) : ℕ → ℕ → EReal := fun k j => rd3 (projs_a m c) k (off + j)
abbrev wpad_a : ℕ → ℕ → EReal := fun k j => if j < 80 then rd3 (projs_a m c) k (3584 + j) else 0
abbrev summed : ℕ → ℕ → EReal := stream (rows m c) (heads_a m c) (out_a m c)
abbrev hidden_b : ℕ → ℕ → EReal := hidB (rows m c) (heads_a m c) (out_a m c) (gains_b m c)
abbrev wcols_b (off : ℕ) : ℕ → ℕ → EReal := fun k j => rd3 (projs_b m c) k (off + j)
abbrev wpad_b : ℕ → ℕ → EReal := fun k j => if j < 64 then rd3 (projs_b m c) k (1024 + j) else 0

/-- The four tables at the samples' position. -/
abbrev cos_all : ℕ → ℕ → EReal := still (cosT 64 (Ideal.ofBits .f32 1115684864#32)) 16384
abbrev sin_all : ℕ → ℕ → EReal := still (sinT 64 (Ideal.ofBits .f32 1115684864#32)) 16384
abbrev cos_low : ℕ → ℕ → EReal := still (cosI (Ideal.ofBits .f32 1107296256#32)) 16384
abbrev sin_low : ℕ → ℕ → EReal := still (sinI (Ideal.ofBits .f32 1107296256#32)) 16384

/-! ## The arrays the calls read, as the first host operations leave them -/

/-- What the host operations after the first ones leave as it was. -/
theorem first5 (r : Ref sig .tc) (h2 : r ∉ hostOps0_1_W) (h3 : r ∉ hostOps0_2_W) (h4 : r ∉ hostOps0_3_W) (h5 : r ∉ hostOps0_4_W) :
    W5 m ρ c (Proc.devRef .tc r) = W1 m ρ c (Proc.devRef .tc r) :=
  (W5_of m ρ c r h5).trans ((W4_of m ρ c r h4).trans ((W3_of m ρ c r h3).trans (W2_of m ρ c r h2)))

theorem table15 (y : S128x128.Idx) : W5 m ρ c (Proc.devRef .tc main_v15) y = cos_all (y 0).val (y 1).val :=
  (congrFun (first5 m ρ c main_v15 (by decide) (by decide) (by decide) (by decide)) y).trans (cos64 (W0 m ρ c) y)

theorem table17 (y : S128x128.Idx) : W5 m ρ c (Proc.devRef .tc main_v17) y = sin_all (y 0).val (y 1).val :=
  (congrFun (first5 m ρ c main_v17 (by decide) (by decide) (by decide) (by decide)) y).trans (sin64 (W0 m ρ c) y)

theorem table36 (y : S128x128.Idx) : W5 m ρ c (Proc.devRef .tc main_v36) y = cos_low (y 0).val (y 1).val :=
  (congrFun (first5 m ρ c main_v36 (by decide) (by decide) (by decide) (by decide)) y).trans (cosHalf (W0 m ρ c) y)

theorem table38 (y : S128x128.Idx) : W5 m ρ c (Proc.devRef .tc main_v38) y = sin_low (y 0).val (y 1).val :=
  (congrFun (first5 m ρ c main_v38 (by decide) (by decide) (by decide) (by decide)) y).trans (sinHalf (W0 m ρ c) y)

theorem weights50 (y : S2048x256.Idx) : W5 m ρ c (Proc.devRef .tc main_v50) y = wcols_a m c 2048 (y 0).val (y 1).val :=
  (congrFun ((W5_of m ρ c main_v50 (by decide)).trans (W4_of m ρ c main_v50 (by decide))) y).trans ((cast50 (W2 m ρ c) y).trans
    ((congrFun (W2_of m ρ c main_v41 (by decide)) y).trans
      ((slice41 (W0 m ρ c) y).trans (congrArg (fun A : Stack 2048 5712 => rd3 A _ _) (W0_args m ρ c main_arg4 (by decide))))))

theorem weights51 (y : S2048x256.Idx) : W5 m ρ c (Proc.devRef .tc main_v51) y = wcols_a m c 2304 (y 0).val (y 1).val :=
  (congrFun ((W5_of m ρ c main_v51 (by decide)).trans (W4_of m ρ c main_v51 (by decide))) y).trans ((cast51 (W2 m ρ c) y).trans
    ((congrFun (W2_of m ρ c main_v42 (by decide)) y).trans
      ((slice42 (W0 m ρ c) y).trans (congrArg (fun A : Stack 2048 5712 => rd3 A _ _) (W0_args m ρ c main_arg4 (by decide))))))

theorem weights53 (y : S2048x128.Idx) : W5 m ρ c (Proc.devRef .tc main_v53) y = wpad_a m c (y 0).val (y 1).val :=
  (congrFun ((W5_of m ρ c main_v53 (by decide)).trans (W4_of m ρ c main_v53 (by decide))) y).trans ((cast53 (W2 m ρ c) y).trans
    (padded (W1 m ρ c) (rd3 (projs_a m c)) (padding (W0 m ρ c)) (fun z =>
      (slice47 (W0 m ρ c) z).trans (congrArg (fun A : Stack 2048 5712 => rd3 A _ _) (W0_args m ρ c main_arg4 (by decide)))) y))

theorem weights60 (y : S2048x512.Idx) : W5 m ρ c (Proc.devRef .tc main_v60) y = wcols_b m c 512 (y 0).val (y 1).val :=
  (cast60 (W4 m ρ c) y).trans ((congrFun (W4_of m ρ c main_v56 (by decide)) y).trans
    ((slice56 (W2 m ρ c) y).trans (congrArg (fun A : Stack 2048 3136 => rd3 A _ _) (W2_args m ρ c main_arg7 (by decide)))))

theorem weights61 (y : S2048x128.Idx) : W5 m ρ c (Proc.devRef .tc main_v61) y = wpad_b m c (y 0).val (y 1).val :=
  (cast61 (W4 m ρ c) y).trans
    (padded_key (W3 m ρ c) (rd3 (projs_b m c)) (padding_key (W2 m ρ c)) (fun z =>
      (slice58 (W2 m ρ c) z).trans (congrArg (fun A : Stack 2048 3136 => rd3 A _ _) (W2_args m ρ c main_arg7 (by decide)))) y)

theorem gains63 (y : S1x2048.Idx) : W5 m ρ c (Proc.devRef .tc main_v63) y = rd (gains_a m c) 0 (y 1).val :=
  (gain63 (W4 m ρ c) y).trans (congrArg (fun A : Mat 1 2048 => rd A _ _) (W4_args m ρ c main_arg3 (by decide)))

/-! ## What a later call finds is what the first one found -/

/-- The tables and weights that the calls read. -/
abbrev kept : List (Ref sig .tc) := [main_v15, main_v17, main_v36, main_v38, main_v50, main_v51, main_v53, main_v60, main_v61]

theorem keeps6 : ∀ r ∈ kept, ∀ w : Fin cfg0.W, Pipeline.arrRef spec0 w = r → (cfg0.win w).isOut = false :=
  ListAll.forall_mem_of_all_decide (by decide +kernel)
theorem keeps7 : ∀ r ∈ kept, ∀ w : Fin cfg1.W, Pipeline.arrRef spec1 w = r → (cfg1.win w).isOut = false :=
  ListAll.forall_mem_of_all_decide (by decide +kernel)
theorem keeps8 : ∀ r ∈ kept, ∀ w : Fin cfg2.W, Pipeline.arrRef spec2 w = r → (cfg2.win w).isOut = false :=
  ListAll.forall_mem_of_all_decide (by decide +kernel)
theorem keeps9 : ∀ r ∈ kept, ∀ w : Fin cfg3.W, Pipeline.arrRef spec3 w = r → (cfg3.win w).isOut = false :=
  ListAll.forall_mem_of_all_decide (by decide +kernel)
theorem keeps10 : ∀ r ∈ kept, r ∉ hostOps4_W := ListAll.forall_mem_of_all_decide (by decide +kernel)
theorem keeps11 : ∀ r ∈ kept, ∀ w : Fin cfg4.W, Pipeline.arrRef spec4 w = r → (cfg4.win w).isOut = false :=
  ListAll.forall_mem_of_all_decide (by decide +kernel)
theorem keeps12 : ∀ r ∈ kept, r ∉ hostOps5_W := ListAll.forall_mem_of_all_decide (by decide +kernel)
theorem keeps13 : ∀ r ∈ kept, ∀ w : Fin cfg5.W, Pipeline.arrRef spec5 w = r → (cfg5.win w).isOut = false :=
  ListAll.forall_mem_of_all_decide (by decide +kernel)

theorem at6 (r : Ref sig .tc) (h : r ∈ kept) : W6 m ρ c (Proc.devRef .tc r) = W5 m ρ c (Proc.devRef .tc r) :=
  W6_of m ρ c r (keeps6 r h)
theorem at7 (r : Ref sig .tc) (h : r ∈ kept) : W7 m ρ c (Proc.devRef .tc r) = W5 m ρ c (Proc.devRef .tc r) :=
  (W7_of m ρ c r (keeps7 r h)).trans (at6 m ρ c r h)
theorem at8 (r : Ref sig .tc) (h : r ∈ kept) : W8 m ρ c (Proc.devRef .tc r) = W5 m ρ c (Proc.devRef .tc r) :=
  (W8_of m ρ c r (keeps8 r h)).trans (at7 m ρ c r h)
theorem at9 (r : Ref sig .tc) (h : r ∈ kept) : W9 m ρ c (Proc.devRef .tc r) = W5 m ρ c (Proc.devRef .tc r) :=
  (W9_of m ρ c r (keeps9 r h)).trans (at8 m ρ c r h)
theorem at10 (r : Ref sig .tc) (h : r ∈ kept) : W10 m ρ c (Proc.devRef .tc r) = W5 m ρ c (Proc.devRef .tc r) :=
  (W10_of m ρ c r (keeps10 r h)).trans (at9 m ρ c r h)
theorem at11 (r : Ref sig .tc) (h : r ∈ kept) : W11 m ρ c (Proc.devRef .tc r) = W5 m ρ c (Proc.devRef .tc r) :=
  (W11_of m ρ c r (keeps11 r h)).trans (at10 m ρ c r h)
theorem at12 (r : Ref sig .tc) (h : r ∈ kept) : W12 m ρ c (Proc.devRef .tc r) = W5 m ρ c (Proc.devRef .tc r) :=
  (W12_of m ρ c r (keeps12 r h)).trans (at11 m ρ c r h)
theorem at13 (r : Ref sig .tc) (h : r ∈ kept) : W13 m ρ c (Proc.devRef .tc r) = W5 m ρ c (Proc.devRef .tc r) :=
  (W13_of m ρ c r (keeps13 r h)).trans (at12 m ρ c r h)

/-! ## Mixer A's projections -/

theorem hidden6 : W6 m ρ c (Proc.devRef .tc main_v64) = fun y : S128x2048.Idx => hidden_a m c (y 0).val (y 1).val :=
  (W6_arr m ρ c 2).trans
    (final0 (V5 m ρ) c (rd (rows m c)) (rd (gains_a m c) 0)
      (fun z => (congrFun (W5_args m ρ c main_arg0 (by decide)) z).trans (rd_idx (rows m c) z rfl rfl))
      (fun z => gains63 m ρ c z))

theorem key_out : W16 m ρ c (Proc.devRef .tc main_v65_0) = fun y : S128x256.Idx => roped 64 (prod 2048 (hidden_a m c) (wcols_a m c 2048)) cos_all sin_all (y 0).val (y 1).val :=
  (((W16_of m ρ c main_v65_0 (by decide +kernel)).trans ((W15_of m ρ c main_v65_0 (by decide +kernel)).trans ((W14_of m ρ c main_v65_0 (by decide +kernel)).trans ((W13_of m ρ c main_v65_0 (by decide +kernel)).trans ((W12_of m ρ c main_v65_0 (by decide +kernel)).trans ((W11_of m ρ c main_v65_0 (by decide +kernel)).trans ((W10_of m ρ c main_v65_0 (by decide +kernel)).trans ((W9_of m ρ c main_v65_0 (by decide +kernel)).trans (W8_of m ρ c main_v65_0 (by decide +kernel)))))))))).trans (W7_arr m ρ c 4)).trans
    (final1 (V6 m ρ) c (hidden_a m c) (wcols_a m c 2048) cos_all sin_all
      (fun z => congrFun (hidden6 m ρ c) z)
      (fun z => (congrFun (at6 m ρ c main_v50 (by decide)) z).trans (weights50 m ρ c z))
      (fun z => (congrFun (at6 m ρ c main_v15 (by decide)) z).trans (table15 m ρ c z))
      (fun z => (congrFun (at6 m ρ c main_v17 (by decide)) z).trans (table17 m ρ c z)))

theorem value_out : W16 m ρ c (Proc.devRef .tc main_v66_0) = fun y : S128x256.Idx => prod 2048 (hidden_a m c) (wcols_a m c 2304) (y 0).val (y 1).val :=
  (((W16_of m ρ c main_v66_0 (by decide +kernel)).trans ((W15_of m ρ c main_v66_0 (by decide +kernel)).trans ((W14_of m ρ c main_v66_0 (by decide +kernel)).trans ((W13_of m ρ c main_v66_0 (by decide +kernel)).trans ((W12_of m ρ c main_v66_0 (by decide +kernel)).trans ((W11_of m ρ c main_v66_0 (by decide +kernel)).trans ((W10_of m ρ c main_v66_0 (by decide +kernel)).trans (W9_of m ρ c main_v66_0 (by decide +kernel))))))))).trans (W8_arr m ρ c 2)).trans
    (final2 (V7 m ρ) c (hidden_a m c) (wcols_a m c 2304)
      (fun z => (congrFun (W7_of m ρ c main_v64 (by decide +kernel)) z).trans (congrFun (hidden6 m ρ c) z))
      (fun z => (congrFun (at7 m ρ c main_v51 (by decide)) z).trans (weights51 m ρ c z)))

theorem index_out : W16 m ρ c (Proc.devRef .tc main_v67) = fun y : S128x128.Idx => roped 32 (prod 2048 (hidden_a m c) (wpad_a m c)) cos_low sin_low (y 0).val (y 1).val :=
  (((W16_of m ρ c main_v67 (by decide +kernel)).trans ((W15_of m ρ c main_v67 (by decide +kernel)).trans ((W14_of m ρ c main_v67 (by decide +kernel)).trans ((W13_of m ρ c main_v67 (by decide +kernel)).trans ((W12_of m ρ c main_v67 (by decide +kernel)).trans ((W11_of m ρ c main_v67 (by decide +kernel)).trans (W10_of m ρ c main_v67 (by decide +kernel)))))))).trans (W9_arr m ρ c 4)).trans
    (final3 (V8 m ρ) c (hidden_a m c) (wpad_a m c) cos_low sin_low
      (fun z => (congrFun ((W8_of m ρ c main_v64 (by decide +kernel)).trans (W7_of m ρ c main_v64 (by decide +kernel))) z).trans (congrFun (hidden6 m ρ c) z))
      (fun z => (congrFun (at8 m ρ c main_v53 (by decide)) z).trans (weights53 m ρ c z))
      (fun z => (congrFun (at8 m ρ c main_v36 (by decide)) z).trans (table36 m ρ c z))
      (fun z => (congrFun (at8 m ρ c main_v38 (by decide)) z).trans (table38 m ρ c z)))

/-! ## The residual stream after mixer A -/

theorem out69 (y : S2048x2048.Idx) : W10 m ρ c (Proc.devRef .tc main_v69) y = rd3 (out_a m c) (y 0).val (y 1).val :=
  (weight69 (W9 m ρ c) y).trans (congrArg (fun A : Stack 2048 2048 => rd3 A _ _) (W9_args m ρ c main_arg5 (by decide)))

theorem gains71 (y : S1x2048.Idx) : W10 m ρ c (Proc.devRef .tc main_v71) y = rd (gains_b m c) 0 (y 1).val :=
  (gain71 (W9 m ρ c) y).trans (congrArg (fun A : Mat 1 2048 => rd A _ _) (W9_args m ρ c main_arg6 (by decide)))

theorem stream11 : W11 m ρ c (Proc.devRef .tc main_v72_0) = fun y : S128x2048.Idx => summed m c (y 0).val (y 1).val :=
  (W11_arr m ρ c 4).trans
    (final4 (V10 m ρ) c (rd (rows m c)) (rd (heads_a m c)) (rd3 (out_a m c))
      (fun z => (congrFun (W10_args m ρ c main_arg0 (by decide)) z).trans (rd_idx (rows m c) z rfl rfl))
      (fun z => (congrFun (W10_args m ρ c main_arg1 (by decide)) z).trans (rd_idx (heads_a m c) z rfl rfl))
      (fun z => out69 m ρ c z))

theorem hidden11 : W11 m ρ c (Proc.devRef .tc main_v72_1) = fun y : S128x2048.Idx => hidden_b m c (y 0).val (y 1).val :=
  (W11_arr m ρ c 5).trans
    (final4_norm (V10 m ρ) c (rd (rows m c)) (rd (heads_a m c)) (rd3 (out_a m c)) (rd (gains_b m c) 0)
      (fun z => (congrFun (W10_args m ρ c main_arg0 (by decide)) z).trans (rd_idx (rows m c) z rfl rfl))
      (fun z => (congrFun (W10_args m ρ c main_arg1 (by decide)) z).trans (rd_idx (heads_a m c) z rfl rfl))
      (fun z => out69 m ρ c z)
      (fun z => gains71 m ρ c z))

/-! ## Mixer B's projections and the result -/

theorem gains74 (y : S1x512.Idx) : W12 m ρ c (Proc.devRef .tc main_v74) y = rd (gains_k m c) 0 (y 1).val :=
  (gain74 (W11 m ρ c) y).trans (congrArg (fun A : Mat 1 512 => rd A _ _) (W11_args m ρ c main_arg8 (by decide)))

theorem latent_out : W16 m ρ c (Proc.devRef .tc main_v75_0) = fun y : S128x512.Idx => ck (rows m c) (heads_a m c) (out_a m c) (gains_b m c) (projs_b m c) (gains_k m c) (y 0).val (y 1).val :=
  (((W16_of m ρ c main_v75_0 (by decide +kernel)).trans ((W15_of m ρ c main_v75_0 (by decide +kernel)).trans (W14_of m ρ c main_v75_0 (by decide +kernel)))).trans (W13_arr m ρ c 3)).trans
    (final5 (V12 m ρ) c (hidden_b m c) (wcols_b m c 512) (rd (gains_k m c) 0)
      (fun z => (congrFun (W12_of m ρ c main_v72_1 (by decide +kernel)) z).trans (congrFun (hidden11 m ρ c) z))
      (fun z => (congrFun (at12 m ρ c main_v60 (by decide)) z).trans (weights60 m ρ c z))
      (fun z => gains74 m ρ c z))

theorem turned_out : W16 m ρ c (Proc.devRef .tc main_v76_0) = fun y : S128x128.Idx => roped 32 (prod 2048 (hidden_b m c) (wpad_b m c)) cos_low sin_low (y 0).val (y 1).val :=
  (((W16_of m ρ c main_v76_0 (by decide +kernel)).trans (W15_of m ρ c main_v76_0 (by decide +kernel))).trans (W14_arr m ρ c 4)).trans
    (final6 (V13 m ρ) c (hidden_b m c) (wpad_b m c) cos_low sin_low
      (fun z => (congrFun ((W13_of m ρ c main_v72_1 (by decide +kernel)).trans (W12_of m ρ c main_v72_1 (by decide +kernel))) z).trans (congrFun (hidden11 m ρ c) z))
      (fun z => (congrFun (at13 m ρ c main_v61 (by decide)) z).trans (weights61 m ρ c z))
      (fun z => (congrFun (at13 m ρ c main_v36 (by decide)) z).trans (table36 m ρ c z))
      (fun z => (congrFun (at13 m ρ c main_v38 (by decide)) z).trans (table38 m ρ c z)))

theorem out78 (y : S2048x2048.Idx) : W15 m ρ c (Proc.devRef .tc main_v78) y = rd3 (out_b m c) (y 0).val (y 1).val :=
  (weight78 (W14 m ρ c) y).trans (congrArg (fun A : Stack 2048 2048 => rd3 A _ _) (W14_args m ρ c main_arg9 (by decide)))

theorem gains79 (y : S1x2048.Idx) : W15 m ρ c (Proc.devRef .tc main_v79) y = rd1 (gains_out m c) (y 1).val :=
  (gain79 (W14 m ρ c) y).trans (congrArg (fun A : Vect 2048 => rd1 A _) (W14_args m ρ c main_arg10 (by decide)))

theorem last_out : W16 m ρ c (Proc.devRef .tc main_v80) = fun y : S128x2048.Idx => last (rows m c) (heads_a m c) (heads_b m c) (out_a m c) (out_b m c) (gains_out m c) (y 0).val (y 1).val :=
  (W16_arr m ρ c 4).trans
    (final7 (V15 m ρ) c (summed m c) (rd (heads_b m c)) (rd3 (out_b m c)) (rd1 (gains_out m c))
      (fun z => (congrFun ((W15_of m ρ c main_v72_0 (by decide +kernel)).trans ((W14_of m ρ c main_v72_0 (by decide +kernel)).trans ((W13_of m ρ c main_v72_0 (by decide +kernel)).trans (W12_of m ρ c main_v72_0 (by decide +kernel))))) z).trans (congrFun (stream11 m ρ c) z))
      (fun z => (congrFun (W15_args m ρ c main_arg2 (by decide)) z).trans (rd_idx (heads_b m c) z rfl rfl))
      (fun z => out78 m ρ c z)
      (fun z => gains79 m ρ c z))

end Cert.KernelSIdeal.Final

end
-- ==== Proof.RunS.lean ====
/- The samples' projections and result: the run of the kernel and of the reference, and the claims about them. -/
module

public import proofs.«01_k».proof.Defs
public import proofs.«01_k».proof.Proof.Gen.KernelS
public import proofs.«01_k».proof.Proof.Gen.ReferenceSIdeal.Run
public import proofs.«01_k».proof.Proof.ContentsS
public import Idealize.ShloMosaic.Lib.Claim
public import Idealize.ShloMosaic.Lib.Quiescent

@[expose] public section

set_option maxRecDepth 16384

noncomputable section

namespace Cert.KernelSIdeal.Final

open Cert.KernelSIdeal Cert.KernelSIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local instance] Cert.KernelSIdeal.Gen.facts

variable {F : FTy → Type} [FloatOps F] (m : (ℓ : Loc nD τ sig) → Buf (Elt F) ℓ) (ρ : Dev nD → PrngReg)

set_option backward.isDefEq.respectTransparency.types false in
/-- The run ends with every unscoped buffer at the contents after the last region. -/
theorem run_contents : θ_run defs (onTc (τ := τ) (main (F := F))) ⟨m, fun _ => 0, ρ⟩ (fun r =>
      ∀ c : Dev nD, ∀ b ∈ Pipeline.ucRefs τ sig, r.2.mem (((c : Thread nD τ)).1, b) = W16 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => h)

end Cert.KernelSIdeal.Final

namespace Cert.Samples

open Idealize.ShloMosaic Idealize.ShloMosaic.TcCoe Idealize.ShloMosaic.Pointwise Idealize.SL.Sem
open Cert.KernelSIdeal.Final Cert.KernelSIdeal.Gen Cert.Spec Cert.ReferenceSIdeal.RefRead

attribute [local instance] Cert.KernelS.Gen.facts Cert.KernelSIdeal.Gen.facts Cert.ReferenceSIdeal.Gen.facts

theorem frame_reference : Cert.quiescent_ReferenceSIdeal := fun m g _ =>
  (θ_run _ _ _).mono (fun r h => ⟨fun c => (h c).2.2.2.2.2.2, sem_eq_zero_of_no_sems (by decide) r.2⟩)
    (Cert.ReferenceSIdeal.Value.run (F := Ideal) m g)

/-- Both runs end at the same result and the same projections of both mixers. -/
theorem algebraic : Cert.algebraic_KernelSIdeal_ReferenceSIdeal := by
  intro m g m' g' hpre hagree
  refine ⟨fun c => W16 m g c (Proc.devRef .tc Cert.KernelSIdeal.main_v80),
    fun c => W16 m g c (Proc.devRef .tc Cert.KernelSIdeal.main_v65_0),
    fun c => W16 m g c (Proc.devRef .tc Cert.KernelSIdeal.main_v66_0),
    fun c => W16 m g c (Proc.devRef .tc Cert.KernelSIdeal.main_v67),
    fun c => W16 m g c (Proc.devRef .tc Cert.KernelSIdeal.main_v75_0),
    fun c => W16 m g c (Proc.devRef .tc Cert.KernelSIdeal.main_v76_0), ?_, ?_⟩
  · refine (θ_run _ _ _).mono (fun r h c => ?_) (run_contents (F := Ideal) m g)
    exact ⟨h c _ (mem_uc _ (by decide)), h c _ (mem_uc _ (by decide)), h c _ (mem_uc _ (by decide)), h c _ (mem_uc _ (by decide)), h c _ (mem_uc _ (by decide)), h c _ (mem_uc _ (by decide)),
      (h c _ (mem_uc Cert.KernelSIdeal.main_arg0 (by decide))).trans (W16_main_arg0 m g c),
      (h c _ (mem_uc Cert.KernelSIdeal.main_arg1 (by decide))).trans (W16_main_arg1 m g c),
      (h c _ (mem_uc Cert.KernelSIdeal.main_arg2 (by decide))).trans (W16_main_arg2 m g c),
      (h c _ (mem_uc Cert.KernelSIdeal.main_arg3 (by decide))).trans (W16_main_arg3 m g c),
      (h c _ (mem_uc Cert.KernelSIdeal.main_arg4 (by decide))).trans (W16_main_arg4 m g c),
      (h c _ (mem_uc Cert.KernelSIdeal.main_arg5 (by decide))).trans (W16_main_arg5 m g c),
      (h c _ (mem_uc Cert.KernelSIdeal.main_arg6 (by decide))).trans (W16_main_arg6 m g c),
      (h c _ (mem_uc Cert.KernelSIdeal.main_arg7 (by decide))).trans (W16_main_arg7 m g c),
      (h c _ (mem_uc Cert.KernelSIdeal.main_arg8 (by decide))).trans (W16_main_arg8 m g c),
      (h c _ (mem_uc Cert.KernelSIdeal.main_arg9 (by decide))).trans (W16_main_arg9 m g c),
      (h c _ (mem_uc Cert.KernelSIdeal.main_arg10 (by decide))).trans (W16_main_arg10 m g c)⟩
  · refine (θ_run _ _ _).mono (fun r h c => ?_) (Cert.ReferenceSIdeal.Value.run (F := Ideal) m' g')
    obtain ⟨h0, h1, h2, h3, h4, h5, hargs⟩ := h c
    obtain ⟨g0, g1, g2, g3, g4, g5, g6, g7, g8, g9, g10⟩ := hagree c
    have a0 : StableHlo.launchContents m' c (Proc.devRef .tc Cert.ReferenceSIdeal.main_arg0) = rows m c := g0
    have a1 : StableHlo.launchContents m' c (Proc.devRef .tc Cert.ReferenceSIdeal.main_arg1) = heads_a m c := g1
    have a2 : StableHlo.launchContents m' c (Proc.devRef .tc Cert.ReferenceSIdeal.main_arg2) = heads_b m c := g2
    have a3 : StableHlo.launchContents m' c (Proc.devRef .tc Cert.ReferenceSIdeal.main_arg3) = gains_a m c := g3
    have a4 : StableHlo.launchContents m' c (Proc.devRef .tc Cert.ReferenceSIdeal.main_arg4) = projs_a m c := g4
    have a5 : StableHlo.launchContents m' c (Proc.devRef .tc Cert.ReferenceSIdeal.main_arg5) = out_a m c := g5
    have a6 : StableHlo.launchContents m' c (Proc.devRef .tc Cert.ReferenceSIdeal.main_arg6) = gains_b m c := g6
    have a7 : StableHlo.launchContents m' c (Proc.devRef .tc Cert.ReferenceSIdeal.main_arg7) = projs_b m c := g7
    have a8 : StableHlo.launchContents m' c (Proc.devRef .tc Cert.ReferenceSIdeal.main_arg8) = gains_k m c := g8
    have a9 : StableHlo.launchContents m' c (Proc.devRef .tc Cert.ReferenceSIdeal.main_arg9) = out_b m c := g9
    have a10 : StableHlo.launchContents m' c (Proc.devRef .tc Cert.ReferenceSIdeal.main_arg10) = gains_out m c := g10
    refine ⟨h0.trans ?_, h1.trans ?_, h2.trans ?_, h3.trans ?_, h4.trans ?_, h5.trans ?_, hargs⟩
    · refine (Cert.ReferenceSIdeal.Read.val_main_v181_eq _).trans ?_
      rw [a0, a1, a2, a5, a9, a10]
      refine Eq.trans ?_ (last_out m g c).symm
      funext y
      exact (congrArg _ (eq_ix2 y)).trans (last_at (rows m c) (heads_a m c) (heads_b m c) (out_a m c) (out_b m c) (gains_out m c) (y 0) (y 1))
    · refine (Cert.ReferenceSIdeal.Read.val_main_v53_eq _).trans ?_
      rw [a0, a3, a4]
      refine Eq.trans ?_ (key_out m g c).symm
      funext y
      exact (congrArg _ (eq_ix2 y)).trans (k_at (rows m c) (gains_a m c) (projs_a m c) (y 0) (y 1))
    · refine (Cert.ReferenceSIdeal.Read.val_main_v54_eq _).trans ?_
      rw [a0, a3, a4]
      refine Eq.trans ?_ (value_out m g c).symm
      funext y
      exact (congrArg _ (eq_ix2 y)).trans (v_at (rows m c) (gains_a m c) (projs_a m c) (y 0) (y 1))
    · refine (Cert.ReferenceSIdeal.Read.val_main_v92_eq _).trans ?_
      rw [a0, a3, a4]
      refine Eq.trans ?_ (index_out m g c).symm
      funext y
      exact (congrArg _ (eq_ix2 y)).trans (ikw_at (rows m c) (gains_a m c) (projs_a m c) (y 0) (y 1))
    · refine (Cert.ReferenceSIdeal.Read.val_main_v127_eq _).trans ?_
      rw [a0, a1, a5, a6, a7, a8]
      refine Eq.trans ?_ (latent_out m g c).symm
      funext y
      exact (congrArg _ (eq_ix2 y)).trans (ck_at (rows m c) (heads_a m c) (out_a m c) (gains_b m c) (projs_b m c) (gains_k m c) (y 0) (y 1))
    · refine (Cert.ReferenceSIdeal.Read.val_main_v164_eq _).trans ?_
      rw [a0, a1, a5, a6, a7]
      refine Eq.trans ?_ (turned_out m g c).symm
      funext y
      exact (congrArg _ (eq_ix2 y)).trans (kpe_at (rows m c) (heads_a m c) (out_a m c) (gains_b m c) (projs_b m c) (y 0) (y 1))

end Cert.Samples

end
-- ==== Proof.Absorb.lean ====
/- The samples' latent heads: a head's queries taken to the latents' space, and its attention's latents taken to values and gated; the reference's two results. -/
module

public import proofs.«01_k».proof.Proof.Gen.ReferenceUIdeal.Read
public import proofs.«01_k».proof.Proof.Layer

@[expose] public section

set_option maxRecDepth 16384

noncomputable section

namespace Cert.Spec

open Idealize.ShloMosaic

/-- Column `C` is latent `C % 512` of head `C / 512`: the head's 128 query lanes against the latent's key weights. -/
def absorb (q w : ℕ → ℕ → EReal) (r C : ℕ) : EReal :=
  ∑ d : Fin 128, q r (256 * (C / 512) + d) * w (C % 512) (256 * (C / 512) + d)

/-- Column `C` is lane `C % 128` of head `C / 128`: the head's 512 latents against the lane's value weights, gated. -/
def unabsorb (o w g : ℕ → ℕ → EReal) (r C : ℕ) : EReal :=
  (∑ k : Fin 512, o r (512 * (C / 128) + k) * w k (256 * (C / 128) + 128 + C % 128)) * silu (g r C)

end Cert.Spec

namespace Cert.ReferenceUIdeal.RefRead

open Cert.ReferenceUIdeal Cert.ReferenceUIdeal.Gen Cert.ReferenceUIdeal.Read Cert.Spec Idealize.ShloMosaic
  Idealize.ShloMosaic.Pointwise

variable (q : Mat 128 4096) (o : Mat 128 8192) (w : Stack 512 4096) (g : Mat 128 2048)

theorem lanes_at (i : S128x16x128.Idx) : val_main_v6 (F := Ideal) q i = rd q (i 0).val (256 * (i 1).val + (i 2).val) := by
  have h1 : (i 1).val < 16 := (i 1).isLt
  have h2 : (i 2).val < 128 := (i 2).isLt
  rw [val_main_v6_apply, val_main_v5_apply, val_main_v4_apply]
  refine rd_idx q _ ?_ ?_
  · show (((i 0).val * 16 + (i 1).val) * 256 + (i 2).val) / 4096 = _
    omega
  · show (((i 0).val * 16 + (i 1).val) * 256 + (i 2).val) % 4096 = _
    omega

theorem latents_at (i : S128x16x512.Idx) : val_main_v11 (F := Ideal) o i = rd o (i 0).val (512 * (i 1).val + (i 2).val) := by
  have h1 : (i 1).val < 16 := (i 1).isLt
  have h2 : (i 2).val < 512 := (i 2).isLt
  rw [val_main_v11_apply, val_main_v10_apply]
  refine rd_idx o _ ?_ ?_
  · show (((i 0).val * 16 + (i 1).val) * 512 + (i 2).val) / 8192 = _
    omega
  · show (((i 0).val * 16 + (i 1).val) * 512 + (i 2).val) % 8192 = _
    omega

theorem weights_at (i : S512x16x256.Idx) : val_main_v1 (F := Ideal) w i = rd3 w (i 0).val (256 * (i 1).val + (i 2).val) := by
  have h0 : (i 0).val < 512 := (i 0).isLt
  have h1 : (i 1).val < 16 := (i 1).isLt
  have h2 : (i 2).val < 256 := (i 2).isLt
  rw [val_main_v1_apply, val_main_v0_apply]
  refine rd3_idx w _ ?_ ?_
  · show ((((i 0).val * 16 + (i 1).val) * 256 + (i 2).val) / 4096 * 4096
      + (((i 0).val * 16 + (i 1).val) * 256 + (i 2).val) % 4096) / 4096 % 512 = _
    omega
  · show ((((i 0).val * 16 + (i 1).val) * 256 + (i 2).val) / 4096 * 4096
      + (((i 0).val * 16 + (i 1).val) * 256 + (i 2).val) % 4096) % 4096 = _
    omega

theorem absorb_at (R : Fin 128) (C : Fin 8192) : val_main_v18 (F := Ideal) q w (ix2 R C) = absorb (rd q) (rd3 w) R C := by
  have hR : (R.val * 8192 + C.val) / 8192 = R.val := by omega
  have hC : (R.val * 8192 + C.val) / 512 % 16 = C.val / 512 := by omega
  have hL : (R.val * 8192 + C.val) % 512 = C.val % 512 := by omega
  rw [val_main_v18_apply, val_main_v9_apply, val_main_v8_apply, val_main_v7_apply]
  refine Finset.sum_congr rfl fun d _ => ?_
  rw [lanes_at, val_main_v2_apply, weights_at]
  refine (mul_comm _ _).trans (congrArg₂ (· * ·) ?_ ?_)
  · show rd q ((R.val * 8192 + C.val) / 8192) (256 * ((R.val * 8192 + C.val) / 512 % 16) + d.val) = _
    rw [hR, hC]
  · show rd3 w ((R.val * 8192 + C.val) % 512) (256 * ((R.val * 8192 + C.val) / 512 % 16) + d.val) = _
    rw [hL, hC]

theorem silu_at (i : S128x2048.Idx) : val_main_v16 (F := Ideal) g i = silu (g i) := by
  rw [val_main_v16_apply, val_main_call0_v5_apply, val_main_call0_v4_apply, val_main_call0_cst_0_apply,
    val_main_call0_v3_apply, val_main_call0_v2_apply, val_main_call0_cst_apply, val_main_call0_v1_apply,
    val_main_call0_v0_apply, val_main_v15_apply]
  show g i * Ideal.div (Ideal.ofBits .f32 0x3F800000#32) (Ideal.ofBits .f32 0x3F800000#32 + Ideal.exp (-(g i))) = _
  rw [Ideal.ofBits_one_f32]
  rfl

theorem unabsorb_at (R : Fin 128) (C : Fin 2048) :
    val_main_v19 (F := Ideal) o w g (ix2 R C) = unabsorb (rd o) (rd3 w) (rd g) R C := by
  have hR : (R.val * 2048 + C.val) / 2048 = R.val := by omega
  have hC : (R.val * 2048 + C.val) / 128 % 16 = C.val / 128 := by omega
  have hL : (R.val * 2048 + C.val) % 128 = C.val % 128 := by omega
  rw [val_main_v19_apply, val_main_v17_apply, silu_at, rd_of g, val_main_v14_apply, val_main_v13_apply, val_main_v12_apply]
  refine congrArg₂ (· * ·) (Finset.sum_congr rfl fun k _ => ?_) rfl
  rw [latents_at, val_main_v3_apply, weights_at]
  refine (mul_comm _ _).trans (congrArg₂ (· * ·) ?_ ?_)
  · show rd o ((R.val * 2048 + C.val) / 2048) (512 * ((R.val * 2048 + C.val) / 128 % 16) + k.val) = _
    rw [hR, hC]
  · show rd3 w k.val (256 * ((R.val * 2048 + C.val) / 128 % 16) + (128 + (R.val * 2048 + C.val) % 128)) = _
    rw [hL, hC, Nat.add_assoc]

end Cert.ReferenceUIdeal.RefRead

end
-- ==== Proof.RegionsU.lean ====
/- The samples' latent heads: the arrays the two calls leave, and the kernel's two results from the launch memory. -/
module

public import proofs.«01_k».proof.Proof.Gen.KernelUIdeal.Frame
public import proofs.«01_k».proof.Proof.Absorb
public import Idealize.ShloMosaic.Lib.Pipeline.ValueKit

@[expose] public section

set_option maxRecDepth 16384

noncomputable section

namespace Cert.KernelUIdeal.Final

open Cert.KernelUIdeal Cert.KernelUIdeal.Gen Cert.Spec Idealize.ShloMosaic
  Idealize.ShloMosaic.TcCoe Idealize.ShloMosaic.Pointwise Idealize.SL.Sem

attribute [local instance] Cert.KernelUIdeal.Gen.facts

/-! ## The blocks: one head per grid point, its key weights in the even blocks and its value weights in the odd ones -/

theorem index0_0 : ∀ t : Fin cfg0.N, win0_0.index t = ![0, 2 * t.val] := (by decide +kernel : ∀ t : Fin grid0.N, _)
theorem index0_1 : ∀ t : Fin cfg0.N, win0_1.index t = ![0, 2 * t.val] := (by decide +kernel : ∀ t : Fin grid0.N, _)
theorem index0_2 : ∀ t : Fin cfg0.N, win0_2.index t = ![0, t.val] := (by decide +kernel : ∀ t : Fin grid0.N, _)
theorem index1_0 : ∀ t : Fin cfg1.N, win1_0.index t = ![0, t.val] := (by decide +kernel : ∀ t : Fin grid1.N, _)
theorem index1_1 : ∀ t : Fin cfg1.N, win1_1.index t = ![0, 2 * t.val + 1] := (by decide +kernel : ∀ t : Fin grid1.N, _)
theorem index1_2 : ∀ t : Fin cfg1.N, win1_2.index t = ![0, t.val] := (by decide +kernel : ∀ t : Fin grid1.N, _)
theorem index1_3 : ∀ t : Fin cfg1.N, win1_3.index t = ![0, t.val] := (by decide +kernel : ∀ t : Fin grid1.N, _)

variable (V : (c : Dev nD) → (b : Ref sig .tc) → Buf (Elt Ideal) ((c : Thread nD τ).loc b)) (c : Dev nD)
  (q o w g : ℕ → ℕ → EReal)

theorem pay0 (v0 : Vec Ideal S128x128 .bf16) (v1 : Vec Ideal S512x128 .bf16) (t : ℕ)
    (h0 : ∀ i d, v0 (ix2 i d) = q i.val (256 * t + d.val)) (h1 : ∀ l d, v1 (ix2 l d) = w l.val (256 * t + d.val))
    (i : Fin 128) (j : Fin 512) : k0_pay1 (F := Ideal) v0 v1 (ix2 i j) = absorb q w i.val (t * 512 + j.val) := by
  have hj := j.isLt
  have ht : (t * 512 + j.val) / 512 = t := by omega
  have hl : (t * 512 + j.val) % 512 = j.val := by omega
  pointwise [k0_pay1]
  simp only [h0, h1]
  rw [absorb, ht, hl]

theorem final0 (hq : ∀ y, V c main_arg0 y = q (y 0).val (y 1).val) (hw : ∀ y, V c main_v1 y = w (y 0).val (y 1).val) :
    (dat0 V c).arrAt 2 cfg0.N = fun y => absorb q w (y 0).val (y 1).val := by
  refine (dat0 V c).arrAt_eq_of_covers 2 _ (by decide +kernel) fun t hf y => ?_
  blk_simp [index0_2]
  rw [after0_2]
  frame_out
  refine (congrArg _ (eq_ix2 y)).trans (pay0 q w _ _ t.val (fun i k => ?_) (fun i k => ?_) (y 0) (y 1))
  · exact (hq _).trans (congrArg₂ q (by blk_simp [index0_0]) (by blk_simp [index0_0]; omega))
  · exact (hw _).trans (congrArg₂ w (by blk_simp [index0_1]) (by blk_simp [index0_1]; omega))

theorem pay1 (v0 : Vec Ideal S128x512 .bf16) (v1 : Vec Ideal S512x128 .bf16) (v4 : Vec Ideal S128x128 .bf16) (t : ℕ)
    (h0 : ∀ i k, v0 (ix2 i k) = o i.val (512 * t + k.val)) (h1 : ∀ k j, v1 (ix2 k j) = w k.val (256 * t + 128 + j.val))
    (h4 : ∀ i j, v4 (ix2 i j) = g i.val (t * 128 + j.val)) (i : Fin 128) (j : Fin 128) :
    k1_pay1 (F := Ideal) v0 v1 v4 (ix2 i j) = unabsorb o w g i.val (t * 128 + j.val) := by
  have hj := j.isLt
  have ht : (t * 128 + j.val) / 128 = t := by omega
  have hl : (t * 128 + j.val) % 128 = j.val := by omega
  pointwise [k1_pay1]
  simp only [h0, h1, h4]
  rw [unabsorb, silu, ht, hl, sub_eq_add_neg, zero_add]

theorem final1 (ho : ∀ y, V c main_arg1 y = o (y 0).val (y 1).val) (hw : ∀ y, V c main_v1 y = w (y 0).val (y 1).val)
    (hg : ∀ y, V c main_arg3 y = g (y 0).val (y 1).val) :
    (dat1 V c).arrAt 3 cfg1.N = fun y => unabsorb o w g (y 0).val (y 1).val := by
  refine (dat1 V c).arrAt_eq_of_covers 3 _ (by decide +kernel) fun t hf y => ?_
  blk_simp [index1_3]
  rw [after1_3]
  frame_out
  refine (congrArg _ (eq_ix2 y)).trans (pay1 o w g _ _ _ t.val (fun i k => ?_) (fun i k => ?_) (fun i k => ?_) (y 0) (y 1))
  · exact (ho _).trans (congrArg₂ o (by blk_simp [index1_0]) (by blk_simp [index1_0]; omega))
  · exact (hw _).trans (congrArg₂ w (by blk_simp [index1_1]) (by blk_simp [index1_1]; omega))
  · exact (hg _).trans (congrArg₂ g (by blk_simp [index1_2]) (by blk_simp [index1_2]))

/-! ## The results from the launch memory -/

theorem cast1 (σ : Valuation τ sig (Elt Ideal)) (y : S512x4096.Idx) : StableHlo.after hostOps0 σ (Proc.devRef .tc main_v1) y
    = rd3 (σ (Proc.devRef .tc main_arg2) : Stack 512 4096) (y 0).val (y 1).val := by
  entry_read
  refine (congrArg _ (eq_ix2 y)).trans ?_
  pointwise []
  exact rd3_idx _ _ rfl rfl

section Results

variable (m : (ℓ : Loc nD τ sig) → Buf (Elt Ideal) ℓ) (ρ : Dev nD → PrngReg)

/-- The samples' queries, the attention's latents, the latents' weights and the gate as the launch memory holds them. -/
abbrev queries : Mat 128 4096 := m ((c : Thread nD τ).loc main_arg0)
abbrev latents : Mat 128 8192 := m ((c : Thread nD τ).loc main_arg1)
abbrev weights : Stack 512 4096 := m ((c : Thread nD τ).loc main_arg2)
abbrev gate : Mat 128 2048 := m ((c : Thread nD τ).loc main_arg3)

theorem weights1 (y : S512x4096.Idx) : W1 m ρ c (Proc.devRef .tc main_v1) y = rd3 (weights c m) (y 0).val (y 1).val :=
  (cast1 (W0 m ρ c) y).trans (congrArg (fun A : Stack 512 4096 => rd3 A _ _) (W0_args m ρ c main_arg2 (by decide)))

theorem absorbed_out : W3 m ρ c (Proc.devRef .tc main_v2)
    = fun y : S128x8192.Idx => absorb (rd (queries c m)) (rd3 (weights c m)) (y 0).val (y 1).val :=
  ((W3_of m ρ c main_v2 (by decide +kernel)).trans (W2_arr m ρ c 2)).trans
    (final0 (V1 m ρ) c (rd (queries c m)) (rd3 (weights c m))
      (fun z => (congrFun (W1_args m ρ c main_arg0 (by decide)) z).trans (rd_idx (queries c m) z rfl rfl))
      (fun z => weights1 c m ρ z))

theorem gated_out : W3 m ρ c (Proc.devRef .tc main_v3)
    = fun y : S128x2048.Idx => unabsorb (rd (latents c m)) (rd3 (weights c m)) (rd (gate c m)) (y 0).val (y 1).val :=
  (W3_arr m ρ c 3).trans
    (final1 (V2 m ρ) c (rd (latents c m)) (rd3 (weights c m)) (rd (gate c m))
      (fun z => (congrFun (W2_args m ρ c main_arg1 (by decide)) z).trans (rd_idx (latents c m) z rfl rfl))
      (fun z => (congrFun (W2_of m ρ c main_v1 (by decide +kernel)) z).trans (weights1 c m ρ z))
      (fun z => (congrFun (W2_args m ρ c main_arg3 (by decide)) z).trans (rd_idx (gate c m) z rfl rfl)))

end Results

end Cert.KernelUIdeal.Final

end
-- ==== Proof.RunU.lean ====
/- The samples' latent heads: the run of the kernel and of the reference, and the claims about them. -/
module

public import proofs.«01_k».proof.Defs
public import proofs.«01_k».proof.Proof.Gen.KernelU
public import proofs.«01_k».proof.Proof.Gen.ReferenceUIdeal.Run
public import proofs.«01_k».proof.Proof.RegionsU
public import Idealize.ShloMosaic.Lib.Claim
public import Idealize.ShloMosaic.Lib.Quiescent

@[expose] public section

set_option maxRecDepth 16384

noncomputable section

namespace Cert.KernelUIdeal.Final

open Cert.KernelUIdeal Cert.KernelUIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local instance] Cert.KernelUIdeal.Gen.facts

variable {F : FTy → Type} [FloatOps F] (m : (ℓ : Loc nD τ sig) → Buf (Elt F) ℓ) (ρ : Dev nD → PrngReg)

set_option backward.isDefEq.respectTransparency.types false in
/-- The run ends with every unscoped buffer at the contents after the last region. -/
theorem run_contents : θ_run defs (onTc (τ := τ) (main (F := F))) ⟨m, fun _ => 0, ρ⟩ (fun r =>
      ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Cert.KernelUIdeal.Final

namespace Cert.Absorb

open Idealize.ShloMosaic Idealize.ShloMosaic.TcCoe Idealize.ShloMosaic.Pointwise Idealize.SL.Sem
open Cert.KernelUIdeal.Final Cert.KernelUIdeal.Gen Cert.Spec Cert.ReferenceUIdeal.RefRead

attribute [local instance] Cert.KernelU.Gen.facts Cert.KernelUIdeal.Gen.facts Cert.ReferenceUIdeal.Gen.facts

theorem frame_reference : Cert.quiescent_ReferenceUIdeal := fun m g _ =>
  (θ_run _ _ _).mono (fun r h => ⟨fun c => (h c).2.2, sem_eq_zero_of_no_sems (by decide) r.2⟩)
    (Cert.ReferenceUIdeal.Value.run (F := Ideal) m g)

/-- Both runs end at the same queries in the latents' space and the same gated values. -/
theorem algebraic : Cert.algebraic_KernelUIdeal_ReferenceUIdeal := by
  intro m g m' g' hpre hagree
  refine ⟨fun c => W3 m g c (Proc.devRef .tc Cert.KernelUIdeal.main_v2),
    fun c => W3 m g c (Proc.devRef .tc Cert.KernelUIdeal.main_v3), ?_, ?_⟩
  · refine (θ_run _ _ _).mono (fun r h c => ?_) (run_contents (F := Ideal) m g)
    exact ⟨h c _ (mem_uc _ (by decide)), h c _ (mem_uc _ (by decide)),
      (h c _ (mem_uc Cert.KernelUIdeal.main_arg0 (by decide))).trans (W3_main_arg0 m g c),
      (h c _ (mem_uc Cert.KernelUIdeal.main_arg1 (by decide))).trans (W3_main_arg1 m g c),
      (h c _ (mem_uc Cert.KernelUIdeal.main_arg2 (by decide))).trans (W3_main_arg2 m g c),
      (h c _ (mem_uc Cert.KernelUIdeal.main_arg3 (by decide))).trans (W3_main_arg3 m g c)⟩
  · refine (θ_run _ _ _).mono (fun r h c => ?_) (Cert.ReferenceUIdeal.Value.run (F := Ideal) m' g')
    obtain ⟨h0, h1, hargs⟩ := h c
    obtain ⟨g0, g1, g2, g3⟩ := hagree c
    refine ⟨h0.trans ?_, h1.trans ?_, hargs⟩
    · refine (Cert.ReferenceUIdeal.Read.val_main_v18_eq _ _).trans ?_
      rw [g0, g2]
      refine Eq.trans ?_ (absorbed_out c m g).symm
      funext y
      exact (congrArg _ (eq_ix2 y)).trans (absorb_at (queries c m) (weights c m) (y 0) (y 1))
    · refine (Cert.ReferenceUIdeal.Read.val_main_v19_eq _ _ _).trans ?_
      rw [g1, g2, g3]
      refine Eq.trans ?_ (gated_out c m g).symm
      funext y
      exact (congrArg _ (eq_ix2 y)).trans (unabsorb_at (latents c m) (weights c m) (gate c m) (y 0) (y 1))

end Cert.Absorb

end
-- ==== Proof.RegionsT.lean ====
/- The arrays the samples' four calls for mixer A's queries leave, each from the arrays it is entered with: the norm and the projections. -/
module

public import proofs.«01_k».proof.Proof.Gen.KernelTIdeal.Frame
public import proofs.«01_k».proof.Proof.Still
public import Idealize.ShloMosaic.Lib.Pipeline.ValueKit

@[expose] public section

set_option maxRecDepth 16384

noncomputable section

namespace Cert.KernelTIdeal.Final

open Cert.KernelTIdeal Cert.KernelTIdeal.Gen Cert.Spec Idealize.ShloMosaic
  Idealize.ShloMosaic.TcCoe Idealize.ShloMosaic.Pointwise Idealize.SL.Sem

attribute [local instance] Cert.KernelTIdeal.Gen.facts

variable (V : (c : Dev nD) → (b : Ref sig .tc) → Buf (Elt Ideal) ((c : Thread nD τ).loc b)) (c : Dev nD)

/-! ## The blocks of each grid point -/

theorem index0_0 : ∀ t : Fin cfg0.N, win0_0.index t = ![0, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index1_0 : ∀ t : Fin cfg1.N, win1_0.index t = ![0, 0] := (by decide +kernel : ∀ t : Fin grid1.N, _)
theorem index1_1 : ∀ t : Fin cfg1.N, win1_1.index t = ![0, (grid1.coords t 0).val] := (by decide +kernel : ∀ t : Fin grid1.N, _)
theorem index1_2 : ∀ t : Fin cfg1.N, win1_2.index t = ![0, 0] := (by decide +kernel : ∀ t : Fin grid1.N, _)
theorem index1_3 : ∀ t : Fin cfg1.N, win1_3.index t = ![0, 0] := (by decide +kernel : ∀ t : Fin grid1.N, _)
theorem index1_4 : ∀ t : Fin cfg1.N, win1_4.index t = ![0, (grid1.coords t 0).val] := (by decide +kernel : ∀ t : Fin grid1.N, _)
theorem index2_0 : ∀ t : Fin cfg2.N, win2_0.index t = ![0, 0] := (by decide +kernel : ∀ t : Fin grid2.N, _)
theorem index2_1 : ∀ t : Fin cfg2.N, win2_1.index t = ![0, (grid2.coords t 0).val] := (by decide +kernel : ∀ t : Fin grid2.N, _)
theorem index2_2 : ∀ t : Fin cfg2.N, win2_2.index t = ![0, 0] := (by decide +kernel : ∀ t : Fin grid2.N, _)
theorem index2_3 : ∀ t : Fin cfg2.N, win2_3.index t = ![0, 0] := (by decide +kernel : ∀ t : Fin grid2.N, _)
theorem index2_4 : ∀ t : Fin cfg2.N, win2_4.index t = ![0, (grid2.coords t 0).val] := (by decide +kernel : ∀ t : Fin grid2.N, _)
theorem index3_0 : ∀ t : Fin cfg3.N, win3_0.index t = ![0, 0] := (by decide +kernel : ∀ t : Fin grid3.N, _)
theorem index3_1 : ∀ t : Fin cfg3.N, win3_1.index t = ![0, (grid3.coords t 0).val] := (by decide +kernel : ∀ t : Fin grid3.N, _)
theorem index3_2 : ∀ t : Fin cfg3.N, win3_2.index t = ![0, (grid3.coords t 0).val] := (by decide +kernel : ∀ t : Fin grid3.N, _)

variable (H W C S x : ℕ → ℕ → EReal) (g : ℕ → EReal)

/-! ## The normalised rows -/

theorem pay0 (v0 : Vec Ideal S128x2048 .f32) (v11 : Vec Ideal S1x2048 .f32)
    (h0 : ∀ i k, v0 (ix2 i k) = x i.val k.val) (h1 : ∀ i k, v11 (ix2 i k) = g k.val) (i : Fin 128) (j : Fin 2048) :
    k0_pay1 (F := Ideal) v0 v11 (ix2 i j) = norm 2048 (Ideal.ofBits .f32 1157627904#32) x g i.val j.val := by
  pointwise [k0_pay1]
  simp only [h0, h1]
  rfl

theorem final0 (hx : ∀ y, V c main_arg0 y = x (y 0).val (y 1).val) (hg : ∀ y, V c main_v54 y = g (y 1).val) :
    (dat0 V c).arrAt 2 cfg0.N = fun y => norm 2048 (Ideal.ofBits .f32 1157627904#32) x g (y 0).val (y 1).val := by
  refine (dat0 V c).arrAt_eq_of_covers 2 _ (by decide +kernel) fun t hf y => ?_
  blk_simp [index0_2]
  rw [after0_2]
  frame_out
  refine (congrArg _ (eq_ix2 y)).trans
    (pay0 x g _ _ (fun i k => ?_) (fun i k => ?_) (y 0) (y 1))
  · exact (hx _).trans (congrArg₂ x (by blk_simp [index0_0]) (by blk_simp [index0_0]))
  · exact (hg _).trans (congrArg g (by blk_simp [index0_1]))

/-! ## The projections -/

theorem pay1 (v0 : Vec Ideal S128x2048 .bf16) (v2 : Vec Ideal S2048x512 .bf16) (v5 v7 : Vec Ideal S128x128 .f32) (u : ℕ)
    (h0 : ∀ i k, v0 (ix2 i k) = H i.val k.val) (h2 : ∀ k j, v2 (ix2 k j) = W k.val (u * 512 + j.val))
    (h5 : ∀ i l, v5 (ix2 i l) = C i.val l.val) (h7 : ∀ i l, v7 (ix2 i l) = S i.val l.val) (i : Fin 128) (j : Fin 512) :
    k1_pay1 (F := Ideal) v0 v2 v5 v7 (ix2 i j) = roped 64 (prod 2048 H W) C S i.val (u * 512 + j.val) := by
  have hi := i.isLt
  have hj := j.isLt
  have hp : i.val = i.val % 4096 := by omega
  pointwise [k1_pay1]
  simp only [h0, h2, h5, h7]
  split_ifs <;> exact roped_of (by omega) (by unfold sw; split_ifs <;> omega) (by omega) hp

theorem final1 (hH : ∀ y, V c main_v55 y = H (y 0).val (y 1).val) (hW : ∀ y, V c main_v47 y = W (y 0).val (y 1).val)
    (hC : ∀ y, V c main_v15 y = C (y 0).val (y 1).val) (hS : ∀ y, V c main_v17 y = S (y 0).val (y 1).val) :
    (dat1 V c).arrAt 4 cfg1.N = fun y => roped 64 (prod 2048 H W) C S (y 0).val (y 1).val := by
  refine (dat1 V c).arrAt_eq_of_covers 4 _ (by decide +kernel) fun t hf y => ?_
  blk_simp [index1_4]
  rw [after1_4]
  frame_out
  refine (congrArg _ (eq_ix2 y)).trans (pay1 H W C S _ _ _ _ (grid1.coords t 0).val
    (fun i k => ?_) (fun i k => ?_) (fun i k => ?_) (fun i k => ?_) (y 0) (y 1))
  · exact (hH _).trans (congrArg₂ H (by blk_simp [index1_0]) (by blk_simp [index1_0]))
  · exact (hW _).trans (congrArg₂ W (by blk_simp [index1_1]) (by blk_simp [index1_1]))
  · exact (hC _).trans (congrArg₂ C (by blk_simp [index1_2]) (by blk_simp [index1_2]))
  · exact (hS _).trans (congrArg₂ S (by blk_simp [index1_3]) (by blk_simp [index1_3]))

theorem pay2 (v0 : Vec Ideal S128x2048 .bf16) (v2 : Vec Ideal S2048x512 .bf16) (v5 v7 : Vec Ideal S128x128 .f32) (u : ℕ)
    (h0 : ∀ i k, v0 (ix2 i k) = H i.val k.val) (h2 : ∀ k j, v2 (ix2 k j) = W k.val (u * 512 + j.val))
    (h5 : ∀ i l, v5 (ix2 i l) = C i.val l.val) (h7 : ∀ i l, v7 (ix2 i l) = S i.val l.val) (i : Fin 128) (j : Fin 512) :
    out2_4 (F := Ideal) v0 v2 v5 v7 (ix2 i j) = roped 32 (prod 2048 H W) C S i.val (u * 512 + j.val) := by
  have hi := i.isLt
  have hj := j.isLt
  have hp : i.val = i.val % 4096 := by omega
  frame_out
  pointwise [k2_pay1, k2_pay2, k2_pay3, k2_pay4, k2_pay5, k2_pay6, k2_pay7, k2_pay8, k2_pay9, k2_pay10, k2_pay11, k2_pay12, k2_pay13]
  simp only [h0, h2, h5, h7]
  split_ifs <;> exact roped_sel (by omega) (by omega) (by omega) (by omega) (by omega) hp

theorem final2 (hH : ∀ y, V c main_v55 y = H (y 0).val (y 1).val) (hW : ∀ y, V c main_v50 y = W (y 0).val (y 1).val)
    (hC : ∀ y, V c main_v35 y = C (y 0).val (y 1).val) (hS : ∀ y, V c main_v36 y = S (y 0).val (y 1).val) :
    (dat2 V c).arrAt 4 cfg2.N = fun y => roped 32 (prod 2048 H W) C S (y 0).val (y 1).val := by
  refine (dat2 V c).arrAt_eq_of_covers 4 _ (by decide +kernel) fun t hf y => ?_
  blk_simp [index2_4]
  rw [after2_4]
  refine (congrArg _ (eq_ix2 y)).trans (pay2 H W C S _ _ _ _ (grid2.coords t 0).val
    (fun i k => ?_) (fun i k => ?_) (fun i k => ?_) (fun i k => ?_) (y 0) (y 1))
  · exact (hH _).trans (congrArg₂ H (by blk_simp [index2_0]) (by blk_simp [index2_0]))
  · exact (hW _).trans (congrArg₂ W (by blk_simp [index2_1]) (by blk_simp [index2_1]))
  · exact (hC _).trans (congrArg₂ C (by blk_simp [index2_2]) (by blk_simp [index2_2]))
  · exact (hS _).trans (congrArg₂ S (by blk_simp [index2_3]) (by blk_simp [index2_3]))

theorem pay3 (v0 : Vec Ideal S128x2048 .bf16) (v2 : Vec Ideal S2048x512 .bf16) (u : ℕ)
    (h0 : ∀ i k, v0 (ix2 i k) = H i.val k.val) (h2 : ∀ k j, v2 (ix2 k j) = W k.val (u * 512 + j.val)) (i : Fin 128) (j : Fin 512) :
    k3_pay1 (F := Ideal) v0 v2 (ix2 i j) = prod 2048 H W i.val (u * 512 + j.val) := by
  pointwise [k3_pay1]
  simp only [h0, h2]
  rfl

theorem final3 (hH : ∀ y, V c main_v55 y = H (y 0).val (y 1).val) (hW : ∀ y, V c main_v52 y = W (y 0).val (y 1).val) :
    (dat3 V c).arrAt 2 cfg3.N = fun y => prod 2048 H W (y 0).val (y 1).val := by
  refine (dat3 V c).arrAt_eq_of_covers 2 _ (by decide +kernel) fun t hf y => ?_
  blk_simp [index3_2]
  rw [after3_2]
  frame_out
  refine (congrArg _ (eq_ix2 y)).trans (pay3 H W _ _ (grid3.coords t 0).val
    (fun i k => ?_) (fun i k => ?_) (y 0) (y 1))
  · exact (hH _).trans (congrArg₂ H (by blk_simp [index3_0]) (by blk_simp [index3_0]))
  · exact (hW _).trans (congrArg₂ W (by blk_simp [index3_1]) (by blk_simp [index3_1]))

end Cert.KernelTIdeal.Final

end
-- ==== Proof.HostT.lean ====
/- The arrays the host operations before the samples' queries leave: mixer A's weights' slices, the gain, and the tables at the samples' position. -/
module

public import proofs.«01_k».proof.Proof.Gen.KernelTIdeal.Frame
public import proofs.«01_k».proof.Proof.Still
public import Idealize.ShloMosaic.Lib.Pipeline.ValueKit

@[expose] public section

set_option maxRecDepth 16384

noncomputable section

namespace Cert.KernelTIdeal.Final

open Cert.KernelTIdeal Cert.KernelTIdeal.Gen Cert.Spec Idealize.ShloMosaic
  Idealize.ShloMosaic.TcCoe Idealize.ShloMosaic.Pointwise Idealize.SL.Sem

attribute [local instance] Cert.KernelTIdeal.Gen.facts

variable (σ : Valuation τ sig (Elt Ideal))

/-! ## The weights, sliced -/

theorem slice38 (y : S2048x2048.Idx) : StableHlo.after hostOps0 σ (Proc.devRef .tc main_v38) y
    = rd3 (σ (Proc.devRef .tc main_arg2) : Stack 2048 5712) (y 0).val (y 1).val := by
  entry_read
  refine (congrArg _ (eq_ix2 y)).trans ?_
  pointwise []
  exact rd3_idx _ _ rfl rfl

theorem slice41 (y : S2048x1024.Idx) : StableHlo.after hostOps0 σ (Proc.devRef .tc main_v41) y
    = rd3 (σ (Proc.devRef .tc main_arg2) : Stack 2048 5712) (y 0).val (2560 + (y 1).val) := by
  entry_read
  refine (congrArg _ (eq_ix2 y)).trans ?_
  pointwise []
  exact rd3_idx _ _ rfl rfl

theorem slice44 (y : S2048x2048.Idx) : StableHlo.after hostOps0 σ (Proc.devRef .tc main_v44) y
    = rd3 (σ (Proc.devRef .tc main_arg2) : Stack 2048 5712) (y 0).val (3664 + (y 1).val) := by
  entry_read
  refine (congrArg _ (eq_ix2 y)).trans ?_
  pointwise []
  exact rd3_idx _ _ rfl rfl

theorem cast47 (y : S2048x2048.Idx) : StableHlo.after hostOps0_2 σ (Proc.devRef .tc main_v47) y
    = (σ (Proc.devRef .tc main_v38) y : EReal) := by
  entry_read
  refine (congrArg _ (eq_ix2 y)).trans ?_
  pointwise []

theorem cast50 (y : S2048x1024.Idx) : StableHlo.after hostOps0_2 σ (Proc.devRef .tc main_v50) y
    = (σ (Proc.devRef .tc main_v41) y : EReal) := by
  entry_read
  refine (congrArg _ (eq_ix2 y)).trans ?_
  pointwise []

theorem cast52 (y : S2048x2048.Idx) : StableHlo.after hostOps0_2 σ (Proc.devRef .tc main_v52) y
    = (σ (Proc.devRef .tc main_v44) y : EReal) := by
  entry_read
  refine (congrArg _ (eq_ix2 y)).trans ?_
  pointwise []

/-! ## The gain -/

theorem gain54 (y : S1x2048.Idx) : StableHlo.after hostOps0_2 σ (Proc.devRef .tc main_v54) y
    = rd (σ (Proc.devRef .tc main_arg1) : Mat 1 2048) 0 (y 1).val := by
  entry_read
  refine (congrArg _ (eq_ix2 y)).trans ?_
  pointwise []
  exact rd_idx _ _ (by first | rfl | (have h : (y 0).val < 1 := (y 0).isLt; show (y 0).val = 0; omega)) rfl

/-! ## The tables -/

section Tables

variable (y : S128x128.Idx)

theorem cos64 : StableHlo.after hostOps0 σ (Proc.devRef .tc main_v15) y
    = still (cosT 64 (Ideal.ofBits .f32 1115684864#32)) 16384 (y 0).val (y 1).val := by
  have hy : (y 1).val < 128 := (y 1).isLt
  entry_read
  refine (congrArg _ (eq_ix2 y)).trans ?_
  pointwise []
  show _ = cosT 64 _ 16384 (y 1).val
  split_ifs <;> exact cosT_of (by omega)

theorem sin64 : StableHlo.after hostOps0 σ (Proc.devRef .tc main_v17) y
    = still (sinT 64 (Ideal.ofBits .f32 1115684864#32)) 16384 (y 0).val (y 1).val := by
  have hy : (y 1).val < 128 := (y 1).isLt
  entry_read
  refine (congrArg _ (eq_ix2 y)).trans ?_
  pointwise []
  show _ = sinT 64 _ 16384 (y 1).val
  split_ifs <;> first | exact sinT_neg (by omega) (by omega) | exact sinT_pos (by omega) (by omega)

theorem cos32 : StableHlo.after hostOps0 σ (Proc.devRef .tc main_v35) y
    = still (cosT 32 (Ideal.ofBits .f32 1107296256#32)) 16384 (y 0).val (y 1).val := by
  have hy : (y 1).val < 128 := (y 1).isLt
  entry_read
  refine (congrArg _ (eq_ix2 y)).trans ?_
  pointwise []
  show _ = cosT 32 _ 16384 (y 1).val
  split_ifs <;> exact cosT_of (by omega)

theorem sin32 : StableHlo.after hostOps0 σ (Proc.devRef .tc main_v36) y
    = still (sinT 32 (Ideal.ofBits .f32 1107296256#32)) 16384 (y 0).val (y 1).val := by
  have hy : (y 1).val < 128 := (y 1).isLt
  entry_read
  refine (congrArg _ (eq_ix2 y)).trans ?_
  pointwise []
  show _ = sinT 32 _ 16384 (y 1).val
  split_ifs <;> first | exact sinT_neg (by omega) (by omega) | exact sinT_pos (by omega) (by omega)

end Tables

end Cert.KernelTIdeal.Final

end
-- ==== Proof.RefT.lean ====
/- The results of the reference of mixer A's queries at the samples: projections of the normalised rows, two of them rotated. -/
module

public import proofs.«01_k».proof.Proof.Gen.ReferenceTIdeal.Read
public import proofs.«01_k».proof.Proof.Still

@[expose] public section

set_option maxRecDepth 16384

noncomputable section

namespace Cert.ReferenceTIdeal.RefRead

open Cert.ReferenceTIdeal Cert.ReferenceTIdeal.Gen Cert.ReferenceTIdeal.Read Cert.Spec Idealize.ShloMosaic
  Idealize.ShloMosaic.Pointwise

variable (x : Mat 128 2048) (g : Mat 1 2048) (w : Stack 2048 5712)

/-- The normalised rows, and the columns of the projected rows from `off` on. -/
abbrev hid (r j : ℕ) : EReal := norm 2048 (Ideal.ofBits .f32 1157627904#32) (rd x) (rd g 0) r j
abbrev cols (off : ℕ) : ℕ → ℕ → EReal := prod 2048 (hid x g) fun k j => rd3 w k (off + j)

theorem hid_at (r : Fin 128) (c : Fin 2048) : val_main_v16 (F := Ideal) x g (ix2 r c) = hid x g r.val c.val := by
  pointwise [val_main_v3, val_main_v4, val_main_v5, val_main_v6, val_main_v7, val_main_v8, val_main_v9, val_main_v10, val_main_v11, val_main_v12, val_main_v13, val_main_v14, val_main_v15, val_main_v16, val_main_cst, val_main_cst_0, val_main_cst_1]
  have hx : ∀ j, x (ix2 r j) = rd x r.val j.val := fun j => rd_idx x _ rfl rfl
  have hg : g (ix2 0 c) = rd g 0 c.val := rd_idx g _ rfl rfl
  simp only [hx, hg]
  rfl

theorem z_at (r : Fin 128) (c : Fin 5712) : val_main_v18 (F := Ideal) x g w (ix2 r c) = prod 2048 (hid x g) (rd3 w) r.val c.val := by
  rw [val_main_v18_apply]
  refine Finset.sum_congr rfl fun k _ => congrArg₂ (· * ·) ?_ ?_
  · exact (congrArg _ (by funext a; match a with | ⟨0, _⟩ => rfl | ⟨1, _⟩ => rfl)).trans (hid_at x g r k)
  · rw [val_main_v17_apply]
    refine rd3_idx w _ ?_ ?_
    · show (k.val * 5712 + c.val) / 5712 % 2048 = k.val
      omega
    · show (k.val * 5712 + c.val) % 5712 = c.val
      omega

theorem q_at (r : Fin 128) (c : Fin 2048) : val_main_v89 (F := Ideal) x g w (ix2 r c)
    = roped 64 (prod 2048 (hid x g) (rd3 w)) (still (cosT 64 (Ideal.ofBits .f32 1115684864#32)) 16384) (still (sinT 64 (Ideal.ofBits .f32 1115684864#32)) 16384) r.val c.val := by
  have hc := c.isLt
  have hr := r.isLt
  pointwise [val_main_v0, val_main_c, val_main_v1, val_main_v2, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v89, val_main_cst_2, val_main_cst_3]
  simp only [z_at]
  split_ifs
  · exact still_first (by omega) (by omega) (congrArg (prod 2048 (hid x g) (rd3 w) _) (by omega)) (congrArg (prod 2048 (hid x g) (rd3 w) _) (by omega)) (by omega)
  · exact still_second (by omega) (by omega) (congrArg (prod 2048 (hid x g) (rd3 w) _) (by omega)) (congrArg (prod 2048 (hid x g) (rd3 w) _) (by omega)) (by omega)

theorem iq_at (r : Fin 128) (c : Fin 1024) : val_main_v90 (F := Ideal) x g w (ix2 r c)
    = roped 32 (cols x g w 2560) (still (cosT 32 (Ideal.ofBits .f32 1107296256#32)) 16384) (still (sinT 32 (Ideal.ofBits .f32 1107296256#32)) 16384) r.val c.val := by
  have hc := c.isLt
  have hr := r.isLt
  pointwise [val_main_v0, val_main_c, val_main_v1, val_main_v2, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v90, val_main_cst_4, val_main_cst_5]
  simp only [z_at]
  split_ifs
  · exact still_first (by omega) (by omega) (congrArg (prod 2048 (hid x g) (rd3 w) _) (by omega)) (congrArg (prod 2048 (hid x g) (rd3 w) _) (by omega)) (by omega)
  · exact still_second (by omega) (by omega) (congrArg (prod 2048 (hid x g) (rd3 w) _) (by omega)) (congrArg (prod 2048 (hid x g) (rd3 w) _) (by omega)) (by omega)

theorem gate_at (r : Fin 128) (c : Fin 2048) : val_main_v92 (F := Ideal) x g w (ix2 r c) = cols x g w 3664 r.val c.val := by
  pointwise [val_main_v91, val_main_v92]
  exact z_at x g w _ _

end Cert.ReferenceTIdeal.RefRead

end
-- ==== Proof.ContentsT.lean ====
/- The contents of the arrays of mixer A's queries at the samples after their run, from the launch memory. -/
module

public import proofs.«01_k».proof.Proof.RegionsT
public import proofs.«01_k».proof.Proof.HostT
public import proofs.«01_k».proof.Proof.RefT

@[expose] public section

set_option maxRecDepth 16384

noncomputable section

namespace Cert.KernelTIdeal.Final

open Cert.KernelTIdeal Cert.KernelTIdeal.Gen Cert.Spec Cert.ReferenceTIdeal.RefRead Idealize.ShloMosaic
  Idealize.ShloMosaic.TcCoe Idealize.ShloMosaic.Pointwise Idealize.SL.Sem

attribute [local instance] Cert.KernelTIdeal.Gen.facts

variable (m : (ℓ : Loc nD τ sig) → Buf (Elt Ideal) ℓ) (ρ : Dev nD → PrngReg) (c : Dev nD)

/-- The samples' rows, the gains and the weights as the launch memory holds them. -/
abbrev rows : Mat 128 2048 := m ((c : Thread nD τ).loc main_arg0)
abbrev gains : Mat 1 2048 := m ((c : Thread nD τ).loc main_arg1)
abbrev projs : Stack 2048 5712 := m ((c : Thread nD τ).loc main_arg2)

/-- The normalised rows and the weights' columns from `off` on. -/
abbrev hidden : ℕ → ℕ → EReal := hid (rows m c) (gains m c)
abbrev wcols (off : ℕ) : ℕ → ℕ → EReal := fun k j => rd3 (projs m c) k (off + j)

/-! ## The arrays the projections read -/

theorem hidden4 (y : S128x2048.Idx) : W4 m ρ c (Proc.devRef .tc main_v55) y = hidden m c (y 0).val (y 1).val := by
  refine (congrFun (W4_arr m ρ c 2) y).trans (congrFun (final0 (V3 m ρ) c (rd (rows m c)) (rd (gains m c) 0) (fun z => ?_) (fun z => ?_)) y)
  · exact (congrFun (W3_args m ρ c main_arg0 (by decide)) z).trans (rd_idx (rows m c) z rfl rfl)
  · exact (gain54 (W2 m ρ c) z).trans (congrArg (fun A : Mat 1 2048 => rd A 0 _) (W2_args m ρ c main_arg1 (by decide)))

theorem weights47 (y : S2048x2048.Idx) : W3 m ρ c (Proc.devRef .tc main_v47) y = rd3 (projs m c) (y 0).val (y 1).val :=
  (cast47 (W2 m ρ c) y).trans ((congrFun (W2_of m ρ c main_v38 (by decide)) y).trans (slice38 (W0 m ρ c) y))

theorem weights50 (y : S2048x1024.Idx) : W3 m ρ c (Proc.devRef .tc main_v50) y = wcols m c 2560 (y 0).val (y 1).val :=
  (cast50 (W2 m ρ c) y).trans ((congrFun (W2_of m ρ c main_v41 (by decide)) y).trans (slice41 (W0 m ρ c) y))

theorem weights52 (y : S2048x2048.Idx) : W3 m ρ c (Proc.devRef .tc main_v52) y = wcols m c 3664 (y 0).val (y 1).val :=
  (cast52 (W2 m ρ c) y).trans ((congrFun (W2_of m ρ c main_v44 (by decide)) y).trans (slice44 (W0 m ρ c) y))

/-- A table is the same array from the first host operations on. -/
theorem table (r : Ref sig .tc) (h1 : r ∉ hostOps0_1_W) (h2 : r ∉ hostOps0_2_W) :
    W3 m ρ c (Proc.devRef .tc r) = W1 m ρ c (Proc.devRef .tc r) :=
  (W3_of m ρ c r h2).trans (W2_of m ρ c r h1)

/-! ## What a later projection finds is what the first one found -/

/-- The arrays that the projections read. -/
abbrev kept : List (Ref sig .tc) := [main_v47, main_v50, main_v52, main_v15, main_v17, main_v35, main_v36]

theorem keeps0 : ∀ r ∈ kept, ∀ w : Fin cfg0.W, Pipeline.arrRef spec0 w = r → (cfg0.win w).isOut = false :=
  ListAll.forall_mem_of_all_decide (by decide +kernel)
theorem keeps1 : ∀ r ∈ main_v55 :: kept, ∀ w : Fin cfg1.W, Pipeline.arrRef spec1 w = r → (cfg1.win w).isOut = false :=
  ListAll.forall_mem_of_all_decide (by decide +kernel)
theorem keeps2 : ∀ r ∈ main_v55 :: kept, ∀ w : Fin cfg2.W, Pipeline.arrRef spec2 w = r → (cfg2.win w).isOut = false :=
  ListAll.forall_mem_of_all_decide (by decide +kernel)

theorem at4 (r : Ref sig .tc) (h : r ∈ kept) : W4 m ρ c (Proc.devRef .tc r) = W3 m ρ c (Proc.devRef .tc r) :=
  W4_of m ρ c r (keeps0 r h)
theorem at5 (r : Ref sig .tc) (h : r ∈ main_v55 :: kept) : W5 m ρ c (Proc.devRef .tc r) = W4 m ρ c (Proc.devRef .tc r) :=
  W5_of m ρ c r (keeps1 r h)
theorem at6 (r : Ref sig .tc) (h : r ∈ main_v55 :: kept) : W6 m ρ c (Proc.devRef .tc r) = W4 m ρ c (Proc.devRef .tc r) :=
  (W6_of m ρ c r (keeps2 r h)).trans (at5 m ρ c r h)

/-! ## The results -/

theorem query_out : W7 m ρ c (Proc.devRef .tc main_v56)
    = fun y : S128x2048.Idx => roped 64 (prod 2048 (hidden m c) (rd3 (projs m c))) (still (cosT 64 (Ideal.ofBits .f32 1115684864#32)) 16384) (still (sinT 64 (Ideal.ofBits .f32 1115684864#32)) 16384) (y 0).val (y 1).val :=
  (((W7_of m ρ c main_v56 (by decide +kernel)).trans (W6_of m ρ c main_v56 (by decide +kernel))).trans (W5_arr m ρ c 4)).trans
    (final1 (V4 m ρ) c (hidden m c) (rd3 (projs m c)) (still (cosT 64 (Ideal.ofBits .f32 1115684864#32)) 16384) (still (sinT 64 (Ideal.ofBits .f32 1115684864#32)) 16384)
      (fun z => hidden4 m ρ c z) (fun z => (congrFun (at4 m ρ c main_v47 (by decide)) z).trans (weights47 m ρ c z))
      (fun z => (congrFun ((at4 m ρ c main_v15 (by decide)).trans (table m ρ c main_v15 (by decide) (by decide))) z).trans (cos64 (W0 m ρ c) z))
      (fun z => (congrFun ((at4 m ρ c main_v17 (by decide)).trans (table m ρ c main_v17 (by decide) (by decide))) z).trans (sin64 (W0 m ρ c) z)))

theorem index_out : W7 m ρ c (Proc.devRef .tc main_v57)
    = fun y : S128x1024.Idx => roped 32 (prod 2048 (hidden m c) (wcols m c 2560)) (still (cosT 32 (Ideal.ofBits .f32 1107296256#32)) 16384) (still (sinT 32 (Ideal.ofBits .f32 1107296256#32)) 16384) (y 0).val (y 1).val :=
  ((W7_of m ρ c main_v57 (by decide +kernel)).trans (W6_arr m ρ c 4)).trans
    (final2 (V5 m ρ) c (hidden m c) (wcols m c 2560) (still (cosT 32 (Ideal.ofBits .f32 1107296256#32)) 16384) (still (sinT 32 (Ideal.ofBits .f32 1107296256#32)) 16384)
      (fun z => (congrFun (at5 m ρ c main_v55 (by decide)) z).trans (hidden4 m ρ c z))
      (fun z => (congrFun ((at5 m ρ c main_v50 (by decide)).trans (at4 m ρ c main_v50 (by decide))) z).trans (weights50 m ρ c z))
      (fun z => (congrFun (((at5 m ρ c main_v35 (by decide)).trans (at4 m ρ c main_v35 (by decide))).trans (table m ρ c main_v35 (by decide) (by decide))) z).trans (cos32 (W0 m ρ c) z))
      (fun z => (congrFun (((at5 m ρ c main_v36 (by decide)).trans (at4 m ρ c main_v36 (by decide))).trans (table m ρ c main_v36 (by decide) (by decide))) z).trans (sin32 (W0 m ρ c) z)))

theorem gate_out : W7 m ρ c (Proc.devRef .tc main_v58)
    = fun y : S128x2048.Idx => prod 2048 (hidden m c) (wcols m c 3664) (y 0).val (y 1).val :=
  (W7_arr m ρ c 2).trans
    (final3 (V6 m ρ) c (hidden m c) (wcols m c 3664)
      (fun z => (congrFun (at6 m ρ c main_v55 (by decide)) z).trans (hidden4 m ρ c z))
      (fun z => (congrFun ((at6 m ρ c main_v52 (by decide)).trans (at4 m ρ c main_v52 (by decide))) z).trans (weights52 m ρ c z)))

end Cert.KernelTIdeal.Final

end
-- ==== Proof.RunT.lean ====
/- Mixer A's queries at the samples: the run of the kernel and of the reference, and the claims about them. -/
module

public import proofs.«01_k».proof.Defs
public import proofs.«01_k».proof.Proof.Gen.KernelT
public import proofs.«01_k».proof.Proof.Gen.ReferenceTIdeal.Run
public import proofs.«01_k».proof.Proof.ContentsT
public import Idealize.ShloMosaic.Lib.Claim
public import Idealize.ShloMosaic.Lib.Quiescent

@[expose] public section

set_option maxRecDepth 16384

noncomputable section

namespace Cert.KernelTIdeal.Final

open Cert.KernelTIdeal Cert.KernelTIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local instance] Cert.KernelTIdeal.Gen.facts

variable {F : FTy → Type} [FloatOps F] (m : (ℓ : Loc nD τ sig) → Buf (Elt F) ℓ) (ρ : Dev nD → PrngReg)

set_option backward.isDefEq.respectTransparency.types false in
/-- The run ends with every unscoped buffer at the contents after the last region. -/
theorem run_contents : θ_run defs (onTc (τ := τ) (main (F := F))) ⟨m, fun _ => 0, ρ⟩ (fun r =>
      ∀ c : Dev nD, ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

end Cert.KernelTIdeal.Final

namespace Cert.QueriesA

open Idealize.ShloMosaic Idealize.ShloMosaic.TcCoe Idealize.ShloMosaic.Pointwise Idealize.SL.Sem
open Cert.KernelTIdeal.Final Cert.KernelTIdeal.Gen Cert.Spec Cert.ReferenceTIdeal.RefRead

attribute [local instance] Cert.KernelT.Gen.facts Cert.KernelTIdeal.Gen.facts Cert.ReferenceTIdeal.Gen.facts

theorem frame_reference : Cert.quiescent_ReferenceTIdeal := fun m g _ =>
  (θ_run _ _ _).mono (fun r h => ⟨fun c => (h c).2.2.2, sem_eq_zero_of_no_sems (by decide) r.2⟩)
    (Cert.ReferenceTIdeal.Value.run (F := Ideal) m g)

/-- Both runs end at the same queries, index queries and gates. -/
theorem algebraic : Cert.algebraic_KernelTIdeal_ReferenceTIdeal := by
  intro m g m' g' hpre hagree
  refine ⟨fun c => W7 m g c (Proc.devRef .tc Cert.KernelTIdeal.main_v56),
    fun c => W7 m g c (Proc.devRef .tc Cert.KernelTIdeal.main_v57),
    fun c => W7 m g c (Proc.devRef .tc Cert.KernelTIdeal.main_v58), ?_, ?_⟩
  · refine (θ_run _ _ _).mono (fun r h c => ?_) (run_contents (F := Ideal) m g)
    exact ⟨h c _ (mem_uc _ (by decide)), h c _ (mem_uc _ (by decide)), h c _ (mem_uc _ (by decide)),
      (h c _ (mem_uc Cert.KernelTIdeal.main_arg0 (by decide))).trans (W7_main_arg0 m g c),
      (h c _ (mem_uc Cert.KernelTIdeal.main_arg1 (by decide))).trans (W7_main_arg1 m g c),
      (h c _ (mem_uc Cert.KernelTIdeal.main_arg2 (by decide))).trans (W7_main_arg2 m g c)⟩
  · refine (θ_run _ _ _).mono (fun r h c => ?_) (Cert.ReferenceTIdeal.Value.run (F := Ideal) m' g')
    obtain ⟨h0, h1, h2, hargs⟩ := h c
    obtain ⟨g0, g1, g2⟩ := hagree c
    refine ⟨h0.trans ?_, h1.trans ?_, h2.trans ?_, hargs⟩
    · rw [Cert.ReferenceTIdeal.Read.val_main_v89_eq, g0, g1, g2]
      refine Eq.trans ?_ (query_out m g c).symm
      funext y
      exact (congrArg _ (eq_ix2 y)).trans (q_at (rows m c) (gains m c) (projs m c) (y 0) (y 1))
    · rw [Cert.ReferenceTIdeal.Read.val_main_v90_eq, g0, g1, g2]
      refine Eq.trans ?_ (index_out m g c).symm
      funext y
      exact (congrArg _ (eq_ix2 y)).trans (iq_at (rows m c) (gains m c) (projs m c) (y 0) (y 1))
    · refine (Cert.ReferenceTIdeal.Read.val_main_v92_eq _ _ _).trans ?_
      rw [g0, g1, g2]
      refine Eq.trans ?_ (gate_out m g c).symm
      funext y
      exact (congrArg _ (eq_ix2 y)).trans (gate_at (rows m c) (gains m c) (projs m c) (y 0) (y 1))

end Cert.QueriesA

end
-- ==== Proof.RegionsV.lean ====
/- The arrays the samples' four calls for mixer B's queries leave, each from the arrays it is entered with: the norms and the projections. -/
module

public import proofs.«01_k».proof.Proof.Gen.KernelVIdeal.Frame
public import proofs.«01_k».proof.Proof.Still
public import proofs.«01_k».proof.Proof.Heads
public import Idealize.ShloMosaic.Lib.Pipeline.ValueKit

@[expose] public section

set_option maxRecDepth 16384

noncomputable section

namespace Cert.KernelVIdeal.Final

open Cert.KernelVIdeal Cert.KernelVIdeal.Gen Cert.Spec Idealize.ShloMosaic
  Idealize.ShloMosaic.TcCoe Idealize.ShloMosaic.Pointwise Idealize.SL.Sem

attribute [local instance] Cert.KernelVIdeal.Gen.facts

variable (V : (c : Dev nD) → (b : Ref sig .tc) → Buf (Elt Ideal) ((c : Thread nD τ).loc b)) (c : Dev nD)

/-! ## The blocks of each grid point -/

theorem index0_0 : ∀ t : Fin cfg0.N, win0_0.index t = ![0, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![0, 0] := (by decide +kernel : ∀ t : Fin grid0.N, _)
theorem index0_5 : ∀ t : Fin cfg0.N, win0_5.index t = ![0, 0] := (by decide +kernel : ∀ t : Fin grid0.N, _)
theorem index1_0 : ∀ t : Fin cfg1.N, win1_0.index t = ![0, 0] := (by decide +kernel : ∀ t : Fin grid1.N, _)
theorem index1_1 : ∀ t : Fin cfg1.N, win1_1.index t = ![0, 0] := (by decide +kernel : ∀ t : Fin grid1.N, _)
theorem index1_2 : ∀ t : Fin cfg1.N, win1_2.index t = ![0, 0] := (by decide +kernel : ∀ t : Fin grid1.N, _)
theorem index1_3 : ∀ t : Fin cfg1.N, win1_3.index t = ![0, 0] := (by decide +kernel : ∀ t : Fin grid1.N, _)
theorem index2_0 : ∀ t : Fin cfg2.N, win2_0.index t = ![0, 0] := (by decide +kernel : ∀ t : Fin grid2.N, _)
theorem index2_1 : ∀ t : Fin cfg2.N, win2_1.index t = ![0, (grid2.coords t 0).val] := (by decide +kernel : ∀ t : Fin grid2.N, _)
theorem index2_2 : ∀ t : Fin cfg2.N, win2_2.index t = ![0, (grid2.coords t 0).val] := (by decide +kernel : ∀ t : Fin grid2.N, _)
theorem index3_0 : ∀ t : Fin cfg3.N, win3_0.index t = ![0, 0] := (by decide +kernel : ∀ t : Fin grid3.N, _)
theorem index3_1 : ∀ t : Fin cfg3.N, win3_1.index t = ![0, (grid3.coords t 0).val] := (by decide +kernel : ∀ t : Fin grid3.N, _)
theorem index3_2 : ∀ t : Fin cfg3.N, win3_2.index t = ![0, 0] := (by decide +kernel : ∀ t : Fin grid3.N, _)
theorem index3_3 : ∀ t : Fin cfg3.N, win3_3.index t = ![0, 0] := (by decide +kernel : ∀ t : Fin grid3.N, _)
theorem index3_4 : ∀ t : Fin cfg3.N, win3_4.index t = ![0, (grid3.coords t 0).val] := (by decide +kernel : ∀ t : Fin grid3.N, _)

variable (H W C S x o w : ℕ → ℕ → EReal) (G g : ℕ → EReal)

/-! ## The norm of the residual stream -/

theorem pay0 (v0 : Vec Ideal S128x2048 .f32) (v1 : Vec Ideal S128x2048 .bf16) (v2 : Vec Ideal S2048x2048 .bf16) (v16 : Vec Ideal S1x2048 .f32)
    (h0 : ∀ i k, v0 (ix2 i k) = x i.val k.val)
    (h1 : ∀ i k, v1 (ix2 i k) = o i.val k.val) (h2 : ∀ k j, v2 (ix2 k j) = w k.val j.val)
    (h3 : ∀ i k, v16 (ix2 i k) = g k.val) (i : Fin 128) (j : Fin 2048) :
    k0_pay2 (F := Ideal) v0 v1 v2 v16 (ix2 i j) = norm 2048 (Ideal.ofBits .f32 1157627904#32) (resid x o w) g i.val j.val := by
  pointwise [k0_pay2, k0_pay1]
  simp only [h0, h1, h2, h3]
  rfl

theorem final0 (hx : ∀ y, V c main_arg0 y = x (y 0).val (y 1).val) (ho : ∀ y, V c main_arg1 y = o (y 0).val (y 1).val)
    (hw : ∀ y, V c main_v38 y = w (y 0).val (y 1).val) (hg : ∀ y, V c main_v40 y = g (y 1).val) :
    (dat0 V c).arrAt 5 cfg0.N = fun y => norm 2048 (Ideal.ofBits .f32 1157627904#32) (resid x o w) g (y 0).val (y 1).val := by
  refine (dat0 V c).arrAt_eq_of_covers 5 _ (by decide +kernel) fun t hf y => ?_
  blk_simp [index0_5]
  rw [after0_5]
  frame_out
  refine (congrArg _ (eq_ix2 y)).trans
    (pay0 x o w g _ _ _ _ (fun i k => ?_) (fun i k => ?_) (fun i k => ?_) (fun i k => ?_) (y 0) (y 1))
  · exact (hx _).trans (congrArg₂ x (by blk_simp [index0_2]) (by blk_simp [index0_2]))
  · exact (ho _).trans (congrArg₂ o (by blk_simp [index0_0]) (by blk_simp [index0_0]))
  · exact (hw _).trans (congrArg₂ w (by blk_simp [index0_1]) (by blk_simp [index0_1]))
  · exact (hg _).trans (congrArg g (by blk_simp [index0_3]))

/-! ## The projections -/

theorem pay1 (v0 : Vec Ideal S128x2048 .bf16) (v2 : Vec Ideal S2048x512 .bf16) (v5 : Vec Ideal S1x512 .f32)
    (h0 : ∀ i k, v0 (ix2 i k) = H i.val k.val) (h2 : ∀ k j, v2 (ix2 k j) = W k.val j.val)
    (h5 : ∀ i l, v5 (ix2 i l) = G l.val) (i : Fin 128) (j : Fin 512) :
    k1_pay1 (F := Ideal) v0 v2 v5 (ix2 i j) = norm 512 (Ideal.ofBits .f32 1140850688#32) (prod 2048 H W) G i.val j.val := by
  pointwise [k1_pay1]
  simp only [h0, h2, h5]
  rfl

theorem final1 (hH : ∀ y, V c main_v41_1 y = H (y 0).val (y 1).val) (hW : ∀ y, V c main_v32 y = W (y 0).val (y 1).val)
    (hG : ∀ y, V c main_v43 y = G (y 1).val) :
    (dat1 V c).arrAt 3 cfg1.N = fun y => norm 512 (Ideal.ofBits .f32 1140850688#32) (prod 2048 H W) G (y 0).val (y 1).val := by
  refine (dat1 V c).arrAt_eq_of_covers 3 _ (by decide +kernel) fun t hf y => ?_
  blk_simp [index1_3]
  rw [after1_3]
  frame_out
  refine (congrArg _ (eq_ix2 y)).trans
    (pay1 H W G _ _ _ (fun i k => ?_) (fun i k => ?_) (fun i k => ?_) (y 0) (y 1))
  · exact (hH _).trans (congrArg₂ H (by blk_simp [index1_0]) (by blk_simp [index1_0]))
  · exact (hW _).trans (congrArg₂ W (by blk_simp [index1_1]) (by blk_simp [index1_1]))
  · exact (hG _).trans (congrArg G (by blk_simp [index1_2]))

theorem pay2 (v0 : Vec Ideal S128x2048 .bf16) (v2 : Vec Ideal S2048x512 .bf16) (u : ℕ)
    (h0 : ∀ i k, v0 (ix2 i k) = H i.val k.val) (h2 : ∀ k j, v2 (ix2 k j) = W k.val (u * 512 + j.val)) (i : Fin 128) (j : Fin 512) :
    k2_pay1 (F := Ideal) v0 v2 (ix2 i j) = prod 2048 H W i.val (u * 512 + j.val) := by
  pointwise [k2_pay1]
  simp only [h0, h2]
  rfl

theorem final2 (hH : ∀ y, V c main_v41_1 y = H (y 0).val (y 1).val) (hW : ∀ y, V c main_v35 y = W (y 0).val (y 1).val) :
    (dat2 V c).arrAt 2 cfg2.N = fun y => prod 2048 H W (y 0).val (y 1).val := by
  refine (dat2 V c).arrAt_eq_of_covers 2 _ (by decide +kernel) fun t hf y => ?_
  blk_simp [index2_2]
  rw [after2_2]
  frame_out
  refine (congrArg _ (eq_ix2 y)).trans (pay2 H W _ _ (grid2.coords t 0).val
    (fun i k => ?_) (fun i k => ?_) (y 0) (y 1))
  · exact (hH _).trans (congrArg₂ H (by blk_simp [index2_0]) (by blk_simp [index2_0]))
  · exact (hW _).trans (congrArg₂ W (by blk_simp [index2_1]) (by blk_simp [index2_1]))

theorem pay3 (v0 : Vec Ideal S128x512 .bf16) (v2 : Vec Ideal S512x1024 .bf16) (v5 v7 : Vec Ideal S128x128 .f32) (u : ℕ)
    (h0 : ∀ i k, v0 (ix2 i k) = H i.val k.val) (h2 : ∀ k j, v2 (ix2 k j) = W k.val (u * 1024 + j.val))
    (h5 : ∀ i l, v5 (ix2 i l) = C i.val l.val) (h7 : ∀ i l, v7 (ix2 i l) = S i.val l.val)
    (i : Fin 128) (j : Fin 1024) :
    out3_4 (F := Ideal) v0 v2 v5 v7 (ix2 i j) = heads (prod 512 H W) C S i.val (u * 1024 + j.val) := by
  have hi := i.isLt
  have hj := j.isLt
  have hp : i.val = i.val % 4096 := by omega
  frame_out
  pointwise [k3_pay1, k3_pay2, k3_pay3, k3_pay4, k3_pay5, k3_pay6, k3_pay7, k3_pay8, k3_pay9, k3_pay10, k3_pay11, k3_pay12, k3_pay13, k3_pay14, k3_pay15]
  simp (maxSteps := 4000000) only [h0, h2, h5, h7]
  by_cases h : j.val < 128
  · rw [dif_pos h]
    exact heads_sum (by omega) (by omega)
  rw [dif_neg h]
  by_cases h : j.val - 128 < 128
  · rw [dif_pos h]
    exact (roped_sel (by omega) (by omega) (by omega) (by omega) (by omega) hp).trans (heads_turned (by omega)).symm
  rw [dif_neg h]
  by_cases h : j.val - 128 - 128 < 128
  · rw [dif_pos h]
    exact heads_sum (by omega) (by omega)
  rw [dif_neg h]
  by_cases h : j.val - 128 - 128 - 128 < 128
  · rw [dif_pos h]
    exact (roped_sel (by omega) (by omega) (by omega) (by omega) (by omega) hp).trans (heads_turned (by omega)).symm
  rw [dif_neg h]
  by_cases h : j.val - 128 - 128 - 128 - 128 < 128
  · rw [dif_pos h]
    exact heads_sum (by omega) (by omega)
  rw [dif_neg h]
  by_cases h : j.val - 128 - 128 - 128 - 128 - 128 < 128
  · rw [dif_pos h]
    exact (roped_sel (by omega) (by omega) (by omega) (by omega) (by omega) hp).trans (heads_turned (by omega)).symm
  rw [dif_neg h]
  by_cases h : j.val - 128 - 128 - 128 - 128 - 128 - 128 < 128
  · rw [dif_pos h]
    exact heads_sum (by omega) (by omega)
  rw [dif_neg h]
  exact (roped_sel (by omega) (by omega) (by omega) (by omega) (by omega) hp).trans (heads_turned (by omega)).symm

theorem final3 (hH : ∀ y, V c main_v44 y = H (y 0).val (y 1).val) (hW : ∀ y, V c main_v36 y = W (y 0).val (y 1).val)
    (hC : ∀ y, V c main_v19 y = C (y 0).val (y 1).val) (hS : ∀ y, V c main_v21 y = S (y 0).val (y 1).val) :
    (dat3 V c).arrAt 4 cfg3.N = fun y => heads (prod 512 H W) C S (y 0).val (y 1).val := by
  refine (dat3 V c).arrAt_eq_of_covers 4 _ (by decide +kernel) fun t hf y => ?_
  blk_simp [index3_4]
  rw [after3_4]
  refine (congrArg _ (eq_ix2 y)).trans (pay3 H W C S _ _ _ _ (grid3.coords t 0).val
    (fun i k => ?_) (fun i k => ?_) (fun i k => ?_) (fun i k => ?_) (y 0) (y 1))
  · exact (hH _).trans (congrArg₂ H (by blk_simp [index3_0]) (by blk_simp [index3_0]))
  · exact (hW _).trans (congrArg₂ W (by blk_simp [index3_1]) (by blk_simp [index3_1]))
  · exact (hC _).trans (congrArg₂ C (by blk_simp [index3_2]) (by blk_simp [index3_2]))
  · exact (hS _).trans (congrArg₂ S (by blk_simp [index3_3]) (by blk_simp [index3_3]))

end Cert.KernelVIdeal.Final

end
-- ==== Proof.HostV.lean ====
/- The arrays the host operations before the samples' second queries leave: mixer B's weights' slices, the gains, and the tables at the samples' position. -/
module

public import proofs.«01_k».proof.Proof.Gen.KernelVIdeal.Frame
public import proofs.«01_k».proof.Proof.Still
public import proofs.«01_k».proof.Proof.Heads
public import Idealize.ShloMosaic.Lib.Pipeline.ValueKit

@[expose] public section

set_option maxRecDepth 16384

noncomputable section

namespace Cert.KernelVIdeal.Final

open Cert.KernelVIdeal Cert.KernelVIdeal.Gen Cert.Spec Idealize.ShloMosaic
  Idealize.ShloMosaic.TcCoe Idealize.ShloMosaic.Pointwise Idealize.SL.Sem

attribute [local instance] Cert.KernelVIdeal.Gen.facts

variable (σ : Valuation τ sig (Elt Ideal))

/-! ## The weights, sliced and padded -/

theorem slice22 (y : S2048x3136.Idx) : StableHlo.after hostOps0 σ (Proc.devRef .tc main_v22) y
    = rd3 (σ (Proc.devRef .tc main_arg4) : Stack 2048 3136) (y 0).val (y 1).val := by
  entry_read
  refine (congrArg _ (eq_ix2 y)).trans ?_
  pointwise []
  exact rd3_idx _ _ rfl rfl

theorem slice23 (y : S512x3072.Idx) : StableHlo.after hostOps0 σ (Proc.devRef .tc main_v23) y
    = rd3 (σ (Proc.devRef .tc main_arg6) : Stack 512 3072) (y 0).val (y 1).val := by
  entry_read
  refine (congrArg _ (eq_ix2 y)).trans ?_
  pointwise []
  exact rd3_idx _ _ rfl rfl

theorem slice24 (y : S2048x512.Idx) : StableHlo.after hostOps0 σ (Proc.devRef .tc main_v24) y
    = rd3 (σ (Proc.devRef .tc main_arg4) : Stack 2048 3136) (y 0).val (y 1).val := by
  entry_read
  refine (congrArg _ (eq_ix2 y)).trans ?_
  pointwise []
  exact rd3_idx _ _ rfl rfl

theorem slice28 (w : ℕ → ℕ → EReal) (hA : ∀ z, σ (Proc.devRef .tc main_v22) z = w (z 0).val (z 1).val) (y : S2048x2048.Idx) :
    StableHlo.after hostOps0_2 σ (Proc.devRef .tc main_v28) y = w (y 0).val (1088 + (y 1).val) := by
  entry_read
  refine (congrArg _ (eq_ix2 y)).trans ?_
  pointwise []
  exact hA _

theorem split29 (w : ℕ → ℕ → EReal) (hA : ∀ z, σ (Proc.devRef .tc main_v23) z = w (z 0).val (z 1).val) (y : S512x16x192.Idx) :
    StableHlo.after hostOps0_2 σ (Proc.devRef .tc main_v29) y = w (y 0).val (192 * (y 1).val + (y 2).val) := by
  have h1 : (y 1).val < 16 := (y 1).isLt
  have h2 : (y 2).val < 192 := (y 2).isLt
  entry_read
  refine (congrArg _ (eq_ix3 y)).trans ?_
  pointwise []
  refine (hA _).trans (congrArg₂ w ?_ ?_)
  · rfl
  · show (y 1).val * 192 + (y 2).val = _
    omega

theorem padding_heads : StableHlo.after hostOps0_2 σ (Proc.devRef .tc main_c_4) = constantI S_ 32 0#32 := by
  entry_read
  rfl

theorem pad_heads_at (A : Vec Ideal S512x16x192 .f32) (w : ℕ → ℕ → EReal)
    (hA : ∀ z, A z = w (z 0).val (192 * (z 1).val + (z 2).val)) (y : S512x16x256.Idx) :
    pad S512x16x256 ![0, 0, 0] ![0, 0, 64] ![0, 0, 0] A (sitofp (F := Ideal) .f32 (constantI S_ 32 0#32)) pads_S512x16x192_S512x16x256_000_000_0640 h_S_ y
      = if (y 2).val < 192 then w (y 0).val (192 * (y 1).val + (y 2).val) else 0 := by
  refine (congrArg _ (eq_ix3 y)).trans ?_
  pointwise []
  by_cases h : (y 2).val < 192
  · rw [dif_pos h, if_pos h]
    exact hA _
  · rw [dif_neg h, if_neg h]
    show ((BitVec.toInt 0#32 : ℝ) : EReal) = 0
    simp

theorem padded_heads (w : ℕ → ℕ → EReal) (hc : σ (Proc.devRef .tc main_c_4) = constantI S_ 32 0#32)
    (hA : ∀ z, σ (Proc.devRef .tc main_v29) z = w (z 0).val (192 * (z 1).val + (z 2).val)) (y : S512x16x256.Idx) :
    StableHlo.after hostOps0_3 σ (Proc.devRef .tc main_v30) y
      = if (y 2).val < 192 then w (y 0).val (192 * (y 1).val + (y 2).val) else (0 : EReal) := by
  entry_read
  rw [hc]
  exact pad_heads_at _ w hA y

theorem joined (w : ℕ → ℕ → EReal)
    (hA : ∀ z, σ (Proc.devRef .tc main_v30) z = if (z 2).val < 192 then w (z 0).val (192 * (z 1).val + (z 2).val) else (0 : EReal))
    (y : S512x4096.Idx) : StableHlo.after hostOps0_4 σ (Proc.devRef .tc main_v36) y = spread w (y 0).val (y 1).val := by
  have h1 : (y 1).val < 4096 := (y 1).isLt
  entry_read
  refine (congrArg _ (eq_ix2 y)).trans ?_
  pointwise []
  exact hA _

theorem cast32 (y : S2048x512.Idx) : StableHlo.after hostOps0_4 σ (Proc.devRef .tc main_v32) y
    = (σ (Proc.devRef .tc main_v24) y : EReal) := by
  entry_read
  refine (congrArg _ (eq_ix2 y)).trans ?_
  pointwise []

theorem cast35 (y : S2048x2048.Idx) : StableHlo.after hostOps0_4 σ (Proc.devRef .tc main_v35) y
    = (σ (Proc.devRef .tc main_v28) y : EReal) := by
  entry_read
  refine (congrArg _ (eq_ix2 y)).trans ?_
  pointwise []

theorem weight38 (y : S2048x2048.Idx) : StableHlo.after hostOps0_4 σ (Proc.devRef .tc main_v38) y
    = rd3 (σ (Proc.devRef .tc main_arg2) : Stack 2048 2048) (y 0).val (y 1).val := by
  entry_read
  refine (congrArg _ (eq_ix2 y)).trans ?_
  pointwise []
  exact rd3_idx _ _ rfl rfl

/-! ## The gains -/

theorem gain40 (y : S1x2048.Idx) : StableHlo.after hostOps0_4 σ (Proc.devRef .tc main_v40) y
    = rd (σ (Proc.devRef .tc main_arg3) : Mat 1 2048) 0 (y 1).val := by
  entry_read
  refine (congrArg _ (eq_ix2 y)).trans ?_
  pointwise []
  exact rd_idx _ _ (by first | rfl | (have h : (y 0).val < 1 := (y 0).isLt; show (y 0).val = 0; omega)) rfl

theorem gain43 (y : S1x512.Idx) : StableHlo.after hostOps1 σ (Proc.devRef .tc main_v43) y
    = rd (σ (Proc.devRef .tc main_arg5) : Mat 1 512) 0 (y 1).val := by
  entry_read
  refine (congrArg _ (eq_ix2 y)).trans ?_
  pointwise []
  exact rd_idx _ _ (by first | rfl | (have h : (y 0).val < 1 := (y 0).isLt; show (y 0).val = 0; omega)) rfl

/-! ## The tables -/

section Tables

variable (y : S128x128.Idx)

theorem cosHalf : StableHlo.after hostOps0 σ (Proc.devRef .tc main_v19) y
    = still (cosI (Ideal.ofBits .f32 1107296256#32)) 16384 (y 0).val (y 1).val := by
  have hy : (y 1).val < 128 := (y 1).isLt
  entry_read
  refine (congrArg _ (eq_ix2 y)).trans ?_
  pointwise []
  show _ = cosI _ 16384 (y 1).val
  unfold cosI
  split_ifs <;> first | exact cosT_of (by omega) | rfl

theorem sinHalf : StableHlo.after hostOps0 σ (Proc.devRef .tc main_v21) y
    = still (sinI (Ideal.ofBits .f32 1107296256#32)) 16384 (y 0).val (y 1).val := by
  have hy : (y 1).val < 128 := (y 1).isLt
  entry_read
  refine (congrArg _ (eq_ix2 y)).trans ?_
  pointwise []
  show _ = sinI _ 16384 (y 1).val
  unfold sinI
  split_ifs <;> first | exact sinT_neg (by omega) (by omega) | exact sinT_pos (by omega) (by omega) | rfl

end Tables

end Cert.KernelVIdeal.Final

end
-- ==== Proof.RefV.lean ====
/- The results of the reference of mixer B's queries at the samples: the gate's columns, and the queries with their rotated columns. -/
module

public import proofs.«01_k».proof.Proof.Gen.ReferenceVIdeal.Read
public import proofs.«01_k».proof.Proof.Still
public import proofs.«01_k».proof.Proof.Heads

@[expose] public section

set_option maxRecDepth 16384

noncomputable section

namespace Cert.ReferenceVIdeal.RefRead

open Cert.ReferenceVIdeal Cert.ReferenceVIdeal.Gen Cert.ReferenceVIdeal.Read Cert.Spec Idealize.ShloMosaic
  Idealize.ShloMosaic.Pointwise

variable (x o : Mat 128 2048) (wo : Stack 2048 2048) (g : Mat 1 2048) (w : Stack 2048 3136) (gq : Mat 1 512) (wq : Stack 512 3072)

/-- The residual stream after mixer A, its norm, the columns of the projected rows from `off` on, and the query's normed columns. -/
abbrev stream (r j : ℕ) : EReal := resid (rd x) (rd o) (rd3 wo) r j
abbrev hid (r j : ℕ) : EReal := norm 2048 (Ideal.ofBits .f32 1157627904#32) (stream x o wo) (rd g 0) r j
abbrev cols (off : ℕ) : ℕ → ℕ → EReal := prod 2048 (hid x o wo g) fun k j => rd3 w k (off + j)
abbrev cq (r j : ℕ) : EReal := norm 512 (Ideal.ofBits .f32 1140850688#32) (prod 2048 (hid x o wo g) (rd3 w)) (rd gq 0) r j

theorem stream_at (r : Fin 128) (c : Fin 2048) : val_main_v6 (F := Ideal) x o wo (ix2 r c) = stream x o wo r.val c.val := by
  rw [val_main_v6_apply, val_main_v5_apply]
  refine congrArg₂ (· + ·) (rd_idx x _ rfl rfl) (Finset.sum_congr rfl fun k _ => ?_)
  rw [val_main_v3_apply, val_main_v4_apply]
  refine congrArg₂ (· * ·) (rd_idx o _ rfl rfl) (rd3_idx wo _ ?_ ?_)
  · show (k.val * 2048 + c.val) / 2048 % 2048 = k.val
    omega
  · show (k.val * 2048 + c.val) % 2048 = c.val
    omega

theorem hid_at (r : Fin 128) (c : Fin 2048) : val_main_v20 (F := Ideal) x o wo g (ix2 r c) = hid x o wo g r.val c.val := by
  pointwise [val_main_v7, val_main_v8, val_main_v9, val_main_v10, val_main_v11, val_main_v12, val_main_v13, val_main_v14, val_main_v15, val_main_v16, val_main_v17, val_main_v18, val_main_v19, val_main_v20, val_main_cst, val_main_cst_0, val_main_cst_1]
  have hg : g (ix2 0 c) = rd g 0 c.val := rd_idx g _ rfl rfl
  simp only [stream_at, hg]
  rfl

theorem z_at (r : Fin 128) (c : Fin 3136) : val_main_v22 (F := Ideal) x o wo g w (ix2 r c) = prod 2048 (hid x o wo g) (rd3 w) r.val c.val := by
  rw [val_main_v22_apply]
  refine Finset.sum_congr rfl fun k _ => congrArg₂ (· * ·) ?_ ?_
  · exact (congrArg _ (by funext a; match a with | ⟨0, _⟩ => rfl | ⟨1, _⟩ => rfl)).trans (hid_at x o wo g r k)
  · rw [val_main_v21_apply]
    refine rd3_idx w _ ?_ ?_
    · show (k.val * 3136 + c.val) / 3136 % 2048 = k.val
      omega
    · show (k.val * 3136 + c.val) % 3136 = c.val
      omega

theorem cq_at (r : Fin 128) (c : Fin 512) : val_main_v37 (F := Ideal) x o wo g w gq (ix2 r c) = cq x o wo g w gq r.val c.val := by
  pointwise [val_main_v23, val_main_v24, val_main_v25, val_main_v26, val_main_v27, val_main_v28, val_main_v29, val_main_v30, val_main_v31, val_main_v32, val_main_v33, val_main_v34, val_main_v35, val_main_v36, val_main_v37, val_main_cst_2, val_main_cst_3, val_main_cst_4]
  have hg : gq (ix2 0 c) = rd gq 0 c.val := rd_idx gq _ rfl rfl
  simp only [z_at, hg]
  rfl

theorem qp_at (r : Fin 128) (c : Fin 3072) : val_main_v39 (F := Ideal) x o wo g w gq wq (ix2 r c)
    = prod 512 (cq x o wo g w gq) (rd3 wq) r.val c.val := by
  rw [val_main_v39_apply]
  refine Finset.sum_congr rfl fun k _ => congrArg₂ (· * ·) ?_ ?_
  · exact (congrArg _ (by funext a; match a with | ⟨0, _⟩ => rfl | ⟨1, _⟩ => rfl)).trans (cq_at x o wo g w gq r k)
  · rw [val_main_v38_apply]
    refine rd3_idx wq _ ?_ ?_
    · show (k.val * 3072 + c.val) / 3072 % 512 = k.val
      omega
    · show (k.val * 3072 + c.val) % 3072 = c.val
      omega

theorem gate_at (r : Fin 128) (c : Fin 2048) : val_main_v84 (F := Ideal) x o wo g w (ix2 r c) = cols x o wo g w 1088 r.val c.val := by
  pointwise [val_main_v83, val_main_v84]
  exact z_at x o wo g w _ _

set_option maxHeartbeats 1600000 in
theorem q_at (r : Fin 128) (c : Fin 4096) : val_main_v82 (F := Ideal) x o wo g w gq wq (ix2 r c)
    = heads (prod 512 (cq x o wo g w gq) (spread (rd3 wq))) (still (cosI (Ideal.ofBits .f32 1107296256#32)) 16384)
        (still (sinI (Ideal.ofBits .f32 1107296256#32)) 16384) r.val c.val := by
  have hc := c.isLt
  have hr := r.isLt
  pointwise [val_main_v0, val_main_c, val_main_v1, val_main_v2, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_cst_5, val_main_cst_6, val_main_cst_7]
  simp only [qp_at]
  split_ifs with h1 h2 h3
  · refine Eq.trans ?_ (heads_plain (by omega)).symm
    exact spread_at (by omega) (by omega)
  · refine Eq.trans ?_ ((heads_turned (by omega)).trans (still_low (by omega))).symm
    exact still_first (by omega) (by omega) (spread_at (by omega) (by omega)) (spread_at (by omega) (by omega)) (by omega)
  · refine Eq.trans ?_ ((heads_turned (by omega)).trans (still_low (by omega))).symm
    exact still_second (by omega) (by omega) (spread_at (by omega) (by omega)) (spread_at (by omega) (by omega)) (by omega)
  · refine Eq.trans ?_ ((heads_turned (by omega)).trans (still_id (by omega))).symm
    exact (prod_spread.trans (if_neg (by omega))).symm

end Cert.ReferenceVIdeal.RefRead

end
-- ==== Proof.ContentsV.lean ====
/- The contents of the arrays of mixer B's queries at the samples after their run, from the launch memory. -/
module

public import proofs.«01_k».proof.Proof.RegionsV
public import proofs.«01_k».proof.Proof.HostV
public import proofs.«01_k».proof.Proof.RefV

@[expose] public section

set_option maxRecDepth 16384

noncomputable section

namespace Cert.KernelVIdeal.Final

open Cert.KernelVIdeal Cert.KernelVIdeal.Gen Cert.Spec Cert.ReferenceVIdeal.RefRead Idealize.ShloMosaic
  Idealize.ShloMosaic.TcCoe Idealize.ShloMosaic.Pointwise Idealize.SL.Sem

attribute [local instance] Cert.KernelVIdeal.Gen.facts

variable (m : (ℓ : Loc nD τ sig) → Buf (Elt Ideal) ℓ) (ρ : Dev nD → PrngReg) (c : Dev nD)

/-- The samples' rows, mixer A's gated rows, the gains and the weights as the launch memory holds them. -/
abbrev rows : Mat 128 2048 := m ((c : Thread nD τ).loc main_arg0)
abbrev heads_in : Mat 128 2048 := m ((c : Thread nD τ).loc main_arg1)
abbrev out_w : Stack 2048 2048 := m ((c : Thread nD τ).loc main_arg2)
abbrev gains : Mat 1 2048 := m ((c : Thread nD τ).loc main_arg3)
abbrev projs : Stack 2048 3136 := m ((c : Thread nD τ).loc main_arg4)
abbrev gains_q : Mat 1 512 := m ((c : Thread nD τ).loc main_arg5)
abbrev proj_q : Stack 512 3072 := m ((c : Thread nD τ).loc main_arg6)

/-- The normalised rows, the weights' columns from `off` on, and the query's normed columns. -/
abbrev hidden : ℕ → ℕ → EReal := hid (rows m c) (heads_in m c) (out_w m c) (gains m c)
abbrev wcols (off : ℕ) : ℕ → ℕ → EReal := fun k j => rd3 (projs m c) k (off + j)
abbrev normed : ℕ → ℕ → EReal := cq (rows m c) (heads_in m c) (out_w m c) (gains m c) (projs m c) (gains_q m c)

/-! ## The arrays the projections read -/

theorem hidden6 (y : S128x2048.Idx) : W6 m ρ c (Proc.devRef .tc main_v41_1) y = hidden m c (y 0).val (y 1).val := by
  refine (congrFun (W6_arr m ρ c 5) y).trans (congrFun (final0 (V5 m ρ) c (rd (rows m c)) (rd (heads_in m c)) (rd3 (out_w m c)) (rd (gains m c) 0)
    (fun z => ?_) (fun z => ?_) (fun z => ?_) (fun z => ?_)) y)
  · exact (congrFun (W5_args m ρ c main_arg0 (by decide)) z).trans (rd_idx (rows m c) z rfl rfl)
  · exact (congrFun (W5_args m ρ c main_arg1 (by decide)) z).trans (rd_idx (heads_in m c) z rfl rfl)
  · exact (weight38 (W4 m ρ c) z).trans (congrArg (fun A : Stack 2048 2048 => rd3 A _ _) (W4_args m ρ c main_arg2 (by decide)))
  · exact (gain40 (W4 m ρ c) z).trans (congrArg (fun A : Mat 1 2048 => rd A 0 _) (W4_args m ρ c main_arg3 (by decide)))

/-- What the host operations after the first ones leave as it was. -/
theorem at4 (r : Ref sig .tc) (h1 : r ∉ hostOps0_1_W) (h2 : r ∉ hostOps0_2_W) (h3 : r ∉ hostOps0_3_W) :
    W4 m ρ c (Proc.devRef .tc r) = W1 m ρ c (Proc.devRef .tc r) :=
  (W4_of m ρ c r h3).trans ((W3_of m ρ c r h2).trans (W2_of m ρ c r h1))

theorem weights32 (y : S2048x512.Idx) : W5 m ρ c (Proc.devRef .tc main_v32) y = rd3 (projs m c) (y 0).val (y 1).val :=
  (cast32 (W4 m ρ c) y).trans ((congrFun (at4 m ρ c main_v24 (by decide) (by decide) (by decide)) y).trans (slice24 (W0 m ρ c) y))

theorem weights35 (y : S2048x2048.Idx) : W5 m ρ c (Proc.devRef .tc main_v35) y = wcols m c 1088 (y 0).val (y 1).val :=
  (cast35 (W4 m ρ c) y).trans ((congrFun (W4_of m ρ c main_v28 (by decide)) y).trans
    (slice28 (W2 m ρ c) (rd3 (projs m c)) (fun z => (congrFun (W2_of m ρ c main_v22 (by decide)) z).trans (slice22 (W0 m ρ c) z)) y))

theorem weights36 (y : S512x4096.Idx) : W5 m ρ c (Proc.devRef .tc main_v36) y = spread (rd3 (proj_q m c)) (y 0).val (y 1).val :=
  joined (W4 m ρ c) (rd3 (proj_q m c)) (fun y => padded_heads (W3 m ρ c) (rd3 (proj_q m c)) (padding_heads (W2 m ρ c)) (fun y =>
    split29 (W2 m ρ c) (rd3 (proj_q m c)) (fun z => (congrFun (W2_of m ρ c main_v23 (by decide)) z).trans (slice23 (W0 m ρ c) z)) y) y) y

theorem gains43 (y : S1x512.Idx) : W7 m ρ c (Proc.devRef .tc main_v43) y = rd (gains_q m c) 0 (y 1).val :=
  (gain43 (W6 m ρ c) y).trans (congrArg (fun A : Mat 1 512 => rd A 0 _) (W6_args m ρ c main_arg5 (by decide)))

/-! ## What a later projection finds is what the first one found -/

/-- The arrays that the projections read. -/
abbrev kept : List (Ref sig .tc) := [main_v32, main_v35, main_v36, main_v19, main_v21]

theorem keeps0 : ∀ r ∈ kept, ∀ w : Fin cfg0.W, Pipeline.arrRef spec0 w = r → (cfg0.win w).isOut = false :=
  ListAll.forall_mem_of_all_decide (by decide +kernel)
theorem keepsHost : ∀ r ∈ main_v41_1 :: kept, r ∉ hostOps1_W := ListAll.forall_mem_of_all_decide (by decide +kernel)
theorem keeps1 : ∀ r ∈ main_v41_1 :: kept, ∀ w : Fin cfg1.W, Pipeline.arrRef spec1 w = r → (cfg1.win w).isOut = false :=
  ListAll.forall_mem_of_all_decide (by decide +kernel)
theorem keeps2 : ∀ r ∈ kept, ∀ w : Fin cfg2.W, Pipeline.arrRef spec2 w = r → (cfg2.win w).isOut = false :=
  ListAll.forall_mem_of_all_decide (by decide +kernel)

theorem at7 (r : Ref sig .tc) (h : r ∈ kept) : W7 m ρ c (Proc.devRef .tc r) = W5 m ρ c (Proc.devRef .tc r) :=
  (W7_of m ρ c r (keepsHost r (List.mem_cons_of_mem _ h))).trans (W6_of m ρ c r (keeps0 r h))
theorem at8 (r : Ref sig .tc) (h : r ∈ kept) : W8 m ρ c (Proc.devRef .tc r) = W5 m ρ c (Proc.devRef .tc r) :=
  (W8_of m ρ c r (keeps1 r (List.mem_cons_of_mem _ h))).trans (at7 m ρ c r h)
theorem at9 (r : Ref sig .tc) (h : r ∈ kept) : W9 m ρ c (Proc.devRef .tc r) = W5 m ρ c (Proc.devRef .tc r) :=
  (W9_of m ρ c r (keeps2 r h)).trans (at8 m ρ c r h)

theorem hidden7 (y : S128x2048.Idx) : W7 m ρ c (Proc.devRef .tc main_v41_1) y = hidden m c (y 0).val (y 1).val :=
  (congrFun (W7_of m ρ c main_v41_1 (keepsHost _ (by decide))) y).trans (hidden6 m ρ c y)

theorem tables (r : Ref sig .tc) (h : r ∈ kept) (h1 : r ∉ hostOps0_1_W) (h2 : r ∉ hostOps0_2_W) (h3 : r ∉ hostOps0_3_W) (h4 : r ∉ hostOps0_4_W) :
    W9 m ρ c (Proc.devRef .tc r) = W1 m ρ c (Proc.devRef .tc r) :=
  (at9 m ρ c r h).trans ((W5_of m ρ c r h4).trans (at4 m ρ c r h1 h2 h3))

/-! ## The results -/

theorem query_norm : W9 m ρ c (Proc.devRef .tc main_v44) = fun y : S128x512.Idx => normed m c (y 0).val (y 1).val :=
  ((W9_of m ρ c main_v44 (by decide +kernel)).trans (W8_arr m ρ c 3)).trans
    (final1 (V7 m ρ) c (hidden m c) (rd3 (projs m c)) (rd (gains_q m c) 0)
      (fun z => hidden7 m ρ c z) (fun z => (congrFun (at7 m ρ c main_v32 (by decide)) z).trans (weights32 m ρ c z)) (fun z => gains43 m ρ c z))

theorem gate_out : W10 m ρ c (Proc.devRef .tc main_v45) = fun y : S128x2048.Idx => prod 2048 (hidden m c) (wcols m c 1088) (y 0).val (y 1).val :=
  ((W10_of m ρ c main_v45 (by decide +kernel)).trans (W9_arr m ρ c 2)).trans
    (final2 (V8 m ρ) c (hidden m c) (wcols m c 1088)
      (fun z => (congrFun (W8_of m ρ c main_v41_1 (keeps1 _ (by decide))) z).trans (hidden7 m ρ c z))
      (fun z => (congrFun (at8 m ρ c main_v35 (by decide)) z).trans (weights35 m ρ c z)))

theorem query_out : W10 m ρ c (Proc.devRef .tc main_v46)
    = fun y : S128x4096.Idx => heads (prod 512 (normed m c) (spread (rd3 (proj_q m c)))) (still (cosI (Ideal.ofBits .f32 1107296256#32)) 16384) (still (sinI (Ideal.ofBits .f32 1107296256#32)) 16384) (y 0).val (y 1).val :=
  (W10_arr m ρ c 4).trans
    (final3 (V9 m ρ) c (normed m c) (spread (rd3 (proj_q m c))) (still (cosI (Ideal.ofBits .f32 1107296256#32)) 16384) (still (sinI (Ideal.ofBits .f32 1107296256#32)) 16384)
      (fun z => congrFun (query_norm m ρ c) z) (fun z => (congrFun (at9 m ρ c main_v36 (by decide)) z).trans (weights36 m ρ c z))
      (fun z => (congrFun (tables m ρ c main_v19 (by decide) (by decide) (by decide) (by decide) (by decide)) z).trans (cosHalf (W0 m ρ c) z))
      (fun z => (congrFun (tables m ρ c main_v21 (by decide) (by decide) (by decide) (by decide) (by decide)) z).trans (sinHalf (W0 m ρ c) z)))

end Cert.KernelVIdeal.Final

end
-- ==== Proof.RunV.lean ====
/- Mixer B's queries at the samples: the run of the kernel and of the reference, and the claims about them. -/
module

public import proofs.«01_k».proof.Defs
public import proofs.«01_k».proof.Proof.Gen.KernelV
public import proofs.«01_k».proof.Proof.Gen.ReferenceVIdeal.Run
public import proofs.«01_k».proof.Proof.ContentsV
public import Idealize.ShloMosaic.Lib.Claim
public import Idealize.ShloMosaic.Lib.Quiescent

@[expose] public section

set_option maxRecDepth 16384

noncomputable section

namespace Cert.KernelVIdeal.Final

open Cert.KernelVIdeal Cert.KernelVIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local instance] Cert.KernelVIdeal.Gen.facts

variable {F : FTy → Type} [FloatOps F] (m : (ℓ : Loc nD τ sig) → Buf (Elt F) ℓ) (ρ : Dev nD → PrngReg)

set_option backward.isDefEq.respectTransparency.types false in
/-- The run ends with every unscoped buffer at the contents after the last region. -/
theorem run_contents : θ_run defs (onTc (τ := τ) (main (F := F))) ⟨m, fun _ => 0, ρ⟩ (fun r =>
      ∀ c : Dev nD, ∀ b ∈ Pipeline.ucRefs τ sig, r.2.mem (((c : Thread nD τ)).1, b) = W10 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => h)

end Cert.KernelVIdeal.Final

namespace Cert.QueriesB

open Idealize.ShloMosaic Idealize.ShloMosaic.TcCoe Idealize.ShloMosaic.Pointwise Idealize.SL.Sem
open Cert.KernelVIdeal.Final Cert.KernelVIdeal.Gen Cert.Spec Cert.ReferenceVIdeal.RefRead

attribute [local instance] Cert.KernelV.Gen.facts Cert.KernelVIdeal.Gen.facts Cert.ReferenceVIdeal.Gen.facts

theorem frame_reference : Cert.quiescent_ReferenceVIdeal := fun m g _ =>
  (θ_run _ _ _).mono (fun r h => ⟨fun c => (h c).2.2, sem_eq_zero_of_no_sems (by decide) r.2⟩)
    (Cert.ReferenceVIdeal.Value.run (F := Ideal) m g)

/-- Both runs end at the same queries and gates. -/
theorem algebraic : Cert.algebraic_KernelVIdeal_ReferenceVIdeal := by
  intro m g m' g' hpre hagree
  refine ⟨fun c => W10 m g c (Proc.devRef .tc Cert.KernelVIdeal.main_v46),
    fun c => W10 m g c (Proc.devRef .tc Cert.KernelVIdeal.main_v45), ?_, ?_⟩
  · refine (θ_run _ _ _).mono (fun r h c => ?_) (run_contents (F := Ideal) m g)
    exact ⟨h c _ (mem_uc _ (by decide)), h c _ (mem_uc _ (by decide)),
      (h c _ (mem_uc Cert.KernelVIdeal.main_arg0 (by decide))).trans (W10_main_arg0 m g c),
      (h c _ (mem_uc Cert.KernelVIdeal.main_arg1 (by decide))).trans (W10_main_arg1 m g c),
      (h c _ (mem_uc Cert.KernelVIdeal.main_arg2 (by decide))).trans (W10_main_arg2 m g c),
      (h c _ (mem_uc Cert.KernelVIdeal.main_arg3 (by decide))).trans (W10_main_arg3 m g c),
      (h c _ (mem_uc Cert.KernelVIdeal.main_arg4 (by decide))).trans (W10_main_arg4 m g c),
      (h c _ (mem_uc Cert.KernelVIdeal.main_arg5 (by decide))).trans (W10_main_arg5 m g c),
      (h c _ (mem_uc Cert.KernelVIdeal.main_arg6 (by decide))).trans (W10_main_arg6 m g c)⟩
  · refine (θ_run _ _ _).mono (fun r h c => ?_) (Cert.ReferenceVIdeal.Value.run (F := Ideal) m' g')
    obtain ⟨h0, h1, hargs⟩ := h c
    obtain ⟨g0, g1, g2, g3, g4, g5, g6⟩ := hagree c
    refine ⟨h0.trans ?_, h1.trans ?_, hargs⟩
    · rw [Cert.ReferenceVIdeal.Read.val_main_v82_eq, g0, g1, g2, g3, g4, g5, g6]
      refine Eq.trans ?_ (query_out m g c).symm
      funext y
      exact (congrArg _ (eq_ix2 y)).trans (q_at (rows m c) (heads_in m c) (out_w m c) (gains m c) (projs m c) (gains_q m c) (proj_q m c) (y 0) (y 1))
    · refine (Cert.ReferenceVIdeal.Read.val_main_v84_eq _ _ _ _ _).trans ?_
      rw [g0, g1, g2, g3, g4]
      refine Eq.trans ?_ (gate_out m g c).symm
      funext y
      exact (congrArg _ (eq_ix2 y)).trans (gate_at (rows m c) (heads_in m c) (out_w m c) (gains m c) (projs m c) (y 0) (y 1))

end Cert.QueriesB

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.RefRead
public import proofs.«01_k».proof.Proof.Gen.ReferenceIdeal
public import proofs.«01_k».proof.Proof.Gen.Pre_finite_padded
public import proofs.«01_k».proof.Proof.Claims
public import proofs.«01_k».proof.Proof.RunA
public import proofs.«01_k».proof.Proof.RunB
public import proofs.«01_k».proof.Proof.OutC
public import proofs.«01_k».proof.Proof.RunS
public import proofs.«01_k».proof.Proof.RunU
public import proofs.«01_k».proof.Proof.RunT
public import proofs.«01_k».proof.Proof.RunV
public import proofs.«01_k».proof.Proof.Gen.KernelA
public import proofs.«01_k».proof.Proof.Gen.KernelA.Frame
public import proofs.«01_k».proof.Proof.Gen.KernelAIdeal
public import proofs.«01_k».proof.Proof.Gen.KernelAIdeal.Frame
public import proofs.«01_k».proof.Proof.Gen.ReferenceAIdeal
public import proofs.«01_k».proof.Proof.Gen.ReferenceAIdeal.Run
public import proofs.«01_k».proof.Proof.Gen.ReferenceAIdeal.Read
public import proofs.«01_k».proof.Proof.Gen.KernelB
public import proofs.«01_k».proof.Proof.Gen.KernelB.Frame
public import proofs.«01_k».proof.Proof.Gen.KernelBIdeal
public import proofs.«01_k».proof.Proof.Gen.KernelBIdeal.Frame
public import proofs.«01_k».proof.Proof.Gen.ReferenceBIdeal
public import proofs.«01_k».proof.Proof.Gen.ReferenceBIdeal.Run
public import proofs.«01_k».proof.Proof.Gen.ReferenceBIdeal.Read
public import proofs.«01_k».proof.Proof.Gen.KernelC
public import proofs.«01_k».proof.Proof.Gen.KernelC.Frame
public import proofs.«01_k».proof.Proof.Gen.KernelCIdeal
public import proofs.«01_k».proof.Proof.Gen.KernelCIdeal.Frame
public import proofs.«01_k».proof.Proof.Gen.ReferenceCIdeal
public import proofs.«01_k».proof.Proof.Gen.ReferenceCIdeal.Run
public import proofs.«01_k».proof.Proof.Gen.ReferenceCIdeal.Read
public import proofs.«01_k».proof.Proof.Gen.KernelCIdeal.Value
public import proofs.«01_k».proof.Proof.Gen.KernelS
public import proofs.«01_k».proof.Proof.Gen.KernelS.Frame
public import proofs.«01_k».proof.Proof.Gen.KernelSIdeal
public import proofs.«01_k».proof.Proof.Gen.KernelSIdeal.Frame
public import proofs.«01_k».proof.Proof.Gen.ReferenceSIdeal
public import proofs.«01_k».proof.Proof.Gen.ReferenceSIdeal.Run
public import proofs.«01_k».proof.Proof.Gen.ReferenceSIdeal.Read
public import proofs.«01_k».proof.Proof.Gen.KernelU
public import proofs.«01_k».proof.Proof.Gen.KernelU.Frame
public import proofs.«01_k».proof.Proof.Gen.KernelUIdeal
public import proofs.«01_k».proof.Proof.Gen.KernelUIdeal.Frame
public import proofs.«01_k».proof.Proof.Gen.ReferenceUIdeal
public import proofs.«01_k».proof.Proof.Gen.ReferenceUIdeal.Run
public import proofs.«01_k».proof.Proof.Gen.ReferenceUIdeal.Read
public import proofs.«01_k».proof.Proof.Gen.KernelT
public import proofs.«01_k».proof.Proof.Gen.KernelT.Frame
public import proofs.«01_k».proof.Proof.Gen.KernelTIdeal
public import proofs.«01_k».proof.Proof.Gen.KernelTIdeal.Frame
public import proofs.«01_k».proof.Proof.Gen.ReferenceTIdeal
public import proofs.«01_k».proof.Proof.Gen.ReferenceTIdeal.Run
public import proofs.«01_k».proof.Proof.Gen.ReferenceTIdeal.Read
public import proofs.«01_k».proof.Proof.Gen.KernelV
public import proofs.«01_k».proof.Proof.Gen.KernelV.Frame
public import proofs.«01_k».proof.Proof.Gen.KernelVIdeal
public import proofs.«01_k».proof.Proof.Gen.KernelVIdeal.Frame
public import proofs.«01_k».proof.Proof.Gen.ReferenceVIdeal
public import proofs.«01_k».proof.Proof.Gen.ReferenceVIdeal.Run
public import proofs.«01_k».proof.Proof.Gen.ReferenceVIdeal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelA.Gen.facts, Cert.KernelAIdeal.Gen.facts, Cert.ReferenceAIdeal.Gen.facts,
  Cert.KernelB.Gen.facts, Cert.KernelBIdeal.Gen.facts, Cert.ReferenceBIdeal.Gen.facts,
  Cert.KernelC.Gen.facts, Cert.KernelCIdeal.Gen.facts, Cert.ReferenceCIdeal.Gen.facts,
  Cert.KernelS.Gen.facts, Cert.KernelSIdeal.Gen.facts, Cert.ReferenceSIdeal.Gen.facts,
  Cert.KernelU.Gen.facts, Cert.KernelUIdeal.Gen.facts, Cert.ReferenceUIdeal.Gen.facts,
  Cert.KernelT.Gen.facts, Cert.KernelTIdeal.Gen.facts, Cert.ReferenceTIdeal.Gen.facts,
  Cert.KernelV.Gen.facts, Cert.KernelVIdeal.Gen.facts, Cert.ReferenceVIdeal.Gen.facts,
  Cert.Pre_finite_padded.Gen.facts,
  fun m ρ _ => Cert.Kernel.Gen.frame m ρ, fun m ρ _ => Cert.KernelIdeal.Gen.frame m ρ, fun m ρ _ => Cert.KernelIdeal.Gen.frame m ρ,
  fun m ρ _ => Cert.Attention.frame_reference m ρ, fun m ρ _ => Cert.Attention.frame_reference m ρ,
  fun m ρ _ => Cert.KernelA.Gen.frame m ρ, fun m ρ _ => Cert.KernelAIdeal.Gen.frame m ρ, Cert.ProjectionsA.frame_reference,
  fun m ρ _ => Cert.KernelB.Gen.frame m ρ, fun m ρ _ => Cert.KernelBIdeal.Gen.frame m ρ, Cert.ProjectionsB.frame_reference,
  fun m ρ _ => Cert.KernelC.Gen.frame m ρ, fun m ρ _ => Cert.KernelCIdeal.Gen.frame m ρ, Cert.LastProjection.frame_reference,
  fun m ρ _ => Cert.KernelS.Gen.frame m ρ, fun m ρ _ => Cert.KernelSIdeal.Gen.frame m ρ, Cert.Samples.frame_reference,
  fun m ρ _ => Cert.KernelU.Gen.frame m ρ, fun m ρ _ => Cert.KernelUIdeal.Gen.frame m ρ, Cert.Absorb.frame_reference,
  fun m ρ _ => Cert.KernelT.Gen.frame m ρ, fun m ρ _ => Cert.KernelTIdeal.Gen.frame m ρ, Cert.QueriesA.frame_reference,
  fun m ρ _ => Cert.KernelV.Gen.frame m ρ, fun m ρ _ => Cert.KernelVIdeal.Gen.frame m ρ, Cert.QueriesB.frame_reference,
  Cert.Attention.preserves, Cert.Attention.algebraic,
  trivial, Cert.ProjectionsA.algebraic,
  trivial, Cert.ProjectionsB.algebraic,
  trivial, Cert.LastProjection.algebraic,
  trivial, Cert.Samples.algebraic,
  trivial, Cert.Absorb.algebraic,
  trivial, Cert.QueriesA.algebraic,
  trivial, Cert.QueriesB.algebraic⟩

end Cert.Proof

end
